-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries [hPre_finite_queries : Cert.Pre_finite_queries.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 = (fun _ => 1#1)

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries [hPre_finite_queries : Cert.Pre_finite_queries.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_queries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2 = (fun _ => 1#1)

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_queries [hKernelIdeal : Cert.KernelIdeal.Facts] [hPre_finite_queries : Cert.Pre_finite_queries.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_queries [hReferenceIdeal : Cert.ReferenceIdeal.Facts] [hPre_finite_queries : Cert.Pre_finite_queries.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_on_covered_pre_finite_queries [hKernelIdeal : Cert.KernelIdeal.Facts] [hReferenceIdeal : Cert.ReferenceIdeal.Facts] [hPre_finite_queries : Cert.Pre_finite_queries.Facts] [hOn_covered : Cert.On_covered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v16)) (v4 : (c : Dev Cert.KernelIdeal.nD) → Buf (Elt Ideal) ((c.tc : Thread Cert.KernelIdeal.nD Cert.KernelIdeal.τ).loc Cert.KernelIdeal.main_v18)) (v5 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![6, 1, 4096]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v12) i = v0 c i)
          ∧ (∀ i : (⟨4, ![6, 1, 32, 16384]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v13) i = v1 c i)
          ∧ (∀ i : (⟨4, ![6, 1, 8, 48]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v15) i = v2 c i)
          ∧ (∀ i : (⟨3, ![6, 1, 8]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.KernelIdeal.nD Cert.KernelIdeal.τ).loc Cert.KernelIdeal.main_v16) i = v3 c i)
          ∧ (∀ i : (⟨4, ![6, 1, 8, 64]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 i = 1#1 → r.2.mem ((c.tc : Thread Cert.KernelIdeal.nD Cert.KernelIdeal.τ).loc Cert.KernelIdeal.main_v18) i = v4 c i)
          ∧ (∀ i : (⟨3, ![6, 1, 8]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 i = 1#1 → r.2.mem ((c.tc : Thread Cert.KernelIdeal.nD Cert.KernelIdeal.τ).loc Cert.KernelIdeal.main_v19) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![6, 1, 4096]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v191) i = v0 c i)
          ∧ (∀ i : (⟨4, ![6, 1, 32, 16384]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v193) i = v1 c i)
          ∧ (∀ i : (⟨4, ![6, 1, 8, 48]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v11) i = v2 c i)
          ∧ (∀ i : (⟨3, ![6, 1, 8]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.ReferenceIdeal.nD Cert.ReferenceIdeal.τ).loc Cert.ReferenceIdeal.main_v16) i = v3 c i)
          ∧ (∀ i : (⟨4, ![6, 1, 8, 64]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 i = 1#1 → r.2.mem ((c.tc : Thread Cert.ReferenceIdeal.nD Cert.ReferenceIdeal.τ).loc Cert.ReferenceIdeal.main_v40) i = v4 c i)
          ∧ (∀ i : (⟨3, ![6, 1, 8]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 i = 1#1 → r.2.mem ((c.tc : Thread Cert.ReferenceIdeal.nD Cert.ReferenceIdeal.τ).loc Cert.ReferenceIdeal.main_v41) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def algebraic_KernelIdeal_ReferenceIdeal_on_attention_pre_finite_scores [hKernelIdeal : Cert.KernelIdeal.Facts] [hReferenceIdeal : Cert.ReferenceIdeal.Facts] [hPre_finite_scores : Cert.Pre_finite_scores.Facts] [hOn_attention : Cert.On_attention.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v16)) (v4 : (c : Dev Cert.KernelIdeal.nD) → Buf (Elt Ideal) ((c.tc : Thread Cert.KernelIdeal.nD Cert.KernelIdeal.τ).loc Cert.KernelIdeal.main_v18)) (v5 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![6, 1, 4096]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v12) i = v0 c i)
          ∧ (∀ i : (⟨4, ![6, 1, 32, 16384]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v13) i = v1 c i)
          ∧ (∀ i : (⟨4, ![6, 1, 8, 48]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v15) i = v2 c i)
          ∧ (∀ i : (⟨3, ![6, 1, 8]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.KernelIdeal.nD Cert.KernelIdeal.τ).loc Cert.KernelIdeal.main_v16) i = v3 c i)
          ∧ (∀ i : (⟨4, ![6, 1, 8, 64]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 i = 1#1 → r.2.mem ((c.tc : Thread Cert.KernelIdeal.nD Cert.KernelIdeal.τ).loc Cert.KernelIdeal.main_v18) i = v4 c i)
          ∧ (∀ i : (⟨3, ![6, 1, 8]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 i = 1#1 → r.2.mem ((c.tc : Thread Cert.KernelIdeal.nD Cert.KernelIdeal.τ).loc Cert.KernelIdeal.main_v19) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![6, 1, 4096]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v191) i = v0 c i)
          ∧ (∀ i : (⟨4, ![6, 1, 32, 16384]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v193) i = v1 c i)
          ∧ (∀ i : (⟨4, ![6, 1, 8, 48]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v11) i = v2 c i)
          ∧ (∀ i : (⟨3, ![6, 1, 8]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.ReferenceIdeal.nD Cert.ReferenceIdeal.τ).loc Cert.ReferenceIdeal.main_v16) i = v3 c i)
          ∧ (∀ i : (⟨4, ![6, 1, 8, 64]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 i = 1#1 → r.2.mem ((c.tc : Thread Cert.ReferenceIdeal.nD Cert.ReferenceIdeal.τ).loc Cert.ReferenceIdeal.main_v40) i = v4 c i)
          ∧ (∀ i : (⟨3, ![6, 1, 8]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 i = 1#1 → r.2.mem ((c.tc : Thread Cert.ReferenceIdeal.nD Cert.ReferenceIdeal.τ).loc Cert.ReferenceIdeal.main_v41) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_queries : Cert.Pre_finite_queries.Facts) (hPre_finite_scores : Cert.Pre_finite_scores.Facts) (hOn_covered : Cert.On_covered.Facts) (hOn_attention : Cert.On_attention.Facts),
    quiescent_Kernel (hKernel := hKernel)
    ∧ quiescent_KernelIdeal (hKernelIdeal := hKernelIdeal)
    ∧ quiescent_KernelIdeal_pre_finite_queries (hKernelIdeal := hKernelIdeal) (hPre_finite_queries := hPre_finite_queries)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_queries (hReferenceIdeal := hReferenceIdeal) (hPre_finite_queries := hPre_finite_queries)
    ∧ quiescent_ReferenceIdeal_pre_finite_scores (hReferenceIdeal := hReferenceIdeal) (hPre_finite_scores := hPre_finite_scores)
    ∧ preserves_Kernel_KernelIdeal
    ∧ algebraic_KernelIdeal_ReferenceIdeal_on_covered_pre_finite_queries (hKernelIdeal := hKernelIdeal) (hReferenceIdeal := hReferenceIdeal) (hPre_finite_queries := hPre_finite_queries) (hOn_covered := hOn_covered)
    ∧ algebraic_KernelIdeal_ReferenceIdeal_on_attention_pre_finite_scores (hKernelIdeal := hKernelIdeal) (hReferenceIdeal := hReferenceIdeal) (hPre_finite_scores := hPre_finite_scores) (hOn_attention := hOn_attention)
-- ==== On_attention.lean ====
abbrev S6x1x4096 : Shape := ⟨3, ![6, 1, 4096]⟩
abbrev S6x1x8x128 : Shape := ⟨4, ![6, 1, 8, 128]⟩
abbrev S128x384 : Shape := ⟨2, ![128, 384]⟩
abbrev S6x16384x8x48 : Shape := ⟨4, ![6, 16384, 8, 48]⟩
abbrev S6x16384x8 : Shape := ⟨3, ![6, 16384, 8]⟩
abbrev S6x16384x8x64 : Shape := ⟨4, ![6, 16384, 8, 64]⟩
abbrev S6 : Shape := ⟨1, ![6]⟩
abbrev S_ : Shape := ⟨0, ![]⟩
abbrev S6x1x32x16384 : Shape := ⟨4, ![6, 1, 32, 16384]⟩
abbrev S6x1x8x48 : Shape := ⟨4, ![6, 1, 8, 48]⟩
abbrev S6x1x8 : Shape := ⟨3, ![6, 1, 8]⟩
abbrev S6x1x8x64 : Shape := ⟨4, ![6, 1, 8, 64]⟩

class Facts : Prop where
  bcast_S_S6x1x4096 : S_.BroadcastsInDim S6x1x4096 (![] : Fin 0 → Fin S6x1x4096.rank)
  bcast_S_S6x1x32x16384 : S_.BroadcastsInDim S6x1x32x16384 (![] : Fin 0 → Fin S6x1x32x16384.rank)
  bcast_S_S6x1x8x48 : S_.BroadcastsInDim S6x1x8x48 (![] : Fin 0 → Fin S6x1x8x48.rank)
  bcast_S_S6x1x8 : S_.BroadcastsInDim S6x1x8 (![] : Fin 0 → Fin S6x1x8.rank)
  bcast_S_S6x1x8x64 : S_.BroadcastsInDim S6x1x8x64 (![] : Fin 0 → Fin S6x1x8x64.rank)

variable [Facts]

def fn {F : FTy → Type} [FloatOps F] (main_arg0 : FVec F S6x1x4096 .bf16) (main_arg1 : FVec F S6x1x8x128 .bf16) (main_arg2 : FVec F S6x1x8x128 .bf16) (main_arg3 : FVec F S128x384 .bf16) (main_arg4 : IVec S6x16384x8x48 8) (main_arg5 : FVec F S6x16384x8 .bf16) (main_arg6 : IVec S6x16384x8x64 8) (main_arg7 : FVec F S6x16384x8 .f32) (main_arg8 : IVec S6 32) : IVec S6x1x4096 1 × IVec S6x1x32x16384 1 × IVec S6x1x8x48 1 × IVec S6x1x8 1 × IVec S6x1x8x64 1 × IVec S6x1x8 1 :=
  let main_c : IVec S_ 1 := constantI S_ 1 1#1
  let main_v0 : IVec S6x1x4096 1 := broadcastInDim S6x1x4096 ![] bcast_S_S6x1x4096 main_c
  let main_c_0 : IVec S_ 1 := constantI S_ 1 0#1
  let main_v1 : IVec S6x1x32x16384 1 := broadcastInDim S6x1x32x16384 ![] bcast_S_S6x1x32x16384 main_c_0
  let main_c_1 : IVec S_ 1 := constantI S_ 1 0#1
  let main_v2 : IVec S6x1x8x48 1 := broadcastInDim S6x1x8x48 ![] bcast_S_S6x1x8x48 main_c_1
  let main_c_2 : IVec S_ 1 := constantI S_ 1 0#1
  let main_v3 : IVec S6x1x8 1 := broadcastInDim S6x1x8 ![] bcast_S_S6x1x8 main_c_2
  let main_c_3 : IVec S_ 1 := constantI S_ 1 0#1
  let main_v4 : IVec S6x1x8x64 1 := broadcastInDim S6x1x8x64 ![] bcast_S_S6x1x8x64 main_c_3
  let main_c_4 : IVec S_ 1 := constantI S_ 1 0#1
  let main_v5 : IVec S6x1x8 1 := broadcastInDim S6x1x8 ![] bcast_S_S6x1x8 main_c_4
  (main_v0, main_v1, main_v2, main_v3, main_v4, main_v5)
-- ==== On_covered.lean ====
abbrev S6x1x4096 : Shape := ⟨3, ![6, 1, 4096]⟩
abbrev S6x1x8x128 : Shape := ⟨4, ![6, 1, 8, 128]⟩
abbrev S128x384 : Shape := ⟨2, ![128, 384]⟩
abbrev S6x16384x8x48 : Shape := ⟨4, ![6, 16384, 8, 48]⟩
abbrev S6x16384x8 : Shape := ⟨3, ![6, 16384, 8]⟩
abbrev S6x16384x8x64 : Shape := ⟨4, ![6, 16384, 8, 64]⟩
abbrev S6 : Shape := ⟨1, ![6]⟩
abbrev S_ : Shape := ⟨0, ![]⟩
abbrev S6x1x32x16384 : Shape := ⟨4, ![6, 1, 32, 16384]⟩
abbrev S6x1x8x48 : Shape := ⟨4, ![6, 1, 8, 48]⟩
abbrev S6x1x8 : Shape := ⟨3, ![6, 1, 8]⟩
abbrev S6x1x8x64 : Shape := ⟨4, ![6, 1, 8, 64]⟩

class Facts : Prop where
  bcast_S_S6x1x4096 : S_.BroadcastsInDim S6x1x4096 (![] : Fin 0 → Fin S6x1x4096.rank)
  bcast_S_S6x1x32x16384 : S_.BroadcastsInDim S6x1x32x16384 (![] : Fin 0 → Fin S6x1x32x16384.rank)
  bcast_S_S6x1x8x48 : S_.BroadcastsInDim S6x1x8x48 (![] : Fin 0 → Fin S6x1x8x48.rank)
  bcast_S_S6x1x8 : S_.BroadcastsInDim S6x1x8 (![] : Fin 0 → Fin S6x1x8.rank)
  bcast_S_S6x1x8x64 : S_.BroadcastsInDim S6x1x8x64 (![] : Fin 0 → Fin S6x1x8x64.rank)

variable [Facts]

def fn {F : FTy → Type} [FloatOps F] (main_arg0 : FVec F S6x1x4096 .bf16) (main_arg1 : FVec F S6x1x8x128 .bf16) (main_arg2 : FVec F S6x1x8x128 .bf16) (main_arg3 : FVec F S128x384 .bf16) (main_arg4 : IVec S6x16384x8x48 8) (main_arg5 : FVec F S6x16384x8 .bf16) (main_arg6 : IVec S6x16384x8x64 8) (main_arg7 : FVec F S6x16384x8 .f32) (main_arg8 : IVec S6 32) : IVec S6x1x4096 1 × IVec S6x1x32x16384 1 × IVec S6x1x8x48 1 × IVec S6x1x8 1 × IVec S6x1x8x64 1 × IVec S6x1x8 1 :=
  let main_c : IVec S_ 1 := constantI S_ 1 0#1
  let main_v0 : IVec S6x1x4096 1 := broadcastInDim S6x1x4096 ![] bcast_S_S6x1x4096 main_c
  let main_c_0 : IVec S_ 1 := constantI S_ 1 1#1
  let main_v1 : IVec S6x1x32x16384 1 := broadcastInDim S6x1x32x16384 ![] bcast_S_S6x1x32x16384 main_c_0
  let main_c_1 : IVec S_ 1 := constantI S_ 1 1#1
  let main_v2 : IVec S6x1x8x48 1 := broadcastInDim S6x1x8x48 ![] bcast_S_S6x1x8x48 main_c_1
  let main_c_2 : IVec S_ 1 := constantI S_ 1 1#1
  let main_v3 : IVec S6x1x8 1 := broadcastInDim S6x1x8 ![] bcast_S_S6x1x8 main_c_2
  let main_c_3 : IVec S_ 1 := constantI S_ 1 1#1
  let main_v4 : IVec S6x1x8x64 1 := broadcastInDim S6x1x8x64 ![] bcast_S_S6x1x8x64 main_c_3
  let main_c_4 : IVec S_ 1 := constantI S_ 1 1#1
  let main_v5 : IVec S6x1x8 1 := broadcastInDim S6x1x8 ![] bcast_S_S6x1x8 main_c_4
  (main_v0, main_v1, main_v2, main_v3, main_v4, main_v5)
-- ==== Pre_finite_queries.lean ====
abbrev S6x1x4096 : Shape := ⟨3, ![6, 1, 4096]⟩
abbrev S6x1x8x128 : Shape := ⟨4, ![6, 1, 8, 128]⟩
abbrev S128x384 : Shape := ⟨2, ![128, 384]⟩
abbrev S6x16384x8x48 : Shape := ⟨4, ![6, 16384, 8, 48]⟩
abbrev S6x16384x8 : Shape := ⟨3, ![6, 16384, 8]⟩
abbrev S6x16384x8x64 : Shape := ⟨4, ![6, 16384, 8, 64]⟩
abbrev S6 : Shape := ⟨1, ![6]⟩
abbrev S_ : Shape := ⟨0, ![]⟩

class Facts : Prop where
  bitsLt_bf16_f32 : FTy.bits .bf16 < FTy.bits .f32
  bcast_S_S6x1x4096 : S_.BroadcastsInDim S6x1x4096 (![] : Fin 0 → Fin S6x1x4096.rank)
  reducesTo_S6x1x4096_S_d0_1_2 : S6x1x4096.ReducesTo [0, 1, 2] S_
  h_S_ : 0 < S_.numel
  bcast_S_S128x384 : S_.BroadcastsInDim S128x384 (![] : Fin 0 → Fin S128x384.rank)
  reducesTo_S128x384_S_d0_1 : S128x384.ReducesTo [0, 1] S_

variable [Facts]

def fn {F : FTy → Type} [FloatOps F] (main_arg0 : FVec F S6x1x4096 .bf16) (main_arg1 : FVec F S6x1x8x128 .bf16) (main_arg2 : FVec F S6x1x8x128 .bf16) (main_arg3 : FVec F S128x384 .bf16) (main_arg4 : IVec S6x16384x8x48 8) (main_arg5 : FVec F S6x16384x8 .bf16) (main_arg6 : IVec S6x16384x8x64 8) (main_arg7 : FVec F S6x16384x8 .f32) (main_arg8 : IVec S6 32) : IVec S_ 1 × IVec S_ 1 :=
  let main_v0 : FVec F S6x1x4096 .f32 := (extf .f32 · bitsLt_bf16_f32) main_arg0
  let main_v1 : FVec F S6x1x4096 .f32 := Host.absf main_v0
  let main_cst : FVec F S_ .f32 := constant S_ .f32 0x7F800000#32
  let main_v2 : FVec F S6x1x4096 .f32 := broadcastInDim S6x1x4096 ![] bcast_S_S6x1x4096 main_cst
  let main_v3 : IVec S6x1x4096 1 := cmpf .olt main_v1 main_v2
  let main_c : IVec S_ 1 := constantI S_ 1 1#1
  let main_v4 : IVec S_ 1 := (fun x v => Host.reduce IntOp.andi x v reducesTo_S6x1x4096_S_d0_1_2 h_S_) main_v3 main_c
  let main_v5 : FVec F S128x384 .f32 := (extf .f32 · bitsLt_bf16_f32) main_arg3
  let main_v6 : FVec F S128x384 .f32 := Host.absf main_v5
  let main_cst_0 : FVec F S_ .f32 := constant S_ .f32 0x7F800000#32
  let main_v7 : FVec F S128x384 .f32 := broadcastInDim S128x384 ![] bcast_S_S128x384 main_cst_0
  let main_v8 : IVec S128x384 1 := cmpf .olt main_v6 main_v7
  let main_c_1 : IVec S_ 1 := constantI S_ 1 1#1
  let main_v9 : IVec S_ 1 := (fun x v => Host.reduce IntOp.andi x v reducesTo_S128x384_S_d0_1 h_S_) main_v8 main_c_1
  (main_v4, main_v9)
-- ==== Pre_finite_scores.lean ====
abbrev S6x1x4096 : Shape := ⟨3, ![6, 1, 4096]⟩
abbrev S6x1x8x128 : Shape := ⟨4, ![6, 1, 8, 128]⟩
abbrev S128x384 : Shape := ⟨2, ![128, 384]⟩
abbrev S6x16384x8x48 : Shape := ⟨4, ![6, 16384, 8, 48]⟩
abbrev S6x16384x8 : Shape := ⟨3, ![6, 16384, 8]⟩
abbrev S6x16384x8x64 : Shape := ⟨4, ![6, 16384, 8, 64]⟩
abbrev S6 : Shape := ⟨1, ![6]⟩
abbrev S_ : Shape := ⟨0, ![]⟩

class Facts : Prop where
  bitsLt_bf16_f32 : FTy.bits .bf16 < FTy.bits .f32
  bcast_S_S6x1x4096 : S_.BroadcastsInDim S6x1x4096 (![] : Fin 0 → Fin S6x1x4096.rank)
  reducesTo_S6x1x4096_S_d0_1_2 : S6x1x4096.ReducesTo [0, 1, 2] S_
  h_S_ : 0 < S_.numel
  bcast_S_S128x384 : S_.BroadcastsInDim S128x384 (![] : Fin 0 → Fin S128x384.rank)
  reducesTo_S128x384_S_d0_1 : S128x384.ReducesTo [0, 1] S_
  bcast_S_S6x1x8x128 : S_.BroadcastsInDim S6x1x8x128 (![] : Fin 0 → Fin S6x1x8x128.rank)
  reducesTo_S6x1x8x128_S_d0_1_2_3 : S6x1x8x128.ReducesTo [0, 1, 2, 3] S_
  bcast_S_S6x16384x8 : S_.BroadcastsInDim S6x16384x8 (![] : Fin 0 → Fin S6x16384x8.rank)
  reducesTo_S6x16384x8_S_d0_1_2 : S6x16384x8.ReducesTo [0, 1, 2] S_

variable [Facts]

def fn_part1 {F : FTy → Type} [FloatOps F] (main_v4 : IVec S_ 1) (main_v9 : IVec S_ 1) (main_v14 : IVec S_ 1) (main_v16 : FVec F S6x16384x8 .f32) (main_cst_4 : FVec F S_ .f32) : IVec S_ 1 × IVec S_ 1 × IVec S_ 1 × IVec S_ 1 :=
  let main_v17 : FVec F S6x16384x8 .f32 := broadcastInDim S6x16384x8 ![] bcast_S_S6x16384x8 main_cst_4
  let main_v18 : IVec S6x16384x8 1 := cmpf .olt main_v16 main_v17
  let main_c_5 : IVec S_ 1 := constantI S_ 1 1#1
  let main_v19 : IVec S_ 1 := (fun x v => Host.reduce IntOp.andi x v reducesTo_S6x16384x8_S_d0_1_2 h_S_) main_v18 main_c_5
  (main_v4, main_v9, main_v14, main_v19)

def fn {F : FTy → Type} [FloatOps F] (main_arg0 : FVec F S6x1x4096 .bf16) (main_arg1 : FVec F S6x1x8x128 .bf16) (main_arg2 : FVec F S6x1x8x128 .bf16) (main_arg3 : FVec F S128x384 .bf16) (main_arg4 : IVec S6x16384x8x48 8) (main_arg5 : FVec F S6x16384x8 .bf16) (main_arg6 : IVec S6x16384x8x64 8) (main_arg7 : FVec F S6x16384x8 .f32) (main_arg8 : IVec S6 32) : IVec S_ 1 × IVec S_ 1 × IVec S_ 1 × IVec S_ 1 :=
  let main_v0 : FVec F S6x1x4096 .f32 := (extf .f32 · bitsLt_bf16_f32) main_arg0
  let main_v1 : FVec F S6x1x4096 .f32 := Host.absf main_v0
  let main_cst : FVec F S_ .f32 := constant S_ .f32 0x7F800000#32
  let main_v2 : FVec F S6x1x4096 .f32 := broadcastInDim S6x1x4096 ![] bcast_S_S6x1x4096 main_cst
  let main_v3 : IVec S6x1x4096 1 := cmpf .olt main_v1 main_v2
  let main_c : IVec S_ 1 := constantI S_ 1 1#1
  let main_v4 : IVec S_ 1 := (fun x v => Host.reduce IntOp.andi x v reducesTo_S6x1x4096_S_d0_1_2 h_S_) main_v3 main_c
  let main_v5 : FVec F S128x384 .f32 := (extf .f32 · bitsLt_bf16_f32) main_arg3
  let main_v6 : FVec F S128x384 .f32 := Host.absf main_v5
  let main_cst_0 : FVec F S_ .f32 := constant S_ .f32 0x7F800000#32
  let main_v7 : FVec F S128x384 .f32 := broadcastInDim S128x384 ![] bcast_S_S128x384 main_cst_0
  let main_v8 : IVec S128x384 1 := cmpf .olt main_v6 main_v7
  let main_c_1 : IVec S_ 1 := constantI S_ 1 1#1
  let main_v9 : IVec S_ 1 := (fun x v => Host.reduce IntOp.andi x v reducesTo_S128x384_S_d0_1 h_S_) main_v8 main_c_1
  let main_v10 : FVec F S6x1x8x128 .f32 := (extf .f32 · bitsLt_bf16_f32) main_arg1
  let main_v11 : FVec F S6x1x8x128 .f32 := Host.absf main_v10
  let main_cst_2 : FVec F S_ .f32 := constant S_ .f32 0x7F800000#32
  let main_v12 : FVec F S6x1x8x128 .f32 := broadcastInDim S6x1x8x128 ![] bcast_S_S6x1x8x128 main_cst_2
  let main_v13 : IVec S6x1x8x128 1 := cmpf .olt main_v11 main_v12
  let main_c_3 : IVec S_ 1 := constantI S_ 1 1#1
  let main_v14 : IVec S_ 1 := (fun x v => Host.reduce IntOp.andi x v reducesTo_S6x1x8x128_S_d0_1_2_3 h_S_) main_v13 main_c_3
  let main_v15 : FVec F S6x16384x8 .f32 := (extf .f32 · bitsLt_bf16_f32) main_arg5
  let main_v16 : FVec F S6x16384x8 .f32 := Host.absf main_v15
  let main_cst_4 : FVec F S_ .f32 := constant S_ .f32 0x7F800000#32
  fn_part1 (F := F) main_v4 main_v9 main_v14 main_v16 main_cst_4
-- ==== Kernel.lean ====
abbrev S6x1x4096 : Shape := ⟨3, ![6, 1, 4096]⟩
abbrev S6x1x8x128 : Shape := ⟨4, ![6, 1, 8, 128]⟩
abbrev S128x384 : Shape := ⟨2, ![128, 384]⟩
abbrev S6x16384x8x48 : Shape := ⟨4, ![6, 16384, 8, 48]⟩
abbrev S6x16384x8 : Shape := ⟨3, ![6, 16384, 8]⟩
abbrev S6x16384x8x64 : Shape := ⟨4, ![6, 16384, 8, 64]⟩
abbrev S6 : Shape := ⟨1, ![6]⟩
abbrev S6x8x48x16384 : Shape := ⟨4, ![6, 8, 48, 16384]⟩
abbrev S6x8x6x8x128x128 : Shape := ⟨6, ![6, 8, 6, 8, 128, 128]⟩
abbrev S6x8x6x128x8x128 : Shape := ⟨6, ![6, 8, 6, 128, 8, 128]⟩
abbrev S6x8x6x1024x128 : Shape := ⟨5, ![6, 8, 6, 1024, 128]⟩
abbrev S6x8x64x16384 : Shape := ⟨4, ![6, 8, 64, 16384]⟩
abbrev S6x8x16384 : Shape := ⟨3, ![6, 8, 16384]⟩
abbrev S192x128 : Shape := ⟨2, ![192, 128]⟩
abbrev S48x128 : Shape := ⟨2, ![48, 128]⟩
abbrev S6x768x256 : Shape := ⟨3, ![6, 768, 256]⟩
abbrev S192x1 : Shape := ⟨2, ![192, 1]⟩
abbrev S48x48 : Shape := ⟨2, ![48, 48]⟩
abbrev S48x1 : Shape := ⟨2, ![48, 1]⟩
abbrev S48x64 : Shape := ⟨2, ![48, 64]⟩
abbrev S48x384 : Shape := ⟨2, ![48, 384]⟩
abbrev S384x128 : Shape := ⟨2, ![384, 128]⟩
abbrev S48 : Shape := ⟨1, ![48]⟩
abbrev S192x48 : Shape := ⟨2, ![192, 48]⟩
abbrev S192 : Shape := ⟨1, ![192]⟩
abbrev S192x384 : Shape := ⟨2, ![192, 384]⟩
abbrev S768x192 : Shape := ⟨2, ![768, 192]⟩
abbrev S384x256 : Shape := ⟨2, ![384, 256]⟩
abbrev S768x256 : Shape := ⟨2, ![768, 256]⟩
abbrev S192x256 : Shape := ⟨2, ![192, 256]⟩
abbrev S1x768x256 : Shape := ⟨3, ![1, 768, 256]⟩
abbrev S6x32x128 : Shape := ⟨3, ![6, 32, 128]⟩
abbrev S6x32x16384 : Shape := ⟨3, ![6, 32, 16384]⟩
abbrev S6x128x256 : Shape := ⟨3, ![6, 128, 256]⟩
abbrev S1x8x6x128x128 : Shape := ⟨5, ![1, 8, 6, 128, 128]⟩
abbrev S1 : Shape := ⟨1, ![1]⟩
abbrev S1x8x2048 : Shape := ⟨3, ![1, 8, 2048]⟩
abbrev S1x8x64x2048 : Shape := ⟨4, ![1, 8, 64, 2048]⟩
abbrev S32x1 : Shape := ⟨2, ![32, 1]⟩
abbrev S32x128 : Shape := ⟨2, ![32, 128]⟩
abbrev S1x32x128 : Shape := ⟨3, ![1, 32, 128]⟩
abbrev S1x32x2048 : Shape := ⟨3, ![1, 32, 2048]⟩
abbrev S1024x32 : Shape := ⟨2, ![1024, 32]⟩
abbrev S32x2048 : Shape := ⟨2, ![32, 2048]⟩
abbrev S1x16x256 : Shape := ⟨3, ![1, 16, 256]⟩
abbrev S16x256 : Shape := ⟨2, ![16, 256]⟩
abbrev S1x1x1x32x128 : Shape := ⟨5, ![1, 1, 1, 32, 128]⟩
abbrev S8x128 : Shape := ⟨2, ![8, 128]⟩
abbrev S16x128 : Shape := ⟨2, ![16, 128]⟩
abbrev S256x128 : Shape := ⟨2, ![256, 128]⟩
abbrev S256x256 : Shape := ⟨2, ![256, 256]⟩
abbrev S4x128 : Shape := ⟨2, ![4, 128]⟩
abbrev S1x4x128 : Shape := ⟨3, ![1, 4, 128]⟩
abbrev S8x2048 : Shape := ⟨2, ![8, 2048]⟩
abbrev S1x2048 : Shape := ⟨2, ![1, 2048]⟩
abbrev S4x2048 : Shape := ⟨2, ![4, 2048]⟩
abbrev S32 : Shape := ⟨1, ![32]⟩
abbrev S128x128 : Shape := ⟨2, ![128, 128]⟩
abbrev S1x128 : Shape := ⟨2, ![1, 128]⟩
abbrev S1x1x64x2048 : Shape := ⟨4, ![1, 1, 64, 2048]⟩
abbrev S64x2048 : Shape := ⟨2, ![64, 2048]⟩
abbrev S64x1x2048 : Shape := ⟨3, ![64, 1, 2048]⟩
abbrev S64x2x2048 : Shape := ⟨3, ![64, 2, 2048]⟩
abbrev S128x2048 : Shape := ⟨2, ![128, 2048]⟩
abbrev S128x32 : Shape := ⟨2, ![128, 32]⟩
abbrev S1x32 : Shape := ⟨2, ![1, 32]⟩
abbrev S64x32 : Shape := ⟨2, ![64, 32]⟩
abbrev S6x1x32x16384 : Shape := ⟨4, ![6, 1, 32, 16384]⟩
abbrev S6x1x8x48 : Shape := ⟨4, ![6, 1, 8, 48]⟩
abbrev S6x1x8 : Shape := ⟨3, ![6, 1, 8]⟩
abbrev S6x1x8x64 : Shape := ⟨4, ![6, 1, 8, 64]⟩

abbrev nBuf : Space → Nat
  | .hbm => 37
  | .vmem => 39
  | .smem => 1
  | _ => 0

abbrev bufTy : (tb : Table) → Fin (tcTables nBuf tb) → BufTy
  | .hbm, ⟨0, _⟩ => ⟨S6x1x4096, .bf16⟩
  | .hbm, ⟨1, _⟩ => ⟨S6x1x8x128, .bf16⟩
  | .hbm, ⟨2, _⟩ => ⟨S6x1x8x128, .bf16⟩
  | .hbm, ⟨3, _⟩ => ⟨S128x384, .bf16⟩
  | .hbm, ⟨4, _⟩ => ⟨S6x16384x8x48, .i8⟩
  | .hbm, ⟨5, _⟩ => ⟨S6x16384x8, .bf16⟩
  | .hbm, ⟨6, _⟩ => ⟨S6x16384x8x64, .i8⟩
  | .hbm, ⟨7, _⟩ => ⟨S6x16384x8, .f32⟩
  | .hbm, ⟨8, _⟩ => ⟨S6x8x48x16384, .i8⟩
  | .hbm, ⟨9, _⟩ => ⟨S6x8x6x8x128x128, .i8⟩
  | .hbm, ⟨10, _⟩ => ⟨S6x8x6x128x8x128, .i8⟩
  | .hbm, ⟨11, _⟩ => ⟨S6x8x6x1024x128, .i8⟩
  | .hbm, ⟨12, _⟩ => ⟨S6x8x64x16384, .i8⟩
  | .hbm, ⟨13, _⟩ => ⟨S6x8x16384, .bf16⟩
  | .hbm, ⟨14, _⟩ => ⟨S6x8x16384, .f32⟩
  | .hbm, ⟨15, _⟩ => ⟨S192x128, .bf16⟩
  | .hbm, ⟨16, _⟩ => ⟨S48x128, .bf16⟩
  | .hbm, ⟨17, _⟩ => ⟨S48x128, .bf16⟩
  | .hbm, ⟨18, _⟩ => ⟨S6x768x256, .bf16⟩
  | .hbm, ⟨19, _⟩ => ⟨S192x1, .f32⟩
  | .hbm, ⟨20, _⟩ => ⟨S192x1, .f32⟩
  | .hbm, ⟨21, _⟩ => ⟨S192x128, .f32⟩
  | .hbm, ⟨22, _⟩ => ⟨S192x1, .f32⟩
  | .hbm, ⟨23, _⟩ => ⟨S48x48, .i32⟩
  | .hbm, ⟨24, _⟩ => ⟨S48x1, .bf16⟩
  | .hbm, ⟨25, _⟩ => ⟨S48x64, .i32⟩
  | .hbm, ⟨26, _⟩ => ⟨S48x1, .f32⟩
  | .hbm, ⟨27, _⟩ => ⟨S6x32x128, .bf16⟩
  | .hbm, ⟨28, _⟩ => ⟨S6x32x16384, .f32⟩
  | .hbm, ⟨29, _⟩ => ⟨S6x1x4096, .bf16⟩
  | .hbm, ⟨30, _⟩ => ⟨S6x1x32x16384, .f32⟩
  | .hbm, ⟨31, _⟩ => ⟨S48x48, .i8⟩
  | .hbm, ⟨32, _⟩ => ⟨S6x1x8x48, .i8⟩
  | .hbm, ⟨33, _⟩ => ⟨S6x1x8, .bf16⟩
  | .hbm, ⟨34, _⟩ => ⟨S48x64, .i8⟩
  | .hbm, ⟨35, _⟩ => ⟨S6x1x8x64, .i8⟩
  | .hbm, ⟨36, _⟩ => ⟨S6x1x8, .f32⟩
  | .local _ .vmem, ⟨0, _⟩ => ⟨S192x128, .bf16⟩
  | .local _ .vmem, ⟨1, _⟩ => ⟨S48x128, .bf16⟩
  | .local _ .vmem, ⟨2, _⟩ => ⟨S48x128, .bf16⟩
  | .local _ .vmem, ⟨3, _⟩ => ⟨S128x384, .bf16⟩
  | .local _ .vmem, ⟨4, _⟩ => ⟨S6x768x256, .bf16⟩
  | .local _ .vmem, ⟨5, _⟩ => ⟨S192x1, .f32⟩
  | .local _ .vmem, ⟨6, _⟩ => ⟨S192x1, .f32⟩
  | .local _ .vmem, ⟨7, _⟩ => ⟨S192x128, .f32⟩
  | .local _ .vmem, ⟨8, _⟩ => ⟨S192x1, .f32⟩
  | .local _ .vmem, ⟨9, _⟩ => ⟨S48x48, .i32⟩
  | .local _ .vmem, ⟨10, _⟩ => ⟨S48x1, .bf16⟩
  | .local _ .vmem, ⟨11, _⟩ => ⟨S48x64, .i32⟩
  | .local _ .vmem, ⟨12, _⟩ => ⟨S48x1, .f32⟩
  | .local _ .vmem, ⟨13, _⟩ => ⟨S6x128x256, .bf16⟩
  | .local _ .vmem, ⟨14, _⟩ => ⟨S6x128x256, .bf16⟩
  | .local _ .vmem, ⟨15, _⟩ => ⟨S1x8x6x128x128, .i8⟩
  | .local _ .vmem, ⟨16, _⟩ => ⟨S1x8x6x128x128, .i8⟩
  | .local _ .vmem, ⟨17, _⟩ => ⟨S1x8x2048, .bf16⟩
  | .local _ .vmem, ⟨18, _⟩ => ⟨S1x8x2048, .bf16⟩
  | .local _ .vmem, ⟨19, _⟩ => ⟨S1x8x64x2048, .i8⟩
  | .local _ .vmem, ⟨20, _⟩ => ⟨S1x8x64x2048, .i8⟩
  | .local _ .vmem, ⟨21, _⟩ => ⟨S1x8x2048, .f32⟩
  | .local _ .vmem, ⟨22, _⟩ => ⟨S1x8x2048, .f32⟩
  | .local _ .vmem, ⟨23, _⟩ => ⟨S32x1, .f32⟩
  | .local _ .vmem, ⟨24, _⟩ => ⟨S32x1, .f32⟩
  | .local _ .vmem, ⟨25, _⟩ => ⟨S32x1, .f32⟩
  | .local _ .vmem, ⟨26, _⟩ => ⟨S32x1, .f32⟩
  | .local _ .vmem, ⟨27, _⟩ => ⟨S32x128, .f32⟩
  | .local _ .vmem, ⟨28, _⟩ => ⟨S32x128, .f32⟩
  | .local _ .vmem, ⟨29, _⟩ => ⟨S32x1, .f32⟩
  | .local _ .vmem, ⟨30, _⟩ => ⟨S32x1, .f32⟩
  | .local _ .vmem, ⟨31, _⟩ => ⟨S1x32x128, .bf16⟩
  | .local _ .vmem, ⟨32, _⟩ => ⟨S1x32x128, .bf16⟩
  | .local _ .vmem, ⟨33, _⟩ => ⟨S1x32x2048, .f32⟩
  | .local _ .vmem, ⟨34, _⟩ => ⟨S1x32x2048, .f32⟩
  | .local _ .vmem, ⟨35, _⟩ => ⟨S32x128, .f32⟩
  | .local _ .vmem, ⟨36, _⟩ => ⟨S32x128, .f32⟩
  | .local _ .vmem, ⟨37, _⟩ => ⟨S1024x32, .f32⟩
  | .local _ .vmem, ⟨38, _⟩ => ⟨S32x2048, .bf16⟩
  | .local _ .smem, ⟨0, _⟩ => ⟨S6, .i32⟩
  | _, _ => ⟨S6x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev main_v10_6 : Ref sig .tc := ⟨.hbm, 24, rfl⟩
abbrev main_v10_7 : Ref sig .tc := ⟨.hbm, 25, rfl⟩
abbrev main_v10_8 : Ref sig .tc := ⟨.hbm, 26, rfl⟩
abbrev main_v11_0 : Ref sig .tc := ⟨.hbm, 27, rfl⟩
abbrev main_v11_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_arg8 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg10_1 : Ref sig .tc := ⟨.vmem, 34, rfl⟩
abbrev cc1_scratch0 : Ref sig .tc := ⟨.vmem, 35, rfl⟩
abbrev cc1_scratch1 : Ref sig .tc := ⟨.vmem, 36, rfl⟩
abbrev cc1_scratch2 : Ref sig .tc := ⟨.vmem, 37, rfl⟩
abbrev cc1_scratch3 : Ref sig .tc := ⟨.vmem, 38, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem8_1 : DmaSem sig := 30
abbrev cc1_sem9_0 : DmaSem sig := 31
abbrev cc1_sem9_1 : DmaSem sig := 32
abbrev cc1_sem10_0 : DmaSem sig := 33
abbrev cc1_sem10_1 : DmaSem sig := 34

abbrev nD : Nat := 1
abbrev τ : Topo := Topo.v7x

variable {F : FTy → Type} [FloatOps F]

abbrev grid0 : Pipeline.Grid := .none

abbrev stage0_0 : Fin 1 → Memref sig .tc .vmem S192x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x768x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S192x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S192x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S192x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S48x48 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S48x1 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S48x64 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S48x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev grid1 : Pipeline.Grid := ⟨2, ![6, 8], ![false, false]⟩

abbrev pre1 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond4 (i : grid1.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_3 : BitVec 32 := 0#32
  let v14 : BitVec 1 := Scalar.cmpi .ne v13 c0_i32_3
  v14

def k1_cond2 (i : grid1.Coords) (v1 : BitVec 32) : BitVec 1 :=
  let arg1 : BitVec 32 := BitVec.ofNat 32 (i 1).val
  let c2048_i32 : BitVec 32 := 2048#32
  let v2 : BitVec 32 := Scalar.muli arg1 c2048_i32
  let v6 : BitVec 1 := Scalar.cmpi .sge v2 v1
  let v7 : BitVec 32 := Scalar.extui v6
  let c0_i32_1 : BitVec 32 := 0#32
  let v8 : BitVec 1 := Scalar.cmpi .ne v7 c0_i32_1
  v8

def k1_cond3 (i : grid1.Coords) (v1 : BitVec 32) : BitVec 1 :=
  let arg1 : BitVec 32 := BitVec.ofNat 32 (i 1).val
  let c2048_i32 : BitVec 32 := 2048#32
  let v2 : BitVec 32 := Scalar.muli arg1 c2048_i32
  let v9 : BitVec 1 := Scalar.cmpi .slt v2 v1
  let v10 : BitVec 32 := Scalar.extui v9
  let c0_i32_2 : BitVec 32 := 0#32
  let v11 : BitVec 1 := Scalar.cmpi .ne v10 c0_i32_2
  v11

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (k1_off1_inb : ∀ i : grid1.Coords, ∀ a, (k1_off1 i) a + S1.size a ≤ S6.size a) (numel1_S1 : S1.numel = 1) (pf : pre1.Contents (Elt F)) (i : grid1.Coords) : Fin 5 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k1_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  let c0_i32_9 : BitVec 32 := 0#32
  ![arg0.toNat, c0_i32_6.toNat, c0_i32_7.toNat, v21.toNat, c0_i32_8.toNat]

def cc1_transform_2 (k1_off1_inb : ∀ i : grid1.Coords, ∀ a, (k1_off1 i) a + S1.size a ≤ S6.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k1_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, c0_i32_6.toNat, v21.toNat]

def cc1_transform_3 (k1_off1_inb : ∀ i : grid1.Coords, ∀ a, (k1_off1 i) a + S1.size a ≤ S6.size a) (numel1_S1 : S1.numel = 1) (pf : pre1.Contents (Elt F)) (i : grid1.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k1_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, c0_i32_7.toNat, v21.toNat]

def cc1_transform_4 (k1_off1_inb : ∀ i : grid1.Coords, ∀ a, (k1_off1 i) a + S1.size a ≤ S6.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k1_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, c0_i32_6.toNat, v21.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S6x128x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x8x6x128x128 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x8x64x2048 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x8x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S32x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S32x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S32x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S32x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x32x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x32x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== ReferenceIdeal.lean ====
abbrev S6x1x4096 : Shape := ⟨3, ![6, 1, 4096]⟩
abbrev S6x1x8x128 : Shape := ⟨4, ![6, 1, 8, 128]⟩
abbrev S128x384 : Shape := ⟨2, ![128, 384]⟩
abbrev S6x16384x8x48 : Shape := ⟨4, ![6, 16384, 8, 48]⟩
abbrev S6x16384x8 : Shape := ⟨3, ![6, 16384, 8]⟩
abbrev S6x16384x8x64 : Shape := ⟨4, ![6, 16384, 8, 64]⟩
abbrev S6 : Shape := ⟨1, ![6]⟩
abbrev S6x1x8x384 : Shape := ⟨4, ![6, 1, 8, 384]⟩
abbrev S_ : Shape := ⟨0, ![]⟩
abbrev S6x1x8x8x48 : Shape := ⟨5, ![6, 1, 8, 8, 48]⟩
abbrev S8 : Shape := ⟨1, ![8]⟩
abbrev S8x1 : Shape := ⟨2, ![8, 1]⟩
abbrev S1x1x1x8x1 : Shape := ⟨5, ![1, 1, 1, 8, 1]⟩
abbrev S6x1x8x48 : Shape := ⟨4, ![6, 1, 8, 48]⟩
abbrev S6x1x8 : Shape := ⟨3, ![6, 1, 8]⟩
abbrev S6x1x8x1 : Shape := ⟨4, ![6, 1, 8, 1]⟩
abbrev S6x1x8x64 : Shape := ⟨4, ![6, 1, 8, 64]⟩
abbrev S6x1x32x128 : Shape := ⟨4, ![6, 1, 32, 128]⟩
abbrev S6x1x32x384 : Shape := ⟨4, ![6, 1, 32, 384]⟩
abbrev S6x1x8x4x8x48 : Shape := ⟨6, ![6, 1, 8, 4, 8, 48]⟩
abbrev S6x16384x8x1x48 : Shape := ⟨5, ![6, 16384, 8, 1, 48]⟩
abbrev S6x16384x8x8x48 : Shape := ⟨5, ![6, 16384, 8, 8, 48]⟩
abbrev S6x8x8x16384x1x4 : Shape := ⟨6, ![6, 8, 8, 16384, 1, 4]⟩
abbrev S6x1x8x4x8x16384 : Shape := ⟨6, ![6, 1, 8, 4, 8, 16384]⟩
abbrev S6x1x8x4x16384 : Shape := ⟨5, ![6, 1, 8, 4, 16384]⟩
abbrev S6x8x16384 : Shape := ⟨3, ![6, 8, 16384]⟩
abbrev S6x1x8x1x16384 : Shape := ⟨5, ![6, 1, 8, 1, 16384]⟩
abbrev S6x1x8x1x48 : Shape := ⟨5, ![6, 1, 8, 1, 48]⟩
abbrev S6x8x8x1x1x4 : Shape := ⟨6, ![6, 8, 8, 1, 1, 4]⟩
abbrev S6x1x8x4x8x1 : Shape := ⟨6, ![6, 1, 8, 4, 8, 1]⟩
abbrev S6x1x8x4x1 : Shape := ⟨5, ![6, 1, 8, 4, 1]⟩
abbrev S6x8x1 : Shape := ⟨3, ![6, 8, 1]⟩
abbrev S6x1x8x1x1 : Shape := ⟨5, ![6, 1, 8, 1, 1]⟩
abbrev S16384 : Shape := ⟨1, ![16384]⟩
abbrev S1x16384 : Shape := ⟨2, ![1, 16384]⟩
abbrev S6x1 : Shape := ⟨2, ![6, 1]⟩
abbrev S6x16384 : Shape := ⟨2, ![6, 16384]⟩
abbrev S6x1x1x1x16384 : Shape := ⟨5, ![6, 1, 1, 1, 16384]⟩
abbrev S1 : Shape := ⟨1, ![1]⟩
abbrev S1x1 : Shape := ⟨2, ![1, 1]⟩
abbrev S1x1x1x1x1 : Shape := ⟨5, ![1, 1, 1, 1, 1]⟩
abbrev S6x1x8x4 : Shape := ⟨4, ![6, 1, 8, 4]⟩
abbrev S6x8x64x1x4 : Shape := ⟨5, ![6, 8, 64, 1, 4]⟩
abbrev S6x1x8x4x64 : Shape := ⟨5, ![6, 1, 8, 4, 64]⟩
abbrev S6x1x8x4x128 : Shape := ⟨5, ![6, 1, 8, 4, 128]⟩
abbrev S6x1x32x16384 : Shape := ⟨4, ![6, 1, 32, 16384]⟩

abbrev nBuf : Space → Nat
  | .hbm => 260
  | .vmem => 0
  | .smem => 0
  | _ => 0

abbrev hbmTy0_0 (i : Nat) : BufTy := match i % 128 with
  | 0 => ⟨S6x1x4096, .bf16⟩
  | 1 => ⟨S6x1x8x128, .bf16⟩
  | 2 => ⟨S6x1x8x128, .bf16⟩
  | 3 => ⟨S128x384, .bf16⟩
  | 4 => ⟨S6x16384x8x48, .i8⟩
  | 5 => ⟨S6x16384x8, .bf16⟩
  | 6 => ⟨S6x16384x8x64, .i8⟩
  | 7 => ⟨S6x16384x8, .f32⟩
  | 8 => ⟨S6, .i32⟩
  | 9 => ⟨S6x1x8x384, .f32⟩
  | 10 => ⟨S_, .f32⟩
  | 11 => ⟨S6x1x8x384, .f32⟩
  | 12 => ⟨S6x1x8x384, .i1⟩
  | 13 => ⟨S6x1x8x384, .i32⟩
  | 14 => ⟨S6x1x8x8x48, .i32⟩
  | 15 => ⟨S8, .i32⟩
  | 16 => ⟨S8x1, .i32⟩
  | 17 => ⟨S1x1x1x8x1, .i32⟩
  | 18 => ⟨S6x1x8x8x48, .i32⟩
  | 19 => ⟨S6x1x8x8x48, .i32⟩
  | 20 => ⟨S_, .i32⟩
  | 21 => ⟨S6x1x8x48, .i32⟩
  | 22 => ⟨S6x1x8x48, .i8⟩
  | 23 => ⟨S6x1x8x128, .f32⟩
  | 24 => ⟨S6x1x8x128, .f32⟩
  | 25 => ⟨S_, .f32⟩
  | 26 => ⟨S6x1x8, .f32⟩
  | 27 => ⟨S6x1x8, .f32⟩
  | 28 => ⟨S6x1x8, .bf16⟩
  | 29 => ⟨S6x1x8x128, .f32⟩
  | 30 => ⟨S6x1x8x128, .f32⟩
  | 31 => ⟨S_, .f32⟩
  | 32 => ⟨S6x1x8, .f32⟩
  | 33 => ⟨S6x1x8x1, .f32⟩
  | 34 => ⟨S_, .f32⟩
  | 35 => ⟨S6x1x8x1, .f32⟩
  | 36 => ⟨S6x1x8x1, .i1⟩
  | 37 => ⟨S_, .f32⟩
  | 38 => ⟨S6x1x8x1, .f32⟩
  | 39 => ⟨S6x1x8x1, .f32⟩
  | 40 => ⟨S_, .f32⟩
  | 41 => ⟨S_, .f32⟩
  | 42 => ⟨S6x1x8x1, .f32⟩
  | 43 => ⟨S6x1x8x1, .f32⟩
  | 44 => ⟨S6x1x8x128, .f32⟩
  | 45 => ⟨S6x1x8x128, .f32⟩
  | 46 => ⟨S6x1x8x128, .f32⟩
  | 47 => ⟨S_, .f32⟩
  | 48 => ⟨S_, .f32⟩
  | 49 => ⟨S_, .f32⟩
  | 50 => ⟨S6x1x8x128, .f32⟩
  | 51 => ⟨S6x1x8x128, .f32⟩
  | 52 => ⟨S_, .f32⟩
  | 53 => ⟨S6x1x8x128, .f32⟩
  | 54 => ⟨S6x1x8x128, .f32⟩
  | 55 => ⟨S6x1x8x128, .i32⟩
  | 56 => ⟨S6x1x8x64, .i32⟩
  | 57 => ⟨S_, .i32⟩
  | 58 => ⟨S6x1x8x64, .i32⟩
  | 59 => ⟨S6x1x8x64, .i32⟩
  | 60 => ⟨S6x1x8x64, .i32⟩
  | 61 => ⟨S_, .i32⟩
  | 62 => ⟨S6x1x8x64, .i32⟩
  | 63 => ⟨S6x1x8x64, .i32⟩
  | 64 => ⟨S_, .i32⟩
  | 65 => ⟨S6x1x8x64, .i32⟩
  | 66 => ⟨S6x1x8x64, .i32⟩
  | 67 => ⟨S6x1x8x64, .i32⟩
  | 68 => ⟨S6x1x8x64, .i8⟩
  | 69 => ⟨S6x1x8, .f32⟩
  | 70 => ⟨S6x1x32x128, .bf16⟩
  | 71 => ⟨S6x1x32x384, .f32⟩
  | 72 => ⟨S6x1x32x384, .bf16⟩
  | 73 => ⟨S6x1x8x4x8x48, .bf16⟩
  | 74 => ⟨S8, .i32⟩
  | 75 => ⟨S8x1, .i32⟩
  | 76 => ⟨S6x16384x8x48, .i32⟩
  | 77 => ⟨S6x16384x8x1x48, .i32⟩
  | 78 => ⟨S1x1x1x8x1, .i32⟩
  | 79 => ⟨S6x16384x8x8x48, .i32⟩
  | 80 => ⟨S6x16384x8x8x48, .i32⟩
  | 81 => ⟨S6x16384x8x8x48, .i32⟩
  | 82 => ⟨S_, .i32⟩
  | 83 => ⟨S6x16384x8x8x48, .i32⟩
  | 84 => ⟨S6x16384x8x8x48, .i32⟩
  | 85 => ⟨S_, .i32⟩
  | 86 => ⟨S6x16384x8x8x48, .i32⟩
  | 87 => ⟨S6x16384x8x8x48, .i32⟩
  | 88 => ⟨S_, .i32⟩
  | 89 => ⟨S6x16384x8x8x48, .i32⟩
  | 90 => ⟨S6x16384x8x8x48, .i32⟩
  | 91 => ⟨S6x16384x8x8x48, .f32⟩
  | 92 => ⟨S6x16384x8x8x48, .bf16⟩
  | 93 => ⟨S6x8x8x16384x1x4, .f32⟩
  | 94 => ⟨S6x1x8x4x8x16384, .f32⟩
  | 95 => ⟨S_, .f32⟩
  | 96 => ⟨S6x1x8x4x16384, .f32⟩
  | 97 => ⟨S6x16384x8, .f32⟩
  | 98 => ⟨S_, .f32⟩
  | 99 => ⟨S6x16384x8, .f32⟩
  | 100 => ⟨S6x16384x8, .f32⟩
  | 101 => ⟨S6x8x16384, .f32⟩
  | 102 => ⟨S6x1x8x1x16384, .f32⟩
  | 103 => ⟨S6x1x8x4x16384, .f32⟩
  | 104 => ⟨S6x1x8x4x16384, .f32⟩
  | 105 => ⟨S8, .i32⟩
  | 106 => ⟨S8x1, .i32⟩
  | 107 => ⟨S6x1x8x48, .i32⟩
  | 108 => ⟨S6x1x8x1x48, .i32⟩
  | 109 => ⟨S1x1x1x8x1, .i32⟩
  | 110 => ⟨S6x1x8x8x48, .i32⟩
  | 111 => ⟨S6x1x8x8x48, .i32⟩
  | 112 => ⟨S6x1x8x8x48, .i32⟩
  | 113 => ⟨S_, .i32⟩
  | 114 => ⟨S6x1x8x8x48, .i32⟩
  | 115 => ⟨S6x1x8x8x48, .i32⟩
  | 116 => ⟨S_, .i32⟩
  | 117 => ⟨S6x1x8x8x48, .i32⟩
  | 118 => ⟨S6x1x8x8x48, .i32⟩
  | 119 => ⟨S_, .i32⟩
  | 120 => ⟨S6x1x8x8x48, .i32⟩
  | 121 => ⟨S6x1x8x8x48, .i32⟩
  | 122 => ⟨S6x1x8x8x48, .f32⟩
  | 123 => ⟨S6x1x8x8x48, .bf16⟩
  | 124 => ⟨S6x8x8x1x1x4, .f32⟩
  | 125 => ⟨S6x1x8x4x8x1, .f32⟩
  | 126 => ⟨S_, .f32⟩
  | 127 => ⟨S6x1x8x4x1, .f32⟩
  | _ => ⟨S6x1x4096, .bf16⟩

abbrev hbmTy0_1 (i : Nat) : BufTy := match i % 128 with
  | 0 => ⟨S6x1x8, .f32⟩
  | 1 => ⟨S_, .f32⟩
  | 2 => ⟨S6x1x8, .f32⟩
  | 3 => ⟨S6x1x8, .f32⟩
  | 4 => ⟨S6x8x1, .f32⟩
  | 5 => ⟨S6x1x8x1x1, .f32⟩
  | 6 => ⟨S6x1x8x4x1, .f32⟩
  | 7 => ⟨S6x1x8x4x1, .f32⟩
  | 8 => ⟨S16384, .i32⟩
  | 9 => ⟨S1x16384, .i32⟩
  | 10 => ⟨S6x1, .i32⟩
  | 11 => ⟨S6x16384, .i32⟩
  | 12 => ⟨S6x16384, .i32⟩
  | 13 => ⟨S6x16384, .i1⟩
  | 14 => ⟨S6x1x1x1x16384, .i1⟩
  | 15 => ⟨S1, .i32⟩
  | 16 => ⟨S1x1, .i32⟩
  | 17 => ⟨S1, .i32⟩
  | 18 => ⟨S1x1, .i32⟩
  | 19 => ⟨S1x1, .i1⟩
  | 20 => ⟨S1x1x1x1x1, .i1⟩
  | 21 => ⟨S_, .f32⟩
  | 22 => ⟨S_, .f32⟩
  | 23 => ⟨S6x1x8x4x16384, .i1⟩
  | 24 => ⟨S6x1x8x4x16384, .f32⟩
  | 25 => ⟨S6x1x8x4x16384, .f32⟩
  | 26 => ⟨S_, .f32⟩
  | 27 => ⟨S_, .f32⟩
  | 28 => ⟨S6x1x8x4x1, .i1⟩
  | 29 => ⟨S6x1x8x4x1, .f32⟩
  | 30 => ⟨S6x1x8x4x1, .f32⟩
  | 31 => ⟨S_, .f32⟩
  | 32 => ⟨S6x1x8x4, .f32⟩
  | 33 => ⟨S6x1x8x4x1, .f32⟩
  | 34 => ⟨S_, .f32⟩
  | 35 => ⟨S6x1x8x4, .f32⟩
  | 36 => ⟨S6x1x8x4x1, .f32⟩
  | 37 => ⟨S6x1x8x4x1, .f32⟩
  | 38 => ⟨S6x1x8x4x16384, .f32⟩
  | 39 => ⟨S6x1x8x4x16384, .f32⟩
  | 40 => ⟨S6x1x8x4x16384, .f32⟩
  | 41 => ⟨S6x1x8x4x1, .f32⟩
  | 42 => ⟨S6x1x8x4x1, .f32⟩
  | 43 => ⟨S_, .f32⟩
  | 44 => ⟨S6x1x8x4, .f32⟩
  | 45 => ⟨S6x1x8x4x1, .f32⟩
  | 46 => ⟨S_, .f32⟩
  | 47 => ⟨S6x1x8x4, .f32⟩
  | 48 => ⟨S6x1x8x4x1, .f32⟩
  | 49 => ⟨S6x1x8x4x1, .f32⟩
  | 50 => ⟨S6x1x8x4x16384, .f32⟩
  | 51 => ⟨S6x1x8x4x16384, .f32⟩
  | 52 => ⟨S6x1x8x4x1, .f32⟩
  | 53 => ⟨S6x8x16384, .f32⟩
  | 54 => ⟨S6x1x8x1x16384, .f32⟩
  | 55 => ⟨S6x1x8x4x16384, .f32⟩
  | 56 => ⟨S6x1x8x4x16384, .f32⟩
  | 57 => ⟨S6x1x8x4x16384, .bf16⟩
  | 58 => ⟨S6x8x1, .f32⟩
  | 59 => ⟨S6x1x8x1x1, .f32⟩
  | 60 => ⟨S6x1x8x4x1, .f32⟩
  | 61 => ⟨S6x1x8x4x1, .f32⟩
  | 62 => ⟨S6x1x8x4x1, .bf16⟩
  | 63 => ⟨S6x16384x8x64, .i32⟩
  | 64 => ⟨S_, .i32⟩
  | 65 => ⟨S6x16384x8x64, .i32⟩
  | 66 => ⟨S6x16384x8x64, .i32⟩
  | 67 => ⟨S_, .i32⟩
  | 68 => ⟨S6x16384x8x64, .i32⟩
  | 69 => ⟨S6x16384x8x64, .i32⟩
  | 70 => ⟨S_, .i32⟩
  | 71 => ⟨S6x16384x8x64, .i32⟩
  | 72 => ⟨S6x16384x8x64, .i1⟩
  | 73 => ⟨S_, .i32⟩
  | 74 => ⟨S6x16384x8x64, .i32⟩
  | 75 => ⟨S6x16384x8x64, .i32⟩
  | 76 => ⟨S6x16384x8x64, .i32⟩
  | 77 => ⟨S6x16384x8x64, .f32⟩
  | 78 => ⟨S6x16384x8x64, .bf16⟩
  | 79 => ⟨S_, .i32⟩
  | 80 => ⟨S6x16384x8x64, .i32⟩
  | 81 => ⟨S6x16384x8x64, .i1⟩
  | 82 => ⟨S_, .i32⟩
  | 83 => ⟨S6x16384x8x64, .i32⟩
  | 84 => ⟨S6x16384x8x64, .i32⟩
  | 85 => ⟨S6x16384x8x64, .i32⟩
  | 86 => ⟨S6x16384x8x64, .f32⟩
  | 87 => ⟨S6x16384x8x64, .bf16⟩
  | 88 => ⟨S6x1x8x64, .i32⟩
  | 89 => ⟨S_, .i32⟩
  | 90 => ⟨S6x1x8x64, .i32⟩
  | 91 => ⟨S6x1x8x64, .i32⟩
  | 92 => ⟨S_, .i32⟩
  | 93 => ⟨S6x1x8x64, .i32⟩
  | 94 => ⟨S6x1x8x64, .i32⟩
  | 95 => ⟨S_, .i32⟩
  | 96 => ⟨S6x1x8x64, .i32⟩
  | 97 => ⟨S6x1x8x64, .i1⟩
  | 98 => ⟨S_, .i32⟩
  | 99 => ⟨S6x1x8x64, .i32⟩
  | 100 => ⟨S6x1x8x64, .i32⟩
  | 101 => ⟨S6x1x8x64, .i32⟩
  | 102 => ⟨S6x1x8x64, .f32⟩
  | 103 => ⟨S6x1x8x64, .bf16⟩
  | 104 => ⟨S_, .i32⟩
  | 105 => ⟨S6x1x8x64, .i32⟩
  | 106 => ⟨S6x1x8x64, .i1⟩
  | 107 => ⟨S_, .i32⟩
  | 108 => ⟨S6x1x8x64, .i32⟩
  | 109 => ⟨S6x1x8x64, .i32⟩
  | 110 => ⟨S6x1x8x64, .i32⟩
  | 111 => ⟨S6x1x8x64, .f32⟩
  | 112 => ⟨S6x1x8x64, .bf16⟩
  | 113 => ⟨S6x8x64x1x4, .f32⟩
  | 114 => ⟨S6x1x8x4x64, .f32⟩
  | 115 => ⟨S6x8x64x1x4, .f32⟩
  | 116 => ⟨S6x1x8x4x64, .f32⟩
  | 117 => ⟨S6x1x8x4x64, .f32⟩
  | 118 => ⟨S6x8x64x1x4, .f32⟩
  | 119 => ⟨S6x1x8x4x64, .f32⟩
  | 120 => ⟨S6x8x64x1x4, .f32⟩
  | 121 => ⟨S6x1x8x4x64, .f32⟩
  | 122 => ⟨S6x1x8x4x64, .f32⟩
  | 123 => ⟨S6x1x8x4x128, .f32⟩
  | 124 => ⟨S6x1x4096, .f32⟩
  | 125 => ⟨S6x1x4096, .bf16⟩
  | 126 => ⟨S_, .f32⟩
  | 127 => ⟨S_, .f32⟩
  | _ => ⟨S6x1x4096, .bf16⟩

abbrev hbmTy0_2 (i : Nat) : BufTy := match i % 128 with
  | 0 => ⟨S6x1x8x4x16384, .i1⟩
  | 1 => ⟨S6x1x8x4x16384, .f32⟩
  | 2 => ⟨S6x1x8x4x16384, .f32⟩
  | 3 => ⟨S6x1x32x16384, .f32⟩
  | _ => ⟨S6x1x4096, .bf16⟩

abbrev hbmTy (i : Nat) : BufTy := match i / 128 with
  | 0 => hbmTy0_0 i
  | 1 => hbmTy0_1 i
  | 2 => hbmTy0_2 i
  | _ => ⟨S6x1x4096, .bf16⟩

abbrev bufTy : (tb : Table) → Fin (tcTables nBuf tb) → BufTy
  | .hbm, ⟨i, _⟩ => hbmTy i
  | _, _ => ⟨S6x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_cst_6 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_c_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_10 : Ref sig .tc := ⟨.hbm, 82, rfl⟩
abbrev main_v54 : Ref sig .tc := ⟨.hbm, 83, rfl⟩
abbrev main_v55 : Ref sig .tc := ⟨.hbm, 84, rfl⟩
abbrev main_c_11 : Ref sig .tc := ⟨.hbm, 85, rfl⟩
abbrev main_v56 : Ref sig .tc := ⟨.hbm, 86, rfl⟩
abbrev main_v57 : Ref sig .tc := ⟨.hbm, 87, rfl⟩
abbrev main_c_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_v65 : Ref sig .tc := ⟨.hbm, 97, rfl⟩
abbrev main_cst_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_15 : Ref sig .tc := ⟨.hbm, 113, rfl⟩
abbrev main_v80 : Ref sig .tc := ⟨.hbm, 114, rfl⟩
abbrev main_v81 : Ref sig .tc := ⟨.hbm, 115, rfl⟩
abbrev main_c_16 : Ref sig .tc := ⟨.hbm, 116, rfl⟩
abbrev main_v82 : Ref sig .tc := ⟨.hbm, 117, rfl⟩
abbrev main_v83 : Ref sig .tc := ⟨.hbm, 118, rfl⟩
abbrev main_c_17 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_18 : Ref sig .tc := ⟨.hbm, 126, rfl⟩
abbrev main_v90 : Ref sig .tc := ⟨.hbm, 127, rfl⟩
abbrev main_v91 : Ref sig .tc := ⟨.hbm, 128, rfl⟩
abbrev main_cst_19 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_20 : Ref sig .tc := ⟨.hbm, 149, rfl⟩
abbrev main_call3_v0 : Ref sig .tc := ⟨.hbm, 150, rfl⟩
abbrev main_call3_v1 : Ref sig .tc := ⟨.hbm, 151, rfl⟩
abbrev main_call3_v2 : Ref sig .tc := ⟨.hbm, 152, rfl⟩
abbrev main_v111 : Ref sig .tc := ⟨.hbm, 153, rfl⟩
abbrev main_cst_21 : Ref sig .tc := ⟨.hbm, 154, rfl⟩
abbrev main_call4_v0 : Ref sig .tc := ⟨.hbm, 155, rfl⟩
abbrev main_call4_v1 : Ref sig .tc := ⟨.hbm, 156, rfl⟩
abbrev main_call4_v2 : Ref sig .tc := ⟨.hbm, 157, rfl⟩
abbrev main_v112 : Ref sig .tc := ⟨.hbm, 158, rfl⟩
abbrev main_cst_22 : Ref sig .tc := ⟨.hbm, 159, rfl⟩
abbrev main_v113 : Ref sig .tc := ⟨.hbm, 160, rfl⟩
abbrev main_v114 : Ref sig .tc := ⟨.hbm, 161, rfl⟩
abbrev main_cst_23 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_24 : Ref sig .tc := ⟨.hbm, 171, rfl⟩
abbrev main_v123 : Ref sig .tc := ⟨.hbm, 172, rfl⟩
abbrev main_v124 : Ref sig .tc := ⟨.hbm, 173, rfl⟩
abbrev main_cst_25 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_c_26 : Ref sig .tc := ⟨.hbm, 192, rfl⟩
abbrev main_v142 : Ref sig .tc := ⟨.hbm, 193, rfl⟩
abbrev main_v143 : Ref sig .tc := ⟨.hbm, 194, rfl⟩
abbrev main_c_27 : Ref sig .tc := ⟨.hbm, 195, rfl⟩
abbrev main_v144 : Ref sig .tc := ⟨.hbm, 196, rfl⟩
abbrev main_v145 : Ref sig .tc := ⟨.hbm, 197, rfl⟩
abbrev main_c_28 : Ref sig .tc := ⟨.hbm, 198, rfl⟩
abbrev main_v146 : Ref sig .tc := ⟨.hbm, 199, rfl⟩
abbrev main_v147 : Ref sig .tc := ⟨.hbm, 200, rfl⟩
abbrev main_c_29 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_c_30 : Ref sig .tc := ⟨.hbm, 207, rfl⟩
abbrev main_v153 : Ref sig .tc := ⟨.hbm, 208, rfl⟩
abbrev main_v154 : Ref sig .tc := ⟨.hbm, 209, rfl⟩
abbrev main_c_31 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_c_32 : Ref sig .tc := ⟨.hbm, 217, rfl⟩
abbrev main_v161 : Ref sig .tc := ⟨.hbm, 218, rfl⟩
abbrev main_v162 : Ref sig .tc := ⟨.hbm, 219, rfl⟩
abbrev main_c_33 : Ref sig .tc := ⟨.hbm, 220, rfl⟩
abbrev main_v163 : Ref sig .tc := ⟨.hbm, 221, rfl⟩
abbrev main_v164 : Ref sig .tc := ⟨.hbm, 222, rfl⟩
abbrev main_c_34 : Ref sig .tc := ⟨.hbm, 223, rfl⟩
abbrev main_v165 : Ref sig .tc := ⟨.hbm, 224, rfl⟩
abbrev main_v166 : Ref sig .tc := ⟨.hbm, 225, rfl⟩
abbrev main_c_35 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_c_36 : Ref sig .tc := ⟨.hbm, 232, rfl⟩
abbrev main_v172 : Ref sig .tc := ⟨.hbm, 233, rfl⟩
abbrev main_v173 : Ref sig .tc := ⟨.hbm, 234, rfl⟩
abbrev main_c_37 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_cst_38 : Ref sig .tc := ⟨.hbm, 254, rfl⟩
abbrev main_call9_v0 : Ref sig .tc := ⟨.hbm, 255, rfl⟩
abbrev main_call9_v1 : Ref sig .tc := ⟨.hbm, 256, rfl⟩
abbrev main_call9_v2 : Ref sig .tc := ⟨.hbm, 257, rfl⟩
abbrev main_v192 : Ref sig .tc := ⟨.hbm, 258, rfl⟩
abbrev main_v193 : Ref sig .tc := ⟨.hbm, 259, rfl⟩

abbrev nD : Nat := 1
abbrev τ : Topo := Topo.v7x

variable {F : FTy → Type} [FloatOps F]
-- ==== Proof.Region0.lean ====
/- The first pallas_call of the kernel, `prep`, as the launch finds it: each window's block, what the body leaves in each
   output window's buffer as a function of the four input blocks (`out0_4` … `out0_12`), the body's triple, the proof
   data of the call and its body obligation. Everything is stated at a parameter `V`, the buffers' contents when the
   call is entered. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Prep

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S128x384 := Rect.unit (s := S128x384) ![0, 0] S128x384.size inb_S128x384_S128x384_0_0
abbrev r0_1 : Rect S48x128 := Rect.unit (s := S48x128) ![0, 0] S48x128.size inb_S48x128_S48x128_0_0
abbrev r0_2 : Rect S48x48 := Rect.unit (s := S48x48) ![0, 0] S48x48.size inb_S48x48_S48x48_0_0
abbrev r0_3 : Rect S48x1 := Rect.unit (s := S48x1) ![0, 0] S48x1.size inb_S48x1_S48x1_0_0
abbrev r0_4 : Rect S48x64 := Rect.unit (s := S48x64) ![0, 0] S48x64.size inb_S48x64_S48x64_0_0
abbrev r0_5 : Rect S192x128 := Rect.unit (s := S192x128) ![0, 0] S192x128.size inb_S192x128_S192x128_0_0
abbrev r0_6 : Rect S192x1 := Rect.unit (s := S192x1) ![0, 0] S192x1.size inb_S192x1_S192x1_0_0
abbrev r0_7 : Rect S6x768x256 := Rect.unit (s := S6x768x256) ![0, 0, 0] S1x768x256.size inb_S6x768x256_S1x768x256_0_0_0
abbrev r0_8 : Rect S6x768x256 := Rect.unit (s := S6x768x256) ![1, 0, 0] S1x768x256.size inb_S6x768x256_S1x768x256_1_0_0
abbrev r0_9 : Rect S6x768x256 := Rect.unit (s := S6x768x256) ![2, 0, 0] S1x768x256.size inb_S6x768x256_S1x768x256_2_0_0
abbrev r0_10 : Rect S6x768x256 := Rect.unit (s := S6x768x256) ![3, 0, 0] S1x768x256.size inb_S6x768x256_S1x768x256_3_0_0
abbrev r0_11 : Rect S6x768x256 := Rect.unit (s := S6x768x256) ![4, 0, 0] S1x768x256.size inb_S6x768x256_S1x768x256_4_0_0
abbrev r0_12 : Rect S6x768x256 := Rect.unit (s := S6x768x256) ![5, 0, 0] S1x768x256.size inb_S6x768x256_S1x768x256_5_0_0

/-! ## What the body leaves in each output window's buffer -/

/-! ### Values of the body that the stores' payloads, spelt out, would write more than once

    Each is a vector the body binds (often a part call's result), stated over the input windows' blocks and
    numbered on from the skeleton's payload functions (`k0_pay50` …, after `k0_pay49`), so that
    `out0_W` and the values after it name it instead of spelling it out ; the comment after each is the printed function's
    name for the value (a count appended where that name is bound again). -/

def k0_pay50 (x0 : Vec F S192x128 .bf16) (x1 : Vec F S48x128 .bf16) (x2 : Vec F S48x128 .bf16) (x3 : Vec F S128x384 .bf16) : FVec F S48x128 .bf16 :=
  k0_pay2 (View.ld x1 r0_1) -- `v2`
def k0_pay51 (x0 : Vec F S192x128 .bf16) (x1 : Vec F S48x128 .bf16) (x2 : Vec F S48x128 .bf16) (x3 : Vec F S128x384 .bf16) : FVec F S48x128 .bf16 :=
  k0_pay3 (View.ld x2 r0_1) -- `v4`
def k0_pay52 (x0 : Vec F S192x128 .bf16) (x1 : Vec F S48x128 .bf16) (x2 : Vec F S48x128 .bf16) (x3 : Vec F S128x384 .bf16) : IVec S48x384 1 :=
  k0_pay4 (View.ld x3 r0_0) (View.ld x1 r0_1) -- `v7`
def k0_pay53 (x0 : Vec F S192x128 .bf16) (x1 : Vec F S48x128 .bf16) (x2 : Vec F S48x128 .bf16) (x3 : Vec F S128x384 .bf16) : IVec S192x48 32 :=
  k0_pay15 -- `v103`
def k0_pay54 (x0 : Vec F S192x128 .bf16) (x1 : Vec F S48x128 .bf16) (x2 : Vec F S48x128 .bf16) (x3 : Vec F S128x384 .bf16) : IVec S192x48 1 :=
  k0_pay16 -- `v122`
def k0_pay55 (x0 : Vec F S192x128 .bf16) (x1 : Vec F S48x128 .bf16) (x2 : Vec F S48x128 .bf16) (x3 : Vec F S128x384 .bf16) : IVec S192x48 32 :=
  k0_pay17 -- `v124`
def k0_pay56 (x0 : Vec F S192x128 .bf16) (x1 : Vec F S48x128 .bf16) (x2 : Vec F S48x128 .bf16) (x3 : Vec F S128x384 .bf16) : FVec F S192x384 .bf16 :=
  k0_pay23 (View.ld x3 r0_0) (View.ld x0 r0_5) -- `v164`
def k0_pay57 (x0 : Vec F S192x128 .bf16) (x1 : Vec F S48x128 .bf16) (x2 : Vec F S48x128 .bf16) (x3 : Vec F S128x384 .bf16) : IVec S384x256 32 :=
  iota .tc S384x256 32 [1] iota_S384x256_d1_w32 -- `v260`
def k0_pay58 (x0 : Vec F S192x128 .bf16) (x1 : Vec F S48x128 .bf16) (x2 : Vec F S48x128 .bf16) (x3 : Vec F S128x384 .bf16) : IVec S384x256 32 :=
  iota .tc S384x256 32 [0] iota_S384x256_d0_w32 -- `v261`
def k0_pay59 (x0 : Vec F S192x128 .bf16) (x1 : Vec F S48x128 .bf16) (x2 : Vec F S48x128 .bf16) (x3 : Vec F S128x384 .bf16) : FVec F S768x192 .bf16 :=
  k0_pay31 (F := F) k0_pay27 k0_pay28 k0_pay29 k0_pay30 -- `v259`
def k0_pay60 (x0 : Vec F S192x128 .bf16) (x1 : Vec F S48x128 .bf16) (x2 : Vec F S48x128 .bf16) (x3 : Vec F S128x384 .bf16) : IVec S384x256 32 :=
  k0_pay32 -- `v285`
def k0_pay61 (x0 : Vec F S192x128 .bf16) (x1 : Vec F S48x128 .bf16) (x2 : Vec F S48x128 .bf16) (x3 : Vec F S128x384 .bf16) : IVec S384x256 32 :=
  k0_pay38 (k0_pay57 x0 x1 x2 x3) (k0_pay37 (k0_pay60 x0 x1 x2 x3) (k0_pay35 (k0_pay57 x0 x1 x2 x3) 2#32 k0_pay33 k0_pay34 (Scalar.extui (Scalar.cmpi .sgt 2#32 0#32)) 0#32) (k0_pay36 (k0_pay60 x0 x1 x2 x3)) 48#32) -- `v406`
def k0_pay62 (x0 : Vec F S192x128 .bf16) (x1 : Vec F S48x128 .bf16) (x2 : Vec F S48x128 .bf16) (x3 : Vec F S128x384 .bf16) : IVec S768x256 32 :=
  k0_pay40 k0_pay39 4#32 -- `v448`
def k0_pay63 (x0 : Vec F S192x128 .bf16) (x1 : Vec F S48x128 .bf16) (x2 : Vec F S48x128 .bf16) (x3 : Vec F S128x384 .bf16) : IVec S768x256 32 :=
  k0_pay41 (iota .tc S768x256 32 [0] iota_S768x256_d0_w32) -- `v476`
def k0_pay64 (x0 : Vec F S192x128 .bf16) (x1 : Vec F S48x128 .bf16) (x2 : Vec F S48x128 .bf16) (x3 : Vec F S128x384 .bf16) : IVec S768x256 1 :=
  k0_pay42 (k0_pay62 x0 x1 x2 x3) (Scalar.select (Scalar.cmpi .eq 4#32 0#32) 1#32 4#32) (k0_pay63 x0 x1 x2 x3) 0#32 -- `v489`

/-- Window 4's staging buffer after the body, from the input windows' blocks: its 6 stores as pieces, LAST
    FIRST (Lib/Pipeline/FrameBody.lean `View.canon`; the payloads are the skeleton's and the values stated above). -/
def out0_4 (x0 : Vec F S192x128 .bf16) (x1 : Vec F S48x128 .bf16) (x2 : Vec F S48x128 .bf16) (x3 : Vec F S128x384 .bf16) : Vec F S6x768x256 .bf16 :=
  View.canon [⟨r0_12, k0_pay1 (k0_pay49 (k0_pay56 x0 x1 x2 x3) (k0_pay59 x0 x1 x2 x3) (k0_pay58 x0 x1 x2 x3) (k0_pay61 x0 x1 x2 x3) (k0_pay64 x0 x1 x2 x3))⟩,
    ⟨r0_11, k0_pay48 (k0_pay56 x0 x1 x2 x3) (k0_pay59 x0 x1 x2 x3) (k0_pay58 x0 x1 x2 x3) (k0_pay61 x0 x1 x2 x3) (k0_pay64 x0 x1 x2 x3) 32#32⟩,
    ⟨r0_10, k0_pay47 (k0_pay56 x0 x1 x2 x3) (k0_pay59 x0 x1 x2 x3) (k0_pay58 x0 x1 x2 x3) (k0_pay61 x0 x1 x2 x3) (k0_pay64 x0 x1 x2 x3)⟩,
    ⟨r0_9, k0_pay46 (k0_pay56 x0 x1 x2 x3) (k0_pay59 x0 x1 x2 x3) (k0_pay58 x0 x1 x2 x3) (k0_pay61 x0 x1 x2 x3) (k0_pay64 x0 x1 x2 x3)⟩,
    ⟨r0_8, k0_pay45 (k0_pay44 (k0_pay56 x0 x1 x2 x3) (k0_pay59 x0 x1 x2 x3) (k0_pay58 x0 x1 x2 x3) (k0_pay61 x0 x1 x2 x3) (k0_pay62 x0 x1 x2 x3) (Scalar.select (Scalar.cmpi .eq 4#32 0#32) 1#32 4#32) (k0_pay63 x0 x1 x2 x3) 0#32)⟩,
    ⟨r0_7, k0_pay43 (k0_pay56 x0 x1 x2 x3) (k0_pay59 x0 x1 x2 x3) (k0_pay58 x0 x1 x2 x3) (k0_pay61 x0 x1 x2 x3) (k0_pay62 x0 x1 x2 x3) (Scalar.select (Scalar.cmpi .eq 4#32 0#32) 1#32 4#32) (k0_pay63 x0 x1 x2 x3) 0#32⟩]

/-- Its stores tile the buffer (checked by evaluation), so they cover it. -/
theorem cover0_4 (p0 : Vec F S1x768x256 .bf16) (p1 : Vec F S1x768x256 .bf16) (p2 : Vec F S1x768x256 .bf16) (p3 : Vec F S1x768x256 .bf16) (p4 : Vec F S1x768x256 .bf16) (p5 : Vec F S1x768x256 .bf16) (y : S6x768x256.Idx) :
    ∃ pc ∈ ([⟨r0_12, p0⟩, ⟨r0_11, p1⟩, ⟨r0_10, p2⟩, ⟨r0_9, p3⟩, ⟨r0_8, p4⟩, ⟨r0_7, p5⟩] : List (View.Piece (Elt F) S6x768x256 .bf16)), y ∈ pc.1.set :=
  View.cover_of_tiled [⟨r0_12, p0⟩, ⟨r0_11, p1⟩, ⟨r0_10, p2⟩, ⟨r0_9, p3⟩, ⟨r0_8, p4⟩, ⟨r0_7, p5⟩] S1x768x256.size (by rfl) y

/-- Window 5's staging buffer after the body, from the input windows' blocks: its 1 store as pieces, LAST
    FIRST (Lib/Pipeline/FrameBody.lean `View.canon`; the payloads are the skeleton's and the values stated above). -/
def out0_5 (x0 : Vec F S192x128 .bf16) (x1 : Vec F S48x128 .bf16) (x2 : Vec F S48x128 .bf16) (x3 : Vec F S128x384 .bf16) : Vec F S192x1 .f32 :=
  View.canon [⟨r0_6, k0_pay24 (k0_pay52 x0 x1 x2 x3) (k0_pay19 (k0_pay50 x0 x1 x2 x3) (k0_pay53 x0 x1 x2 x3) (k0_pay54 x0 x1 x2 x3) (k0_pay55 x0 x1 x2 x3)) (k0_pay56 x0 x1 x2 x3)⟩]

/-- Its stores tile the buffer (checked by evaluation), so they cover it. -/
theorem cover0_5 (p0 : Vec F S192x1 .f32) (y : S192x1.Idx) :
    ∃ pc ∈ ([⟨r0_6, p0⟩] : List (View.Piece (Elt F) S192x1 .f32)), y ∈ pc.1.set :=
  View.cover_of_tiled [⟨r0_6, p0⟩] S192x1.size (by rfl) y

/-- Window 6's staging buffer after the body, from the input windows' blocks: its 1 store as pieces, LAST
    FIRST (Lib/Pipeline/FrameBody.lean `View.canon`; the payloads are the skeleton's and the values stated above). -/
def out0_6 (x0 : Vec F S192x128 .bf16) (x1 : Vec F S48x128 .bf16) (x2 : Vec F S48x128 .bf16) (x3 : Vec F S128x384 .bf16) : Vec F S192x1 .f32 :=
  View.canon [⟨r0_6, k0_pay26 (k0_pay25 (k0_pay56 x0 x1 x2 x3))⟩]

/-- Its stores tile the buffer (checked by evaluation), so they cover it. -/
theorem cover0_6 (p0 : Vec F S192x1 .f32) (y : S192x1.Idx) :
    ∃ pc ∈ ([⟨r0_6, p0⟩] : List (View.Piece (Elt F) S192x1 .f32)), y ∈ pc.1.set :=
  View.cover_of_tiled [⟨r0_6, p0⟩] S192x1.size (by rfl) y

/-- Window 7's staging buffer after the body, from the input windows' blocks: its 1 store as pieces, LAST
    FIRST (Lib/Pipeline/FrameBody.lean `View.canon`; the payloads are the skeleton's and the values stated above). -/
def out0_7 (x0 : Vec F S192x128 .bf16) (x1 : Vec F S48x128 .bf16) (x2 : Vec F S48x128 .bf16) (x3 : Vec F S128x384 .bf16) : Vec F S192x128 .f32 :=
  View.canon [⟨r0_5, k0_pay22 (k0_pay51 x0 x1 x2 x3) (k0_pay53 x0 x1 x2 x3) (k0_pay54 x0 x1 x2 x3) (k0_pay55 x0 x1 x2 x3)⟩]

/-- Its stores tile the buffer (checked by evaluation), so they cover it. -/
theorem cover0_7 (p0 : Vec F S192x128 .f32) (y : S192x128.Idx) :
    ∃ pc ∈ ([⟨r0_5, p0⟩] : List (View.Piece (Elt F) S192x128 .f32)), y ∈ pc.1.set :=
  View.cover_of_tiled [⟨r0_5, p0⟩] S192x128.size (by rfl) y

/-- Window 8's staging buffer after the body, from the input windows' blocks: its 1 store as pieces, LAST
    FIRST (Lib/Pipeline/FrameBody.lean `View.canon`; the payloads are the skeleton's and the values stated above). -/
def out0_8 (x0 : Vec F S192x128 .bf16) (x1 : Vec F S48x128 .bf16) (x2 : Vec F S48x128 .bf16) (x3 : Vec F S128x384 .bf16) : Vec F S192x1 .f32 :=
  View.canon [⟨r0_6, k0_pay21 (k0_pay51 x0 x1 x2 x3) (k0_pay53 x0 x1 x2 x3) (k0_pay54 x0 x1 x2 x3) (k0_pay55 x0 x1 x2 x3)⟩]

/-- Its stores tile the buffer (checked by evaluation), so they cover it. -/
theorem cover0_8 (p0 : Vec F S192x1 .f32) (y : S192x1.Idx) :
    ∃ pc ∈ ([⟨r0_6, p0⟩] : List (View.Piece (Elt F) S192x1 .f32)), y ∈ pc.1.set :=
  View.cover_of_tiled [⟨r0_6, p0⟩] S192x1.size (by rfl) y

/-- Window 9's staging buffer after the body, from the input windows' blocks: its 1 store as pieces, LAST
    FIRST (Lib/Pipeline/FrameBody.lean `View.canon`; the payloads are the skeleton's and the values stated above). -/
def out0_9 (x0 : Vec F S192x128 .bf16) (x1 : Vec F S48x128 .bf16) (x2 : Vec F S48x128 .bf16) (x3 : Vec F S128x384 .bf16) : Vec F S48x48 .i32 :=
  View.canon [⟨r0_2, k0_pay9 (F := F) (k0_pay52 x0 x1 x2 x3) (iota .tc S384x128 32 [0] iota_S384x128_d0_w32) k0_pay5 k0_pay6 48#32 k0_pay7 k0_pay8 (Scalar.extui (Scalar.cmpi .sgt 48#32 0#32)) (Scalar.cmpi .slt 48#32 0#32)⟩]

/-- Its stores tile the buffer (checked by evaluation), so they cover it. -/
theorem cover0_9 (p0 : Vec F S48x48 .i32) (y : S48x48.Idx) :
    ∃ pc ∈ ([⟨r0_2, p0⟩] : List (View.Piece (Elt F) S48x48 .i32)), y ∈ pc.1.set :=
  View.cover_of_tiled [⟨r0_2, p0⟩] S48x48.size (by rfl) y

/-- Window 10's staging buffer after the body, from the input windows' blocks: its 1 store as pieces, LAST
    FIRST (Lib/Pipeline/FrameBody.lean `View.canon`; the payloads are the skeleton's and the values stated above). -/
def out0_10 (x0 : Vec F S192x128 .bf16) (x1 : Vec F S48x128 .bf16) (x2 : Vec F S48x128 .bf16) (x3 : Vec F S128x384 .bf16) : Vec F S48x1 .bf16 :=
  View.canon [⟨r0_3, k0_pay10 (k0_pay50 x0 x1 x2 x3)⟩]

/-- Its stores tile the buffer (checked by evaluation), so they cover it. -/
theorem cover0_10 (p0 : Vec F S48x1 .bf16) (y : S48x1.Idx) :
    ∃ pc ∈ ([⟨r0_3, p0⟩] : List (View.Piece (Elt F) S48x1 .bf16)), y ∈ pc.1.set :=
  View.cover_of_tiled [⟨r0_3, p0⟩] S48x1.size (by rfl) y

/-- Window 11's staging buffer after the body, from the input windows' blocks: its 1 store as pieces, LAST
    FIRST (Lib/Pipeline/FrameBody.lean `View.canon`; the payloads are the skeleton's and the values stated above). -/
def out0_11 (x0 : Vec F S192x128 .bf16) (x1 : Vec F S48x128 .bf16) (x2 : Vec F S48x128 .bf16) (x3 : Vec F S128x384 .bf16) : Vec F S48x64 .i32 :=
  View.canon [⟨r0_4, k0_pay14 (k0_pay11 (k0_pay51 x0 x1 x2 x3)) (k0_pay13 (k0_pay51 x0 x1 x2 x3))⟩]

/-- Its stores tile the buffer (checked by evaluation), so they cover it. -/
theorem cover0_11 (p0 : Vec F S48x64 .i32) (y : S48x64.Idx) :
    ∃ pc ∈ ([⟨r0_4, p0⟩] : List (View.Piece (Elt F) S48x64 .i32)), y ∈ pc.1.set :=
  View.cover_of_tiled [⟨r0_4, p0⟩] S48x64.size (by rfl) y

/-- Window 12's staging buffer after the body, from the input windows' blocks: its 1 store as pieces, LAST
    FIRST (Lib/Pipeline/FrameBody.lean `View.canon`; the payloads are the skeleton's and the values stated above). -/
def out0_12 (x0 : Vec F S192x128 .bf16) (x1 : Vec F S48x128 .bf16) (x2 : Vec F S48x128 .bf16) (x3 : Vec F S128x384 .bf16) : Vec F S48x1 .f32 :=
  View.canon [⟨r0_3, k0_pay12 (k0_pay51 x0 x1 x2 x3)⟩]

/-- Its stores tile the buffer (checked by evaluation), so they cover it. -/
theorem cover0_12 (p0 : Vec F S48x1 .f32) (y : S48x1.Idx) :
    ∃ pc ∈ ([⟨r0_3, p0⟩] : List (View.Piece (Elt F) S48x1 .f32)), y ∈ pc.1.set :=
  View.cover_of_tiled [⟨r0_3, p0⟩] S48x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (arg0 : Memref sig .tc .vmem S192x128 .bf16) (harg0 : arg0.IsWhole) (arg1 : Memref sig .tc .vmem S48x128 .bf16) (harg1 : arg1.IsWhole) (arg2 : Memref sig .tc .vmem S48x128 .bf16) (harg2 : arg2.IsWhole) (arg3 : Memref sig .tc .vmem S128x384 .bf16) (harg3 : arg3.IsWhole) (arg4 : Memref sig .tc .vmem S6x768x256 .bf16) (harg4 : arg4.IsWhole) (arg5 : Memref sig .tc .vmem S192x1 .f32) (harg5 : arg5.IsWhole) (arg6 : Memref sig .tc .vmem S192x1 .f32) (harg6 : arg6.IsWhole) (arg7 : Memref sig .tc .vmem S192x128 .f32) (harg7 : arg7.IsWhole) (arg8 : Memref sig .tc .vmem S192x1 .f32) (harg8 : arg8.IsWhole) (arg9 : Memref sig .tc .vmem S48x48 .i32) (harg9 : arg9.IsWhole) (arg10 : Memref sig .tc .vmem S48x1 .bf16) (harg10 : arg10.IsWhole) (arg11 : Memref sig .tc .vmem S48x64 .i32) (harg11 : arg11.IsWhole) (arg12 : Memref sig .tc .vmem S48x1 .f32) (harg12 : arg12.IsWhole)
    (x0 : Vec F S192x128 .bf16) (x1 : Vec F S48x128 .bf16) (x2 : Vec F S48x128 .bf16) (x3 : Vec F S128x384 .bf16) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1 x2 x3) ∗ owns (c : Thread nD τ) arg5 fullShare (out0_5 x0 x1 x2 x3) ∗ owns (c : Thread nD τ) arg6 fullShare (out0_6 x0 x1 x2 x3) ∗ owns (c : Thread nD τ) arg7 fullShare (out0_7 x0 x1 x2 x3) ∗ owns (c : Thread nD τ) arg8 fullShare (out0_8 x0 x1 x2 x3) ∗ owns (c : Thread nD τ) arg9 fullShare (out0_9 x0 x1 x2 x3) ∗ owns (c : Thread nD τ) arg10 fullShare (out0_10 x0 x1 x2 x3) ∗ owns (c : Thread nD τ) arg11 fullShare (out0_11 x0 x1 x2 x3) ∗ owns (c : Thread nD τ) arg12 fullShare (out0_12 x0 x1 x2 x3)) -∗ K ⟨⟩))
      ⊢ wp frame (wpE (defs₀ (F := F)) Variants.none c none) E (cc0_prep arg0 harg0 arg1 harg1 arg2 harg2 arg3 harg3 arg4 harg4 arg5 harg5 arg6 harg6 arg7 harg7 arg8 harg8 arg9 harg9 arg10 harg10 arg11 harg11 arg12 harg12) K := by
  simp only [cc0_prep_eq_skeleton]; unfold cc0_prep_skel
  simp only [k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover0_4 _ _ _ _ _ _)).trans ?_
    rfl
  isplitl [H5]
  · iexists _; isplitr
    swap; · iexact H5
    ipureintro
    refine (View.read_writes_eq_canon _ _ _ (cover0_5 _)).trans ?_
    rfl
  isplitl [H6]
  · iexists _; isplitr
    swap; · iexact H6
    ipureintro
    refine (View.read_writes_eq_canon _ _ _ (cover0_6 _)).trans ?_
    rfl
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  iexists _; isplitr
  swap; · iexact H12
  ipureintro
  refine (View.read_writes_eq_canon _ _ _ (cover0_12 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
    | ⟨7, _⟩ => out0_7 (iblk0 V c 0 t) (iblk0 V c 1 t) (iblk0 V c 2 t) (iblk0 V c 3 t)
    | ⟨8, _⟩ => out0_8 (iblk0 V c 0 t) (iblk0 V c 1 t) (iblk0 V c 2 t) (iblk0 V c 3 t)
    | ⟨9, _⟩ => out0_9 (iblk0 V c 0 t) (iblk0 V c 1 t) (iblk0 V c 2 t) (iblk0 V c 3 t)
    | ⟨10, _⟩ => out0_10 (iblk0 V c 0 t) (iblk0 V c 1 t) (iblk0 V c 2 t) (iblk0 V c 3 t)
    | ⟨11, _⟩ => out0_11 (iblk0 V c 0 t) (iblk0 V c 1 t) (iblk0 V c 2 t) (iblk0 V c 3 t)
    | ⟨12, _⟩ => out0_12 (iblk0 V c 0 t) (iblk0 V c 1 t) (iblk0 V c 2 t) (iblk0 V c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]
theorem after0_7 (c : Dev nD) (t : Fin cfg0.N) : (dat0 V c).after 7 t = out0_7 (iblk0 V c 0 t) (iblk0 V c 1 t) (iblk0 V c 2 t) (iblk0 V c 3 t) := by dsimp only [dat0]
theorem after0_8 (c : Dev nD) (t : Fin cfg0.N) : (dat0 V c).after 8 t = out0_8 (iblk0 V c 0 t) (iblk0 V c 1 t) (iblk0 V c 2 t) (iblk0 V c 3 t) := by dsimp only [dat0]
theorem after0_9 (c : Dev nD) (t : Fin cfg0.N) : (dat0 V c).after 9 t = out0_9 (iblk0 V c 0 t) (iblk0 V c 1 t) (iblk0 V c 2 t) (iblk0 V c 3 t) := by dsimp only [dat0]
theorem after0_10 (c : Dev nD) (t : Fin cfg0.N) : (dat0 V c).after 10 t = out0_10 (iblk0 V c 0 t) (iblk0 V c 1 t) (iblk0 V c 2 t) (iblk0 V c 3 t) := by dsimp only [dat0]
theorem after0_11 (c : Dev nD) (t : Fin cfg0.N) : (dat0 V c).after 11 t = out0_11 (iblk0 V c 0 t) (iblk0 V c 1 t) (iblk0 V c 2 t) (iblk0 V c 3 t) := by dsimp only [dat0]
theorem after0_12 (c : Dev nD) (t : Fin cfg0.N) : (dat0 V c).after 12 t = out0_12 (iblk0 V c 0 t) (iblk0 V c 1 t) (iblk0 V c 2 t) (iblk0 V c 3 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

/-- The body at any point: the inputs' memrefs hold their blocks (`before0_W`), so `sound_kernel` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Prep

end
-- ==== Proof.Rolled.lean ====
/-
The decode kernel's score block, written once per tile. The printed body spells out the sixteen tiles of a block (eight key
heads, two groups of 1,024 positions) one after another; here one tile is a program over its two numbers, and the printed
region is shown to be the sixteen of them in order, then the rest of the block.
-/
module

public import proofs.«01_k».proof.Proof.Gen.KernelIdeal.Skeleton
public import proofs.«01_k».proof.Proof.Gen.KernelIdeal.Launch
public import Idealize.ShloMosaic.Lib.Pipeline.Regions
public import Idealize.ShloMosaic.Lib.VecWindow

@[expose] public section

noncomputable section

namespace Cert.KernelIdeal.Attend

open Idealize.ShloMosaic Idealize.SL.Sem Cert.KernelIdeal Cert.KernelIdeal.Gen

variable {F : FTy → Type} [FloatOps F]

/-! ## What one tile computes -/

/-- The bit plane that a left shift by `sh` brings to bit 14 of every half word, as bf16: 2.0 or 0.0. -/
def shlPlane (w : IVec S8x128 32) (sh : BitVec 32) : FVec F S16x128 .bf16 :=
  bitcastToFloat .bf16 (bitcast S16x128 16 (andi (shli w (broadcast S8x128 sh)) (broadcast S8x128 1073758208#32)) bitcasts_S8x128_w32_S16x128_w16)

/-- The last plane, which a right shift brings there. -/
def shrPlane (w : IVec S8x128 32) : FVec F S16x128 .bf16 :=
  bitcastToFloat .bf16 (bitcast S16x128 16 (andi (shrui w (broadcast S8x128 1#32)) (broadcast S8x128 1073758208#32)) bitcasts_S8x128_w32_S16x128_w16)

/-- The 256 sign rows of a group of 32 rows of packed bytes: sixteen planes of sixteen half-word rows. -/
def expand (v : Vec F S1x1x1x32x128 .i8) : FVec F S256x128 .bf16 :=
  let w : IVec S8x128 32 := bitcast S8x128 32 (shapeCast S32x128 v shapeCasts_S1x1x1x32x128_S32x128) bitcasts_S32x128_w8_S8x128_w32
  concatenate S256x128 0 [⟨S16x128, shlPlane w 14#32⟩, ⟨S16x128, shlPlane w 13#32⟩, ⟨S16x128, shlPlane w 12#32⟩, ⟨S16x128, shlPlane w 11#32⟩,
    ⟨S16x128, shlPlane w 10#32⟩, ⟨S16x128, shlPlane w 9#32⟩, ⟨S16x128, shlPlane w 8#32⟩, ⟨S16x128, shlPlane w 7#32⟩,
    ⟨S16x128, shlPlane w 6#32⟩, ⟨S16x128, shlPlane w 5#32⟩, ⟨S16x128, shlPlane w 4#32⟩, ⟨S16x128, shlPlane w 3#32⟩,
    ⟨S16x128, shlPlane w 2#32⟩, ⟨S16x128, shlPlane w 1#32⟩, ⟨S16x128, shlPlane w 0#32⟩, ⟨S16x128, shrPlane w⟩]
    concatenates_S16x128_S16x128_S16x128_S16x128_S16x128_S16x128_S16x128_S16x128_S16x128_S16x128_S16x128_S16x128_S16x128_S16x128_S16x128_S16x128_S256x128_d0

/-- One byte column's product: sixteen rows of queries by the sign rows of two groups of packed bytes. -/
def part (l : Vec F S1x16x256 .bf16) (a b : Vec F S1x1x1x32x128 .i8) : FVec F S16x256 .f32 :=
  matmul dot_S16x256_S256x256_S16x256_1_0_0_1_n_n none (shapeCast S16x256 l shapeCasts_S1x16x256_S16x256)
    (concatenate S256x256 1 [⟨S256x128, expand a⟩, ⟨S256x128, expand b⟩] concatenates_S256x128_S256x128_S256x256_d1)
    (constant S16x256 .f32 0x00000000#32)

/-! ## Rectangles -/

theorem inb_lhs {t kv : ℕ} (ht : t < 6) (hkv : kv < 8) : ∀ a, (![t, kv * 16, 0] : Fin 3 → ℕ) a + S1x16x256.size a ≤ S6x128x256.size a := by
  intro a; fin_cases a <;> simp [S1x16x256, S6x128x256] <;> omega

theorem inb_bits {t kv r : ℕ} (ht : t < 6) (hkv : kv < 8) (hr : r < 4) :
    ∀ a, (![0, kv, t, r * 32, 0] : Fin 5 → ℕ) a + S1x1x1x32x128.size a ≤ S1x8x6x128x128.size a := by
  intro a; fin_cases a <;> simp [S1x1x1x32x128, S1x8x6x128x128] <;> omega

theorem inb_piece {kv p : ℕ} (hkv : kv < 8) (hp : p < 16) :
    ∀ a, (![0, kv * 4, p * 128] : Fin 3 → ℕ) a + S1x4x128.size a ≤ S1x32x2048.size a := by
  intro a; fin_cases a <;> simp [S1x4x128, S1x32x2048] <;> omega

theorem inb_codes {kv : ℕ} (hkv : kv < 8) : ∀ a, (![0, kv, 0, 0] : Fin 4 → ℕ) a + S1x1x64x2048.size a ≤ S1x8x64x2048.size a := by
  intro a; fin_cases a <;> simp [S1x1x64x2048, S1x8x64x2048] <;> omega

theorem inb_acc {kv : ℕ} (hkv : kv < 8) : ∀ a, (![kv * 128, 0] : Fin 2 → ℕ) a + S128x32.size a ≤ S1024x32.size a := by
  intro a; fin_cases a <;> simp [S128x32, S1024x32] <;> omega

theorem slices_piece {c h : ℕ} (hc : c < 4) (hh : h < 2) : S16x256.Slices ![c * 4, h * 128] S4x128 := by
  refine ⟨rfl, ?_⟩
  intro a; fin_cases a <;> simp [S4x128, S16x256] <;> omega

/-! ## One tile as a program -/

/-- One byte column's loads and product. -/
def termProg (arg3 : Memref sig .tc .vmem S6x128x256 .bf16) (arg4 : Memref sig .tc .vmem S1x8x6x128x128 .i8) (kv u t : ℕ) (hkv : kv < 8) (hu : u < 2) (ht : t < 6) :
    Prog (TpuEff nD τ sig (Elt F) Λ₀ .tc) (FVec F S16x256 .f32) := do
  let l : Vec F S1x16x256 .bf16 ← Prog.lift (.load arg3 (Rect.unit (s := S6x128x256) ![t, kv * 16, 0] S1x16x256.size (inb_lhs ht hkv)).toLoadRect (View.loadsAt_vmem h_S1x16x256))
  let a : Vec F S1x1x1x32x128 .i8 ← Prog.lift (.load arg4 (Rect.unit (s := S1x8x6x128x128) ![0, kv, t, (u * 2 + 0) * 32, 0] S1x1x1x32x128.size (inb_bits ht hkv (by omega))).toLoadRect (View.loadsAt_vmem h_S1x1x1x32x128))
  let b : Vec F S1x1x1x32x128 .i8 ← Prog.lift (.load arg4 (Rect.unit (s := S1x8x6x128x128) ![0, kv, t, (u * 2 + 1) * 32, 0] S1x1x1x32x128.size (inb_bits ht hkv (by omega))).toLoadRect (View.loadsAt_vmem h_S1x1x1x32x128))
  pure (part l a b)

/-- The four rows of a tile's product that are 128 positions of the four heads. -/
def piece (acc : FVec F S16x256 .f32) (h c : ℕ) (hh : h < 2) (hc : c < 4) : FVec F S1x4x128 .f32 :=
  shapeCast S1x4x128 (extractStridedSlice S4x128 ![c * 4, h * 128] acc (slices_piece hc hh)) shapeCasts_S4x128_S1x4x128

/-- One piece's store. -/
def pieceProg (arg13 : Memref sig .tc .vmem S1x32x2048 .f32) (kv u h c : ℕ) (hkv : kv < 8) (hu : u < 2) (hh : h < 2) (hc : c < 4)
    (acc : FVec F S16x256 .f32) : Prog (TpuEff nD τ sig (Elt F) Λ₀ .tc) PUnit := do
  let _d : Vec F S1x4x128 .f32 ← Prog.lift (.load arg13 (Rect.unit (s := S1x32x2048) ![0, kv * 4, (u * 8 + h * 4 + c) * 128] S1x4x128.size (inb_piece hkv (by omega))).toLoadRect (View.loadsAt_vmem h_S1x4x128))
  Prog.lift (.store arg13 (Rect.unit (s := S1x32x2048) ![0, kv * 4, (u * 8 + h * 4 + c) * 128] S1x4x128.size (inb_piece hkv (by omega))) (piece acc h c hh hc) Finset.univ (View.stores_vmem_bits_univ h_S1x4x128 rfl) (.inl rfl))

/-- One tile: six products added up, eight pieces stored. -/
def tile (arg3 : Memref sig .tc .vmem S6x128x256 .bf16) (arg4 : Memref sig .tc .vmem S1x8x6x128x128 .i8) (arg13 : Memref sig .tc .vmem S1x32x2048 .f32)
    (kv u : ℕ) (hkv : kv < 8) (hu : u < 2) : Prog (TpuEff nD τ sig (Elt F) Λ₀ .tc) PUnit := do
  let a0 ← termProg arg3 arg4 kv u 0 hkv hu (by omega)
  let a1 ← termProg arg3 arg4 kv u 1 hkv hu (by omega)
  let a2 ← termProg arg3 arg4 kv u 2 hkv hu (by omega)
  let a3 ← termProg arg3 arg4 kv u 3 hkv hu (by omega)
  let a4 ← termProg arg3 arg4 kv u 4 hkv hu (by omega)
  let a5 ← termProg arg3 arg4 kv u 5 hkv hu (by omega)
  let acc : FVec F S16x256 .f32 := addf (addf (addf (addf (addf a0 a1) a2) a3) a4) a5
  pieceProg arg13 kv u 0 0 hkv hu (by omega) (by omega) acc
  pieceProg arg13 kv u 0 1 hkv hu (by omega) (by omega) acc
  pieceProg arg13 kv u 0 2 hkv hu (by omega) (by omega) acc
  pieceProg arg13 kv u 0 3 hkv hu (by omega) (by omega) acc
  pieceProg arg13 kv u 1 0 hkv hu (by omega) (by omega) acc
  pieceProg arg13 kv u 1 1 hkv hu (by omega) (by omega) acc
  pieceProg arg13 kv u 1 2 hkv hu (by omega) (by omega) acc
  pieceProg arg13 kv u 1 3 hkv hu (by omega) (by omega) acc

/-! ## The rest of the block -/

/-- Eight rows, one per key head, repeated over the four query heads of each. -/
def perHead (v : FVec F S8x2048 .f32) : FVec F S32x2048 .f32 :=
  concatenate S32x2048 0
    [⟨S4x2048, broadcastTo S4x2048 (shapeCast S1x2048 (extractStridedSlice S1x2048 ![0, 0] v slices_S8x2048_o0_0_S1x2048) shapeCasts_S1x2048_S1x2048) broadcasts_S1x2048_S4x2048⟩,
     ⟨S4x2048, broadcastTo S4x2048 (shapeCast S1x2048 (extractStridedSlice S1x2048 ![1, 0] v slices_S8x2048_o1_0_S1x2048) shapeCasts_S1x2048_S1x2048) broadcasts_S1x2048_S4x2048⟩,
     ⟨S4x2048, broadcastTo S4x2048 (shapeCast S1x2048 (extractStridedSlice S1x2048 ![2, 0] v slices_S8x2048_o2_0_S1x2048) shapeCasts_S1x2048_S1x2048) broadcasts_S1x2048_S4x2048⟩,
     ⟨S4x2048, broadcastTo S4x2048 (shapeCast S1x2048 (extractStridedSlice S1x2048 ![3, 0] v slices_S8x2048_o3_0_S1x2048) shapeCasts_S1x2048_S1x2048) broadcasts_S1x2048_S4x2048⟩,
     ⟨S4x2048, broadcastTo S4x2048 (shapeCast S1x2048 (extractStridedSlice S1x2048 ![4, 0] v slices_S8x2048_o4_0_S1x2048) shapeCasts_S1x2048_S1x2048) broadcasts_S1x2048_S4x2048⟩,
     ⟨S4x2048, broadcastTo S4x2048 (shapeCast S1x2048 (extractStridedSlice S1x2048 ![5, 0] v slices_S8x2048_o5_0_S1x2048) shapeCasts_S1x2048_S1x2048) broadcasts_S1x2048_S4x2048⟩,
     ⟨S4x2048, broadcastTo S4x2048 (shapeCast S1x2048 (extractStridedSlice S1x2048 ![6, 0] v slices_S8x2048_o6_0_S1x2048) shapeCasts_S1x2048_S1x2048) broadcasts_S1x2048_S4x2048⟩,
     ⟨S4x2048, broadcastTo S4x2048 (shapeCast S1x2048 (extractStridedSlice S1x2048 ![7, 0] v slices_S8x2048_o7_0_S1x2048) shapeCasts_S1x2048_S1x2048) broadcasts_S1x2048_S4x2048⟩]
    concatenates_S4x2048_S4x2048_S4x2048_S4x2048_S4x2048_S4x2048_S4x2048_S4x2048_S32x2048_d0

/-- The norms scaled by the estimator's constant, per query head. -/
def factor (nrm : Vec F S1x8x2048 .bf16) : FVec F S32x2048 .f32 :=
  perHead (mulf (extf .f32 (shapeCast S8x2048 nrm shapeCasts_S1x8x2048_S8x2048) bitsLt_bf16_f32) (broadcast S8x2048 (Scalar.ofBits .f32 0x39973FD8#32)))

/-- The block's scores: the raw products less the query sums, scaled. -/
def scoresB (nrm : Vec F S1x8x2048 .bf16) (raw : Vec F S1x32x2048 .f32) (qs : Vec F S32x1 .f32) : FVec F S32x2048 .f32 :=
  mulf (subf (shapeCast S32x2048 raw shapeCasts_S1x32x2048_S32x2048) (broadcastTo S32x2048 (shapeCast S32x1 qs shapeCasts_S32x1_S32x1) broadcasts_S32x1_S32x2048)) (factor nrm)

/-- Which of the block's positions lie before the sequence's length `v1`; `v2` is the block's first position. -/
def validB (v2 v1 : BitVec 32) : IVec S32x2048 1 :=
  cmpi .slt (addi (broadcast S32x2048 v2) (iota .tc S32x2048 32 [1] iota_S32x2048_d1_w32)) (broadcast S32x2048 v1)

/-- The scores the block hands out: zero past the length. -/
def csB (v2 v1 : BitVec 32) (nrm : Vec F S1x8x2048 .bf16) (raw : Vec F S1x32x2048 .f32) (qs : Vec F S32x1 .f32) : FVec F S1x32x2048 .f32 :=
  shapeCast S1x32x2048 (select (validB v2 v1) (scoresB nrm raw qs) (broadcast S32x2048 (Scalar.ofBits .f32 0x00000000#32))) shapeCasts_S32x2048_S1x32x2048

/-- The scores the softmax reads: −∞ past the length. -/
def maskedB (v2 v1 : BitVec 32) (nrm : Vec F S1x8x2048 .bf16) (raw : Vec F S1x32x2048 .f32) (qs : Vec F S32x1 .f32) : FVec F S32x2048 .f32 :=
  select (validB v2 v1) (scoresB nrm raw qs) (broadcast S32x2048 (Scalar.ofBits .f32 0xFF800000#32))

/-- The running maximum after the block. -/
def mNew (msk : FVec F S32x2048 .f32) (m : Vec F S32x128 .f32) : FVec F S32x128 .f32 :=
  maximumf m (broadcastTo S32x128 (shapeCast S32x1 (multiReduction .maximumf [1] S32 msk 0xFF800000#32 reduces_S32x2048_S32 (.inl rfl) rfl) shapeCasts_S32_S32x1) broadcasts_S32x1_S32x128)

/-- The factor the block rescales the running sums by. -/
def alphaB (msk : FVec F S32x2048 .f32) (m : Vec F S32x128 .f32) : FVec F S32x128 .f32 := exp (subf m (mNew msk m))

/-- The block's exponentials. -/
def eB (msk : FVec F S32x2048 .f32) (m : Vec F S32x128 .f32) : FVec F S32x2048 .f32 :=
  exp (subf msk (broadcastTo S32x2048 (extractStridedSlice S32x1 ![0, 0] (mNew msk m) slices_S32x128_o0_0_S32x1) broadcasts_S32x1_S32x2048))

/-- The running denominator after the block. -/
def lNew (msk : FVec F S32x2048 .f32) (m l : Vec F S32x128 .f32) : FVec F S32x128 .f32 :=
  shapeCast S32x128 (addf (mulf l (alphaB msk m)) (broadcastTo S32x128 (shapeCast S32x1 (multiReduction .add [1] S32 (eB msk m) 0x00000000#32 reduces_S32x2048_S32 (.inl rfl) rfl) shapeCasts_S32_S32x1) broadcasts_S32x1_S32x128)) shapeCasts_S32x128_S32x128

/-- The block's weights: the exponentials times the values' scales, in bf16. -/
def pB (msk : FVec F S32x2048 .f32) (m : Vec F S32x128 .f32) (vs : Vec F S1x8x2048 .f32) : FVec F S32x2048 .bf16 :=
  shapeCast S32x2048 (truncf .bf16 (mulf (eB msk m) (perHead (shapeCast S8x2048 vs shapeCasts_S1x8x2048_S8x2048))) bitsLt_bf16_f32) shapeCasts_S32x2048_S32x2048

/-- The rescaling factors as one row over the heads. -/
def alphaRow (msk : FVec F S32x2048 .f32) (m : Vec F S32x128 .f32) : FVec F S1x128 .f32 :=
  extractStridedSlice S1x128 ![0, 0]
    (transpose S128x128 [1, 0]
      (concatenate S128x128 0 [⟨S32x128, alphaB msk m⟩, ⟨S32x128, alphaB msk m⟩, ⟨S32x128, alphaB msk m⟩, ⟨S32x128, alphaB msk m⟩] concatenates_S32x128_S32x128_S32x128_S32x128_S128x128_d0)
      transposes_S128x128_p1_0_S128x128)
    slices_S128x128_o0_0_S1x128

/-- One head's packed codes, unpacked: row `2r` the low half of byte row `r`, row `2r + 1` the high half, each sign-extended. -/
def unpack (v : Vec F S1x1x64x2048 .i8) : FVec F S128x2048 .bf16 :=
  let w : IVec S64x2048 32 := extui 32 (shapeCast S64x2048 v shapeCasts_S1x1x64x2048_S64x2048) natLt_8_32
  truncf .bf16 (sitofp .f32 (shapeCast S128x2048 (concatenate S64x2x2048 1
    [⟨S64x1x2048, shapeCast S64x1x2048 (shrsi (shli w (broadcast S64x2048 28#32)) (broadcast S64x2048 28#32)) shapeCasts_S64x2048_S64x1x2048⟩,
     ⟨S64x1x2048, shapeCast S64x1x2048 (shrsi (shli w (broadcast S64x2048 24#32)) (broadcast S64x2048 28#32)) shapeCasts_S64x2048_S64x1x2048⟩]
    concatenates_S64x1x2048_S64x1x2048_S64x2x2048_d1) shapeCasts_S64x2x2048_S128x2048)) bitsLt_bf16_f32

/-- One head's rows of the running weighted sum after the block. -/
def accRows (ar : FVec F S1x128 .f32) (p : Vec F S32x2048 .bf16) (v : Vec F S1x1x64x2048 .i8) (a : Vec F S128x32 .f32) : FVec F S128x32 .f32 :=
  shapeCast S128x32 (addf (mulf a (broadcastTo S128x32 (extractStridedSlice S1x32 ![0, 0] ar slices_S1x128_o0_0_S1x32) broadcasts_S1x32_S128x32))
    (matmul dot_S128x2048_S32x2048_S128x32_1_1_0_0_n_n none (unpack v) p (constant S128x32 .f32 0x00000000#32))) shapeCasts_S128x32_S128x32

/-- One head's step of the running weighted sum. -/
def accProg (arg6 : Memref sig .tc .vmem S1x8x64x2048 .i8) (arg16 : Memref sig .tc .vmem S1024x32 .f32) (kv : ℕ) (hkv : kv < 8)
    (ar : FVec F S1x128 .f32) (p : Vec F S32x2048 .bf16) : Prog (TpuEff nD τ sig (Elt F) Λ₀ .tc) PUnit := do
  let v : Vec F S1x1x64x2048 .i8 ← Prog.lift (.load arg6 (Rect.unit (s := S1x8x64x2048) ![0, kv, 0, 0] S1x1x64x2048.size (inb_codes hkv)).toLoadRect (View.loadsAt_vmem h_S1x1x64x2048))
  let a : Vec F S128x32 .f32 ← Prog.lift (.load arg16 (Rect.unit (s := S1024x32) ![kv * 128, 0] S128x32.size (inb_acc hkv)).toLoadRect (View.loadsAt_vmem h_S128x32))
  let _d : Vec F S128x32 .f32 ← Prog.lift (.load arg16 (Rect.unit (s := S1024x32) ![kv * 128, 0] S128x32.size (inb_acc hkv)).toLoadRect (View.loadsAt_vmem h_S128x32))
  Prog.lift (.store arg16 (Rect.unit (s := S1024x32) ![kv * 128, 0] S128x32.size (inb_acc hkv)) (accRows ar p v a) Finset.univ (View.stores_vmem_bits_univ h_S128x32 rfl) (.inl rfl))

/-- What the block does once its tiles are stored. -/
def tailProg (v2 v1 : BitVec 32) (arg5 : Memref sig .tc .vmem S1x8x2048 .bf16) (arg6 : Memref sig .tc .vmem S1x8x64x2048 .i8)
    (arg7 : Memref sig .tc .vmem S1x8x2048 .f32) (arg9 : Memref sig .tc .vmem S32x1 .f32) (arg13 : Memref sig .tc .vmem S1x32x2048 .f32)
    (arg14 : Memref sig .tc .vmem S32x128 .f32) (arg15 : Memref sig .tc .vmem S32x128 .f32) (arg16 : Memref sig .tc .vmem S1024x32 .f32)
    (arg17 : Memref sig .tc .vmem S32x2048 .bf16) (harg17 : arg17.IsWhole) : Prog (TpuEff nD τ sig (Elt F) Λ₀ .tc) PUnit := do
  let nrm : Vec F S1x8x2048 .bf16 ← Prog.lift (.load arg5 (Rect.unit (s := S1x8x2048) ![0, 0, 0] S1x8x2048.size inb_S1x8x2048_S1x8x2048_0_0_0).toLoadRect (View.loadsAt_vmem h_S1x8x2048))
  let raw : Vec F S1x32x2048 .f32 ← Prog.lift (.load arg13 (Rect.unit (s := S1x32x2048) ![0, 0, 0] S1x32x2048.size inb_S1x32x2048_S1x32x2048_0_0_0).toLoadRect (View.loadsAt_vmem h_S1x32x2048))
  let qs : Vec F S32x1 .f32 ← Prog.lift (.load arg9 (Rect.unit (s := S32x1) ![0, 0] S32x1.size inb_S32x1_S32x1_0_0).toLoadRect (View.loadsAt_vmem h_S32x1))
  let _d0 : Vec F S1x32x2048 .f32 ← Prog.lift (.load arg13 (Rect.unit (s := S1x32x2048) ![0, 0, 0] S1x32x2048.size inb_S1x32x2048_S1x32x2048_0_0_0).toLoadRect (View.loadsAt_vmem h_S1x32x2048))
  Prog.lift (.store arg13 (Rect.unit (s := S1x32x2048) ![0, 0, 0] S1x32x2048.size inb_S1x32x2048_S1x32x2048_0_0_0) (csB v2 v1 nrm raw qs) Finset.univ (View.stores_vmem_bits_univ h_S1x32x2048 rfl) (.inl rfl))
  let m : Vec F S32x128 .f32 ← Prog.lift (.load arg14 (Rect.unit (s := S32x128) ![0, 0] S32x128.size inb_S32x128_S32x128_0_0).toLoadRect (View.loadsAt_vmem h_S32x128))
  let l : Vec F S32x128 .f32 ← Prog.lift (.load arg15 (Rect.unit (s := S32x128) ![0, 0] S32x128.size inb_S32x128_S32x128_0_0).toLoadRect (View.loadsAt_vmem h_S32x128))
  let _d1 : Vec F S32x128 .f32 ← Prog.lift (.load arg15 (Rect.unit (s := S32x128) ![0, 0] S32x128.size inb_S32x128_S32x128_0_0).toLoadRect (View.loadsAt_vmem h_S32x128))
  Prog.lift (.store arg15 (Rect.unit (s := S32x128) ![0, 0] S32x128.size inb_S32x128_S32x128_0_0) (lNew (maskedB v2 v1 nrm raw qs) m l) Finset.univ (View.stores_vmem_bits_univ h_S32x128 rfl) (.inl rfl))
  let _d2 : Vec F S32x128 .f32 ← Prog.lift (.load arg14 (Rect.unit (s := S32x128) ![0, 0] S32x128.size inb_S32x128_S32x128_0_0).toLoadRect (View.loadsAt_vmem h_S32x128))
  Prog.lift (.store arg14 (Rect.unit (s := S32x128) ![0, 0] S32x128.size inb_S32x128_S32x128_0_0) (shapeCast S32x128 (mNew (maskedB v2 v1 nrm raw qs) m) shapeCasts_S32x128_S32x128) Finset.univ (View.stores_vmem_bits_univ h_S32x128 rfl) (.inl rfl))
  let vs : Vec F S1x8x2048 .f32 ← Prog.lift (.load arg7 (Rect.unit (s := S1x8x2048) ![0, 0, 0] S1x8x2048.size inb_S1x8x2048_S1x8x2048_0_0_0).toLoadRect (View.loadsAt_vmem h_S1x8x2048))
  let _d3 : Vec F S32x2048 .bf16 ← Prog.lift (.load arg17 (Rect.unit (s := S32x2048) ![0, 0] S32x2048.size inb_S32x2048_S32x2048_0_0).toLoadRect (View.loadsAt_vmem h_S32x2048))
  Prog.lift (.store arg17 (Rect.unit (s := S32x2048) ![0, 0] S32x2048.size inb_S32x2048_S32x2048_0_0) (pB (maskedB v2 v1 nrm raw qs) m vs) Finset.univ (View.stores_vmem h_S32x2048 (harg17.storeExact_slice rfl _ packedbf16_S32x2048_S32x2048_0_0) (fun _ => rfl)) (.inl rfl))
  let p : Vec F S32x2048 .bf16 ← Prog.lift (.load arg17 (Rect.unit (s := S32x2048) ![0, 0] S32x2048.size inb_S32x2048_S32x2048_0_0).toLoadRect (View.loadsAt_vmem h_S32x2048))
  let ar : FVec F S1x128 .f32 := alphaRow (maskedB v2 v1 nrm raw qs) m
  accProg arg6 arg16 0 (by omega) ar p
  accProg arg6 arg16 1 (by omega) ar p
  accProg arg6 arg16 2 (by omega) ar p
  accProg arg6 arg16 3 (by omega) ar p
  accProg arg6 arg16 4 (by omega) ar p
  accProg arg6 arg16 5 (by omega) ar p
  accProg arg6 arg16 6 (by omega) ar p
  accProg arg6 arg16 7 (by omega) ar p

/-- The sixteen tiles in order. -/
def tilesProg (arg3 : Memref sig .tc .vmem S6x128x256 .bf16) (arg4 : Memref sig .tc .vmem S1x8x6x128x128 .i8) (arg13 : Memref sig .tc .vmem S1x32x2048 .f32) :
    Prog (TpuEff nD τ sig (Elt F) Λ₀ .tc) PUnit := do
  tile arg3 arg4 arg13 0 0 (by omega) (by omega)
  tile arg3 arg4 arg13 0 1 (by omega) (by omega)
  tile arg3 arg4 arg13 1 0 (by omega) (by omega)
  tile arg3 arg4 arg13 1 1 (by omega) (by omega)
  tile arg3 arg4 arg13 2 0 (by omega) (by omega)
  tile arg3 arg4 arg13 2 1 (by omega) (by omega)
  tile arg3 arg4 arg13 3 0 (by omega) (by omega)
  tile arg3 arg4 arg13 3 1 (by omega) (by omega)
  tile arg3 arg4 arg13 4 0 (by omega) (by omega)
  tile arg3 arg4 arg13 4 1 (by omega) (by omega)
  tile arg3 arg4 arg13 5 0 (by omega) (by omega)
  tile arg3 arg4 arg13 5 1 (by omega) (by omega)
  tile arg3 arg4 arg13 6 0 (by omega) (by omega)
  tile arg3 arg4 arg13 6 1 (by omega) (by omega)
  tile arg3 arg4 arg13 7 0 (by omega) (by omega)
  tile arg3 arg4 arg13 7 1 (by omega) (by omega)

/-- The whole block. -/
def blockProg (v2 v1 : BitVec 32) (arg3 : Memref sig .tc .vmem S6x128x256 .bf16) (arg4 : Memref sig .tc .vmem S1x8x6x128x128 .i8)
    (arg5 : Memref sig .tc .vmem S1x8x2048 .bf16) (arg6 : Memref sig .tc .vmem S1x8x64x2048 .i8)
    (arg7 : Memref sig .tc .vmem S1x8x2048 .f32) (arg9 : Memref sig .tc .vmem S32x1 .f32) (arg13 : Memref sig .tc .vmem S1x32x2048 .f32)
    (arg14 : Memref sig .tc .vmem S32x128 .f32) (arg15 : Memref sig .tc .vmem S32x128 .f32) (arg16 : Memref sig .tc .vmem S1024x32 .f32)
    (arg17 : Memref sig .tc .vmem S32x2048 .bf16) (harg17 : arg17.IsWhole) : Prog (TpuEff nD τ sig (Elt F) Λ₀ .tc) PUnit := do
  tilesProg arg3 arg4 arg13
  tailProg v2 v1 arg5 arg6 arg7 arg9 arg13 arg14 arg15 arg16 arg17 harg17

/-! ## The other three regions -/

/-- What the running maximum starts at: the new token's score. -/
def m0B (sn : Vec F S32x1 .f32) : FVec F S32x128 .f32 :=
  shapeCast S32x128 (broadcastTo S32x128 (shapeCast S32x1 (shapeCast S32x1 sn shapeCasts_S32x1_S32x1) shapeCasts_S32x1_S32x1) broadcasts_S32x1_S32x128) shapeCasts_S32x128_S32x128

/-- What the running denominator starts at: one, the new token's own term. -/
def l0B : FVec F S32x128 .f32 := shapeCast S32x128 (broadcast S32x128 (Scalar.ofBits .f32 0x3F800000#32)) shapeCasts_S32x128_S32x128

/-- What the running weighted sum starts at. -/
def a0B : FVec F S1024x32 .f32 := shapeCast S1024x32 (broadcast S1024x32 (Scalar.ofBits .f32 0x00000000#32)) shapeCasts_S1024x32_S1024x32

/-- The first point of a sequence: the running values are set. -/
def initProg (arg8 : Memref sig .tc .vmem S32x1 .f32)
    (arg14 : Memref sig .tc .vmem S32x128 .f32) (arg15 : Memref sig .tc .vmem S32x128 .f32) (arg16 : Memref sig .tc .vmem S1024x32 .f32) : Prog (TpuEff nD τ sig (Elt F) Λ₀ .tc) PUnit := do
  let sn : Vec F S32x1 .f32 ← Prog.lift (.load arg8 (Rect.unit (s := S32x1) ![0, 0] S32x1.size inb_S32x1_S32x1_0_0).toLoadRect (View.loadsAt_vmem h_S32x1))
  let _d0 : Vec F S32x128 .f32 ← Prog.lift (.load arg14 (Rect.unit (s := S32x128) ![0, 0] S32x128.size inb_S32x128_S32x128_0_0).toLoadRect (View.loadsAt_vmem h_S32x128))
  Prog.lift (.store arg14 (Rect.unit (s := S32x128) ![0, 0] S32x128.size inb_S32x128_S32x128_0_0) (m0B sn) Finset.univ (View.stores_vmem_bits_univ h_S32x128 rfl) (.inl rfl))
  let _d1 : Vec F S32x128 .f32 ← Prog.lift (.load arg15 (Rect.unit (s := S32x128) ![0, 0] S32x128.size inb_S32x128_S32x128_0_0).toLoadRect (View.loadsAt_vmem h_S32x128))
  Prog.lift (.store arg15 (Rect.unit (s := S32x128) ![0, 0] S32x128.size inb_S32x128_S32x128_0_0) l0B Finset.univ (View.stores_vmem_bits_univ h_S32x128 rfl) (.inl rfl))
  let _d2 : Vec F S1024x32 .f32 ← Prog.lift (.load arg16 (Rect.unit (s := S1024x32) ![0, 0] S1024x32.size inb_S1024x32_S1024x32_0_0).toLoadRect (View.loadsAt_vmem h_S1024x32))
  Prog.lift (.store arg16 (Rect.unit (s := S1024x32) ![0, 0] S1024x32.size inb_S1024x32_S1024x32_0_0) a0B Finset.univ (View.stores_vmem_bits_univ h_S1024x32 rfl) (.inl rfl))

/-- The scores of a block past the length. -/
def zeroB : FVec F S1x32x2048 .f32 := shapeCast S1x32x2048 (broadcast S32x2048 (Scalar.ofBits .f32 0x00000000#32)) shapeCasts_S32x2048_S1x32x2048

/-- A block past the length: its scores are zero. -/
def skipProg (arg13 : Memref sig .tc .vmem S1x32x2048 .f32) : Prog (TpuEff nD τ sig (Elt F) Λ₀ .tc) PUnit := do
  let _d : Vec F S1x32x2048 .f32 ← Prog.lift (.load arg13 (Rect.unit (s := S1x32x2048) ![0, 0, 0] S1x32x2048.size inb_S1x32x2048_S1x32x2048_0_0_0).toLoadRect (View.loadsAt_vmem h_S1x32x2048))
  Prog.lift (.store arg13 (Rect.unit (s := S1x32x2048) ![0, 0, 0] S1x32x2048.size inb_S1x32x2048_S1x32x2048_0_0_0) zeroB Finset.univ (View.stores_vmem_bits_univ h_S1x32x2048 rfl) (.inl rfl))

/-- Every column's key head. -/
def colHead : IVec S64x32 32 :=
  let v15 : IVec S64x32 32 := iota .tc S64x32 32 [1] iota_S64x32_d1_w32
  let v17 : IVec S64x32 32 := divsi v15 (broadcast S64x32 4#32)
  select (andi (cmpi .ne (subi (extui 32 (cmpi .sgt v15 (broadcast S64x32 0#32)) natLt_1_32) (extui 32 (cmpi .slt v15 (broadcast S64x32 0#32)) natLt_1_32))
      (broadcast S64x32 (Scalar.subi (Scalar.extui (Scalar.cmpi .sgt 4#32 0#32)) (Scalar.extui (Scalar.cmpi .slt 4#32 0#32)))))
    (cmpi .ne (remsi v15 (broadcast S64x32 4#32)) (broadcast S64x32 0#32)))
    (subi v17 (broadcast S64x32 1#32)) v17

/-- Keep `d` in the columns of key head `k`. -/
def pick (k : BitVec 32) (d acc : FVec F S64x32 .f32) : FVec F S64x32 .f32 := select (cmpi .eq colHead (broadcast S64x32 k)) d acc

/-- Every column's rows of the weighted sum, of one half of the nibbles. -/
def gather (d : Fin 8 → FVec F S64x32 .f32) : FVec F S64x32 .f32 :=
  pick 7#32 (d 7) (pick 6#32 (d 6) (pick 5#32 (d 5) (pick 4#32 (d 4) (pick 3#32 (d 3) (pick 2#32 (d 2) (pick 1#32 (d 1) (pick 0#32 (d 0)
    (broadcast S64x32 (Scalar.ofBits .f32 0x00000000#32)))))))))

/-- What the last point hands out: the cache's weighted sum over the denominator, plus the new token's own term. -/
def outB (lo hi : Fin 8 → FVec F S64x32 .f32) (l : Vec F S32x128 .f32) (sn : Vec F S32x1 .f32) (m : Vec F S32x1 .f32) (vsh : Vec F S32x1 .f32) (vch : Vec F S32x128 .f32) :
    FVec F S1x32x128 .bf16 :=
  shapeCast S1x32x128 (truncf .bf16
    (addf (divf (transpose S32x128 [1, 0] (concatenate S128x32 0 [⟨S64x32, gather lo⟩, ⟨S64x32, gather hi⟩] concatenates_S64x32_S64x32_S128x32_d0) transposes_S128x32_p1_0_S32x128) l)
      (mulf (broadcastTo S32x128 (extf .f32 (truncf .bf16 (mulf (divf (exp (subf (shapeCast S32x1 sn shapeCasts_S32x1_S32x1) m)) (extractStridedSlice S32x1 ![0, 0] l slices_S32x128_o0_0_S32x1)) (shapeCast S32x1 vsh shapeCasts_S32x1_S32x1)) bitsLt_bf16_f32) bitsLt_bf16_f32) broadcasts_S32x1_S32x128)
        (shapeCast S32x128 vch shapeCasts_S32x128_S32x128))) bitsLt_bf16_f32) shapeCasts_S32x128_S1x32x128

theorem inb_strided {kv nib : ℕ} (hkv : kv < 8) (hn : nib < 2) :
    ∀ a, S64x32.size a = 0 ∨ (![kv * 128 + nib, 0] : Fin 2 → ℕ) a + (![2, 1] : Fin 2 → ℕ) a * (S64x32.size a - 1) < S1024x32.size a := by
  intro a; right; fin_cases a <;> simp [S64x32, S1024x32] <;> omega

/-- Every other row of one head's part of the weighted sum. -/
def rowsProg (arg16 : Memref sig .tc .vmem S1024x32 .f32) (kv nib : ℕ) (hkv : kv < 8) (hn : nib < 2) : Prog (TpuEff nD τ sig (Elt F) Λ₀ .tc) (Vec F S64x32 .f32) :=
  Prog.lift (.load arg16 (⟨![kv * 128 + nib, 0], S64x32.size, ![2, 1], inb_strided hkv hn⟩ : LoadRect S1024x32) (View.loadsAt_vmem h_S64x32))

/-- The last point of a sequence. -/
def finProg (arg8 : Memref sig .tc .vmem S32x1 .f32) (arg10 : Memref sig .tc .vmem S32x128 .f32) (arg11 : Memref sig .tc .vmem S32x1 .f32)
    (arg12 : Memref sig .tc .vmem S1x32x128 .bf16) (harg12 : arg12.IsWhole)
    (arg14 : Memref sig .tc .vmem S32x128 .f32) (arg15 : Memref sig .tc .vmem S32x128 .f32) (arg16 : Memref sig .tc .vmem S1024x32 .f32) : Prog (TpuEff nD τ sig (Elt F) Λ₀ .tc) PUnit := do
  let a0 ← rowsProg arg16 0 0 (by omega) (by omega)
  let a1 ← rowsProg arg16 1 0 (by omega) (by omega)
  let a2 ← rowsProg arg16 2 0 (by omega) (by omega)
  let a3 ← rowsProg arg16 3 0 (by omega) (by omega)
  let a4 ← rowsProg arg16 4 0 (by omega) (by omega)
  let a5 ← rowsProg arg16 5 0 (by omega) (by omega)
  let a6 ← rowsProg arg16 6 0 (by omega) (by omega)
  let a7 ← rowsProg arg16 7 0 (by omega) (by omega)
  let b0 ← rowsProg arg16 0 1 (by omega) (by omega)
  let b1 ← rowsProg arg16 1 1 (by omega) (by omega)
  let b2 ← rowsProg arg16 2 1 (by omega) (by omega)
  let b3 ← rowsProg arg16 3 1 (by omega) (by omega)
  let b4 ← rowsProg arg16 4 1 (by omega) (by omega)
  let b5 ← rowsProg arg16 5 1 (by omega) (by omega)
  let b6 ← rowsProg arg16 6 1 (by omega) (by omega)
  let b7 ← rowsProg arg16 7 1 (by omega) (by omega)
  let l : Vec F S32x128 .f32 ← Prog.lift (.load arg15 (Rect.unit (s := S32x128) ![0, 0] S32x128.size inb_S32x128_S32x128_0_0).toLoadRect (View.loadsAt_vmem h_S32x128))
  let sn : Vec F S32x1 .f32 ← Prog.lift (.load arg8 (Rect.unit (s := S32x1) ![0, 0] S32x1.size inb_S32x1_S32x1_0_0).toLoadRect (View.loadsAt_vmem h_S32x1))
  let m : Vec F S32x1 .f32 ← Prog.lift (.load arg14 (Rect.unit (s := S32x128) ![0, 0] S32x1.size inb_S32x128_S32x1_0_0).toLoadRect (View.loadsAt_vmem h_S32x1))
  let vsh : Vec F S32x1 .f32 ← Prog.lift (.load arg11 (Rect.unit (s := S32x1) ![0, 0] S32x1.size inb_S32x1_S32x1_0_0).toLoadRect (View.loadsAt_vmem h_S32x1))
  let vch : Vec F S32x128 .f32 ← Prog.lift (.load arg10 (Rect.unit (s := S32x128) ![0, 0] S32x128.size inb_S32x128_S32x128_0_0).toLoadRect (View.loadsAt_vmem h_S32x128))
  let _d : Vec F S1x32x128 .bf16 ← Prog.lift (.load arg12 (Rect.unit (s := S1x32x128) ![0, 0, 0] S1x32x128.size inb_S1x32x128_S1x32x128_0_0_0).toLoadRect (View.loadsAt_vmem h_S1x32x128))
  Prog.lift (.store arg12 (Rect.unit (s := S1x32x128) ![0, 0, 0] S1x32x128.size inb_S1x32x128_S1x32x128_0_0_0) (outB ![a0, a1, a2, a3, a4, a5, a6, a7] ![b0, b1, b2, b3, b4, b5, b6, b7] l sn m vsh vch) Finset.univ (View.stores_vmem h_S1x32x128 (harg12.storeExact_slice rfl _ packedbf16_S1x32x128_S1x32x128_0_0_0) (fun _ => rfl)) (.inl rfl))

/-- Whether a point is the first of its sequence, as the kernel computes it. -/
abbrev cond1 (i : grid1.Coords) : BitVec 1 := Scalar.cmpi .ne (Scalar.extui (Scalar.cmpi .eq (BitVec.ofNat 32 (i 1).val) 0#32) : BitVec 32) 0#32

/-- The whole body: one load of the sequence's length and four guarded regions. -/
def attendProg (i : grid1.Coords) (arg2 : Memref sig .tc .smem S6 .i32) (arg3 : Memref sig .tc .vmem S6x128x256 .bf16) (arg4 : Memref sig .tc .vmem S1x8x6x128x128 .i8) (arg5 : Memref sig .tc .vmem S1x8x2048 .bf16) (arg6 : Memref sig .tc .vmem S1x8x64x2048 .i8) (arg7 : Memref sig .tc .vmem S1x8x2048 .f32) (arg8 : Memref sig .tc .vmem S32x1 .f32) (arg9 : Memref sig .tc .vmem S32x1 .f32) (arg10 : Memref sig .tc .vmem S32x128 .f32) (arg11 : Memref sig .tc .vmem S32x1 .f32) (arg12 : Memref sig .tc .vmem S1x32x128 .bf16) (harg12 : arg12.IsWhole) (arg13 : Memref sig .tc .vmem S1x32x2048 .f32) (arg14 : Memref sig .tc .vmem S32x128 .f32) (arg15 : Memref sig .tc .vmem S32x128 .f32) (arg16 : Memref sig .tc .vmem S1024x32 .f32) (arg17 : Memref sig .tc .vmem S32x2048 .bf16) (harg17 : arg17.IsWhole) :
    Prog (TpuEff nD τ sig (Elt F) Λ₀ .tc) PUnit := do
  let v1 : Elt F .i32 ← smemLoad arg2 (Rect.unit (s := S6) (k1_off1 i) S1.size (k1_off1_inb i)) numel1_S1 rfl
  if _h : cond1 i = 1#1 then
    initProg arg8 arg14 arg15 arg16
  else pure ⟨⟩
  if _h : k1_cond2 i v1 = 1#1 then
    skipProg arg13
  else pure ⟨⟩
  if _h : k1_cond3 i v1 = 1#1 then
    blockProg (Scalar.muli (BitVec.ofNat 32 (i 1).val) 2048#32) v1 arg3 arg4 arg5 arg6 arg7 arg9 arg13 arg14 arg15 arg16 arg17 harg17
  else pure ⟨⟩
  if _h : k1_cond4 i = 1#1 then
    finProg arg8 arg10 arg11 arg12 harg12 arg14 arg15 arg16
  else pure ⟨⟩
  pure ⟨⟩

end Cert.KernelIdeal.Attend

end
-- ==== Proof.Own.lean ====
/-
Steps of a body over memrefs held by values: a load reads a rectangle of what the memref holds, a store puts its payload over
one. Each is stated for any program and any continuation.
-/
module

public import Idealize.ShloMosaic.Lib.VecWindow
public import Idealize.ShloMosaic.Lib.Memref
public import Idealize.ShloMosaic.Lib.Tactic
public import Idealize.ShloMosaic.Lib.Pipeline.Regions

@[expose] public section

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} {𝒱 : Variants} {c : Thread nD τ} {bd : Option 𝒱.V} {E : Set Name}
variable {s : Shape} {e : EltTy}
universe v

/-- A load at any rectangle of a memref held by values. -/
theorem load {cs : CoreSpace} {m : Memref sig c.2.kind cs s e} {r : LoadRect s} {hl : m.view.LoadsAt r} {q : PosShare TreeShare} {X : s.Idx → Val e}
    {K : (r.shape.Idx → Val e) → sProp (MT nD τ sig Ix Val Name U Lvl)} :
    iprop(owns c m q X ∗ (owns c m q X -∗ K (fun x => X (r.idx x))))
      ⊢ wp frame (wpE defs 𝒱 c bd) E (Prog.lift (.load m r hl)) K := by
  unfold owns
  iintro ⟨⟨%f, %hf, H⟩, Hk⟩
  subst hf
  iapply (wp_load 𝒱 c bd E (Q := K) (k := .ret) (S := m.view.set) (View.setOn_subset_set _ _)) $$ H
  iintro H
  iapply (le_wp_ret frame (wpE defs 𝒱 c bd) E (m.view.readAt Val r f) K)
  rw [show m.view.readAt Val r f = fun x => m.view.read Val f (r.idx x) from rfl]
  iapply Hk
  iexists f
  isplitr
  · ipureintro; rfl
  · iexact H

/-- A load of the memref's own sizes. -/
theorem load_full {cs : CoreSpace} {m : Memref sig c.2.kind cs s e} {off : Fin s.rank → ℕ} {inb : ∀ a, off a + s.size a ≤ s.size a}
    {hl : m.view.LoadsAt (Rect.unit off s.size inb).toLoadRect} {q : PosShare TreeShare} {X : s.Idx → Val e}
    {K : (s.Idx → Val e) → sProp (MT nD τ sig Ix Val Name U Lvl)} :
    iprop(owns c m q X ∗ (owns c m q X -∗ K X))
      ⊢ wp frame (wpE defs 𝒱 c bd) E (Prog.lift (.load m (Rect.unit off s.size inb).toLoadRect hl)) K := by
  have h := load (defs := defs) (𝒱 := 𝒱) (bd := bd) (E := E) (m := m) (r := (Rect.unit off s.size inb).toLoadRect) (hl := hl) (q := q) (X := X) (K := K)
  have e : (fun x => X ((Rect.unit off s.size inb).toLoadRect.idx x)) = X := by
    funext x
    exact congrArg X (Rect.emb_unit_full inb x)
  rw [e] at h
  exact h

/-- A store at a unit-stride rectangle of a memref held by values. -/
theorem store {cs : CoreSpace} {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : Finset.univ = Finset.univ ∨ ∀ a, (Rect.unit off size inb).stride a = 1} {X : s.Idx → Val e}
    {K : PUnit → sProp (MT nD τ sig Ix Val Name U Lvl)} :
    iprop(owns c m fullShare X ∗ (owns c m fullShare (VecWindow.put X off size w) -∗ K ⟨⟩))
      ⊢ wp frame (wpE defs 𝒱 c bd) E (Prog.lift (.store m (Rect.unit off size inb) w Finset.univ hx hm)) K := by
  unfold owns
  iintro ⟨⟨%f, %hf, H⟩, Hk⟩
  have h := wp_store_writes₀ (defs := defs) 𝒱 c bd E (Q := K) (m := m) (r := Rect.unit off size inb) (w := w) (hx := hx) (hm := hm) (k := .ret) (f := f) (S := m.view.set) (m.view.set_slice_subset _)
  iapply h $$ H
  iintro H
  iapply (le_wp_ret frame (wpE defs 𝒱 c bd) E PUnit.unit K)
  iapply Hk
  iexists (m.view.writes Val f [⟨Rect.unit off size inb, w⟩])
  isplitr
  · ipureintro
    subst hf
    exact View.read_writes_cons_put m.view f inb w [] rfl
  · iexact H

/-- A store of the memref's own sizes. -/
theorem store_full {cs : CoreSpace} {m : Memref sig c.2.kind cs s e} {off : Fin s.rank → ℕ} {inb : ∀ a, off a + s.size a ≤ s.size a}
    {w : s.Idx → Val e} {hx : (m.access (Rect.unit off s.size inb)).Stores Finset.univ}
    {hm : Finset.univ = Finset.univ ∨ ∀ a, (Rect.unit off s.size inb).stride a = 1} {X : s.Idx → Val e}
    {K : PUnit → sProp (MT nD τ sig Ix Val Name U Lvl)} :
    iprop(owns c m fullShare X ∗ (owns c m fullShare w -∗ K ⟨⟩))
      ⊢ wp frame (wpE defs 𝒱 c bd) E (Prog.lift (.store m (Rect.unit off s.size inb) w Finset.univ hx hm)) K := by
  unfold owns
  iintro ⟨⟨%f, %hf, H⟩, Hk⟩
  have h := wp_store_writes₀ (defs := defs) 𝒱 c bd E (Q := K) (m := m) (r := Rect.unit off s.size inb) (w := w) (hx := hx) (hm := hm) (k := .ret) (f := f) (S := m.view.set) (m.view.set_slice_subset _)
  iapply h $$ H
  iintro H
  iapply (le_wp_ret frame (wpE defs 𝒱 c bd) E PUnit.unit K)
  iapply Hk
  iexists (m.view.writes Val f [⟨Rect.unit off s.size inb, w⟩])
  isplitr
  · ipureintro
    exact View.read_writes_full m.view f inb w []
  · iexact H

/-- Two programs in sequence. -/
theorem seq {α β : Type} {p : Prog (TpuEff nD τ sig Val Λ c.2) α} {k : α → Prog (TpuEff nD τ sig Val Λ c.2) β} {H : sProp (MT nD τ sig Ix Val Name U Lvl)}
    {K : β → sProp (MT nD τ sig Ix Val Name U Lvl)}
    (h : H ⊢ wp frame (wpE defs 𝒱 c bd) E p (fun x => wp frame (wpE defs 𝒱 c bd) E (k x) K)) :
    H ⊢ wp frame (wpE defs 𝒱 c bd) E (p >>= k) K := by
  rw [wp_bind]; exact h

/-- A program that has returned. -/
theorem ret {α : Type} (a : α) {K : α → sProp (MT nD τ sig Ix Val Name U Lvl)} :
    K a ⊢ wp frame (wpE defs 𝒱 c bd) E (pure a) K := le_wp_ret frame (wpE defs 𝒱 c bd) E a K

/-- A load in front of a program. -/
theorem load_k {β : Type} {cs : CoreSpace} {m : Memref sig c.2.kind cs s e} {r : LoadRect s} {hl : m.view.LoadsAt r} {q : PosShare TreeShare} {X : s.Idx → Val e}
    {k : (r.shape.Idx → Val e) → Prog (TpuEff nD τ sig Val Λ c.2) β} {K : β → sProp (MT nD τ sig Ix Val Name U Lvl)} :
    iprop(owns c m q X ∗ (owns c m q X -∗ wp frame (wpE defs 𝒱 c bd) E (k fun x => X (r.idx x)) K))
      ⊢ wp frame (wpE defs 𝒱 c bd) E (Prog.lift (.load m r hl) >>= k) K :=
  seq (load (K := fun x => wp frame (wpE defs 𝒱 c bd) E (k x) K))

/-- A load of the memref's own sizes in front of a program. -/
theorem load_full_k {β : Type} {cs : CoreSpace} {m : Memref sig c.2.kind cs s e} {off : Fin s.rank → ℕ} {inb : ∀ a, off a + s.size a ≤ s.size a}
    {hl : m.view.LoadsAt (Rect.unit off s.size inb).toLoadRect} {q : PosShare TreeShare} {X : s.Idx → Val e}
    {k : (s.Idx → Val e) → Prog (TpuEff nD τ sig Val Λ c.2) β} {K : β → sProp (MT nD τ sig Ix Val Name U Lvl)} :
    iprop(owns c m q X ∗ (owns c m q X -∗ wp frame (wpE defs 𝒱 c bd) E (k X) K))
      ⊢ wp frame (wpE defs 𝒱 c bd) E (Prog.lift (.load m (Rect.unit off s.size inb).toLoadRect hl) >>= k) K :=
  seq (load_full (K := fun x => wp frame (wpE defs 𝒱 c bd) E (k x) K))

/-- A store in front of a program. -/
theorem store_k {β : Type} {cs : CoreSpace} {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : Finset.univ = Finset.univ ∨ ∀ a, (Rect.unit off size inb).stride a = 1} {X : s.Idx → Val e}
    {k : PUnit → Prog (TpuEff nD τ sig Val Λ c.2) β} {K : β → sProp (MT nD τ sig Ix Val Name U Lvl)} :
    iprop(owns c m fullShare X ∗ (owns c m fullShare (VecWindow.put X off size w) -∗ wp frame (wpE defs 𝒱 c bd) E (k ⟨⟩) K))
      ⊢ wp frame (wpE defs 𝒱 c bd) E (Prog.lift (.store m (Rect.unit off size inb) w Finset.univ hx hm) >>= k) K :=
  seq (store (K := fun x => wp frame (wpE defs 𝒱 c bd) E (k x) K))

/-- A store of the memref's own sizes in front of a program. -/
theorem store_full_k {β : Type} {cs : CoreSpace} {m : Memref sig c.2.kind cs s e} {off : Fin s.rank → ℕ} {inb : ∀ a, off a + s.size a ≤ s.size a}
    {w : s.Idx → Val e} {hx : (m.access (Rect.unit off s.size inb)).Stores Finset.univ}
    {hm : Finset.univ = Finset.univ ∨ ∀ a, (Rect.unit off s.size inb).stride a = 1} {X : s.Idx → Val e}
    {k : PUnit → Prog (TpuEff nD τ sig Val Λ c.2) β} {K : β → sProp (MT nD τ sig Ix Val Name U Lvl)} :
    iprop(owns c m fullShare X ∗ (owns c m fullShare w -∗ wp frame (wpE defs 𝒱 c bd) E (k ⟨⟩) K))
      ⊢ wp frame (wpE defs 𝒱 c bd) E (Prog.lift (.store m (Rect.unit off s.size inb) w Finset.univ hx hm) >>= k) K :=
  seq (store_full (K := fun x => wp frame (wpE defs 𝒱 c bd) E (k x) K))

/-- A program run under a condition. -/
def guarded {Eff : Type → Type v} (p : Prop) [Decidable p] (t : Prog Eff PUnit) : Prog Eff PUnit := if _h : p then t else pure ⟨⟩

theorem guarded_bind {Eff : Type → Type v} {β : Type} (p : Prop) [Decidable p] (t : Prog Eff PUnit) (k : PUnit → Prog Eff β) :
    guarded p t >>= k = if _h : p then t >>= k else pure ⟨⟩ >>= k := by
  unfold guarded; split <;> rfl

end Cert.Own

end
-- ==== Proof.Body.lean ====
/-
What the decode kernel's body does at one grid point, by values: from what its windows and scratches hold on entry to what
they hold when it has run.
-/
module

public import proofs.«01_k».proof.Proof.Rolled
public import proofs.«01_k».proof.Proof.Own

@[expose] public section

noncomputable section

namespace Cert.KernelIdeal.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-! ## The raw products of a block -/

/-- Sixteen rows of queries of one byte column. -/
def lhsAt (X : Vec F S6x128x256 .bf16) (t kv : ℕ) (ht : t < 6) (hkv : kv < 8) : Vec F S1x16x256 .bf16 :=
  fun x => X ((Rect.unit (s := S6x128x256) ![t, kv * 16, 0] S1x16x256.size (inb_lhs ht hkv)).toLoadRect.idx x)

/-- Thirty-two rows of packed bytes of one byte column. -/
def bitsAt (X : Vec F S1x8x6x128x128 .i8) (kv t r : ℕ) (hkv : kv < 8) (ht : t < 6) (hr : r < 4) : Vec F S1x1x1x32x128 .i8 :=
  fun x => X ((Rect.unit (s := S1x8x6x128x128) ![0, kv, t, r * 32, 0] S1x1x1x32x128.size (inb_bits ht hkv hr)).toLoadRect.idx x)

/-- One byte column's product. -/
def termAt (X3 : Vec F S6x128x256 .bf16) (X4 : Vec F S1x8x6x128x128 .i8) (kv u t : ℕ) (hkv : kv < 8) (hu : u < 2) (ht : t < 6) : FVec F S16x256 .f32 :=
  part (lhsAt X3 t kv ht hkv) (bitsAt X4 kv t (u * 2 + 0) hkv ht (by omega)) (bitsAt X4 kv t (u * 2 + 1) hkv ht (by omega))

/-- One tile's product: the six byte columns added up. -/
def tileAcc (X3 : Vec F S6x128x256 .bf16) (X4 : Vec F S1x8x6x128x128 .i8) (kv u : ℕ) (hkv : kv < 8) (hu : u < 2) : FVec F S16x256 .f32 :=
  addf (addf (addf (addf (addf (termAt X3 X4 kv u 0 hkv hu (by omega)) (termAt X3 X4 kv u 1 hkv hu (by omega))) (termAt X3 X4 kv u 2 hkv hu (by omega)))
    (termAt X3 X4 kv u 3 hkv hu (by omega))) (termAt X3 X4 kv u 4 hkv hu (by omega))) (termAt X3 X4 kv u 5 hkv hu (by omega))

/-- One piece of a tile's product. -/
def pieceAt (X3 : Vec F S6x128x256 .bf16) (X4 : Vec F S1x8x6x128x128 .i8) (kv u h c : ℕ) (hkv : kv < 8) (hu : u < 2) (hh : h < 2) (hc : c < 4) : FVec F S1x4x128 .f32 :=
  piece (tileAcc X3 X4 kv u hkv hu) h c hh hc

/-- The piece an element of the block lies in, in the order of the stores. -/
def ord (y : S1x32x2048.Idx) : ℕ := (y 1).val / 4 * 16 + (y 2).val / 128

theorem y1_lt (y : S1x32x2048.Idx) : (y 1).val < 32 := (y 1).isLt
theorem y2_lt (y : S1x32x2048.Idx) : (y 2).val < 2048 := (y 2).isLt

theorem mem_piece (y : S1x32x2048.Idx) (kv u h c : ℕ) (hu : u < 2) (hh : h < 2) (hc : c < 4)
    (e : kv = (y 1).val / 4) (e' : u * 8 + h * 4 + c = (y 2).val / 128) :
    ∀ a, (![0, kv * 4, (u * 8 + h * 4 + c) * 128] : Fin 3 → ℕ) a ≤ (y a).val ∧ (y a).val < (![0, kv * 4, (u * 8 + h * 4 + c) * 128] : Fin 3 → ℕ) a + S1x4x128.size a := by
  have h0 : (y 0).val < 1 := (y 0).isLt
  intro a; fin_cases a
  · exact ⟨Nat.zero_le _, h0⟩
  · simp [S1x4x128]; omega
  · simp [S1x4x128]; omega

/-- The block's raw products. -/
def rawB (X3 : Vec F S6x128x256 .bf16) (X4 : Vec F S1x8x6x128x128 .i8) : Vec F S1x32x2048 .f32 := fun y =>
  pieceAt X3 X4 ((y 1).val / 4) ((y 2).val / 128 / 8) ((y 2).val / 128 / 4 % 2) ((y 2).val / 128 % 4)
    (by have := y1_lt y; omega) (by have := y2_lt y; omega) (by omega) (by omega)
    (Rect.unitLocal (s := S1x32x2048) (off := ![0, (y 1).val / 4 * 4, ((y 2).val / 128 / 8 * 8 + (y 2).val / 128 / 4 % 2 * 4 + (y 2).val / 128 % 4) * 128]) (size := S1x4x128.size) y
      (mem_piece y _ _ _ _ (by have := y2_lt y; omega) (by omega) (by omega) rfl (by omega)))

theorem rawB_eq (X3 : Vec F S6x128x256 .bf16) (X4 : Vec F S1x8x6x128x128 .i8) (y : S1x32x2048.Idx) (kv u h c : ℕ) (hkv : kv < 8) (hu : u < 2) (hh : h < 2) (hc : c < 4)
    (hm : ∀ a, (![0, kv * 4, (u * 8 + h * 4 + c) * 128] : Fin 3 → ℕ) a ≤ (y a).val ∧ (y a).val < (![0, kv * 4, (u * 8 + h * 4 + c) * 128] : Fin 3 → ℕ) a + S1x4x128.size a) :
    pieceAt X3 X4 kv u h c hkv hu hh hc (Rect.unitLocal (s := S1x32x2048) (off := ![0, kv * 4, (u * 8 + h * 4 + c) * 128]) (size := S1x4x128.size) y hm) = rawB X3 X4 y := by
  have h1 : kv * 4 ≤ (y 1).val ∧ (y 1).val < kv * 4 + 4 := hm 1
  have h2 : (u * 8 + h * 4 + c) * 128 ≤ (y 2).val ∧ (y 2).val < (u * 8 + h * 4 + c) * 128 + 128 := hm 2
  obtain rfl : kv = (y 1).val / 4 := by omega
  obtain rfl : u = (y 2).val / 128 / 8 := by omega
  obtain rfl : h = (y 2).val / 128 / 4 % 2 := by omega
  obtain rfl : c = (y 2).val / 128 % 4 := by omega
  rfl

/-- The first `n` pieces hold the raw products. -/
def Done (X3 : Vec F S6x128x256 .bf16) (X4 : Vec F S1x8x6x128x128 .i8) (n : ℕ) (X : Vec F S1x32x2048 .f32) : Prop := ∀ y, ord y < n → X y = rawB X3 X4 y

theorem done_zero (X3 : Vec F S6x128x256 .bf16) (X4 : Vec F S1x8x6x128x128 .i8) (X : Vec F S1x32x2048 .f32) : Done X3 X4 0 X := fun _ h => absurd h (Nat.not_lt_zero _)

theorem done_all {X3 : Vec F S6x128x256 .bf16} {X4 : Vec F S1x8x6x128x128 .i8} {X : Vec F S1x32x2048 .f32} (h : Done X3 X4 128 X) : X = rawB X3 X4 := by
  funext y
  exact h y (by have := y1_lt y; have := y2_lt y; unfold ord; omega)

theorem done_put {X3 : Vec F S6x128x256 .bf16} {X4 : Vec F S1x8x6x128x128 .i8} {X : Vec F S1x32x2048 .f32} (kv u h c : ℕ) (hkv : kv < 8) (hu : u < 2) (hh : h < 2) (hc : c < 4)
    {n : ℕ} (hn : n = kv * 16 + u * 8 + h * 4 + c) (hX : Done X3 X4 n X) :
    Done X3 X4 (n + 1) (VecWindow.put X ![0, kv * 4, (u * 8 + h * 4 + c) * 128] S1x4x128.size (pieceAt X3 X4 kv u h c hkv hu hh hc)) := by
  intro y hy
  unfold VecWindow.put
  split
  · rename_i hm
    exact rawB_eq X3 X4 y kv u h c hkv hu hh hc hm
  · rename_i hm
    refine hX y ?_
    by_contra hlt
    apply hm
    have := y1_lt y; have := y2_lt y
    unfold ord at hy hlt
    exact mem_piece y kv u h c hu hh hc (by omega) (by omega)

/-! ## The running weighted sum -/

/-- One head's packed codes. -/
def codesAt (X : Vec F S1x8x64x2048 .i8) (kv : ℕ) (hkv : kv < 8) : Vec F S1x1x64x2048 .i8 :=
  fun x => X ((Rect.unit (s := S1x8x64x2048) ![0, kv, 0, 0] S1x1x64x2048.size (inb_codes hkv)).toLoadRect.idx x)

/-- One head's rows of the running weighted sum. -/
def rowsAt (A : Vec F S1024x32 .f32) (kv : ℕ) (hkv : kv < 8) : Vec F S128x32 .f32 :=
  fun x => A ((Rect.unit (s := S1024x32) ![kv * 128, 0] S128x32.size (inb_acc hkv)).toLoadRect.idx x)

theorem y0_lt (y : S1024x32.Idx) : (y 0).val < 1024 := (y 0).isLt

theorem mem_rows (y : S1024x32.Idx) (kv : ℕ) (e : kv = (y 0).val / 128) :
    ∀ a, (![kv * 128, 0] : Fin 2 → ℕ) a ≤ (y a).val ∧ (y a).val < (![kv * 128, 0] : Fin 2 → ℕ) a + S128x32.size a := by
  have h1 : (y 1).val < 32 := (y 1).isLt
  intro a; fin_cases a
  · simp [S128x32]; omega
  · simp [S128x32]; omega

/-- One head's new rows. -/
def accAt (ar : FVec F S1x128 .f32) (p : Vec F S32x2048 .bf16) (X6 : Vec F S1x8x64x2048 .i8) (A : Vec F S1024x32 .f32) (kv : ℕ) (hkv : kv < 8) : FVec F S128x32 .f32 :=
  accRows ar p (codesAt X6 kv hkv) (rowsAt A kv hkv)

/-- The running weighted sum after the block. -/
def accB (ar : FVec F S1x128 .f32) (p : Vec F S32x2048 .bf16) (X6 : Vec F S1x8x64x2048 .i8) (A : Vec F S1024x32 .f32) : Vec F S1024x32 .f32 := fun y =>
  accAt ar p X6 A ((y 0).val / 128) (by have := y0_lt y; omega)
    (Rect.unitLocal (s := S1024x32) (off := ![(y 0).val / 128 * 128, 0]) (size := S128x32.size) y (mem_rows y _ rfl))

/-- The first `n` heads' rows are the new ones, the rest as they were. -/
def DoneA (ar : FVec F S1x128 .f32) (p : Vec F S32x2048 .bf16) (X6 : Vec F S1x8x64x2048 .i8) (A : Vec F S1024x32 .f32) (n : ℕ) (X : Vec F S1024x32 .f32) : Prop :=
  ∀ y, X y = if (y 0).val / 128 < n then accB ar p X6 A y else A y

theorem doneA_zero (ar : FVec F S1x128 .f32) (p : Vec F S32x2048 .bf16) (X6 : Vec F S1x8x64x2048 .i8) (A : Vec F S1024x32 .f32) : DoneA ar p X6 A 0 A := fun y => by simp

theorem doneA_all {ar : FVec F S1x128 .f32} {p : Vec F S32x2048 .bf16} {X6 : Vec F S1x8x64x2048 .i8} {A X : Vec F S1024x32 .f32} (h : DoneA ar p X6 A 8 X) : X = accB ar p X6 A := by
  funext y
  rw [h y, if_pos (by have := y0_lt y; omega)]

theorem doneA_rows {ar : FVec F S1x128 .f32} {p : Vec F S32x2048 .bf16} {X6 : Vec F S1x8x64x2048 .i8} {A X : Vec F S1024x32 .f32} {kv : ℕ} (hkv : kv < 8) (h : DoneA ar p X6 A kv X) :
    rowsAt X kv hkv = rowsAt A kv hkv := by
  funext x
  unfold rowsAt
  rw [h, if_neg]
  have e : (((Rect.unit (s := S1024x32) ![kv * 128, 0] S128x32.size (inb_acc hkv)).toLoadRect.idx x) 0).val = kv * 128 + 1 * (x 0).val := rfl
  rw [e]; omega

theorem doneA_put {ar : FVec F S1x128 .f32} {p : Vec F S32x2048 .bf16} {X6 : Vec F S1x8x64x2048 .i8} {A X : Vec F S1024x32 .f32} {kv : ℕ} (hkv : kv < 8) (h : DoneA ar p X6 A kv X) :
    DoneA ar p X6 A (kv + 1) (VecWindow.put X ![kv * 128, 0] S128x32.size (accRows ar p (codesAt X6 kv hkv) (rowsAt X kv hkv))) := by
  intro y
  rw [doneA_rows hkv h]
  unfold VecWindow.put
  split
  · rename_i hm
    have h0 : kv * 128 ≤ (y 0).val ∧ (y 0).val < kv * 128 + 128 := hm 0
    obtain rfl : kv = (y 0).val / 128 := by omega
    rw [if_pos (by omega)]
    rfl
  · rename_i hm
    rw [h y]
    have hne : kv ≠ (y 0).val / 128 := fun e => hm (mem_rows y kv e)
    by_cases hlt : (y 0).val / 128 < kv
    · rw [if_pos hlt, if_pos (by omega)]
    · rw [if_neg hlt, if_neg (by omega)]

/-- Every other row of one head's part of the weighted sum. -/
def halfAt (A : Vec F S1024x32 .f32) (kv nib : ℕ) (hkv : kv < 8) (hn : nib < 2) : Vec F S64x32 .f32 :=
  fun x => A ((⟨![kv * 128 + nib, 0], S64x32.size, ![2, 1], inb_strided hkv hn⟩ : LoadRect S1024x32).idx x)

/-- The first column of the running maximum. -/
def mCol (M : Vec F S32x128 .f32) : Vec F S32x1 .f32 :=
  fun x => M ((Rect.unit (s := S32x128) ![0, 0] S32x1.size inb_S32x128_S32x1_0_0).toLoadRect.idx x)

/-- The last point's output from what the scratches hold. -/
def outV (A : Vec F S1024x32 .f32) (L : Vec F S32x128 .f32) (sn : Vec F S32x1 .f32) (M : Vec F S32x128 .f32) (vsh : Vec F S32x1 .f32) (vch : Vec F S32x128 .f32) : FVec F S1x32x128 .bf16 :=
  outB (fun kv => halfAt A kv.val 0 kv.isLt (by omega)) (fun kv => halfAt A kv.val 1 kv.isLt (by omega)) L sn (mCol M) vsh vch

/-! ## The programs' steps -/

section Steps

variable {c : Dev nD} {E : Set ℕ} {β : Type}

/-- One byte column. -/
theorem term_k {arg3 : Memref sig .tc .vmem S6x128x256 .bf16} {arg4 : Memref sig .tc .vmem S1x8x6x128x128 .i8} {kv u t : ℕ} {hkv : kv < 8} {hu : u < 2} {ht : t < 6}
    {X3 : Vec F S6x128x256 .bf16} {X4 : Vec F S1x8x6x128x128 .i8}
    {k : FVec F S16x256 .f32 → Prog (TpuEff nD τ sig (Elt F) Λ₀ .tc) β} {K : β → sProp 𝕄} :
    iprop(owns (c : Thread nD τ) arg3 fullShare X3 ∗ owns (c : Thread nD τ) arg4 fullShare X4
        ∗ (iprop(owns (c : Thread nD τ) arg3 fullShare X3 ∗ owns (c : Thread nD τ) arg4 fullShare X4)
          -∗ wp frame (wpE (defs₀ (F := F)) Variants.none (c : Thread nD τ) none) E (k (termAt X3 X4 kv u t hkv hu ht)) K))
      ⊢ wp frame (wpE (defs₀ (F := F)) Variants.none (c : Thread nD τ) none) E (termProg arg3 arg4 kv u t hkv hu ht >>= k) K := by
  apply Own.seq (c := (c : Thread nD τ))
  unfold termProg
  iintro ⟨H3, H4, Hk⟩
  iapply Own.load_k (c := (c : Thread nD τ)) (X := X3)
  isplitl [H3]; · iexact H3
  iintro H3
  iapply Own.load_k (c := (c : Thread nD τ)) (X := X4)
  isplitl [H4]; · iexact H4
  iintro H4
  iapply Own.load_k (c := (c : Thread nD τ)) (X := X4)
  isplitl [H4]; · iexact H4
  iintro H4
  iapply Own.ret (c := (c : Thread nD τ))
  iapply Hk
  isplitl [H3]; · iexact H3
  iexact H4

/-- One piece. -/
theorem piece_k {arg13 : Memref sig .tc .vmem S1x32x2048 .f32} {kv u h cc : ℕ} {hkv : kv < 8} {hu : u < 2} {hh : h < 2} {hc : cc < 4}
    {X3 : Vec F S6x128x256 .bf16} {X4 : Vec F S1x8x6x128x128 .i8} (n : ℕ) (hn : n = kv * 16 + u * 8 + h * 4 + cc)
    {k : PUnit → Prog (TpuEff nD τ sig (Elt F) Λ₀ .tc) β} {K : β → sProp 𝕄} :
    iprop((∃ X, ⌜Done X3 X4 n X⌝ ∗ owns (c : Thread nD τ) arg13 fullShare X)
        ∗ ((∃ X, ⌜Done X3 X4 (n + 1) X⌝ ∗ owns (c : Thread nD τ) arg13 fullShare X)
          -∗ wp frame (wpE (defs₀ (F := F)) Variants.none (c : Thread nD τ) none) E (k ⟨⟩) K))
      ⊢ wp frame (wpE (defs₀ (F := F)) Variants.none (c : Thread nD τ) none) E (pieceProg arg13 kv u h cc hkv hu hh hc (tileAcc X3 X4 kv u hkv hu) >>= k) K := by
  apply Own.seq (c := (c : Thread nD τ))
  unfold pieceProg
  iintro ⟨⟨%X, %hX, H⟩, Hk⟩
  iapply Own.load_k (c := (c : Thread nD τ)) (X := X)
  isplitl [H]; · iexact H
  iintro H
  iapply Own.store (c := (c : Thread nD τ)) (X := X)
  isplitl [H]; · iexact H
  iintro H
  iapply Hk
  iexists _
  isplitr; swap
  · iexact H
  · ipureintro
    exact done_put kv u h cc hkv hu hh hc hn hX

/-- One tile. -/
theorem tile_k {arg3 : Memref sig .tc .vmem S6x128x256 .bf16} {arg4 : Memref sig .tc .vmem S1x8x6x128x128 .i8} {arg13 : Memref sig .tc .vmem S1x32x2048 .f32} {kv u : ℕ} {hkv : kv < 8} {hu : u < 2}
    {X3 : Vec F S6x128x256 .bf16} {X4 : Vec F S1x8x6x128x128 .i8} (n : ℕ) (hn : n = kv * 16 + u * 8)
    {k : PUnit → Prog (TpuEff nD τ sig (Elt F) Λ₀ .tc) β} {K : β → sProp 𝕄} :
    iprop(owns (c : Thread nD τ) arg3 fullShare X3 ∗ owns (c : Thread nD τ) arg4 fullShare X4 ∗ (∃ X, ⌜Done X3 X4 n X⌝ ∗ owns (c : Thread nD τ) arg13 fullShare X)
        ∗ (iprop(owns (c : Thread nD τ) arg3 fullShare X3 ∗ owns (c : Thread nD τ) arg4 fullShare X4 ∗ (∃ X, ⌜Done X3 X4 (n + 8) X⌝ ∗ owns (c : Thread nD τ) arg13 fullShare X))
          -∗ wp frame (wpE (defs₀ (F := F)) Variants.none (c : Thread nD τ) none) E (k ⟨⟩) K))
      ⊢ wp frame (wpE (defs₀ (F := F)) Variants.none (c : Thread nD τ) none) E (tile arg3 arg4 arg13 kv u hkv hu >>= k) K := by
  apply Own.seq (c := (c : Thread nD τ))
  unfold tile
  iintro ⟨H3, H4, H, Hk⟩
  iapply term_k (X3 := X3) (X4 := X4)
  isplitl [H3]; · iexact H3
  isplitl [H4]; · iexact H4
  iintro ⟨H3, H4⟩
  iapply term_k (X3 := X3) (X4 := X4)
  isplitl [H3]; · iexact H3
  isplitl [H4]; · iexact H4
  iintro ⟨H3, H4⟩
  iapply term_k (X3 := X3) (X4 := X4)
  isplitl [H3]; · iexact H3
  isplitl [H4]; · iexact H4
  iintro ⟨H3, H4⟩
  iapply term_k (X3 := X3) (X4 := X4)
  isplitl [H3]; · iexact H3
  isplitl [H4]; · iexact H4
  iintro ⟨H3, H4⟩
  iapply term_k (X3 := X3) (X4 := X4)
  isplitl [H3]; · iexact H3
  isplitl [H4]; · iexact H4
  iintro ⟨H3, H4⟩
  iapply term_k (X3 := X3) (X4 := X4)
  isplitl [H3]; · iexact H3
  isplitl [H4]; · iexact H4
  iintro ⟨H3, H4⟩
  iapply piece_k (X3 := X3) (X4 := X4) (n + 0) (by omega)
  isplitl [H]; · iexact H
  iintro H
  iapply piece_k (X3 := X3) (X4 := X4) (n + 1) (by omega)
  isplitl [H]; · iexact H
  iintro H
  iapply piece_k (X3 := X3) (X4 := X4) (n + 2) (by omega)
  isplitl [H]; · iexact H
  iintro H
  iapply piece_k (X3 := X3) (X4 := X4) (n + 3) (by omega)
  isplitl [H]; · iexact H
  iintro H
  iapply piece_k (X3 := X3) (X4 := X4) (n + 4) (by omega)
  isplitl [H]; · iexact H
  iintro H
  iapply piece_k (X3 := X3) (X4 := X4) (n + 5) (by omega)
  isplitl [H]; · iexact H
  iintro H
  iapply piece_k (X3 := X3) (X4 := X4) (n + 6) (by omega)
  isplitl [H]; · iexact H
  iintro H
  rw [← bind_pure (pieceProg _ _ _ _ _ _ _ _ _ _)]
  iapply piece_k (X3 := X3) (X4 := X4) (n + 7) (by omega)
  isplitl [H]; · iexact H
  iintro H
  iapply Own.ret (c := (c : Thread nD τ))
  iapply Hk
  isplitl [H3]; · iexact H3
  isplitl [H4]; · iexact H4
  iexact H

/-- The sixteen tiles: the scores window holds the block's raw products. -/
theorem tiles_k {arg3 : Memref sig .tc .vmem S6x128x256 .bf16} {arg4 : Memref sig .tc .vmem S1x8x6x128x128 .i8} {arg13 : Memref sig .tc .vmem S1x32x2048 .f32}
    {X3 : Vec F S6x128x256 .bf16} {X4 : Vec F S1x8x6x128x128 .i8}
    {k : PUnit → Prog (TpuEff nD τ sig (Elt F) Λ₀ .tc) β} {K : β → sProp 𝕄} :
    iprop(owns (c : Thread nD τ) arg3 fullShare X3 ∗ owns (c : Thread nD τ) arg4 fullShare X4 ∗ (∃ d, owns (c : Thread nD τ) arg13 fullShare d)
        ∗ (iprop(owns (c : Thread nD τ) arg3 fullShare X3 ∗ owns (c : Thread nD τ) arg4 fullShare X4 ∗ owns (c : Thread nD τ) arg13 fullShare (rawB X3 X4))
          -∗ wp frame (wpE (defs₀ (F := F)) Variants.none (c : Thread nD τ) none) E (k ⟨⟩) K))
      ⊢ wp frame (wpE (defs₀ (F := F)) Variants.none (c : Thread nD τ) none) E (tilesProg arg3 arg4 arg13 >>= k) K := by
  apply Own.seq (c := (c : Thread nD τ))
  unfold tilesProg
  iintro ⟨H3, H4, ⟨%d, H⟩, Hk⟩
  ihave H := (show owns (c : Thread nD τ) arg13 fullShare d ⊢ (iprop(∃ X, ⌜Done X3 X4 0 X⌝ ∗ owns (c : Thread nD τ) arg13 fullShare X) : sProp 𝕄) from by
    iintro H
    iexists d
    isplitr
    · ipureintro; exact done_zero X3 X4 d
    · iexact H) $$ H
  iapply tile_k (X3 := X3) (X4 := X4) 0 (by omega)
  isplitl [H3]; · iexact H3
  isplitl [H4]; · iexact H4
  isplitl [H]; · iexact H
  iintro ⟨H3, H4, H⟩
  iapply tile_k (X3 := X3) (X4 := X4) 8 (by omega)
  isplitl [H3]; · iexact H3
  isplitl [H4]; · iexact H4
  isplitl [H]; · iexact H
  iintro ⟨H3, H4, H⟩
  iapply tile_k (X3 := X3) (X4 := X4) 16 (by omega)
  isplitl [H3]; · iexact H3
  isplitl [H4]; · iexact H4
  isplitl [H]; · iexact H
  iintro ⟨H3, H4, H⟩
  iapply tile_k (X3 := X3) (X4 := X4) 24 (by omega)
  isplitl [H3]; · iexact H3
  isplitl [H4]; · iexact H4
  isplitl [H]; · iexact H
  iintro ⟨H3, H4, H⟩
  iapply tile_k (X3 := X3) (X4 := X4) 32 (by omega)
  isplitl [H3]; · iexact H3
  isplitl [H4]; · iexact H4
  isplitl [H]; · iexact H
  iintro ⟨H3, H4, H⟩
  iapply tile_k (X3 := X3) (X4 := X4) 40 (by omega)
  isplitl [H3]; · iexact H3
  isplitl [H4]; · iexact H4
  isplitl [H]; · iexact H
  iintro ⟨H3, H4, H⟩
  iapply tile_k (X3 := X3) (X4 := X4) 48 (by omega)
  isplitl [H3]; · iexact H3
  isplitl [H4]; · iexact H4
  isplitl [H]; · iexact H
  iintro ⟨H3, H4, H⟩
  iapply tile_k (X3 := X3) (X4 := X4) 56 (by omega)
  isplitl [H3]; · iexact H3
  isplitl [H4]; · iexact H4
  isplitl [H]; · iexact H
  iintro ⟨H3, H4, H⟩
  iapply tile_k (X3 := X3) (X4 := X4) 64 (by omega)
  isplitl [H3]; · iexact H3
  isplitl [H4]; · iexact H4
  isplitl [H]; · iexact H
  iintro ⟨H3, H4, H⟩
  iapply tile_k (X3 := X3) (X4 := X4) 72 (by omega)
  isplitl [H3]; · iexact H3
  isplitl [H4]; · iexact H4
  isplitl [H]; · iexact H
  iintro ⟨H3, H4, H⟩
  iapply tile_k (X3 := X3) (X4 := X4) 80 (by omega)
  isplitl [H3]; · iexact H3
  isplitl [H4]; · iexact H4
  isplitl [H]; · iexact H
  iintro ⟨H3, H4, H⟩
  iapply tile_k (X3 := X3) (X4 := X4) 88 (by omega)
  isplitl [H3]; · iexact H3
  isplitl [H4]; · iexact H4
  isplitl [H]; · iexact H
  iintro ⟨H3, H4, H⟩
  iapply tile_k (X3 := X3) (X4 := X4) 96 (by omega)
  isplitl [H3]; · iexact H3
  isplitl [H4]; · iexact H4
  isplitl [H]; · iexact H
  iintro ⟨H3, H4, H⟩
  iapply tile_k (X3 := X3) (X4 := X4) 104 (by omega)
  isplitl [H3]; · iexact H3
  isplitl [H4]; · iexact H4
  isplitl [H]; · iexact H
  iintro ⟨H3, H4, H⟩
  iapply tile_k (X3 := X3) (X4 := X4) 112 (by omega)
  isplitl [H3]; · iexact H3
  isplitl [H4]; · iexact H4
  isplitl [H]; · iexact H
  iintro ⟨H3, H4, H⟩
  rw [← bind_pure (tile _ _ _ _ _ _ _)]
  iapply tile_k (X3 := X3) (X4 := X4) 120 (by omega)
  isplitl [H3]; · iexact H3
  isplitl [H4]; · iexact H4
  isplitl [H]; · iexact H
  iintro ⟨H3, H4, H⟩
  iapply Own.ret (c := (c : Thread nD τ))
  iapply Hk
  isplitl [H3]; · iexact H3
  isplitl [H4]; · iexact H4
  icases H with ⟨%X, %hX, H⟩
  rw [← done_all hX]
  iexact H

/-- One head's step of the running weighted sum. -/
theorem acc_k {arg6 : Memref sig .tc .vmem S1x8x64x2048 .i8} {arg16 : Memref sig .tc .vmem S1024x32 .f32} {kv : ℕ} {hkv : kv < 8}
    {ar : FVec F S1x128 .f32} {p : Vec F S32x2048 .bf16} {X6 : Vec F S1x8x64x2048 .i8} {A : Vec F S1024x32 .f32} (n : ℕ) (hn : n = kv)
    {k : PUnit → Prog (TpuEff nD τ sig (Elt F) Λ₀ .tc) β} {K : β → sProp 𝕄} :
    iprop(owns (c : Thread nD τ) arg6 fullShare X6 ∗ (∃ X, ⌜DoneA ar p X6 A n X⌝ ∗ owns (c : Thread nD τ) arg16 fullShare X)
        ∗ (iprop(owns (c : Thread nD τ) arg6 fullShare X6 ∗ (∃ X, ⌜DoneA ar p X6 A (n + 1) X⌝ ∗ owns (c : Thread nD τ) arg16 fullShare X))
          -∗ wp frame (wpE (defs₀ (F := F)) Variants.none (c : Thread nD τ) none) E (k ⟨⟩) K))
      ⊢ wp frame (wpE (defs₀ (F := F)) Variants.none (c : Thread nD τ) none) E (accProg arg6 arg16 kv hkv ar p >>= k) K := by
  subst hn
  apply Own.seq (c := (c : Thread nD τ))
  unfold accProg
  iintro ⟨H6, ⟨%X, %hX, H⟩, Hk⟩
  iapply Own.load_k (c := (c : Thread nD τ)) (X := X6)
  isplitl [H6]; · iexact H6
  iintro H6
  iapply Own.load_k (c := (c : Thread nD τ)) (X := X)
  isplitl [H]; · iexact H
  iintro H
  iapply Own.load_k (c := (c : Thread nD τ)) (X := X)
  isplitl [H]; · iexact H
  iintro H
  iapply Own.store (c := (c : Thread nD τ)) (X := X)
  isplitl [H]; · iexact H
  iintro H
  iapply Hk
  isplitl [H6]; · iexact H6
  iexists _
  isplitr; swap
  · iexact H
  · ipureintro
    exact doneA_put hkv hX

/-- What the block does once its tiles are stored. -/
theorem tail_k {v2 v1 : BitVec 32} {arg5 : Memref sig .tc .vmem S1x8x2048 .bf16} {arg6 : Memref sig .tc .vmem S1x8x64x2048 .i8}
    {arg7 : Memref sig .tc .vmem S1x8x2048 .f32} {arg9 : Memref sig .tc .vmem S32x1 .f32} {arg13 : Memref sig .tc .vmem S1x32x2048 .f32}
    {arg14 : Memref sig .tc .vmem S32x128 .f32} {arg15 : Memref sig .tc .vmem S32x128 .f32} {arg16 : Memref sig .tc .vmem S1024x32 .f32}
    {arg17 : Memref sig .tc .vmem S32x2048 .bf16} {harg17 : arg17.IsWhole}
    {X5 : Vec F S1x8x2048 .bf16} {X6 : Vec F S1x8x64x2048 .i8} {X7 : Vec F S1x8x2048 .f32} {X9 : Vec F S32x1 .f32}
    {R : Vec F S1x32x2048 .f32} {M L : Vec F S32x128 .f32} {A : Vec F S1024x32 .f32} {P : Vec F S32x2048 .bf16}
    {k : PUnit → Prog (TpuEff nD τ sig (Elt F) Λ₀ .tc) β} {K : β → sProp 𝕄} :
    iprop(owns (c : Thread nD τ) arg5 fullShare X5 ∗ owns (c : Thread nD τ) arg6 fullShare X6 ∗ owns (c : Thread nD τ) arg7 fullShare X7 ∗ owns (c : Thread nD τ) arg9 fullShare X9 ∗ owns (c : Thread nD τ) arg13 fullShare R ∗ owns (c : Thread nD τ) arg14 fullShare M ∗ owns (c : Thread nD τ) arg15 fullShare L ∗ owns (c : Thread nD τ) arg16 fullShare A ∗ owns (c : Thread nD τ) arg17 fullShare P
        ∗ (iprop(owns (c : Thread nD τ) arg5 fullShare X5 ∗ owns (c : Thread nD τ) arg6 fullShare X6 ∗ owns (c : Thread nD τ) arg7 fullShare X7 ∗ owns (c : Thread nD τ) arg9 fullShare X9 ∗ owns (c : Thread nD τ) arg13 fullShare (csB v2 v1 X5 R X9) ∗ owns (c : Thread nD τ) arg14 fullShare (shapeCast S32x128 (mNew (maskedB v2 v1 X5 R X9) M) shapeCasts_S32x128_S32x128)
            ∗ owns (c : Thread nD τ) arg15 fullShare (lNew (maskedB v2 v1 X5 R X9) M L) ∗ owns (c : Thread nD τ) arg16 fullShare (accB (alphaRow (maskedB v2 v1 X5 R X9) M) (pB (maskedB v2 v1 X5 R X9) M X7) X6 A) ∗ owns (c : Thread nD τ) arg17 fullShare (pB (maskedB v2 v1 X5 R X9) M X7))
          -∗ wp frame (wpE (defs₀ (F := F)) Variants.none (c : Thread nD τ) none) E (k ⟨⟩) K))
      ⊢ wp frame (wpE (defs₀ (F := F)) Variants.none (c : Thread nD τ) none) E (tailProg v2 v1 arg5 arg6 arg7 arg9 arg13 arg14 arg15 arg16 arg17 harg17 >>= k) K := by
  apply Own.seq (c := (c : Thread nD τ))
  unfold tailProg
  iintro ⟨H5, H6, H7, H9, H13, H14, H15, H16, H17, Hk⟩
  iapply Own.load_full_k (c := (c : Thread nD τ))
  isplitl [H5]; · iexact H5
  iintro H5
  iapply Own.load_full_k (c := (c : Thread nD τ))
  isplitl [H13]; · iexact H13
  iintro H13
  iapply Own.load_full_k (c := (c : Thread nD τ))
  isplitl [H9]; · iexact H9
  iintro H9
  iapply Own.load_full_k (c := (c : Thread nD τ))
  isplitl [H13]; · iexact H13
  iintro H13
  iapply Own.store_full_k (c := (c : Thread nD τ))
  isplitl [H13]; · iexact H13
  iintro H13
  iapply Own.load_full_k (c := (c : Thread nD τ))
  isplitl [H14]; · iexact H14
  iintro H14
  iapply Own.load_full_k (c := (c : Thread nD τ))
  isplitl [H15]; · iexact H15
  iintro H15
  iapply Own.load_full_k (c := (c : Thread nD τ))
  isplitl [H15]; · iexact H15
  iintro H15
  iapply Own.store_full_k (c := (c : Thread nD τ))
  isplitl [H15]; · iexact H15
  iintro H15
  iapply Own.load_full_k (c := (c : Thread nD τ))
  isplitl [H14]; · iexact H14
  iintro H14
  iapply Own.store_full_k (c := (c : Thread nD τ))
  isplitl [H14]; · iexact H14
  iintro H14
  iapply Own.load_full_k (c := (c : Thread nD τ))
  isplitl [H7]; · iexact H7
  iintro H7
  iapply Own.load_full_k (c := (c : Thread nD τ))
  isplitl [H17]; · iexact H17
  iintro H17
  iapply Own.store_full_k (c := (c : Thread nD τ))
  isplitl [H17]; · iexact H17
  iintro H17
  iapply Own.load_full_k (c := (c : Thread nD τ))
  isplitl [H17]; · iexact H17
  iintro H17
  ihave H := (show owns (c : Thread nD τ) arg16 fullShare A ⊢ (iprop(∃ X, ⌜DoneA (alphaRow (maskedB v2 v1 X5 R X9) M) (pB (maskedB v2 v1 X5 R X9) M X7) X6 A 0 X⌝ ∗ owns (c : Thread nD τ) arg16 fullShare X) : sProp 𝕄) from by
    iintro H
    iexists A
    isplitr
    · ipureintro; exact doneA_zero _ _ _ _
    · iexact H) $$ H16
  iapply acc_k (X6 := X6) (A := A) 0 (by omega)
  isplitl [H6]; · iexact H6
  isplitl [H]; · iexact H
  iintro ⟨H6, H⟩
  iapply acc_k (X6 := X6) (A := A) 1 (by omega)
  isplitl [H6]; · iexact H6
  isplitl [H]; · iexact H
  iintro ⟨H6, H⟩
  iapply acc_k (X6 := X6) (A := A) 2 (by omega)
  isplitl [H6]; · iexact H6
  isplitl [H]; · iexact H
  iintro ⟨H6, H⟩
  iapply acc_k (X6 := X6) (A := A) 3 (by omega)
  isplitl [H6]; · iexact H6
  isplitl [H]; · iexact H
  iintro ⟨H6, H⟩
  iapply acc_k (X6 := X6) (A := A) 4 (by omega)
  isplitl [H6]; · iexact H6
  isplitl [H]; · iexact H
  iintro ⟨H6, H⟩
  iapply acc_k (X6 := X6) (A := A) 5 (by omega)
  isplitl [H6]; · iexact H6
  isplitl [H]; · iexact H
  iintro ⟨H6, H⟩
  iapply acc_k (X6 := X6) (A := A) 6 (by omega)
  isplitl [H6]; · iexact H6
  isplitl [H]; · iexact H
  iintro ⟨H6, H⟩
  rw [← bind_pure (accProg _ _ _ _ _ _)]
  iapply acc_k (X6 := X6) (A := A) 7 (by omega)
  isplitl [H6]; · iexact H6
  isplitl [H]; · iexact H
  iintro ⟨H6, H⟩
  icases H with ⟨%X, %hX, H16⟩
  rw [doneA_all hX]
  iapply Own.ret (c := (c : Thread nD τ))
  iapply Hk
  isplitl [H5]; · iexact H5
  isplitl [H6]; · iexact H6
  isplitl [H7]; · iexact H7
  isplitl [H9]; · iexact H9
  isplitl [H13]; · iexact H13
  isplitl [H14]; · iexact H14
  isplitl [H15]; · iexact H15
  isplitl [H16]; · iexact H16
  iexact H17

/-- The first point's region. -/
theorem init_k {arg8 : Memref sig .tc .vmem S32x1 .f32} {arg14 arg15 : Memref sig .tc .vmem S32x128 .f32} {arg16 : Memref sig .tc .vmem S1024x32 .f32}
    {X8 : Vec F S32x1 .f32} {M L : Vec F S32x128 .f32} {A : Vec F S1024x32 .f32}
    {k : PUnit → Prog (TpuEff nD τ sig (Elt F) Λ₀ .tc) β} {K : β → sProp 𝕄} :
    iprop(owns (c : Thread nD τ) arg8 fullShare X8 ∗ owns (c : Thread nD τ) arg14 fullShare M ∗ owns (c : Thread nD τ) arg15 fullShare L ∗ owns (c : Thread nD τ) arg16 fullShare A
        ∗ (iprop(owns (c : Thread nD τ) arg8 fullShare X8 ∗ owns (c : Thread nD τ) arg14 fullShare (m0B X8) ∗ owns (c : Thread nD τ) arg15 fullShare l0B ∗ owns (c : Thread nD τ) arg16 fullShare a0B) -∗ wp frame (wpE (defs₀ (F := F)) Variants.none (c : Thread nD τ) none) E (k ⟨⟩) K))
      ⊢ wp frame (wpE (defs₀ (F := F)) Variants.none (c : Thread nD τ) none) E (initProg arg8 arg14 arg15 arg16 >>= k) K := by
  apply Own.seq (c := (c : Thread nD τ))
  unfold initProg
  iintro ⟨H8, H14, H15, H16, Hk⟩
  iapply Own.load_full_k (c := (c : Thread nD τ))
  isplitl [H8]; · iexact H8
  iintro H8
  iapply Own.load_full_k (c := (c : Thread nD τ))
  isplitl [H14]; · iexact H14
  iintro H14
  iapply Own.store_full_k (c := (c : Thread nD τ))
  isplitl [H14]; · iexact H14
  iintro H14
  iapply Own.load_full_k (c := (c : Thread nD τ))
  isplitl [H15]; · iexact H15
  iintro H15
  iapply Own.store_full_k (c := (c : Thread nD τ))
  isplitl [H15]; · iexact H15
  iintro H15
  iapply Own.load_full_k (c := (c : Thread nD τ))
  isplitl [H16]; · iexact H16
  iintro H16
  iapply Own.store_full (c := (c : Thread nD τ))
  isplitl [H16]; · iexact H16
  iintro H16
  iapply Hk
  isplitl [H8]; · iexact H8
  isplitl [H14]; · iexact H14
  isplitl [H15]; · iexact H15
  iexact H16

/-- A block past the length. -/
theorem skip_k {arg13 : Memref sig .tc .vmem S1x32x2048 .f32} {R : Vec F S1x32x2048 .f32}
    {k : PUnit → Prog (TpuEff nD τ sig (Elt F) Λ₀ .tc) β} {K : β → sProp 𝕄} :
    iprop(owns (c : Thread nD τ) arg13 fullShare R ∗ (owns (c : Thread nD τ) arg13 fullShare zeroB -∗ wp frame (wpE (defs₀ (F := F)) Variants.none (c : Thread nD τ) none) E (k ⟨⟩) K))
      ⊢ wp frame (wpE (defs₀ (F := F)) Variants.none (c : Thread nD τ) none) E (skipProg arg13 >>= k) K := by
  apply Own.seq (c := (c : Thread nD τ))
  unfold skipProg
  iintro ⟨H13, Hk⟩
  iapply Own.load_full_k (c := (c : Thread nD τ))
  isplitl [H13]; · iexact H13
  iintro H13
  iapply Own.store_full (c := (c : Thread nD τ))
  isplitl [H13]; · iexact H13
  iintro H13
  iapply Hk
  iexact H13

/-- The last point's region. -/
theorem fin_k {arg8 : Memref sig .tc .vmem S32x1 .f32} {arg10 : Memref sig .tc .vmem S32x128 .f32} {arg11 : Memref sig .tc .vmem S32x1 .f32}
    {arg12 : Memref sig .tc .vmem S1x32x128 .bf16} {harg12 : arg12.IsWhole} {arg14 arg15 : Memref sig .tc .vmem S32x128 .f32} {arg16 : Memref sig .tc .vmem S1024x32 .f32}
    {X8 X11 : Vec F S32x1 .f32} {X10 M L : Vec F S32x128 .f32} {A : Vec F S1024x32 .f32} {O : Vec F S1x32x128 .bf16}
    {k : PUnit → Prog (TpuEff nD τ sig (Elt F) Λ₀ .tc) β} {K : β → sProp 𝕄} :
    iprop(owns (c : Thread nD τ) arg8 fullShare X8 ∗ owns (c : Thread nD τ) arg10 fullShare X10 ∗ owns (c : Thread nD τ) arg11 fullShare X11 ∗ owns (c : Thread nD τ) arg12 fullShare O ∗ owns (c : Thread nD τ) arg14 fullShare M ∗ owns (c : Thread nD τ) arg15 fullShare L ∗ owns (c : Thread nD τ) arg16 fullShare A
        ∗ (iprop(owns (c : Thread nD τ) arg8 fullShare X8 ∗ owns (c : Thread nD τ) arg10 fullShare X10 ∗ owns (c : Thread nD τ) arg11 fullShare X11 ∗ owns (c : Thread nD τ) arg12 fullShare (outV A L X8 M X11 X10) ∗ owns (c : Thread nD τ) arg14 fullShare M ∗ owns (c : Thread nD τ) arg15 fullShare L ∗ owns (c : Thread nD τ) arg16 fullShare A)
          -∗ wp frame (wpE (defs₀ (F := F)) Variants.none (c : Thread nD τ) none) E (k ⟨⟩) K))
      ⊢ wp frame (wpE (defs₀ (F := F)) Variants.none (c : Thread nD τ) none) E (finProg arg8 arg10 arg11 arg12 harg12 arg14 arg15 arg16 >>= k) K := by
  apply Own.seq (c := (c : Thread nD τ))
  unfold finProg rowsProg
  iintro ⟨H8, H10, H11, H12, H14, H15, H16, Hk⟩
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_full_k (c := (c : Thread nD τ))
  isplitl [H15]; · iexact H15
  iintro H15
  iapply Own.load_full_k (c := (c : Thread nD τ))
  isplitl [H8]; · iexact H8
  iintro H8
  iapply Own.load_k (c := (c : Thread nD τ)) (X := M)
  isplitl [H14]; · iexact H14
  iintro H14
  iapply Own.load_full_k (c := (c : Thread nD τ))
  isplitl [H11]; · iexact H11
  iintro H11
  iapply Own.load_full_k (c := (c : Thread nD τ))
  isplitl [H10]; · iexact H10
  iintro H10
  iapply Own.load_full_k (c := (c : Thread nD τ))
  isplitl [H12]; · iexact H12
  iintro H12
  iapply Own.store_full (c := (c : Thread nD τ))
  isplitl [H12]; · iexact H12
  iintro H12
  iapply Hk
  isplitl [H8]; · iexact H8
  isplitl [H10]; · iexact H10
  isplitl [H11]; · iexact H11
  isplitl [H12]
  · iexact H12
  isplitl [H14]; · iexact H14
  isplitl [H15]; · iexact H15
  iexact H16

end Steps

end Cert.KernelIdeal.Attend

end
-- ==== Proof.Attend.lean ====
/-
What the decode kernel's body does at one grid point, assembled: the scratches carried from point to point, the scores block
and the output block as functions of the point, the sequence's length and the windows' blocks.
-/
module

public import proofs.«01_k».proof.Proof.Body

@[expose] public section

noncomputable section

namespace Cert.KernelIdeal.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- What the kernel carries from point to point: the running maximum, the running denominator, the running weighted sum. -/
structure Scr (F : FTy → Type) where
  /-- the running maximum -/
  m : Vec F S32x128 .f32
  /-- the running denominator -/
  l : Vec F S32x128 .f32
  /-- the running weighted sum -/
  a : Vec F S1024x32 .f32

/-- The point's first position. -/
abbrev v2At (i : grid1.Coords) : BitVec 32 := Scalar.muli (BitVec.ofNat 32 (i 1).val) 2048#32

/-- The scratches after the first region. -/
def initS (i : grid1.Coords) (X8 : Vec F S32x1 .f32) (s : Scr F) : Scr F :=
  if cond1 i = 1#1 then ⟨m0B X8, l0B, a0B⟩ else s

/-- The scratches after the block's region. -/
def blockS (i : grid1.Coords) (v1 : BitVec 32) (X3 : Vec F S6x128x256 .bf16) (X4 : Vec F S1x8x6x128x128 .i8) (X5 : Vec F S1x8x2048 .bf16) (X6 : Vec F S1x8x64x2048 .i8) (X7 : Vec F S1x8x2048 .f32) (X9 : Vec F S32x1 .f32) (s : Scr F) : Scr F :=
  if k1_cond3 i v1 = 1#1 then
    ⟨shapeCast S32x128 (mNew (maskedB (v2At i) v1 X5 (rawB X3 X4) X9) s.m) shapeCasts_S32x128_S32x128, lNew (maskedB (v2At i) v1 X5 (rawB X3 X4) X9) s.m s.l, accB (alphaRow (maskedB (v2At i) v1 X5 (rawB X3 X4) X9) s.m) (pB (maskedB (v2At i) v1 X5 (rawB X3 X4) X9) s.m X7) X6 s.a⟩
  else s

/-- The scores block the point leaves. -/
def csOut (i : grid1.Coords) (v1 : BitVec 32) (X3 : Vec F S6x128x256 .bf16) (X4 : Vec F S1x8x6x128x128 .i8) (X5 : Vec F S1x8x2048 .bf16) (X9 : Vec F S32x1 .f32) : Vec F S1x32x2048 .f32 :=
  if k1_cond3 i v1 = 1#1 then csB (v2At i) v1 X5 (rawB X3 X4) X9 else zeroB

/-- The output block the point leaves. -/
def outOut (i : grid1.Coords) (X8 : Vec F S32x1 .f32) (X10 : Vec F S32x128 .f32) (X11 : Vec F S32x1 .f32) (s : Scr F) (X12 : Vec F S1x32x128 .bf16) : Vec F S1x32x128 .bf16 :=
  if k1_cond4 i = 1#1 then outV s.a s.l X8 s.m X11 X10 else X12

/-- A block is either inside the length or past it. -/
theorem cond2_of (i : grid1.Coords) (v1 : BitVec 32) (h : k1_cond3 i v1 ≠ 1#1) : k1_cond2 i v1 = 1#1 := by
  have hz : ∀ b : Bool, (IntOp.cmpi CmpIPredicate.ne (BitVec.setWidth 32 (BitVec.ofBool b)) 0#32 = 1#1) ↔ b = true := by decide
  unfold k1_cond3 at h
  unfold k1_cond2
  change ¬ (IntOp.cmpi CmpIPredicate.ne (BitVec.setWidth 32 (BitVec.ofBool ((v2At i).slt v1))) 0#32 = 1#1) at h
  change IntOp.cmpi CmpIPredicate.ne (BitVec.setWidth 32 (BitVec.ofBool (v1.sle (v2At i)))) 0#32 = 1#1
  rw [hz] at h ⊢
  revert h
  generalize v2At i = w
  intro h
  rw [BitVec.sle_iff_toInt_le]
  rw [BitVec.slt_iff_toInt_lt] at h
  omega

/-- The length the body reads: word `i 0` of the table. -/
abbrev lenAt (arg2 : Memref sig .tc .smem S6 .i32) {c : Dev nD} (i : grid1.Coords) (f : Buf (Elt F) (arg2.view.loc (c : Thread nD τ))) : BitVec 32 :=
  (arg2.access (Rect.unit (s := S6) (k1_off1 i) S1.size (k1_off1_inb i))).read (Elt F) f (Shape.Idx.first (numel1_S1.symm ▸ Nat.one_pos))

/-- The body as a chain of guarded regions. -/
theorem attendProg_eq (i : grid1.Coords) (arg2 : Memref sig .tc .smem S6 .i32) (arg3 : Memref sig .tc .vmem S6x128x256 .bf16) (arg4 : Memref sig .tc .vmem S1x8x6x128x128 .i8) (arg5 : Memref sig .tc .vmem S1x8x2048 .bf16) (arg6 : Memref sig .tc .vmem S1x8x64x2048 .i8) (arg7 : Memref sig .tc .vmem S1x8x2048 .f32) (arg8 : Memref sig .tc .vmem S32x1 .f32) (arg9 : Memref sig .tc .vmem S32x1 .f32) (arg10 : Memref sig .tc .vmem S32x128 .f32) (arg11 : Memref sig .tc .vmem S32x1 .f32) (arg12 : Memref sig .tc .vmem S1x32x128 .bf16) (harg12 : arg12.IsWhole) (arg13 : Memref sig .tc .vmem S1x32x2048 .f32) (arg14 : Memref sig .tc .vmem S32x128 .f32) (arg15 : Memref sig .tc .vmem S32x128 .f32) (arg16 : Memref sig .tc .vmem S1024x32 .f32) (arg17 : Memref sig .tc .vmem S32x2048 .bf16) (harg17 : arg17.IsWhole) :
    attendProg i arg2 arg3 arg4 arg5 arg6 arg7 arg8 arg9 arg10 arg11 arg12 harg12 arg13 arg14 arg15 arg16 arg17 harg17 (F := F)
      = (smemLoad arg2 (Rect.unit (s := S6) (k1_off1 i) S1.size (k1_off1_inb i)) numel1_S1 rfl >>= fun v1 =>
          Own.guarded (cond1 i = 1#1) (initProg arg8 arg14 arg15 arg16) >>= fun _ =>
          Own.guarded (k1_cond2 i v1 = 1#1) (skipProg arg13) >>= fun _ =>
          Own.guarded (k1_cond3 i v1 = 1#1) (blockProg (v2At i) v1 arg3 arg4 arg5 arg6 arg7 arg9 arg13 arg14 arg15 arg16 arg17 harg17) >>= fun _ =>
          Own.guarded (k1_cond4 i = 1#1) (finProg arg8 arg10 arg11 arg12 harg12 arg14 arg15 arg16) >>= fun _ => pure ⟨⟩) := by
  simp only [Own.guarded_bind]
  rfl

section Steps

variable {c : Dev nD} {E : Set ℕ} {β : Type}

/-- The first region. -/
theorem init_g {i : grid1.Coords} {arg8 : Memref sig .tc .vmem S32x1 .f32} {arg14 : Memref sig .tc .vmem S32x128 .f32} {arg15 : Memref sig .tc .vmem S32x128 .f32} {arg16 : Memref sig .tc .vmem S1024x32 .f32} {X8 : Vec F S32x1 .f32} {s : Scr F} {k : PUnit → Prog (TpuEff nD τ sig (Elt F) Λ₀ .tc) β} {K : β → sProp 𝕄} :
    iprop(owns (c : Thread nD τ) arg8 fullShare X8 ∗ owns (c : Thread nD τ) arg14 fullShare s.m ∗ owns (c : Thread nD τ) arg15 fullShare s.l ∗ owns (c : Thread nD τ) arg16 fullShare s.a ∗ (iprop(owns (c : Thread nD τ) arg8 fullShare X8 ∗ owns (c : Thread nD τ) arg14 fullShare (initS i X8 s).m ∗ owns (c : Thread nD τ) arg15 fullShare (initS i X8 s).l ∗ owns (c : Thread nD τ) arg16 fullShare (initS i X8 s).a) -∗ wp frame (wpE (defs₀ (F := F)) Variants.none (c : Thread nD τ) none) E (k ⟨⟩) K))
      ⊢ wp frame (wpE (defs₀ (F := F)) Variants.none (c : Thread nD τ) none) E (Own.guarded (cond1 i = 1#1) (initProg arg8 arg14 arg15 arg16) >>= k) K := by
  unfold initS Own.guarded
  split
  · exact init_k
  · iintro ⟨H8, H14, H15, H16, Hk⟩
    rw [pure_bind]
    iapply Hk
    isplitl [H8]; · iexact H8
    isplitl [H14]; · iexact H14
    isplitl [H15]; · iexact H15
    iexact H16

/-- The region of a block past the length. -/
theorem skip_g {i : grid1.Coords} {v1 : BitVec 32} {arg13 : Memref sig .tc .vmem S1x32x2048 .f32} {k : PUnit → Prog (TpuEff nD τ sig (Elt F) Λ₀ .tc) β} {K : β → sProp 𝕄} :
    iprop((∃ d, owns (c : Thread nD τ) arg13 fullShare d) ∗ ((∃ d, ⌜k1_cond3 i v1 ≠ 1#1 → d = zeroB⌝ ∗ owns (c : Thread nD τ) arg13 fullShare d) -∗ wp frame (wpE (defs₀ (F := F)) Variants.none (c : Thread nD τ) none) E (k ⟨⟩) K))
      ⊢ wp frame (wpE (defs₀ (F := F)) Variants.none (c : Thread nD τ) none) E (Own.guarded (k1_cond2 i v1 = 1#1) (skipProg arg13) >>= k) K := by
  unfold Own.guarded
  split
  · iintro ⟨⟨%d, H⟩, Hk⟩
    iapply skip_k (R := d)
    isplitl [H]; · iexact H
    iintro H
    iapply Hk
    iexists zeroB
    isplitr; · ipureintro; exact fun _ => rfl
    iexact H
  · rename_i h2
    iintro ⟨⟨%d, H⟩, Hk⟩
    rw [pure_bind]
    iapply Hk
    iexists d
    isplitr; · ipureintro; exact fun h => absurd (cond2_of i v1 h) h2
    iexact H

/-- The block's region. -/
theorem block_g {i : grid1.Coords} {v1 : BitVec 32} {arg3 : Memref sig .tc .vmem S6x128x256 .bf16} {arg4 : Memref sig .tc .vmem S1x8x6x128x128 .i8} {arg5 : Memref sig .tc .vmem S1x8x2048 .bf16} {arg6 : Memref sig .tc .vmem S1x8x64x2048 .i8} {arg7 : Memref sig .tc .vmem S1x8x2048 .f32} {arg9 : Memref sig .tc .vmem S32x1 .f32} {arg13 : Memref sig .tc .vmem S1x32x2048 .f32} {arg14 : Memref sig .tc .vmem S32x128 .f32} {arg15 : Memref sig .tc .vmem S32x128 .f32} {arg16 : Memref sig .tc .vmem S1024x32 .f32} {arg17 : Memref sig .tc .vmem S32x2048 .bf16} {harg17 : arg17.IsWhole} {X3 : Vec F S6x128x256 .bf16} {X4 : Vec F S1x8x6x128x128 .i8} {X5 : Vec F S1x8x2048 .bf16} {X6 : Vec F S1x8x64x2048 .i8} {X7 : Vec F S1x8x2048 .f32} {X9 : Vec F S32x1 .f32} {s : Scr F} {k : PUnit → Prog (TpuEff nD τ sig (Elt F) Λ₀ .tc) β} {K : β → sProp 𝕄} :
    iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg9 fullShare X9 ∗ (∃ d, ⌜k1_cond3 i v1 ≠ 1#1 → d = zeroB⌝ ∗ owns (c : Thread nD τ) arg13 fullShare d) ∗ owns (c : Thread nD τ) arg14 fullShare s.m ∗ owns (c : Thread nD τ) arg15 fullShare s.l ∗ owns (c : Thread nD τ) arg16 fullShare s.a ∗ (∃ d, owns (c : Thread nD τ) arg17 fullShare d)
      ∗ (iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg9 fullShare X9 ∗ owns (c : Thread nD τ) arg13 fullShare (csOut i v1 X3 X4 X5 X9) ∗ owns (c : Thread nD τ) arg14 fullShare (blockS i v1 X3 X4 X5 X6 X7 X9 s).m ∗ owns (c : Thread nD τ) arg15 fullShare (blockS i v1 X3 X4 X5 X6 X7 X9 s).l ∗ owns (c : Thread nD τ) arg16 fullShare (blockS i v1 X3 X4 X5 X6 X7 X9 s).a ∗ (∃ d, owns (c : Thread nD τ) arg17 fullShare d)) -∗ wp frame (wpE (defs₀ (F := F)) Variants.none (c : Thread nD τ) none) E (k ⟨⟩) K))
      ⊢ wp frame (wpE (defs₀ (F := F)) Variants.none (c : Thread nD τ) none) E (Own.guarded (k1_cond3 i v1 = 1#1) (blockProg (v2At i) v1 arg3 arg4 arg5 arg6 arg7 arg9 arg13 arg14 arg15 arg16 arg17 harg17) >>= k) K := by
  unfold blockS csOut Own.guarded
  split
  · iintro ⟨H3, H4, H5, H6, H7, H9, ⟨%d, -, H13⟩, H14, H15, H16, ⟨%P, H17⟩, Hk⟩
    unfold blockProg
    rw [bind_assoc]
    iapply tiles_k (X3 := X3) (X4 := X4)
    isplitl [H3]; · iexact H3
    isplitl [H4]; · iexact H4
    isplitl [H13]; · iexists d; iexact H13
    iintro ⟨H3, H4, H13⟩
    iapply tail_k (X5 := X5) (X6 := X6) (X7 := X7) (X9 := X9) (R := rawB X3 X4) (M := s.m) (L := s.l) (A := s.a) (P := P)
    isplitl [H5]; · iexact H5
    isplitl [H6]; · iexact H6
    isplitl [H7]; · iexact H7
    isplitl [H9]; · iexact H9
    isplitl [H13]; · iexact H13
    isplitl [H14]; · iexact H14
    isplitl [H15]; · iexact H15
    isplitl [H16]; · iexact H16
    isplitl [H17]; · iexact H17
    iintro ⟨H5, H6, H7, H9, H13, H14, H15, H16, H17⟩
    iapply Hk
    isplitl [H3]; · iexact H3
    isplitl [H4]; · iexact H4
    isplitl [H5]; · iexact H5
    isplitl [H6]; · iexact H6
    isplitl [H7]; · iexact H7
    isplitl [H9]; · iexact H9
    isplitl [H13]; · iexact H13
    isplitl [H14]; · iexact H14
    isplitl [H15]; · iexact H15
    isplitl [H16]; · iexact H16
    iexists _; iexact H17
  · rename_i h3
    iintro ⟨H3, H4, H5, H6, H7, H9, ⟨%d, %hd, H13⟩, H14, H15, H16, ⟨%P, H17⟩, Hk⟩
    obtain rfl := hd h3
    rw [pure_bind]
    iapply Hk
    isplitl [H3]; · iexact H3
    isplitl [H4]; · iexact H4
    isplitl [H5]; · iexact H5
    isplitl [H6]; · iexact H6
    isplitl [H7]; · iexact H7
    isplitl [H9]; · iexact H9
    isplitl [H13]; · iexact H13
    isplitl [H14]; · iexact H14
    isplitl [H15]; · iexact H15
    isplitl [H16]; · iexact H16
    iexists _; iexact H17

/-- The last region. -/
theorem fin_g {i : grid1.Coords} {arg8 : Memref sig .tc .vmem S32x1 .f32} {arg10 : Memref sig .tc .vmem S32x128 .f32} {arg11 : Memref sig .tc .vmem S32x1 .f32} {arg12 : Memref sig .tc .vmem S1x32x128 .bf16} {arg14 : Memref sig .tc .vmem S32x128 .f32} {arg15 : Memref sig .tc .vmem S32x128 .f32} {arg16 : Memref sig .tc .vmem S1024x32 .f32} {harg12 : arg12.IsWhole} {X8 : Vec F S32x1 .f32} {X10 : Vec F S32x128 .f32} {X11 : Vec F S32x1 .f32} {X12 : Vec F S1x32x128 .bf16} {s : Scr F} {k : PUnit → Prog (TpuEff nD τ sig (Elt F) Λ₀ .tc) β} {K : β → sProp 𝕄} :
    iprop(owns (c : Thread nD τ) arg8 fullShare X8 ∗ owns (c : Thread nD τ) arg10 fullShare X10 ∗ owns (c : Thread nD τ) arg11 fullShare X11 ∗ owns (c : Thread nD τ) arg12 fullShare X12 ∗ owns (c : Thread nD τ) arg14 fullShare s.m ∗ owns (c : Thread nD τ) arg15 fullShare s.l ∗ owns (c : Thread nD τ) arg16 fullShare s.a
      ∗ (iprop(owns (c : Thread nD τ) arg8 fullShare X8 ∗ owns (c : Thread nD τ) arg10 fullShare X10 ∗ owns (c : Thread nD τ) arg11 fullShare X11 ∗ owns (c : Thread nD τ) arg12 fullShare (outOut i X8 X10 X11 s X12) ∗ owns (c : Thread nD τ) arg14 fullShare s.m ∗ owns (c : Thread nD τ) arg15 fullShare s.l ∗ owns (c : Thread nD τ) arg16 fullShare s.a) -∗ wp frame (wpE (defs₀ (F := F)) Variants.none (c : Thread nD τ) none) E (k ⟨⟩) K))
      ⊢ wp frame (wpE (defs₀ (F := F)) Variants.none (c : Thread nD τ) none) E (Own.guarded (k1_cond4 i = 1#1) (finProg arg8 arg10 arg11 arg12 harg12 arg14 arg15 arg16) >>= k) K := by
  unfold outOut Own.guarded
  split
  · exact fin_k
  · iintro ⟨H8, H10, H11, H12, H14, H15, H16, Hk⟩
    rw [pure_bind]
    iapply Hk
    isplitl [H8]; · iexact H8
    isplitl [H10]; · iexact H10
    isplitl [H11]; · iexact H11
    isplitl [H12]; · iexact H12
    isplitl [H14]; · iexact H14
    isplitl [H15]; · iexact H15
    iexact H16

/-- The scratches the point leaves. -/
abbrev stepS (i : grid1.Coords) (v1 : BitVec 32) (X3 : Vec F S6x128x256 .bf16) (X4 : Vec F S1x8x6x128x128 .i8) (X5 : Vec F S1x8x2048 .bf16) (X6 : Vec F S1x8x64x2048 .i8) (X7 : Vec F S1x8x2048 .f32) (X8 : Vec F S32x1 .f32) (X9 : Vec F S32x1 .f32) (s : Scr F) : Scr F :=
  blockS i v1 X3 X4 X5 X6 X7 X9 (initS i X8 s)

/-- The load of the sequence's length. -/
theorem len_k {i : grid1.Coords} {arg2 : Memref sig .tc .smem S6 .i32} {q : PosShare TreeShare} {f : Buf (Elt F) (arg2.view.loc (c : Thread nD τ))}
    {k : BitVec 32 → Prog (TpuEff nD τ sig (Elt F) Λ₀ .tc) β} {K : β → sProp 𝕄} :
    iprop((arg2.view.loc (c : Thread nD τ) ↦{q} f) ∗ ((arg2.view.loc (c : Thread nD τ) ↦{q} f) -∗ wp frame (wpE (defs₀ (F := F)) Variants.none (c : Thread nD τ) none) E (k (lenAt arg2 i f)) K))
      ⊢ wp frame (wpE (defs₀ (F := F)) Variants.none (c : Thread nD τ) none) E ((smemLoad arg2 (Rect.unit (s := S6) (k1_off1 i) S1.size (k1_off1_inb i)) numel1_S1 rfl : Prog (TpuEff nD τ sig (Elt F) Λ₀ .tc) (Elt F .i32)) >>= k) K := by
  apply Own.seq (c := (c : Thread nD τ))
  unfold smemLoad
  iintro ⟨H2, Hk⟩
  iapply (wp_smemLoadElt (defs := defs₀ (F := F)) Variants.none (c : Thread nD τ) none E (m := arg2) (r := Rect.unit (s := S6) (k1_off1 i) S1.size (k1_off1_inb i))
    (x := Shape.Idx.first (numel1_S1.symm ▸ Nat.one_pos)) (S := Finset.univ) (q := q) (f := f) (Finset.subset_univ _)) $$ H2
  iintro H2
  iapply Own.ret (c := (c : Thread nD τ))
  iapply Hk
  iexact H2

/-- The whole body at one point. -/
theorem attend_wp {i : grid1.Coords} {arg2 : Memref sig .tc .smem S6 .i32} {arg3 : Memref sig .tc .vmem S6x128x256 .bf16} {arg4 : Memref sig .tc .vmem S1x8x6x128x128 .i8} {arg5 : Memref sig .tc .vmem S1x8x2048 .bf16} {arg6 : Memref sig .tc .vmem S1x8x64x2048 .i8} {arg7 : Memref sig .tc .vmem S1x8x2048 .f32} {arg8 : Memref sig .tc .vmem S32x1 .f32} {arg9 : Memref sig .tc .vmem S32x1 .f32} {arg10 : Memref sig .tc .vmem S32x128 .f32} {arg11 : Memref sig .tc .vmem S32x1 .f32} {arg12 : Memref sig .tc .vmem S1x32x128 .bf16} {arg13 : Memref sig .tc .vmem S1x32x2048 .f32} {arg14 : Memref sig .tc .vmem S32x128 .f32} {arg15 : Memref sig .tc .vmem S32x128 .f32} {arg16 : Memref sig .tc .vmem S1024x32 .f32} {arg17 : Memref sig .tc .vmem S32x2048 .bf16} {harg12 : arg12.IsWhole} {harg17 : arg17.IsWhole} {X3 : Vec F S6x128x256 .bf16} {X4 : Vec F S1x8x6x128x128 .i8} {X5 : Vec F S1x8x2048 .bf16} {X6 : Vec F S1x8x64x2048 .i8} {X7 : Vec F S1x8x2048 .f32} {X8 : Vec F S32x1 .f32} {X9 : Vec F S32x1 .f32} {X10 : Vec F S32x128 .f32} {X11 : Vec F S32x1 .f32} {X12 : Vec F S1x32x128 .bf16} {s : Scr F}
    {q : PosShare TreeShare} {f : Buf (Elt F) (arg2.view.loc (c : Thread nD τ))} {K : PUnit → sProp 𝕄} :
    iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ (∃ d, owns (c : Thread nD τ) arg13 fullShare d) ∗ owns (c : Thread nD τ) arg14 fullShare s.m ∗ owns (c : Thread nD τ) arg15 fullShare s.l ∗ owns (c : Thread nD τ) arg16 fullShare s.a ∗ (∃ d, owns (c : Thread nD τ) arg17 fullShare d) ∗ (arg2.view.loc (c : Thread nD τ) ↦{q} f)
      ∗ (iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare (outOut i X8 X10 X11 (stepS i (lenAt arg2 i f) X3 X4 X5 X6 X7 X8 X9 s) X12) ∗ owns (c : Thread nD τ) arg13 fullShare (csOut i (lenAt arg2 i f) X3 X4 X5 X9) ∗ owns (c : Thread nD τ) arg14 fullShare (stepS i (lenAt arg2 i f) X3 X4 X5 X6 X7 X8 X9 s).m ∗ owns (c : Thread nD τ) arg15 fullShare (stepS i (lenAt arg2 i f) X3 X4 X5 X6 X7 X8 X9 s).l ∗ owns (c : Thread nD τ) arg16 fullShare (stepS i (lenAt arg2 i f) X3 X4 X5 X6 X7 X8 X9 s).a ∗ (∃ d, owns (c : Thread nD τ) arg17 fullShare d) ∗ (arg2.view.loc (c : Thread nD τ) ↦{q} f)) -∗ K ⟨⟩))
      ⊢ wp frame (wpE (defs₀ (F := F)) Variants.none (c : Thread nD τ) none) E (attendProg i arg2 arg3 arg4 arg5 arg6 arg7 arg8 arg9 arg10 arg11 arg12 harg12 arg13 arg14 arg15 arg16 arg17 harg17) K := by
  rw [attendProg_eq]
  iintro ⟨H3, H4, H5, H6, H7, H8, H9, H10, H11, H12, H13, H14, H15, H16, H17, H2, Hk⟩
  iapply len_k
  isplitl [H2]; · iexact H2
  iintro H2
  iapply init_g (X8 := X8) (s := s)
  isplitl [H8]; · iexact H8
  isplitl [H14]; · iexact H14
  isplitl [H15]; · iexact H15
  isplitl [H16]; · iexact H16
  iintro ⟨H8, H14, H15, H16⟩
  iapply skip_g (v1 := lenAt arg2 i f)
  isplitl [H13]; · iexact H13
  iintro H13
  iapply block_g (X3 := X3) (X4 := X4) (X5 := X5) (X6 := X6) (X7 := X7) (X9 := X9) (s := initS i X8 s)
  isplitl [H3]; · iexact H3
  isplitl [H4]; · iexact H4
  isplitl [H5]; · iexact H5
  isplitl [H6]; · iexact H6
  isplitl [H7]; · iexact H7
  isplitl [H9]; · iexact H9
  isplitl [H13]; · iexact H13
  isplitl [H14]; · iexact H14
  isplitl [H15]; · iexact H15
  isplitl [H16]; · iexact H16
  isplitl [H17]; · iexact H17
  iintro ⟨H3, H4, H5, H6, H7, H9, H13, H14, H15, H16, H17⟩
  iapply fin_g (X8 := X8) (X10 := X10) (X11 := X11) (X12 := X12) (s := stepS i (lenAt arg2 i f) X3 X4 X5 X6 X7 X8 X9 s)
  isplitl [H8]; · iexact H8
  isplitl [H10]; · iexact H10
  isplitl [H11]; · iexact H11
  isplitl [H12]; · iexact H12
  isplitl [H14]; · iexact H14
  isplitl [H15]; · iexact H15
  isplitl [H16]; · iexact H16
  iintro ⟨H8, H10, H11, H12, H14, H15, H16⟩
  iapply Own.ret (c := (c : Thread nD τ))
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H2

end Steps

end Cert.KernelIdeal.Attend

end
-- ==== Proof.RolledEq.lean ====
/-
The printed body of the decode kernel is the rolled one.
-/
module

public import proofs.«01_k».proof.Proof.Rolled

@[expose] public section

noncomputable section

namespace Cert.KernelIdeal.Attend

open Idealize.ShloMosaic Idealize.SL.Sem Cert.KernelIdeal Cert.KernelIdeal.Gen

variable {F : FTy → Type} [FloatOps F]

set_option maxRecDepth 1000000 in
/-- The printed body and the rolled one are the same program. -/
theorem cc1_attend_eq (i : grid1.Coords) (arg2 : Memref sig .tc .smem S6 .i32) (harg2 : arg2.IsWhole) (arg3 : Memref sig .tc .vmem S6x128x256 .bf16) (harg3 : arg3.IsWhole) (arg4 : Memref sig .tc .vmem S1x8x6x128x128 .i8) (harg4 : arg4.IsWhole) (arg5 : Memref sig .tc .vmem S1x8x2048 .bf16) (harg5 : arg5.IsWhole) (arg6 : Memref sig .tc .vmem S1x8x64x2048 .i8) (harg6 : arg6.IsWhole) (arg7 : Memref sig .tc .vmem S1x8x2048 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S32x128 .f32) (harg10 : arg10.IsWhole) (arg11 : Memref sig .tc .vmem S32x1 .f32) (harg11 : arg11.IsWhole) (arg12 : Memref sig .tc .vmem S1x32x128 .bf16) (harg12 : arg12.IsWhole) (arg13 : Memref sig .tc .vmem S1x32x2048 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S1024x32 .f32) (harg16 : arg16.IsWhole) (arg17 : Memref sig .tc .vmem S32x2048 .bf16) (harg17 : arg17.IsWhole) :
    cc1_attend (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = attendProg i arg2 arg3 arg4 arg5 arg6 arg7 arg8 arg9 arg10 arg11 arg12 harg12 arg13 arg14 arg15 arg16 arg17 harg17 := by
  chain_rfl

end Cert.KernelIdeal.Attend

end
-- ==== Proof.Region1.lean ====
/-
The decode call: what its windows hold at every grid point, what it carries from point to point, and the body's obligation.
-/
module

public import proofs.«01_k».proof.Proof.Attend
public import proofs.«01_k».proof.Proof.RolledEq
public import proofs.«01_k».proof.Proof.Gen.KernelIdeal.Launch
public import Idealize.ShloMosaic.Lib.Pipeline.FrameBody
public import Idealize.ShloMosaic.Lib.Pipeline.RegionsLoop
public import Idealize.ShloMosaic.Lib.Pipeline.FrameSuffix
public import Idealize.ShloMosaic.Lib.Pipeline.RegionArraysTS
public import Idealize.ShloMosaic.Lib.Ring
public import Idealize.ShloMosaic.Lib.Tactic
public import Idealize.ShloMosaic.Lib.WordCmp

@[expose] public section

set_option maxRecDepth 16384

noncomputable section

namespace Cert.KernelIdeal.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the call is entered, and the table's contents
variable (V : (c : Dev nD) → (b : Ref sig .tc) → Buf (Elt F) ((c : Thread nD τ).loc b)) (a : (pcfg1 (F := F)).Adm)

/-! ## Schedules and conditions -/

/-- The output block is written back at the last point of a sequence. -/
theorem flush1_9 : ∀ t : Fin (cfg1 a).N, ((cfg1 a).win 9).flush t = true ↔ t.val % 8 = 7 :=
  (fun t => Pipeline.Window.flushOf_reads cc1_transform_9 reads1_9 hreads1_9 0 (by decide) (by decide) (Pipeline.Window.sep_of_coord cc1_transform_9 0 0 (fun _ => rfl) (by decide)) (P := 8) (m := 7) (by decide) rfl t : ∀ t : Fin grid1.N, Pipeline.Window.flushOf grid1 true cc1_transform_9 t = true ↔ t.val % 8 = 7)

theorem cond1_iff : ∀ t : Fin grid1.N, cond1 (grid1.coords t) = 1#1 ↔ t.val % 8 = 0 := fun t => by
  have ht : t.val < 48 := Nat.lt_of_lt_of_eq t.isLt N_1
  have e0 : (grid1.coords t 0).val = t.val / 8 % 6 := Pipeline.Grid.coords_val t 0 (by decide) rfl
  have e1 : (grid1.coords t 1).val = t.val / 1 % 8 := Pipeline.Grid.coords_val t 1 (by decide) rfl
  simp only [cond1, e0, e1]
  word_cmp

theorem cond4_iff : ∀ t : Fin grid1.N, k1_cond4 (grid1.coords t) = 1#1 ↔ t.val % 8 = 7 := fun t => by
  have ht : t.val < 48 := Nat.lt_of_lt_of_eq t.isLt N_1
  have e0 : (grid1.coords t 0).val = t.val / 8 % 6 := Pipeline.Grid.coords_val t 0 (by decide) rfl
  have e1 : (grid1.coords t 1).val = t.val / 1 % 8 := Pipeline.Grid.coords_val t 1 (by decide) rfl
  simp only [k1_cond4, e0, e1]
  word_cmp

/-! ## The windows' blocks -/

/-- Window `w`'s block at point `t`, read off its array as the call finds it. -/
def iblk (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

theorem before_0_of {c : Dev nD} (dat : Dat τ (Elt F) Unit ℕ (UR sig nD τ) ℕ (cfg1 a) c) (hA : dat.A 0 = V c (Pipeline.arrRef spec1 0))
    (hafter : ∀ t, dat.after 0 t = iblk V a c 0 t) (t : Fin (cfg1 a).N) (d) : dat.before 0 t d = iblk V a c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
abbrev b0 (c : Dev nD) (t : Fin (cfg1 a).N) : Vec F S6x128x256 .bf16 := iblk V a c 0 t

theorem before_1_of {c : Dev nD} (dat : Dat τ (Elt F) Unit ℕ (UR sig nD τ) ℕ (cfg1 a) c) (hA : dat.A 1 = V c (Pipeline.arrRef spec1 1))
    (hafter : ∀ t, dat.after 1 t = iblk V a c 1 t) (t : Fin (cfg1 a).N) (d) : dat.before 1 t d = iblk V a c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
abbrev b1 (c : Dev nD) (t : Fin (cfg1 a).N) : Vec F S1x8x6x128x128 .i8 := iblk V a c 1 t

theorem before_2_of {c : Dev nD} (dat : Dat τ (Elt F) Unit ℕ (UR sig nD τ) ℕ (cfg1 a) c) (hA : dat.A 2 = V c (Pipeline.arrRef spec1 2))
    (hafter : ∀ t, dat.after 2 t = iblk V a c 2 t) (t : Fin (cfg1 a).N) (d) : dat.before 2 t d = iblk V a c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
abbrev b2 (c : Dev nD) (t : Fin (cfg1 a).N) : Vec F S1x8x2048 .bf16 := iblk V a c 2 t

theorem before_3_of {c : Dev nD} (dat : Dat τ (Elt F) Unit ℕ (UR sig nD τ) ℕ (cfg1 a) c) (hA : dat.A 3 = V c (Pipeline.arrRef spec1 3))
    (hafter : ∀ t, dat.after 3 t = iblk V a c 3 t) (t : Fin (cfg1 a).N) (d) : dat.before 3 t d = iblk V a c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
abbrev b3 (c : Dev nD) (t : Fin (cfg1 a).N) : Vec F S1x8x64x2048 .i8 := iblk V a c 3 t

theorem before_4_of {c : Dev nD} (dat : Dat τ (Elt F) Unit ℕ (UR sig nD τ) ℕ (cfg1 a) c) (hA : dat.A 4 = V c (Pipeline.arrRef spec1 4))
    (hafter : ∀ t, dat.after 4 t = iblk V a c 4 t) (t : Fin (cfg1 a).N) (d) : dat.before 4 t d = iblk V a c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
abbrev b4 (c : Dev nD) (t : Fin (cfg1 a).N) : Vec F S1x8x2048 .f32 := iblk V a c 4 t

theorem before_5_of {c : Dev nD} (dat : Dat τ (Elt F) Unit ℕ (UR sig nD τ) ℕ (cfg1 a) c) (hA : dat.A 5 = V c (Pipeline.arrRef spec1 5))
    (hafter : ∀ t, dat.after 5 t = iblk V a c 5 t) (t : Fin (cfg1 a).N) (d) : dat.before 5 t d = iblk V a c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
abbrev b5 (c : Dev nD) (t : Fin (cfg1 a).N) : Vec F S32x1 .f32 := iblk V a c 5 t

theorem before_6_of {c : Dev nD} (dat : Dat τ (Elt F) Unit ℕ (UR sig nD τ) ℕ (cfg1 a) c) (hA : dat.A 6 = V c (Pipeline.arrRef spec1 6))
    (hafter : ∀ t, dat.after 6 t = iblk V a c 6 t) (t : Fin (cfg1 a).N) (d) : dat.before 6 t d = iblk V a c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
abbrev b6 (c : Dev nD) (t : Fin (cfg1 a).N) : Vec F S32x1 .f32 := iblk V a c 6 t

theorem before_7_of {c : Dev nD} (dat : Dat τ (Elt F) Unit ℕ (UR sig nD τ) ℕ (cfg1 a) c) (hA : dat.A 7 = V c (Pipeline.arrRef spec1 7))
    (hafter : ∀ t, dat.after 7 t = iblk V a c 7 t) (t : Fin (cfg1 a).N) (d) : dat.before 7 t d = iblk V a c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
abbrev b7 (c : Dev nD) (t : Fin (cfg1 a).N) : Vec F S32x128 .f32 := iblk V a c 7 t

theorem before_8_of {c : Dev nD} (dat : Dat τ (Elt F) Unit ℕ (UR sig nD τ) ℕ (cfg1 a) c) (hA : dat.A 8 = V c (Pipeline.arrRef spec1 8))
    (hafter : ∀ t, dat.after 8 t = iblk V a c 8 t) (t : Fin (cfg1 a).N) (d) : dat.before 8 t d = iblk V a c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
abbrev b8 (c : Dev nD) (t : Fin (cfg1 a).N) : Vec F S32x1 .f32 := iblk V a c 8 t

/-- The table as the body is handed it. -/
abbrev tb : Memref sig .tc .smem S6 .i32 := Memref.whole main_arg8

/-- The length the body reads at a point. -/
abbrev len (c : Dev nD) (t : Fin (cfg1 a).N) : BitVec 32 := lenAt tb (c := c) (grid1.coords t) (a.1 0)

/-! ## What is carried -/

/-- One point's change of the carried values. -/
def stepAt (c : Dev nD) (t : Fin (cfg1 a).N) (s : Scr F) : Scr F :=
  stepS (grid1.coords t) (len a c t) (b0 V a c t) (b1 V a c t) (b2 V a c t) (b3 V a c t) (b4 V a c t) (b5 V a c t) (b6 V a c t) s

/-- The carried values after the first `n` points (before the first: anything). -/
def stAt (c : Dev nD) : ℕ → Scr F
  | 0 => ⟨l0B, l0B, a0B⟩
  | n + 1 => if h : n < (cfg1 a).N then stepAt V a c ⟨n, h⟩ (stAt c n) else stAt c n

theorem stAt_succ (c : Dev nD) (t : Fin (cfg1 a).N) : stAt V a c (t.val + 1) = stepAt V a c t (stAt V a c t.val) := by
  show (if h : t.val < (cfg1 a).N then _ else _) = _
  rw [dif_pos t.isLt]

/-- The first point of a sequence forgets what was carried. -/
theorem stepAt_first (c : Dev nD) (t : Fin (cfg1 a).N) (ht : t.val % 8 = 0) (s s' : Scr F) : stepAt V a c t s = stepAt V a c t s' := by
  unfold stepAt stepS initS
  rw [if_pos ((cond1_iff t).mpr ht), if_pos ((cond1_iff t).mpr ht)]

/-! ## The invariant -/

abbrev sc0 : Memref sig .tc .vmem S32x128 .f32 := Memref.whole cc1_scratch0
abbrev sc1 : Memref sig .tc .vmem S32x128 .f32 := Memref.whole cc1_scratch1
abbrev sc2 : Memref sig .tc .vmem S1024x32 .f32 := Memref.whole cc1_scratch2
abbrev sc3 : Memref sig .tc .vmem S32x2048 .bf16 := Memref.whole cc1_scratch3

/-- The other call's buffers, at anything. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f))

theorem assoc_eq {M : Type _} [RA M] (P Q R : sProp M) : iprop((P ∗ Q) ∗ R) = iprop(P ∗ Q ∗ R) :=
  Idealize.SL.BI.equiv_iff.mp ⟨Idealize.SL.BI.sep_assoc, Idealize.SL.BI.sep_assoc'⟩

/-- The scoped buffers no window of the call stages: the other call's, and the four scratches. -/
theorem scoped_split (c : Dev nD) : (Pipeline.scopedRest spec1 c : sProp 𝕄)
    = iprop(others c ∗ (∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) := by
  rw [scopedRest1_eq]
  simp only [sc0, sc1, sc2, sc3, owns_whole]
  unfold others
  simp only [assoc_eq]
  try rfl

/-- The table at its contents. -/
abbrev tbl (c : Dev nD) : sProp 𝕄 := tb.view.loc (c : Thread nD τ) ↦{fullShare} (a.1 0)

theorem tables_eq (c : Dev nD) : (Pipeline.prefHeld pre1 c (fun _ => fullShare) a.1 : sProp 𝕄) = tbl a c := by
  unfold Pipeline.prefHeld
  rw [show (Finset.univ : Finset (Fin 1)) = {(0 : Fin 1)} from by decide, bigSep_singleton]
  rfl

/-- Between points: the carried scratches at what the points so far left (before the first: at anything). -/
def Inv (c : Dev nD) (n : ℕ) : sProp 𝕄 :=
  iprop(∃ s : Scr F, ⌜n = 0 ∨ s = stAt V a c n⌝ ∗ owns (c : Thread nD τ) sc0 fullShare s.m ∗ owns (c : Thread nD τ) sc1 fullShare s.l ∗ owns (c : Thread nD τ) sc2 fullShare s.a
    ∗ (∃ d, owns (c : Thread nD τ) sc3 fullShare d) ∗ others c ∗ (∃ r, prngReg c r) ∗ tbl a c)

/-- The output block a last point leaves. -/
def outAt (c : Dev nD) (t : Fin (cfg1 a).N) : Vec F S1x32x128 .bf16 :=
  outV (stAt V a c (t.val + 1)).a (stAt V a c (t.val + 1)).l (b5 V a c t) (stAt V a c (t.val + 1)).m (b8 V a c t) (b7 V a c t)

/-- The scores block a point leaves. -/
def csAt (c : Dev nD) (t : Fin (cfg1 a).N) : Vec F S1x32x2048 .f32 :=
  csOut (grid1.coords t) (len a c t) (b0 V a c t) (b1 V a c t) (b2 V a c t) (b6 V a c t)

/-- The call's proof data. -/
def dat1 (c : Dev nD) : Dat τ (Elt F) Unit ℕ (UR sig nD τ) ℕ (cfg1 a) c where
  A w := V c (Pipeline.arrRef spec1 w)
  after w t := match w with

    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => iblk V a c 5 t
    | ⟨6, _⟩ => iblk V a c 6 t
    | ⟨7, _⟩ => iblk V a c 7 t
    | ⟨8, _⟩ => iblk V a c 8 t
    | ⟨9, _⟩ => outAt V a c t
    | ⟨10, _⟩ => csAt V a c t
  Φ t := Inv V a c t.val
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk V a c 0 t := by dsimp only [dat1]; try rfl
theorem before1_0 (c : Dev nD) (t : Fin (cfg1 a).N) (d) : (dat1 V a c).before 0 t d = iblk V a c 0 t :=
  before_0_of V a (dat1 V a c) (A_eq1 V a c 0) (after1_0 V a c) t d
theorem after1_1 (c : Dev nD) (t : Fin (cfg1 a).N) : (dat1 V a c).after 1 t = iblk V a c 1 t := by dsimp only [dat1]; try rfl
theorem before1_1 (c : Dev nD) (t : Fin (cfg1 a).N) (d) : (dat1 V a c).before 1 t d = iblk V a c 1 t :=
  before_1_of V a (dat1 V a c) (A_eq1 V a c 1) (after1_1 V a c) t d
theorem after1_2 (c : Dev nD) (t : Fin (cfg1 a).N) : (dat1 V a c).after 2 t = iblk V a c 2 t := by dsimp only [dat1]; try rfl
theorem before1_2 (c : Dev nD) (t : Fin (cfg1 a).N) (d) : (dat1 V a c).before 2 t d = iblk V a c 2 t :=
  before_2_of V a (dat1 V a c) (A_eq1 V a c 2) (after1_2 V a c) t d
theorem after1_3 (c : Dev nD) (t : Fin (cfg1 a).N) : (dat1 V a c).after 3 t = iblk V a c 3 t := by dsimp only [dat1]; try rfl
theorem before1_3 (c : Dev nD) (t : Fin (cfg1 a).N) (d) : (dat1 V a c).before 3 t d = iblk V a c 3 t :=
  before_3_of V a (dat1 V a c) (A_eq1 V a c 3) (after1_3 V a c) t d
theorem after1_4 (c : Dev nD) (t : Fin (cfg1 a).N) : (dat1 V a c).after 4 t = iblk V a c 4 t := by dsimp only [dat1]; try rfl
theorem before1_4 (c : Dev nD) (t : Fin (cfg1 a).N) (d) : (dat1 V a c).before 4 t d = iblk V a c 4 t :=
  before_4_of V a (dat1 V a c) (A_eq1 V a c 4) (after1_4 V a c) t d
theorem after1_5 (c : Dev nD) (t : Fin (cfg1 a).N) : (dat1 V a c).after 5 t = iblk V a c 5 t := by dsimp only [dat1]; try rfl
theorem before1_5 (c : Dev nD) (t : Fin (cfg1 a).N) (d) : (dat1 V a c).before 5 t d = iblk V a c 5 t :=
  before_5_of V a (dat1 V a c) (A_eq1 V a c 5) (after1_5 V a c) t d
theorem after1_6 (c : Dev nD) (t : Fin (cfg1 a).N) : (dat1 V a c).after 6 t = iblk V a c 6 t := by dsimp only [dat1]; try rfl
theorem before1_6 (c : Dev nD) (t : Fin (cfg1 a).N) (d) : (dat1 V a c).before 6 t d = iblk V a c 6 t :=
  before_6_of V a (dat1 V a c) (A_eq1 V a c 6) (after1_6 V a c) t d
theorem after1_7 (c : Dev nD) (t : Fin (cfg1 a).N) : (dat1 V a c).after 7 t = iblk V a c 7 t := by dsimp only [dat1]; try rfl
theorem before1_7 (c : Dev nD) (t : Fin (cfg1 a).N) (d) : (dat1 V a c).before 7 t d = iblk V a c 7 t :=
  before_7_of V a (dat1 V a c) (A_eq1 V a c 7) (after1_7 V a c) t d
theorem after1_8 (c : Dev nD) (t : Fin (cfg1 a).N) : (dat1 V a c).after 8 t = iblk V a c 8 t := by dsimp only [dat1]; try rfl
theorem before1_8 (c : Dev nD) (t : Fin (cfg1 a).N) (d) : (dat1 V a c).before 8 t d = iblk V a c 8 t :=
  before_8_of V a (dat1 V a c) (A_eq1 V a c 8) (after1_8 V a c) t d
theorem after1_9 (c : Dev nD) (t : Fin (cfg1 a).N) : (dat1 V a c).after 9 t = outAt V a c t := by dsimp only [dat1]; try rfl
theorem after1_10 (c : Dev nD) (t : Fin (cfg1 a).N) : (dat1 V a c).after 10 t = csAt V a c t := by dsimp only [dat1]; try rfl

/-! ## The body at a point -/

abbrev ms0 (t : Fin (cfg1 a).N) : Memref sig .tc .vmem S6x128x256 .bf16 := spec1_0.stage ((cfg1 a).slots t 0)
abbrev hs0 (t : Fin (cfg1 a).N) : (ms0 a t).IsWhole := hstage1_0 (((cfg1 a).slots t 0).cast nbuf1_0)
abbrev ms1 (t : Fin (cfg1 a).N) : Memref sig .tc .vmem S1x8x6x128x128 .i8 := spec1_1.stage ((cfg1 a).slots t 1)
abbrev hs1 (t : Fin (cfg1 a).N) : (ms1 a t).IsWhole := hstage1_1 (((cfg1 a).slots t 1).cast nbuf1_1)
abbrev ms2 (t : Fin (cfg1 a).N) : Memref sig .tc .vmem S1x8x2048 .bf16 := spec1_2.stage ((cfg1 a).slots t 2)
abbrev hs2 (t : Fin (cfg1 a).N) : (ms2 a t).IsWhole := hstage1_2 (((cfg1 a).slots t 2).cast nbuf1_2)
abbrev ms3 (t : Fin (cfg1 a).N) : Memref sig .tc .vmem S1x8x64x2048 .i8 := spec1_3.stage ((cfg1 a).slots t 3)
abbrev hs3 (t : Fin (cfg1 a).N) : (ms3 a t).IsWhole := hstage1_3 (((cfg1 a).slots t 3).cast nbuf1_3)
abbrev ms4 (t : Fin (cfg1 a).N) : Memref sig .tc .vmem S1x8x2048 .f32 := spec1_4.stage ((cfg1 a).slots t 4)
abbrev hs4 (t : Fin (cfg1 a).N) : (ms4 a t).IsWhole := hstage1_4 (((cfg1 a).slots t 4).cast nbuf1_4)
abbrev ms5 (t : Fin (cfg1 a).N) : Memref sig .tc .vmem S32x1 .f32 := spec1_5.stage ((cfg1 a).slots t 5)
abbrev hs5 (t : Fin (cfg1 a).N) : (ms5 a t).IsWhole := hstage1_5 (((cfg1 a).slots t 5).cast nbuf1_5)
abbrev ms6 (t : Fin (cfg1 a).N) : Memref sig .tc .vmem S32x1 .f32 := spec1_6.stage ((cfg1 a).slots t 6)
abbrev hs6 (t : Fin (cfg1 a).N) : (ms6 a t).IsWhole := hstage1_6 (((cfg1 a).slots t 6).cast nbuf1_6)
abbrev ms7 (t : Fin (cfg1 a).N) : Memref sig .tc .vmem S32x128 .f32 := spec1_7.stage ((cfg1 a).slots t 7)
abbrev hs7 (t : Fin (cfg1 a).N) : (ms7 a t).IsWhole := hstage1_7 (((cfg1 a).slots t 7).cast nbuf1_7)
abbrev ms8 (t : Fin (cfg1 a).N) : Memref sig .tc .vmem S32x1 .f32 := spec1_8.stage ((cfg1 a).slots t 8)
abbrev hs8 (t : Fin (cfg1 a).N) : (ms8 a t).IsWhole := hstage1_8 (((cfg1 a).slots t 8).cast nbuf1_8)
abbrev ms9 (t : Fin (cfg1 a).N) : Memref sig .tc .vmem S1x32x128 .bf16 := spec1_9.stage ((cfg1 a).slots t 9)
abbrev hs9 (t : Fin (cfg1 a).N) : (ms9 a t).IsWhole := hstage1_9 (((cfg1 a).slots t 9).cast nbuf1_9)
abbrev ms10 (t : Fin (cfg1 a).N) : Memref sig .tc .vmem S1x32x2048 .f32 := spec1_10.stage ((cfg1 a).slots t 10)
abbrev hs10 (t : Fin (cfg1 a).N) : (ms10 a t).IsWhole := hstage1_10 (((cfg1 a).slots t 10).cast nbuf1_10)

/-- The body at point `t`, on what the pipeline calls it with. -/
abbrev bodyAt1 (t : Fin (cfg1 a).N) : Prog (TpuEff nD τ sig (Elt F) Λ₀ .tc) PUnit :=
  cc1_attend (grid1.coords t) tb (Memref.isWhole_whole _) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (ms10 a t) (hs10 a t) sc0 (Memref.isWhole_whole _) sc1 (Memref.isWhole_whole _) sc2 (Memref.isWhole_whole _) sc3 (Memref.isWhole_whole _)

/-- Only the output window is ever idle. -/
theorem live (w : Fin (cfg1 a).W) (hw : w ≠ 9) (t : Fin (cfg1 a).N) : (cfg1 a).idle w ((cfg1 a).grid.coords t) = false := by
  show idle1 a.1 w (grid1.coords t) = false
  revert hw
  fin_cases w <;> intro hw <;> first | rfl | exact absurd rfl hw | skip
  show (!(k1_cond2 (grid1.coords t) (a.1.atD 0 (k1_off1 (grid1.coords t))) == 1#1) && !(k1_cond3 (grid1.coords t) (a.1.atD 0 (k1_off1 (grid1.coords t))) == 1#1)) = false
  by_cases h : k1_cond3 (grid1.coords t) (a.1.atD 0 (k1_off1 (grid1.coords t))) = 1#1
  · rw [h]; simp
  · rw [cond2_of _ _ h]; simp

theorem leaves_live (c : Dev nD) (w : Fin (cfg1 a).W) (hw : w ≠ 9) (t : Fin (cfg1 a).N) :
    (dat1 V a c).leavesExact w t = owns (c : Thread nD τ) (((cfg1 a).win w).stage ((cfg1 a).slots t w)) fullShare ((dat1 V a c).after w t) := by
  unfold Dat.leavesExact; rw [live a w hw t]

/-- What the body is called with, window by window, -/
def bodyPre1 (c : Dev nD) (t : Fin (cfg1 a).N) : sProp 𝕄 :=
  iprop((dat1 V a c).Φ t.castSucc ∗ (dat1 V a c).owesAt () t.castSucc

    ∗ (∃ d, owns (c : Thread nD τ) (ms0 a t) fullShare ((dat1 V a c).before 0 t d))
    ∗ (∃ d, owns (c : Thread nD τ) (ms1 a t) fullShare ((dat1 V a c).before 1 t d))
    ∗ (∃ d, owns (c : Thread nD τ) (ms2 a t) fullShare ((dat1 V a c).before 2 t d))
    ∗ (∃ d, owns (c : Thread nD τ) (ms3 a t) fullShare ((dat1 V a c).before 3 t d))
    ∗ (∃ d, owns (c : Thread nD τ) (ms4 a t) fullShare ((dat1 V a c).before 4 t d))
    ∗ (∃ d, owns (c : Thread nD τ) (ms5 a t) fullShare ((dat1 V a c).before 5 t d))
    ∗ (∃ d, owns (c : Thread nD τ) (ms6 a t) fullShare ((dat1 V a c).before 6 t d))
    ∗ (∃ d, owns (c : Thread nD τ) (ms7 a t) fullShare ((dat1 V a c).before 7 t d))
    ∗ (∃ d, owns (c : Thread nD τ) (ms8 a t) fullShare ((dat1 V a c).before 8 t d))
    ∗ (∃ d, owns (c : Thread nD τ) (ms9 a t) fullShare ((dat1 V a c).before 9 t d))
    ∗ (∃ d, owns (c : Thread nD τ) (ms10 a t) fullShare ((dat1 V a c).before 10 t d)))

/-- and what it returns. -/
def bodyPost1 (c : Dev nD) (t : Fin (cfg1 a).N) : sProp 𝕄 :=
  iprop((dat1 V a c).Φ t.succ ∗ (dat1 V a c).owesAt () t.succ

    ∗ (dat1 V a c).leavesExact 0 t
    ∗ (dat1 V a c).leavesExact 1 t
    ∗ (dat1 V a c).leavesExact 2 t
    ∗ (dat1 V a c).leavesExact 3 t
    ∗ (dat1 V a c).leavesExact 4 t
    ∗ (dat1 V a c).leavesExact 5 t
    ∗ (dat1 V a c).leavesExact 6 t
    ∗ (dat1 V a c).leavesExact 7 t
    ∗ (dat1 V a c).leavesExact 8 t
    ∗ (dat1 V a c).leavesExact 9 t
    ∗ (dat1 V a c).leavesExact 10 t)

theorem outOut_pos {i : grid1.Coords} (h : k1_cond4 i = 1#1) (X8 : Vec F S32x1 .f32) (X10 : Vec F S32x128 .f32) (X11 : Vec F S32x1 .f32) (s : Scr F) (X12 : Vec F S1x32x128 .bf16) :
    outOut i X8 X10 X11 s X12 = outV s.a s.l X8 s.m X11 X10 := if_pos h
theorem outOut_neg {i : grid1.Coords} (h : k1_cond4 i ≠ 1#1) (X8 : Vec F S32x1 .f32) (X10 : Vec F S32x128 .f32) (X11 : Vec F S32x1 .f32) (s : Scr F) (X12 : Vec F S1x32x128 .bf16) :
    outOut i X8 X10 X11 s X12 = X12 := if_neg h

theorem owns_pos {c : Dev nD} {mm : Memref sig .tc .vmem S1x32x128 .bf16} {i : grid1.Coords} (h : k1_cond4 i = 1#1) (X8 : Vec F S32x1 .f32) (X10 : Vec F S32x128 .f32) (X11 : Vec F S32x1 .f32) (s : Scr F) (X12 : Vec F S1x32x128 .bf16) :
    (owns (c : Thread nD τ) mm fullShare (outOut i X8 X10 X11 s X12) : sProp 𝕄) ⊢ owns (c : Thread nD τ) mm fullShare (outV s.a s.l X8 s.m X11 X10) := by rw [outOut_pos h]
theorem owns_neg {c : Dev nD} {mm : Memref sig .tc .vmem S1x32x128 .bf16} {i : grid1.Coords} (h : k1_cond4 i ≠ 1#1) (X8 : Vec F S32x1 .f32) (X10 : Vec F S32x128 .f32) (X11 : Vec F S32x1 .f32) (s : Scr F) (X12 : Vec F S1x32x128 .bf16) :
    (owns (c : Thread nD τ) mm fullShare (outOut i X8 X10 X11 s X12) : sProp 𝕄) ⊢ owns (c : Thread nD τ) mm fullShare X12 := by rw [outOut_neg h]

/-- The output block after the body, idle or not. -/
theorem leaves_9 (c : Dev nD) (t : Fin (cfg1 a).N) (d) :
    owns (c : Thread nD τ) (ms9 a t) fullShare (outOut (grid1.coords t) (b5 V a c t) (b7 V a c t) (b8 V a c t) (stAt V a c (t.val + 1)) ((dat1 V a c).before 9 t d))
      ⊢ ((dat1 V a c).leavesExact 9 t : sProp 𝕄) := by
  by_cases h : t.val % 8 = 7
  · have hi : (cfg1 a).idle 9 ((cfg1 a).grid.coords t) = false := by
      show (!(k1_cond4 (grid1.coords t) == 1#1)) = false
      rw [(cond4_iff t).mpr h]; rfl
    unfold Dat.leavesExact; rw [hi, after1_9]
    exact owns_pos ((cond4_iff t).mpr h) _ _ _ _ _
  · have hi : (cfg1 a).idle 9 ((cfg1 a).grid.coords t) = true := by
      show (!(k1_cond4 (grid1.coords t) == 1#1)) = true
      have := fun e => h ((cond4_iff t).mp e)
      simpa using this
    have hf : ((cfg1 a).win 9).flush t = false := by
      have := fun e => h ((flush1_9 a t).mp e)
      simpa using this
    rw [Dat.leavesExact_idle _ _ _ hi hf]
    refine (owns_neg (fun e => h ((cond4_iff t).mp e)) _ _ _ _ _).trans ?_
    iintro H
    iexists d
    iexact H

set_option maxHeartbeats 2000000 in
/-- The body at any point. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  rw [cc1_attend_eq]
  simp only [before1_0, before1_1, before1_2, before1_3, before1_4, before1_5, before1_6, before1_7, before1_8]
  rw [show (dat1 V a c).owesAt () t.succ = (dat1 V a c).owesAt () t.castSucc from rfl,
    show (dat1 V a c).Φ t.castSucc = Inv V a c t.val from rfl, show (dat1 V a c).Φ t.succ = Inv V a c (t.val + 1) from rfl]
  rw [leaves_live V a c 0 (show (0 : Fin 11) ≠ 9 by decide) t, leaves_live V a c 1 (show (1 : Fin 11) ≠ 9 by decide) t, leaves_live V a c 2 (show (2 : Fin 11) ≠ 9 by decide) t, leaves_live V a c 3 (show (3 : Fin 11) ≠ 9 by decide) t, leaves_live V a c 4 (show (4 : Fin 11) ≠ 9 by decide) t, leaves_live V a c 5 (show (5 : Fin 11) ≠ 9 by decide) t, leaves_live V a c 6 (show (6 : Fin 11) ≠ 9 by decide) t, leaves_live V a c 7 (show (7 : Fin 11) ≠ 9 by decide) t, leaves_live V a c 8 (show (8 : Fin 11) ≠ 9 by decide) t, leaves_live V a c 10 (show (10 : Fin 11) ≠ 9 by decide) t]
  rw [after1_0, after1_1, after1_2, after1_3, after1_4, after1_5, after1_6, after1_7, after1_8, after1_10]
  unfold Inv
  iintro ⟨⟨%s, %hs, HM, HL, HA, HP, Hr, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hst : stepAt V a c t s = stAt V a c (t.val + 1) := by
    rw [stAt_succ]
    rcases hs with h0 | h
    · exact stepAt_first V a c t (by rw [h0]) _ _
    · rw [h]
  iapply (attend_wp (c := c) (E := Set.univ) (s := s) (q := fullShare) (f := a.1 0) (X3 := b0 V a c t) (X4 := b1 V a c t) (X5 := b2 V a c t) (X6 := b3 V a c t) (X7 := b4 V a c t) (X8 := b5 V a c t) (X9 := b6 V a c t) (X10 := b7 V a c t) (X11 := b8 V a c t) (X12 := (dat1 V a c).before 9 t d9))

  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HM]; · iexact HM
  isplitl [HL]; · iexact HL
  isplitl [HA]; · iexact HA
  isplitl [HP]; · iexact HP
  isplitl [HT]; · iexact HT
  rw [show stepS (grid1.coords t) (lenAt tb (c := c) (grid1.coords t) (a.1 0)) (b0 V a c t) (b1 V a c t) (b2 V a c t) (b3 V a c t) (b4 V a c t) (b5 V a c t) (b6 V a c t) s = stAt V a c (t.val + 1) from hst]
  iintro ⟨H0, H1, H2, H3, H4, H5, H6, H7, H8, H9, H10, HM, HL, HA, HP, HT⟩
  isplitl [HM HL HA HP Hr Hg HT]
  · iexists (stAt V a c (t.val + 1))
    isplitr; · ipureintro; exact Or.inr rfl
    isplitl [HM]; · iexact HM
    isplitl [HL]; · iexact HL
    isplitl [HA]; · iexact HA
    isplitl [HP]; · iexact HP
    isplitl [Hr]; · iexact Hr
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (leaves_9 V a c t d9)
    iexact H9
  iexact H10

/-- The body table's row at point `t`'s slots is the body. -/
theorem defs₀_row1 (t : Fin (cfg1 a).N) :
    defs₀ (F := F) .tc (cfg1 a).body ((cfg1 a).bodyArgs t ((cfg1 a).slots t)) = bodyAt1 a t := by
  unfold defs₀; rw [Defs.onTc_tc]

/-- The library's body obligation, at every point. -/
theorem body_obligation1 (c : Dev nD) : BodyObligation (dat1 (F := F) V a c) (defs₀ (F := F)) Variants.none () Set.univ := fun t => by
  rw [bigSep_W1, bigSep_W1, defs₀_row1]
  exact triple_restated (sound_body1 V a c t) rfl .rfl fun _ => .rfl

/-- What the call is entered with is the invariant before the first point. -/
theorem inv_in (c : Dev nD) : iprop(iprop((Pipeline.scopedRest spec1 c : sProp 𝕄) ∗ (∃ r, prngReg c r)) ∗ Pipeline.prefHeld pre1 c (fun _ => fullShare) a.1) ⊢ Inv V a c 0 := by
  rw [scoped_split, tables_eq]
  unfold Inv
  iintro ⟨⟨⟨Hr, ⟨%d0, HM⟩, ⟨%d1, HL⟩, ⟨%d2, HA⟩, HP⟩, Hg⟩, HT⟩
  iexists (⟨d0, d1, d2⟩ : Scr F)
  isplitr; · ipureintro; exact Or.inl rfl
  isplitl [HM]; · iexact HM
  isplitl [HL]; · iexact HL
  isplitl [HA]; · iexact HA
  isplitl [HP]; · iexact HP
  isplitl [Hr]; · iexact Hr
  isplitl [Hg]; · iexact Hg
  iexact HT

/-- After any point the invariant gives back what the call was entered with. -/
theorem inv_out (c : Dev nD) (n : ℕ) : Inv V a c n ⊢ iprop(iprop((Pipeline.scopedRest spec1 c : sProp 𝕄) ∗ (∃ r, prngReg c r)) ∗ Pipeline.prefHeld pre1 c (fun _ => fullShare) a.1) := by
  rw [scoped_split, tables_eq]
  unfold Inv
  iintro ⟨%s, -, HM, HL, HA, HP, Hr, Hg, HT⟩
  isplitr [HT]
  · isplitr [Hg]
    · isplitl [Hr]; · iexact Hr
      isplitl [HM]; · iexists _; iexact HM
      isplitl [HL]; · iexists _; iexact HL
      isplitl [HA]; · iexists _; iexact HA
      iexact HP
    iexact Hg
  iexact HT

end Cert.KernelIdeal.Attend

end
-- ==== Proof.Tables.lean ====
/-
The blocks that the decode call fetches of the cache: whatever the lengths are, the block's number is at most the number
of the grid step, so every block lies inside its array.
-/
module

public import proofs.«01_k».proof.Proof.Gen.KernelIdeal.Launch
public import Idealize.ShloMosaic.Lib.WordCmp

@[expose] public section

set_option maxRecDepth 16384

noncomputable section

namespace Cert.KernelIdeal.Attend

open Idealize.ShloMosaic Idealize.ShloMosaic.TcCoe Idealize.ShloMosaic.Tactic
open Cert.KernelIdeal Cert.KernelIdeal.Gen

variable {F : FTy → Type} [FloatOps F]

/-- The word that numbers the block of the cache fetched at step `s` of a sequence of length `v1`: the smaller of `s` and
    the floor of `max (v1 − 1) 0` by 2048, as the index maps compute it. -/
def lastW (v1 arg1 : BitVec 32) : BitVec 32 :=
  let v3 : BitVec 32 := Scalar.maxsi (Scalar.subi v1 1#32) 0#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 2048#32 0#32)) (Scalar.extui (Scalar.cmpi .slt 2048#32 0#32))
  let v18 : BitVec 1 := Scalar.andi (Scalar.cmpi .ne v9 v14) (Scalar.cmpi .ne (Scalar.remsi v3 2048#32) 0#32)
  Scalar.minsi arg1 (Scalar.select v18 (Scalar.subi (Scalar.divsi v3 2048#32) 1#32) (Scalar.divsi v3 2048#32))

/-- A small number's word read signed. -/
theorem ofNat_toInt {n : ℕ} (h : n < 2 ^ 31) : (BitVec.ofNat 32 n).toInt = n := by
  rw [BitVec.toInt_eq_toNat_of_lt (by rw [BitVec.toNat_ofNat]; omega), BitVec.toNat_ofNat]; omega

/-- As a number it is the smaller of the step and the quotient. -/
theorem lastW_toNat (v1 : BitVec 32) (s : Nat) (hs : s < 8) :
    (lastW v1 (BitVec.ofNat 32 s)).toNat = min s ((v1 - 1#32).toInt.toNat / 2048) := by
  have hcorner : ∀ x : BitVec 32, ¬ IntOp.SDivCorner x 2048#32 := fun x h => by
    rcases h with h | ⟨_, h⟩ <;> exact absurd h (by decide)
  generalize hw : v1 - 1#32 = w
  have e3 : (Scalar.maxsi (Scalar.subi v1 1#32) 0#32 : BitVec 32) = BitVec.ofNat 32 w.toInt.toNat := by
    show (if (0#32).slt (v1 - 1#32) then v1 - 1#32 else 0#32) = _
    rw [hw]
    by_cases h : 0 < w.toInt
    · rw [if_pos (by simpa [BitVec.slt] using h)]
      apply BitVec.eq_of_toInt_eq
      have := BitVec.toInt_lt (x := w)
      have e : (BitVec.ofNat 32 w.toInt.toNat).toInt = w.toInt.toNat := ofNat_toInt (by omega)
      rw [e]; omega
    · rw [if_neg (by simpa [BitVec.slt] using h), Int.toNat_of_nonpos (by omega)]
  unfold lastW
  rw [e3]
  have hlt : w.toInt.toNat < 2 ^ 31 := by have := BitVec.toInt_lt (x := w); omega
  generalize w.toInt.toNat = n at hlt
  have hint : (BitVec.ofNat 32 n).toInt = n := ofNat_toInt hlt
  have hmsb : (BitVec.ofNat 32 n).msb = false := by rw [BitVec.msb_eq_decide, BitVec.toNat_ofNat]; simp; omega
  have hdiv : (Scalar.divsi (BitVec.ofNat 32 n) 2048#32 : BitVec 32) = BitVec.ofNat 32 (n / 2048) := by
    show (if IntOp.SDivCorner _ _ then _ else _) = _
    rw [if_neg (hcorner _)]
    apply BitVec.eq_of_toNat_eq
    rw [BitVec.sdiv_eq, hmsb]
    show (BitVec.ofNat 32 n / 2048#32).toNat = _
    rw [BitVec.toNat_udiv, BitVec.toNat_ofNat, BitVec.toNat_ofNat, BitVec.toNat_ofNat, show 2048 % 2 ^ 32 = 2048 from rfl, Nat.mod_eq_of_lt (show n < 2 ^ 32 by omega)]
    omega
  have hrem : (Scalar.remsi (BitVec.ofNat 32 n) 2048#32 : BitVec 32) = BitVec.ofNat 32 (n % 2048) := by
    show (if IntOp.SDivCorner _ _ then _ else _) = _
    rw [if_neg (hcorner _)]
    apply BitVec.eq_of_toNat_eq
    rw [BitVec.srem_eq, hmsb]
    show (BitVec.ofNat 32 n % 2048#32).toNat = _
    rw [BitVec.toNat_umod, BitVec.toNat_ofNat, BitVec.toNat_ofNat, BitVec.toNat_ofNat, show 2048 % 2 ^ 32 = 2048 from rfl, Nat.mod_eq_of_lt (show n < 2 ^ 32 by omega)]
    omega
  dsimp only
  rw [hdiv, hrem]
  have hsel : (Scalar.select (Scalar.andi (Scalar.cmpi .ne (Scalar.subi (Scalar.extui (Scalar.cmpi .sgt (BitVec.ofNat 32 n) 0#32)) (Scalar.extui (Scalar.cmpi .slt (BitVec.ofNat 32 n) 0#32)))
      (Scalar.subi (Scalar.extui (Scalar.cmpi .sgt 2048#32 0#32)) (Scalar.extui (Scalar.cmpi .slt 2048#32 0#32)))) (Scalar.cmpi .ne (BitVec.ofNat 32 (n % 2048)) 0#32))
      (Scalar.subi (BitVec.ofNat 32 (n / 2048)) 1#32) (BitVec.ofNat 32 (n / 2048)) : BitVec 32) = BitVec.ofNat 32 (n / 2048) := by
    rcases Nat.eq_zero_or_pos n with rfl | hp
    · decide
    · have h1 : (Scalar.cmpi .sgt (BitVec.ofNat 32 n) 0#32 : BitVec 1) = 1#1 := by
        show BitVec.ofBool ((0#32).slt _) = _
        rw [show (0#32).slt (BitVec.ofNat 32 n) = true by simp only [BitVec.slt, hint]; exact decide_eq_true (by simpa using hp)]; rfl
      have h2 : (Scalar.cmpi .slt (BitVec.ofNat 32 n) 0#32 : BitVec 1) = 0#1 := by
        show BitVec.ofBool ((BitVec.ofNat 32 n).slt _) = _
        rw [show (BitVec.ofNat 32 n).slt 0#32 = false by simp only [BitVec.slt, hint]; exact decide_eq_false (by simp)]; rfl
      rw [h1, h2]
      have h3 : ∀ x : BitVec 1, (Scalar.andi (Scalar.cmpi .ne (Scalar.subi (Scalar.extui 1#1) (Scalar.extui 0#1))
        (Scalar.subi (Scalar.extui (Scalar.cmpi .sgt 2048#32 0#32)) (Scalar.extui (Scalar.cmpi .slt 2048#32 0#32)))) x : BitVec 1) = 0#1 := by decide
      rw [h3]
      rfl
  rw [hsel]
  show (if (BitVec.ofNat 32 s).slt (BitVec.ofNat 32 (n / 2048)) then BitVec.ofNat 32 s else BitVec.ofNat 32 (n / 2048)).toNat = _
  have hs' : (BitVec.ofNat 32 s).toInt = s := ofNat_toInt (by omega)
  have hq' : (BitVec.ofNat 32 (n / 2048)).toInt = (n / 2048 : ℕ) := ofNat_toInt (by omega)
  by_cases h : s < n / 2048
  · rw [if_pos (by simp only [BitVec.slt, hs', hq', decide_eq_true_eq]; omega), BitVec.toNat_ofNat]; omega
  · rw [if_neg (by simp only [BitVec.slt, hs', hq', decide_eq_true_eq]; omega), BitVec.toNat_ofNat]; omega

/-- The block number is below eight. -/
theorem lastW_lt (v1 : BitVec 32) (s : Nat) (hs : s < 8) : (lastW v1 (BitVec.ofNat 32 s)).toNat < 8 := by
  rw [lastW_toNat v1 s hs]; omega

/-- The length that the index maps read at a grid point. -/
abbrev lenW (pf : pre1.Contents (Elt F)) (i : grid1.Coords) : BitVec 32 :=
  pf.at 0 (Rect.unit (s := S6) ![(Scalar.indexCast (BitVec.ofNat 32 (i 0).val)).toNat] S1.size (k1_off1_inb i)) numel1_S1

theorem transform1_eq (pf : pre1.Contents (Elt F)) (i : grid1.Coords) :
    cc1_transform_1 k1_off1_inb numel1_S1 pf i = ![(BitVec.ofNat 32 (i 0).val).toNat, 0, 0, (lastW (lenW pf i) (BitVec.ofNat 32 (i 1).val)).toNat, 0] := rfl
theorem transform2_eq (pf : pre1.Contents (Elt F)) (i : grid1.Coords) :
    cc1_transform_2 k1_off1_inb numel1_S1 pf i = ![(BitVec.ofNat 32 (i 0).val).toNat, 0, (lastW (lenW pf i) (BitVec.ofNat 32 (i 1).val)).toNat] := rfl
theorem transform3_eq (pf : pre1.Contents (Elt F)) (i : grid1.Coords) :
    cc1_transform_3 k1_off1_inb numel1_S1 pf i = ![(BitVec.ofNat 32 (i 0).val).toNat, 0, 0, (lastW (lenW pf i) (BitVec.ofNat 32 (i 1).val)).toNat] := rfl
theorem transform4_eq (pf : pre1.Contents (Elt F)) (i : grid1.Coords) :
    cc1_transform_4 k1_off1_inb numel1_S1 pf i = ![(BitVec.ofNat 32 (i 0).val).toNat, 0, (lastW (lenW pf i) (BitVec.ofNat 32 (i 1).val)).toNat] := rfl

/-- Every block that the call fetches lies inside its array and is made of whole words, whatever the lengths. -/
theorem ok_any (pf : pre1.Contents (Elt F)) : ok1 pf := by
  have h0 : ∀ i : grid1.Coords, (BitVec.ofNat 32 (i 0).val).toNat < 6 := fun i => by
    have h := (i 0).isLt
    rw [BitVec.toNat_ofNat]; exact Nat.lt_of_le_of_lt (Nat.mod_le _ _) h
  have h1 : ∀ i : grid1.Coords, (lastW (lenW pf i) (BitVec.ofNat 32 (i 1).val)).toNat < 8 := fun i => lastW_lt _ _ (i 1).isLt
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inl rfl⟩⟩
  · rw [transform1_eq]
    have := h0 i; have := h1 i
    fin_cases a <;> simp <;> omega
  · rw [transform2_eq]
    have := h0 i; have := h1 i
    fin_cases a <;> simp <;> omega
  · rw [transform3_eq]
    have := h0 i; have := h1 i
    fin_cases a <;> simp <;> omega
  · rw [transform4_eq]
    have := h0 i; have := h1 i
    fin_cases a <;> simp <;> omega

end Cert.KernelIdeal.Attend

end
-- ==== Proof.Run.lean ====
/-
The whole program: the host operations before the calls, the two calls, the host operations after them. At each boundary
the contents of every buffer are named (`W0` … `W4`); the run ends with every buffer at `W4`.
-/
module

public import proofs.«01_k».proof.Proof.Region0
public import proofs.«01_k».proof.Proof.Region1
public import proofs.«01_k».proof.Proof.Tables
public import proofs.«01_k».proof.Proof.Gen.KernelIdeal.Regions
public import Idealize.ShloMosaic.Lib.Pipeline.RegionsLoop
public import Idealize.ShloMosaic.Lib.Pipeline.FrameSuffix
public import Idealize.ShloMosaic.Lib.Pipeline.RegionArraysTS

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Prep Cert.KernelIdeal.Attend
open Cert.KernelIdeal.Gen hiding V0 V1 V2 V3 V4 segs V1_of V2_of V3_of V4_of V4_main_arg0 V4_main_arg1 V4_main_arg2 V4_main_arg3 V4_main_arg4 V4_main_arg5 V4_main_arg6 V4_main_arg7 V4_main_arg8

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays. -/
abbrev argRefs : List (Ref sig .tc) := [main_arg0, main_arg1, main_arg2, main_arg3, main_arg4, main_arg5, main_arg6, main_arg7, main_arg8]

/-! ## The contents of the buffers at each boundary -/

/-- At the launch. -/
abbrev W0 (c : Dev nD) : Valuation τ sig (Elt F) := fun b => m (c, b)
/-- After the host operations before the calls. -/
abbrev W1 (c : Dev nD) : Valuation τ sig (Elt F) := StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
/-- The same at the TensorCore's references: what the first call is entered with. -/
abbrev V1 : (c : Dev nD) → (b : Ref sig .tc) → Buf (Elt F) ((c : Thread nD τ).loc b) := fun c b => W1 m c (Proc.devRef .tc b)

/-- After the first call: its arrays at what it leaves, the others as they were. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- A reference that is none of the first call's output arrays is as it was. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩
/-- The same at the TensorCore's references: what the second call is entered with. -/
abbrev V2 : (c : Dev nD) → (b : Ref sig .tc) → Buf (Elt F) ((c : Thread nD τ).loc b) := fun c b => W2 m c (Proc.devRef .tc b)
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem argsIn0 : ∀ a ∈ argRefs, ∀ w : Fin cfg0.W, Pipeline.arrRef spec0 w = a → (cfg0.win w).isOut = false :=
  ListAll.forall_mem_of_all_decide (by decide +kernel)
theorem args0 : ∀ a ∈ argRefs, a ∉ hostOps0_W := ListAll.forall_mem_of_all_decide (by decide +kernel)
theorem args2 : ∀ a ∈ argRefs, a ∉ hostOps2_W := ListAll.forall_mem_of_all_decide (by decide +kernel)
/-- The second call finds the arguments as launched. -/
theorem W2_args (c : Dev nD) : ∀ a ∈ argRefs, W2 m c (Proc.devRef .tc a) = m ((c : Thread nD τ).loc a) :=
  fun a ha => (W2_of m c a (argsIn0 a ha)).trans (W1_of m c a (args0 a ha))

/-! ## The tables and the proof data -/

/-- The one device. -/
abbrev dev0 : Dev nD := (0 : Fin nD)
theorem dev_eq (c : Dev nD) : c = dev0 := Subsingleton.elim (α := Fin 1) c dev0

/-- The table that the decode call prefetches: the lengths as launched. -/
def tab : (pcfg1 (F := F)).Adm := ⟨fun k => m ((dev0 : Thread nD τ).loc (pre1.ref k)), ok_any _⟩
/-- The admissible tables of the two calls: the first has none. -/
def adm : (p : Fin 2) → (pcfgs (F := F) p).Adm
  | ⟨0, _⟩ => cfg0.toPCfg_adm
  | ⟨1, _⟩ => tab m
/-- Each call's proof data at its entry contents. -/
def pdats : (p : Fin 2) → (c : Dev nD) → Dat τ (Elt F) Unit ℕ (UR sig nD τ) ℕ (Pipeline.pin (pcfgs (F := F)) (adm m) p) c
  | ⟨0, _⟩ => fun c => dat0 (V1 m) c
  | ⟨1, _⟩ => fun c => dat1 (V2 m) (tab m) c
abbrev 𝒱₀ : Variants := Variants.none
def L : GSem nD τ sig → Finset Unit := fun g => if g.1.2 = .tc then {()} else ∅
abbrev lv : GSem nD τ sig → Unit → ℕ := fun _ _ => 0
/-- What rides beside the buffers: the generator's register and the core's debts, at nothing. -/
abbrev R (c : Dev nD) : sProp 𝕄 := iprop((∃ r, prngReg c r) ∗ ∃ W, owes (c : Thread nD τ) (0 : CellTallies nD τ sig Unit) W)

/-- After the second call: its arrays at what it leaves, the others as they were. -/
def W3 (c : Dev nD) : Valuation τ sig (Elt F) := Pipeline.afterRegion (dat1 (V2 m) (tab m) c) (W2 m c)
theorem W3_arr (c : Dev nD) (w : Fin (cfg1 (tab m)).W) :
    W3 m c (Proc.devRef .tc (Pipeline.arrRef spec1 w)) = (dat1 (V2 m) (tab m) c).arrAt w (cfg1 (tab m)).N :=
  Pipeline.afterRegion_arr (dat1 (V2 m) (tab m) c) (W2 m c) (launch1 (F := F)).win.arr_inj w
theorem W3_of (c : Dev nD) (r : Ref sig .tc) (h : ∀ w : Fin 11, Pipeline.arrRef spec1 w = r → (spec1 w).isOut = false) :
    W3 m c (Proc.devRef .tc r) = W2 m c (Proc.devRef .tc r) :=
  Pipeline.afterRegion_keeps (dat1 (V2 m) (tab m) c) (W2 m c) (launch1 (F := F)).win.arr_inj (fun w => A_eq1 (V2 m) (tab m) c w) r h
theorem argsIn1 : ∀ a ∈ argRefs, ∀ w : Fin 11, Pipeline.arrRef spec1 w = a → (spec1 w).isOut = false :=
  ListAll.forall_mem_of_all_decide (by decide +kernel)
/-- After the host operations that follow the calls. -/
abbrev W4 (c : Dev nD) : Valuation τ sig (Elt F) := StableHlo.after hostOps2 (W3 m c)
theorem W4_of (c : Dev nD) (r : Ref sig .tc) (h : r ∉ hostOps2_W) : W4 m c (Proc.devRef .tc r) = W3 m c (Proc.devRef .tc r) :=
  StableHlo.after_of_writes_sub hostOps2 _ hostOps2_writes h
/-- The arguments end as launched. -/
theorem W4_args (c : Dev nD) : ∀ a ∈ argRefs, W4 m c (Proc.devRef .tc a) = m ((c : Thread nD τ).loc a) :=
  fun a ha => (W4_of m c a (args2 a ha)).trans ((W3_of m c a (argsIn1 a ha)).trans (W2_args m c a ha))

/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the debts. -/
abbrev Tₙ (c : Dev nD) : sProp 𝕄 := iprop(StableHlo.held (c : Thread nD τ) (Pipeline.ucRefs τ sig) (W4 m c) ∗ ∃ r, prngReg c r)

set_option backward.isDefEq.respectTransparency.types false in
/-- The first call between `W1` and `W2`. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The levels: nothing is owed. -/
theorem hcut : Pipeline.LevelCut (nD := nD) (τ := τ) (pcfgs (F := F)) (adm m) () L lv 1 (fun _ => 0) (fun _ => 0) where
  hι _ _ _ := by unfold L; rw [if_pos rfl]; exact Finset.mem_singleton_self _
  hιb _ _ _ := le_refl _
  hD _ _ _ h := absurd h (by simp)

set_option backward.isDefEq.respectTransparency.types false in
/-- The second call, entered with every buffer at `W2`. -/
def reg1 : Pipeline.RegionSeg (pcfgs (F := F)) (adm m) (pdats m) () defs₀ 𝒱₀ L lv 1 :=
  Pipeline.RegionSeg.ofHeldInT (pcfgs (F := F)) (adm m) (pdats m) () defs₀ 𝒱₀ L lv 1 (fun _ => 0) (Pipeline.ucRefs τ sig)
    (fun c => iprop(∃ r, prngReg c r)) (fun c => iprop(∃ r, prngReg c r)) launch1
    (fun c => (body_obligation1 (V2 m) (tab m) c).loose) (fun _ _ => rfl) (fun _ => rfl) (fun c => (dat1 (V2 m) (tab m) c).share_full fun _ => rfl)
    (fun c => inv_in (V2 m) (tab m) c) (fun c => inv_out (V2 m) (tab m) c _)
    (fun _ => 0) (hcut m) (fun _ => iprop(emp)) (W2 m)
    (fun c w => A_eq1 (V2 m) (tab m) c w)
    (fun c k => by
      have hc := dev_eq c
      subst hc
      match k with
      | ⟨0, _⟩ => exact (W2_args m dev0 main_arg8 (by decide)).symm)

/-! ## @main as segments, and the run -/

abbrev segs : List (Pipeline.Seg (pcfgs (F := F)) (adm m) (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

theorem uc_arr1 : Pipeline.arrRefs (τ := τ) spec1 ⊆ Pipeline.ucRefs τ sig :=
  Pipeline.arrRefs_sub_ucRefs spec1 (by decide)
theorem uc_tbl1 : Pipeline.tblRefs (τ := τ) pre1 ⊆ Pipeline.ucRefs τ sig :=
  Pipeline.tblRefs_sub_ucRefs pre1 (by decide)

set_option backward.isDefEq.respectTransparency.types false in
theorem reg1_pre (c : Dev nD) : iprop(StableHlo.held (c : Thread nD τ) (Pipeline.ucRefs τ sig) (W2 m c) ∗ R c) ⊢ (reg1 m).pre c := by
  unfold reg1
  refine BIBase.Entails.trans ?_ (Pipeline.RegionSeg.ofHeldInT_pre (pcs := pcfgs (F := F)) (a := adm m) (pdats := pdats m) (p := 1) (S := Pipeline.ucRefs τ sig) uc_arr1 uc_tbl1 c)
  iintro ⟨Hh, Hp, HO⟩
  isplitl [Hh]; · iexact Hh
  isplitl [HO]; · iexact HO
  isplitl [Hp]; · iexact Hp
  iempintro

set_option backward.isDefEq.respectTransparency.types false in
theorem reg1_post (c : Dev nD) : (reg1 m).post c ⊢ iprop(StableHlo.held (c : Thread nD τ) (Pipeline.ucRefs τ sig) (W3 m c) ∗ R c) := by
  unfold reg1
  refine BIBase.Entails.trans (Pipeline.RegionSeg.ofHeldInT_post (pcs := pcfgs (F := F)) (a := adm m) (pdats := pdats m) (p := 1) (S := Pipeline.ucRefs τ sig) uc_arr1 uc_tbl1 c) ?_
  iintro ⟨Hh, HO, Hp, -⟩
  isplitl [Hh]; · iexact Hh
  isplitl [Hp]; · iexact Hp
  iexact HO

set_option backward.isDefEq.respectTransparency.types false in
/-- Every execution from zero counters ends, without a fault, with every buffer of the program at `W4` and every counter at zero. -/
theorem run : θ_run defs (onTc (τ := τ) (main (F := F))) ⟨m, fun _ => 0, ρ⟩ (fun r => (∀ c : Dev nD, ∀ b : Ref sig .tc,
      ¬ (Proc.devRef .tc b : DevRef τ sig).isScoped → r.2.mem ((c.tc : Thread nD τ).loc b) = W4 m c (Proc.devRef .tc b))
      ∧ r.2.sem = fun _ => 0) :=
  Pipeline.θ_run_regions_kit_sems (pcfgs (F := F)) (adm m) (pdats m) () (cellOf_inj (adm m)) emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun g h => by unfold L; rw [if_neg h]) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun c => reg1_pre m c, fun c => reg1_post m c, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h hz => ⟨fun c b hb => h c _ (mem_uc b hb), funext fun g => hz g (.inr (regions_no_unscoped g.2))⟩)

/-- The frame: every argument ends as launched and every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1 c main_arg0 (by decide)).trans (W4_args m c main_arg0 (by decide)),
      (h.1 c main_arg1 (by decide)).trans (W4_args m c main_arg1 (by decide)),
      (h.1 c main_arg2 (by decide)).trans (W4_args m c main_arg2 (by decide)),
      (h.1 c main_arg3 (by decide)).trans (W4_args m c main_arg3 (by decide)),
      (h.1 c main_arg4 (by decide)).trans (W4_args m c main_arg4 (by decide)),
      (h.1 c main_arg5 (by decide)).trans (W4_args m c main_arg5 (by decide)),
      (h.1 c main_arg6 (by decide)).trans (W4_args m c main_arg6 (by decide)),
      (h.1 c main_arg7 (by decide)).trans (W4_args m c main_arg7 (by decide)),
      (h.1 c main_arg8 (by decide)).trans (W4_args m c main_arg8 (by decide))⟩, h.2⟩) (run m ρ)

end Cert.KernelIdeal.Run

end
-- ==== Proof.Twin.Region0.lean ====
/- The first pallas_call of the kernel, `prep`, as the launch finds it: each window's block, what the body leaves in each
   output window's buffer as a function of the four input blocks (`out0_4` … `out0_12`), the body's triple, the proof
   data of the call and its body obligation. Everything is stated at a parameter `V`, the buffers' contents when the
   call is entered. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Prep

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S128x384 := Rect.unit (s := S128x384) ![0, 0] S128x384.size inb_S128x384_S128x384_0_0
abbrev r0_1 : Rect S48x128 := Rect.unit (s := S48x128) ![0, 0] S48x128.size inb_S48x128_S48x128_0_0
abbrev r0_2 : Rect S48x48 := Rect.unit (s := S48x48) ![0, 0] S48x48.size inb_S48x48_S48x48_0_0
abbrev r0_3 : Rect S48x1 := Rect.unit (s := S48x1) ![0, 0] S48x1.size inb_S48x1_S48x1_0_0
abbrev r0_4 : Rect S48x64 := Rect.unit (s := S48x64) ![0, 0] S48x64.size inb_S48x64_S48x64_0_0
abbrev r0_5 : Rect S192x128 := Rect.unit (s := S192x128) ![0, 0] S192x128.size inb_S192x128_S192x128_0_0
abbrev r0_6 : Rect S192x1 := Rect.unit (s := S192x1) ![0, 0] S192x1.size inb_S192x1_S192x1_0_0
abbrev r0_7 : Rect S6x768x256 := Rect.unit (s := S6x768x256) ![0, 0, 0] S1x768x256.size inb_S6x768x256_S1x768x256_0_0_0
abbrev r0_8 : Rect S6x768x256 := Rect.unit (s := S6x768x256) ![1, 0, 0] S1x768x256.size inb_S6x768x256_S1x768x256_1_0_0
abbrev r0_9 : Rect S6x768x256 := Rect.unit (s := S6x768x256) ![2, 0, 0] S1x768x256.size inb_S6x768x256_S1x768x256_2_0_0
abbrev r0_10 : Rect S6x768x256 := Rect.unit (s := S6x768x256) ![3, 0, 0] S1x768x256.size inb_S6x768x256_S1x768x256_3_0_0
abbrev r0_11 : Rect S6x768x256 := Rect.unit (s := S6x768x256) ![4, 0, 0] S1x768x256.size inb_S6x768x256_S1x768x256_4_0_0
abbrev r0_12 : Rect S6x768x256 := Rect.unit (s := S6x768x256) ![5, 0, 0] S1x768x256.size inb_S6x768x256_S1x768x256_5_0_0

/-! ## What the body leaves in each output window's buffer -/

/-! ### Values of the body that the stores' payloads, spelt out, would write more than once

    Each is a vector the body binds (often a part call's result), stated over the input windows' blocks and
    numbered on from the skeleton's payload functions (`k0_pay50` …, after `k0_pay49`), so that
    `out0_W` and the values after it name it instead of spelling it out ; the comment after each is the printed function's
    name for the value (a count appended where that name is bound again). -/

def k0_pay50 (x0 : Vec F S192x128 .bf16) (x1 : Vec F S48x128 .bf16) (x2 : Vec F S48x128 .bf16) (x3 : Vec F S128x384 .bf16) : FVec F S48x128 .bf16 :=
  k0_pay2 (View.ld x1 r0_1) -- `v2`
def k0_pay51 (x0 : Vec F S192x128 .bf16) (x1 : Vec F S48x128 .bf16) (x2 : Vec F S48x128 .bf16) (x3 : Vec F S128x384 .bf16) : FVec F S48x128 .bf16 :=
  k0_pay3 (View.ld x2 r0_1) -- `v4`
def k0_pay52 (x0 : Vec F S192x128 .bf16) (x1 : Vec F S48x128 .bf16) (x2 : Vec F S48x128 .bf16) (x3 : Vec F S128x384 .bf16) : IVec S48x384 1 :=
  k0_pay4 (View.ld x3 r0_0) (View.ld x1 r0_1) -- `v7`
def k0_pay53 (x0 : Vec F S192x128 .bf16) (x1 : Vec F S48x128 .bf16) (x2 : Vec F S48x128 .bf16) (x3 : Vec F S128x384 .bf16) : IVec S192x48 32 :=
  k0_pay15 -- `v103`
def k0_pay54 (x0 : Vec F S192x128 .bf16) (x1 : Vec F S48x128 .bf16) (x2 : Vec F S48x128 .bf16) (x3 : Vec F S128x384 .bf16) : IVec S192x48 1 :=
  k0_pay16 -- `v122`
def k0_pay55 (x0 : Vec F S192x128 .bf16) (x1 : Vec F S48x128 .bf16) (x2 : Vec F S48x128 .bf16) (x3 : Vec F S128x384 .bf16) : IVec S192x48 32 :=
  k0_pay17 -- `v124`
def k0_pay56 (x0 : Vec F S192x128 .bf16) (x1 : Vec F S48x128 .bf16) (x2 : Vec F S48x128 .bf16) (x3 : Vec F S128x384 .bf16) : FVec F S192x384 .bf16 :=
  k0_pay23 (View.ld x3 r0_0) (View.ld x0 r0_5) -- `v164`
def k0_pay57 (x0 : Vec F S192x128 .bf16) (x1 : Vec F S48x128 .bf16) (x2 : Vec F S48x128 .bf16) (x3 : Vec F S128x384 .bf16) : IVec S384x256 32 :=
  iota .tc S384x256 32 [1] iota_S384x256_d1_w32 -- `v260`
def k0_pay58 (x0 : Vec F S192x128 .bf16) (x1 : Vec F S48x128 .bf16) (x2 : Vec F S48x128 .bf16) (x3 : Vec F S128x384 .bf16) : IVec S384x256 32 :=
  iota .tc S384x256 32 [0] iota_S384x256_d0_w32 -- `v261`
def k0_pay59 (x0 : Vec F S192x128 .bf16) (x1 : Vec F S48x128 .bf16) (x2 : Vec F S48x128 .bf16) (x3 : Vec F S128x384 .bf16) : FVec F S768x192 .bf16 :=
  k0_pay31 (F := F) k0_pay27 k0_pay28 k0_pay29 k0_pay30 -- `v259`
def k0_pay60 (x0 : Vec F S192x128 .bf16) (x1 : Vec F S48x128 .bf16) (x2 : Vec F S48x128 .bf16) (x3 : Vec F S128x384 .bf16) : IVec S384x256 32 :=
  k0_pay32 -- `v285`
def k0_pay61 (x0 : Vec F S192x128 .bf16) (x1 : Vec F S48x128 .bf16) (x2 : Vec F S48x128 .bf16) (x3 : Vec F S128x384 .bf16) : IVec S384x256 32 :=
  k0_pay38 (k0_pay57 x0 x1 x2 x3) (k0_pay37 (k0_pay60 x0 x1 x2 x3) (k0_pay35 (k0_pay57 x0 x1 x2 x3) 2#32 k0_pay33 k0_pay34 (Scalar.extui (Scalar.cmpi .sgt 2#32 0#32)) 0#32) (k0_pay36 (k0_pay60 x0 x1 x2 x3)) 48#32) -- `v406`
def k0_pay62 (x0 : Vec F S192x128 .bf16) (x1 : Vec F S48x128 .bf16) (x2 : Vec F S48x128 .bf16) (x3 : Vec F S128x384 .bf16) : IVec S768x256 32 :=
  k0_pay40 k0_pay39 4#32 -- `v448`
def k0_pay63 (x0 : Vec F S192x128 .bf16) (x1 : Vec F S48x128 .bf16) (x2 : Vec F S48x128 .bf16) (x3 : Vec F S128x384 .bf16) : IVec S768x256 32 :=
  k0_pay41 (iota .tc S768x256 32 [0] iota_S768x256_d0_w32) -- `v476`
def k0_pay64 (x0 : Vec F S192x128 .bf16) (x1 : Vec F S48x128 .bf16) (x2 : Vec F S48x128 .bf16) (x3 : Vec F S128x384 .bf16) : IVec S768x256 1 :=
  k0_pay42 (k0_pay62 x0 x1 x2 x3) (Scalar.select (Scalar.cmpi .eq 4#32 0#32) 1#32 4#32) (k0_pay63 x0 x1 x2 x3) 0#32 -- `v489`

/-- Window 4's staging buffer after the body, from the input windows' blocks: its 6 stores as pieces, LAST
    FIRST (Lib/Pipeline/FrameBody.lean `View.canon`; the payloads are the skeleton's and the values stated above). -/
def out0_4 (x0 : Vec F S192x128 .bf16) (x1 : Vec F S48x128 .bf16) (x2 : Vec F S48x128 .bf16) (x3 : Vec F S128x384 .bf16) : Vec F S6x768x256 .bf16 :=
  View.canon [⟨r0_12, k0_pay1 (k0_pay49 (k0_pay56 x0 x1 x2 x3) (k0_pay59 x0 x1 x2 x3) (k0_pay58 x0 x1 x2 x3) (k0_pay61 x0 x1 x2 x3) (k0_pay64 x0 x1 x2 x3))⟩,
    ⟨r0_11, k0_pay48 (k0_pay56 x0 x1 x2 x3) (k0_pay59 x0 x1 x2 x3) (k0_pay58 x0 x1 x2 x3) (k0_pay61 x0 x1 x2 x3) (k0_pay64 x0 x1 x2 x3) 32#32⟩,
    ⟨r0_10, k0_pay47 (k0_pay56 x0 x1 x2 x3) (k0_pay59 x0 x1 x2 x3) (k0_pay58 x0 x1 x2 x3) (k0_pay61 x0 x1 x2 x3) (k0_pay64 x0 x1 x2 x3)⟩,
    ⟨r0_9, k0_pay46 (k0_pay56 x0 x1 x2 x3) (k0_pay59 x0 x1 x2 x3) (k0_pay58 x0 x1 x2 x3) (k0_pay61 x0 x1 x2 x3) (k0_pay64 x0 x1 x2 x3)⟩,
    ⟨r0_8, k0_pay45 (k0_pay44 (k0_pay56 x0 x1 x2 x3) (k0_pay59 x0 x1 x2 x3) (k0_pay58 x0 x1 x2 x3) (k0_pay61 x0 x1 x2 x3) (k0_pay62 x0 x1 x2 x3) (Scalar.select (Scalar.cmpi .eq 4#32 0#32) 1#32 4#32) (k0_pay63 x0 x1 x2 x3) 0#32)⟩,
    ⟨r0_7, k0_pay43 (k0_pay56 x0 x1 x2 x3) (k0_pay59 x0 x1 x2 x3) (k0_pay58 x0 x1 x2 x3) (k0_pay61 x0 x1 x2 x3) (k0_pay62 x0 x1 x2 x3) (Scalar.select (Scalar.cmpi .eq 4#32 0#32) 1#32 4#32) (k0_pay63 x0 x1 x2 x3) 0#32⟩]

/-- Its stores tile the buffer (checked by evaluation), so they cover it. -/
theorem cover0_4 (p0 : Vec F S1x768x256 .bf16) (p1 : Vec F S1x768x256 .bf16) (p2 : Vec F S1x768x256 .bf16) (p3 : Vec F S1x768x256 .bf16) (p4 : Vec F S1x768x256 .bf16) (p5 : Vec F S1x768x256 .bf16) (y : S6x768x256.Idx) :
    ∃ pc ∈ ([⟨r0_12, p0⟩, ⟨r0_11, p1⟩, ⟨r0_10, p2⟩, ⟨r0_9, p3⟩, ⟨r0_8, p4⟩, ⟨r0_7, p5⟩] : List (View.Piece (Elt F) S6x768x256 .bf16)), y ∈ pc.1.set :=
  View.cover_of_tiled [⟨r0_12, p0⟩, ⟨r0_11, p1⟩, ⟨r0_10, p2⟩, ⟨r0_9, p3⟩, ⟨r0_8, p4⟩, ⟨r0_7, p5⟩] S1x768x256.size (by rfl) y

/-- Window 5's staging buffer after the body, from the input windows' blocks: its 1 store as pieces, LAST
    FIRST (Lib/Pipeline/FrameBody.lean `View.canon`; the payloads are the skeleton's and the values stated above). -/
def out0_5 (x0 : Vec F S192x128 .bf16) (x1 : Vec F S48x128 .bf16) (x2 : Vec F S48x128 .bf16) (x3 : Vec F S128x384 .bf16) : Vec F S192x1 .f32 :=
  View.canon [⟨r0_6, k0_pay24 (k0_pay52 x0 x1 x2 x3) (k0_pay19 (k0_pay50 x0 x1 x2 x3) (k0_pay53 x0 x1 x2 x3) (k0_pay54 x0 x1 x2 x3) (k0_pay55 x0 x1 x2 x3)) (k0_pay56 x0 x1 x2 x3)⟩]

/-- Its stores tile the buffer (checked by evaluation), so they cover it. -/
theorem cover0_5 (p0 : Vec F S192x1 .f32) (y : S192x1.Idx) :
    ∃ pc ∈ ([⟨r0_6, p0⟩] : List (View.Piece (Elt F) S192x1 .f32)), y ∈ pc.1.set :=
  View.cover_of_tiled [⟨r0_6, p0⟩] S192x1.size (by rfl) y

/-- Window 6's staging buffer after the body, from the input windows' blocks: its 1 store as pieces, LAST
    FIRST (Lib/Pipeline/FrameBody.lean `View.canon`; the payloads are the skeleton's and the values stated above). -/
def out0_6 (x0 : Vec F S192x128 .bf16) (x1 : Vec F S48x128 .bf16) (x2 : Vec F S48x128 .bf16) (x3 : Vec F S128x384 .bf16) : Vec F S192x1 .f32 :=
  View.canon [⟨r0_6, k0_pay26 (k0_pay25 (k0_pay56 x0 x1 x2 x3))⟩]

/-- Its stores tile the buffer (checked by evaluation), so they cover it. -/
theorem cover0_6 (p0 : Vec F S192x1 .f32) (y : S192x1.Idx) :
    ∃ pc ∈ ([⟨r0_6, p0⟩] : List (View.Piece (Elt F) S192x1 .f32)), y ∈ pc.1.set :=
  View.cover_of_tiled [⟨r0_6, p0⟩] S192x1.size (by rfl) y

/-- Window 7's staging buffer after the body, from the input windows' blocks: its 1 store as pieces, LAST
    FIRST (Lib/Pipeline/FrameBody.lean `View.canon`; the payloads are the skeleton's and the values stated above). -/
def out0_7 (x0 : Vec F S192x128 .bf16) (x1 : Vec F S48x128 .bf16) (x2 : Vec F S48x128 .bf16) (x3 : Vec F S128x384 .bf16) : Vec F S192x128 .f32 :=
  View.canon [⟨r0_5, k0_pay22 (k0_pay51 x0 x1 x2 x3) (k0_pay53 x0 x1 x2 x3) (k0_pay54 x0 x1 x2 x3) (k0_pay55 x0 x1 x2 x3)⟩]

/-- Its stores tile the buffer (checked by evaluation), so they cover it. -/
theorem cover0_7 (p0 : Vec F S192x128 .f32) (y : S192x128.Idx) :
    ∃ pc ∈ ([⟨r0_5, p0⟩] : List (View.Piece (Elt F) S192x128 .f32)), y ∈ pc.1.set :=
  View.cover_of_tiled [⟨r0_5, p0⟩] S192x128.size (by rfl) y

/-- Window 8's staging buffer after the body, from the input windows' blocks: its 1 store as pieces, LAST
    FIRST (Lib/Pipeline/FrameBody.lean `View.canon`; the payloads are the skeleton's and the values stated above). -/
def out0_8 (x0 : Vec F S192x128 .bf16) (x1 : Vec F S48x128 .bf16) (x2 : Vec F S48x128 .bf16) (x3 : Vec F S128x384 .bf16) : Vec F S192x1 .f32 :=
  View.canon [⟨r0_6, k0_pay21 (k0_pay51 x0 x1 x2 x3) (k0_pay53 x0 x1 x2 x3) (k0_pay54 x0 x1 x2 x3) (k0_pay55 x0 x1 x2 x3)⟩]

/-- Its stores tile the buffer (checked by evaluation), so they cover it. -/
theorem cover0_8 (p0 : Vec F S192x1 .f32) (y : S192x1.Idx) :
    ∃ pc ∈ ([⟨r0_6, p0⟩] : List (View.Piece (Elt F) S192x1 .f32)), y ∈ pc.1.set :=
  View.cover_of_tiled [⟨r0_6, p0⟩] S192x1.size (by rfl) y

/-- Window 9's staging buffer after the body, from the input windows' blocks: its 1 store as pieces, LAST
    FIRST (Lib/Pipeline/FrameBody.lean `View.canon`; the payloads are the skeleton's and the values stated above). -/
def out0_9 (x0 : Vec F S192x128 .bf16) (x1 : Vec F S48x128 .bf16) (x2 : Vec F S48x128 .bf16) (x3 : Vec F S128x384 .bf16) : Vec F S48x48 .i32 :=
  View.canon [⟨r0_2, k0_pay9 (F := F) (k0_pay52 x0 x1 x2 x3) (iota .tc S384x128 32 [0] iota_S384x128_d0_w32) k0_pay5 k0_pay6 48#32 k0_pay7 k0_pay8 (Scalar.extui (Scalar.cmpi .sgt 48#32 0#32)) (Scalar.cmpi .slt 48#32 0#32)⟩]

/-- Its stores tile the buffer (checked by evaluation), so they cover it. -/
theorem cover0_9 (p0 : Vec F S48x48 .i32) (y : S48x48.Idx) :
    ∃ pc ∈ ([⟨r0_2, p0⟩] : List (View.Piece (Elt F) S48x48 .i32)), y ∈ pc.1.set :=
  View.cover_of_tiled [⟨r0_2, p0⟩] S48x48.size (by rfl) y

/-- Window 10's staging buffer after the body, from the input windows' blocks: its 1 store as pieces, LAST
    FIRST (Lib/Pipeline/FrameBody.lean `View.canon`; the payloads are the skeleton's and the values stated above). -/
def out0_10 (x0 : Vec F S192x128 .bf16) (x1 : Vec F S48x128 .bf16) (x2 : Vec F S48x128 .bf16) (x3 : Vec F S128x384 .bf16) : Vec F S48x1 .bf16 :=
  View.canon [⟨r0_3, k0_pay10 (k0_pay50 x0 x1 x2 x3)⟩]

/-- Its stores tile the buffer (checked by evaluation), so they cover it. -/
theorem cover0_10 (p0 : Vec F S48x1 .bf16) (y : S48x1.Idx) :
    ∃ pc ∈ ([⟨r0_3, p0⟩] : List (View.Piece (Elt F) S48x1 .bf16)), y ∈ pc.1.set :=
  View.cover_of_tiled [⟨r0_3, p0⟩] S48x1.size (by rfl) y

/-- Window 11's staging buffer after the body, from the input windows' blocks: its 1 store as pieces, LAST
    FIRST (Lib/Pipeline/FrameBody.lean `View.canon`; the payloads are the skeleton's and the values stated above). -/
def out0_11 (x0 : Vec F S192x128 .bf16) (x1 : Vec F S48x128 .bf16) (x2 : Vec F S48x128 .bf16) (x3 : Vec F S128x384 .bf16) : Vec F S48x64 .i32 :=
  View.canon [⟨r0_4, k0_pay14 (k0_pay11 (k0_pay51 x0 x1 x2 x3)) (k0_pay13 (k0_pay51 x0 x1 x2 x3))⟩]

/-- Its stores tile the buffer (checked by evaluation), so they cover it. -/
theorem cover0_11 (p0 : Vec F S48x64 .i32) (y : S48x64.Idx) :
    ∃ pc ∈ ([⟨r0_4, p0⟩] : List (View.Piece (Elt F) S48x64 .i32)), y ∈ pc.1.set :=
  View.cover_of_tiled [⟨r0_4, p0⟩] S48x64.size (by rfl) y

/-- Window 12's staging buffer after the body, from the input windows' blocks: its 1 store as pieces, LAST
    FIRST (Lib/Pipeline/FrameBody.lean `View.canon`; the payloads are the skeleton's and the values stated above). -/
def out0_12 (x0 : Vec F S192x128 .bf16) (x1 : Vec F S48x128 .bf16) (x2 : Vec F S48x128 .bf16) (x3 : Vec F S128x384 .bf16) : Vec F S48x1 .f32 :=
  View.canon [⟨r0_3, k0_pay12 (k0_pay51 x0 x1 x2 x3)⟩]

/-- Its stores tile the buffer (checked by evaluation), so they cover it. -/
theorem cover0_12 (p0 : Vec F S48x1 .f32) (y : S48x1.Idx) :
    ∃ pc ∈ ([⟨r0_3, p0⟩] : List (View.Piece (Elt F) S48x1 .f32)), y ∈ pc.1.set :=
  View.cover_of_tiled [⟨r0_3, p0⟩] S48x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (arg0 : Memref sig .tc .vmem S192x128 .bf16) (harg0 : arg0.IsWhole) (arg1 : Memref sig .tc .vmem S48x128 .bf16) (harg1 : arg1.IsWhole) (arg2 : Memref sig .tc .vmem S48x128 .bf16) (harg2 : arg2.IsWhole) (arg3 : Memref sig .tc .vmem S128x384 .bf16) (harg3 : arg3.IsWhole) (arg4 : Memref sig .tc .vmem S6x768x256 .bf16) (harg4 : arg4.IsWhole) (arg5 : Memref sig .tc .vmem S192x1 .f32) (harg5 : arg5.IsWhole) (arg6 : Memref sig .tc .vmem S192x1 .f32) (harg6 : arg6.IsWhole) (arg7 : Memref sig .tc .vmem S192x128 .f32) (harg7 : arg7.IsWhole) (arg8 : Memref sig .tc .vmem S192x1 .f32) (harg8 : arg8.IsWhole) (arg9 : Memref sig .tc .vmem S48x48 .i32) (harg9 : arg9.IsWhole) (arg10 : Memref sig .tc .vmem S48x1 .bf16) (harg10 : arg10.IsWhole) (arg11 : Memref sig .tc .vmem S48x64 .i32) (harg11 : arg11.IsWhole) (arg12 : Memref sig .tc .vmem S48x1 .f32) (harg12 : arg12.IsWhole)
    (x0 : Vec F S192x128 .bf16) (x1 : Vec F S48x128 .bf16) (x2 : Vec F S48x128 .bf16) (x3 : Vec F S128x384 .bf16) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1 x2 x3) ∗ owns (c : Thread nD τ) arg5 fullShare (out0_5 x0 x1 x2 x3) ∗ owns (c : Thread nD τ) arg6 fullShare (out0_6 x0 x1 x2 x3) ∗ owns (c : Thread nD τ) arg7 fullShare (out0_7 x0 x1 x2 x3) ∗ owns (c : Thread nD τ) arg8 fullShare (out0_8 x0 x1 x2 x3) ∗ owns (c : Thread nD τ) arg9 fullShare (out0_9 x0 x1 x2 x3) ∗ owns (c : Thread nD τ) arg10 fullShare (out0_10 x0 x1 x2 x3) ∗ owns (c : Thread nD τ) arg11 fullShare (out0_11 x0 x1 x2 x3) ∗ owns (c : Thread nD τ) arg12 fullShare (out0_12 x0 x1 x2 x3)) -∗ K ⟨⟩))
      ⊢ wp frame (wpE (defs₀ (F := F)) Variants.none c none) E (cc0_prep arg0 harg0 arg1 harg1 arg2 harg2 arg3 harg3 arg4 harg4 arg5 harg5 arg6 harg6 arg7 harg7 arg8 harg8 arg9 harg9 arg10 harg10 arg11 harg11 arg12 harg12) K := by
  simp only [cc0_prep_eq_skeleton]; unfold cc0_prep_skel
  simp only [k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover0_4 _ _ _ _ _ _)).trans ?_
    rfl
  isplitl [H5]
  · iexists _; isplitr
    swap; · iexact H5
    ipureintro
    refine (View.read_writes_eq_canon _ _ _ (cover0_5 _)).trans ?_
    rfl
  isplitl [H6]
  · iexists _; isplitr
    swap; · iexact H6
    ipureintro
    refine (View.read_writes_eq_canon _ _ _ (cover0_6 _)).trans ?_
    rfl
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  iexists _; isplitr
  swap; · iexact H12
  ipureintro
  refine (View.read_writes_eq_canon _ _ _ (cover0_12 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
    | ⟨7, _⟩ => out0_7 (iblk0 V c 0 t) (iblk0 V c 1 t) (iblk0 V c 2 t) (iblk0 V c 3 t)
    | ⟨8, _⟩ => out0_8 (iblk0 V c 0 t) (iblk0 V c 1 t) (iblk0 V c 2 t) (iblk0 V c 3 t)
    | ⟨9, _⟩ => out0_9 (iblk0 V c 0 t) (iblk0 V c 1 t) (iblk0 V c 2 t) (iblk0 V c 3 t)
    | ⟨10, _⟩ => out0_10 (iblk0 V c 0 t) (iblk0 V c 1 t) (iblk0 V c 2 t) (iblk0 V c 3 t)
    | ⟨11, _⟩ => out0_11 (iblk0 V c 0 t) (iblk0 V c 1 t) (iblk0 V c 2 t) (iblk0 V c 3 t)
    | ⟨12, _⟩ => out0_12 (iblk0 V c 0 t) (iblk0 V c 1 t) (iblk0 V c 2 t) (iblk0 V c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]
theorem after0_7 (c : Dev nD) (t : Fin cfg0.N) : (dat0 V c).after 7 t = out0_7 (iblk0 V c 0 t) (iblk0 V c 1 t) (iblk0 V c 2 t) (iblk0 V c 3 t) := by dsimp only [dat0]
theorem after0_8 (c : Dev nD) (t : Fin cfg0.N) : (dat0 V c).after 8 t = out0_8 (iblk0 V c 0 t) (iblk0 V c 1 t) (iblk0 V c 2 t) (iblk0 V c 3 t) := by dsimp only [dat0]
theorem after0_9 (c : Dev nD) (t : Fin cfg0.N) : (dat0 V c).after 9 t = out0_9 (iblk0 V c 0 t) (iblk0 V c 1 t) (iblk0 V c 2 t) (iblk0 V c 3 t) := by dsimp only [dat0]
theorem after0_10 (c : Dev nD) (t : Fin cfg0.N) : (dat0 V c).after 10 t = out0_10 (iblk0 V c 0 t) (iblk0 V c 1 t) (iblk0 V c 2 t) (iblk0 V c 3 t) := by dsimp only [dat0]
theorem after0_11 (c : Dev nD) (t : Fin cfg0.N) : (dat0 V c).after 11 t = out0_11 (iblk0 V c 0 t) (iblk0 V c 1 t) (iblk0 V c 2 t) (iblk0 V c 3 t) := by dsimp only [dat0]
theorem after0_12 (c : Dev nD) (t : Fin cfg0.N) : (dat0 V c).after 12 t = out0_12 (iblk0 V c 0 t) (iblk0 V c 1 t) (iblk0 V c 2 t) (iblk0 V c 3 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

/-- The body at any point: the inputs' memrefs hold their blocks (`before0_W`), so `sound_kernel` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Prep

end
-- ==== Proof.Twin.Rolled.lean ====
/-
The decode kernel's score block, written once per tile. The printed body spells out the sixteen tiles of a block (eight key
heads, two groups of 1,024 positions) one after another; here one tile is a program over its two numbers, and the printed
region is shown to be the sixteen of them in order, then the rest of the block.
-/
module

public import proofs.«01_k».proof.Proof.Gen.Kernel.Skeleton
public import proofs.«01_k».proof.Proof.Gen.Kernel.Launch
public import Idealize.ShloMosaic.Lib.Pipeline.Regions
public import Idealize.ShloMosaic.Lib.VecWindow

@[expose] public section

noncomputable section

namespace Cert.Kernel.Attend

open Idealize.ShloMosaic Idealize.SL.Sem Cert.Kernel Cert.Kernel.Gen

variable {F : FTy → Type} [FloatOps F]

/-! ## What one tile computes -/

/-- The bit plane that a left shift by `sh` brings to bit 14 of every half word, as bf16: 2.0 or 0.0. -/
def shlPlane (w : IVec S8x128 32) (sh : BitVec 32) : FVec F S16x128 .bf16 :=
  bitcastToFloat .bf16 (bitcast S16x128 16 (andi (shli w (broadcast S8x128 sh)) (broadcast S8x128 1073758208#32)) bitcasts_S8x128_w32_S16x128_w16)

/-- The last plane, which a right shift brings there. -/
def shrPlane (w : IVec S8x128 32) : FVec F S16x128 .bf16 :=
  bitcastToFloat .bf16 (bitcast S16x128 16 (andi (shrui w (broadcast S8x128 1#32)) (broadcast S8x128 1073758208#32)) bitcasts_S8x128_w32_S16x128_w16)

/-- The 256 sign rows of a group of 32 rows of packed bytes: sixteen planes of sixteen half-word rows. -/
def expand (v : Vec F S1x1x1x32x128 .i8) : FVec F S256x128 .bf16 :=
  let w : IVec S8x128 32 := bitcast S8x128 32 (shapeCast S32x128 v shapeCasts_S1x1x1x32x128_S32x128) bitcasts_S32x128_w8_S8x128_w32
  concatenate S256x128 0 [⟨S16x128, shlPlane w 14#32⟩, ⟨S16x128, shlPlane w 13#32⟩, ⟨S16x128, shlPlane w 12#32⟩, ⟨S16x128, shlPlane w 11#32⟩,
    ⟨S16x128, shlPlane w 10#32⟩, ⟨S16x128, shlPlane w 9#32⟩, ⟨S16x128, shlPlane w 8#32⟩, ⟨S16x128, shlPlane w 7#32⟩,
    ⟨S16x128, shlPlane w 6#32⟩, ⟨S16x128, shlPlane w 5#32⟩, ⟨S16x128, shlPlane w 4#32⟩, ⟨S16x128, shlPlane w 3#32⟩,
    ⟨S16x128, shlPlane w 2#32⟩, ⟨S16x128, shlPlane w 1#32⟩, ⟨S16x128, shlPlane w 0#32⟩, ⟨S16x128, shrPlane w⟩]
    concatenates_S16x128_S16x128_S16x128_S16x128_S16x128_S16x128_S16x128_S16x128_S16x128_S16x128_S16x128_S16x128_S16x128_S16x128_S16x128_S16x128_S256x128_d0

/-- One byte column's product: sixteen rows of queries by the sign rows of two groups of packed bytes. -/
def part (l : Vec F S1x16x256 .bf16) (a b : Vec F S1x1x1x32x128 .i8) : FVec F S16x256 .f32 :=
  matmul dot_S16x256_S256x256_S16x256_1_0_0_1_n_n none (shapeCast S16x256 l shapeCasts_S1x16x256_S16x256)
    (concatenate S256x256 1 [⟨S256x128, expand a⟩, ⟨S256x128, expand b⟩] concatenates_S256x128_S256x128_S256x256_d1)
    (constant S16x256 .f32 0x00000000#32)

/-! ## Rectangles -/

theorem inb_lhs {t kv : ℕ} (ht : t < 6) (hkv : kv < 8) : ∀ a, (![t, kv * 16, 0] : Fin 3 → ℕ) a + S1x16x256.size a ≤ S6x128x256.size a := by
  intro a; fin_cases a <;> simp [S1x16x256, S6x128x256] <;> omega

theorem inb_bits {t kv r : ℕ} (ht : t < 6) (hkv : kv < 8) (hr : r < 4) :
    ∀ a, (![0, kv, t, r * 32, 0] : Fin 5 → ℕ) a + S1x1x1x32x128.size a ≤ S1x8x6x128x128.size a := by
  intro a; fin_cases a <;> simp [S1x1x1x32x128, S1x8x6x128x128] <;> omega

theorem inb_piece {kv p : ℕ} (hkv : kv < 8) (hp : p < 16) :
    ∀ a, (![0, kv * 4, p * 128] : Fin 3 → ℕ) a + S1x4x128.size a ≤ S1x32x2048.size a := by
  intro a; fin_cases a <;> simp [S1x4x128, S1x32x2048] <;> omega

theorem inb_codes {kv : ℕ} (hkv : kv < 8) : ∀ a, (![0, kv, 0, 0] : Fin 4 → ℕ) a + S1x1x64x2048.size a ≤ S1x8x64x2048.size a := by
  intro a; fin_cases a <;> simp [S1x1x64x2048, S1x8x64x2048] <;> omega

theorem inb_acc {kv : ℕ} (hkv : kv < 8) : ∀ a, (![kv * 128, 0] : Fin 2 → ℕ) a + S128x32.size a ≤ S1024x32.size a := by
  intro a; fin_cases a <;> simp [S128x32, S1024x32] <;> omega

theorem slices_piece {c h : ℕ} (hc : c < 4) (hh : h < 2) : S16x256.Slices ![c * 4, h * 128] S4x128 := by
  refine ⟨rfl, ?_⟩
  intro a; fin_cases a <;> simp [S4x128, S16x256] <;> omega

/-! ## One tile as a program -/

/-- One byte column's loads and product. -/
def termProg (arg3 : Memref sig .tc .vmem S6x128x256 .bf16) (arg4 : Memref sig .tc .vmem S1x8x6x128x128 .i8) (kv u t : ℕ) (hkv : kv < 8) (hu : u < 2) (ht : t < 6) :
    Prog (TpuEff nD τ sig (Elt F) Λ₀ .tc) (FVec F S16x256 .f32) := do
  let l : Vec F S1x16x256 .bf16 ← Prog.lift (.load arg3 (Rect.unit (s := S6x128x256) ![t, kv * 16, 0] S1x16x256.size (inb_lhs ht hkv)).toLoadRect (View.loadsAt_vmem h_S1x16x256))
  let a : Vec F S1x1x1x32x128 .i8 ← Prog.lift (.load arg4 (Rect.unit (s := S1x8x6x128x128) ![0, kv, t, (u * 2 + 0) * 32, 0] S1x1x1x32x128.size (inb_bits ht hkv (by omega))).toLoadRect (View.loadsAt_vmem h_S1x1x1x32x128))
  let b : Vec F S1x1x1x32x128 .i8 ← Prog.lift (.load arg4 (Rect.unit (s := S1x8x6x128x128) ![0, kv, t, (u * 2 + 1) * 32, 0] S1x1x1x32x128.size (inb_bits ht hkv (by omega))).toLoadRect (View.loadsAt_vmem h_S1x1x1x32x128))
  pure (part l a b)

/-- The four rows of a tile's product that are 128 positions of the four heads. -/
def piece (acc : FVec F S16x256 .f32) (h c : ℕ) (hh : h < 2) (hc : c < 4) : FVec F S1x4x128 .f32 :=
  shapeCast S1x4x128 (extractStridedSlice S4x128 ![c * 4, h * 128] acc (slices_piece hc hh)) shapeCasts_S4x128_S1x4x128

/-- One piece's store. -/
def pieceProg (arg13 : Memref sig .tc .vmem S1x32x2048 .f32) (kv u h c : ℕ) (hkv : kv < 8) (hu : u < 2) (hh : h < 2) (hc : c < 4)
    (acc : FVec F S16x256 .f32) : Prog (TpuEff nD τ sig (Elt F) Λ₀ .tc) PUnit := do
  let _d : Vec F S1x4x128 .f32 ← Prog.lift (.load arg13 (Rect.unit (s := S1x32x2048) ![0, kv * 4, (u * 8 + h * 4 + c) * 128] S1x4x128.size (inb_piece hkv (by omega))).toLoadRect (View.loadsAt_vmem h_S1x4x128))
  Prog.lift (.store arg13 (Rect.unit (s := S1x32x2048) ![0, kv * 4, (u * 8 + h * 4 + c) * 128] S1x4x128.size (inb_piece hkv (by omega))) (piece acc h c hh hc) Finset.univ (View.stores_vmem_bits_univ h_S1x4x128 rfl) (.inl rfl))

/-- One tile: six products added up, eight pieces stored. -/
def tile (arg3 : Memref sig .tc .vmem S6x128x256 .bf16) (arg4 : Memref sig .tc .vmem S1x8x6x128x128 .i8) (arg13 : Memref sig .tc .vmem S1x32x2048 .f32)
    (kv u : ℕ) (hkv : kv < 8) (hu : u < 2) : Prog (TpuEff nD τ sig (Elt F) Λ₀ .tc) PUnit := do
  let a0 ← termProg arg3 arg4 kv u 0 hkv hu (by omega)
  let a1 ← termProg arg3 arg4 kv u 1 hkv hu (by omega)
  let a2 ← termProg arg3 arg4 kv u 2 hkv hu (by omega)
  let a3 ← termProg arg3 arg4 kv u 3 hkv hu (by omega)
  let a4 ← termProg arg3 arg4 kv u 4 hkv hu (by omega)
  let a5 ← termProg arg3 arg4 kv u 5 hkv hu (by omega)
  let acc : FVec F S16x256 .f32 := addf (addf (addf (addf (addf a0 a1) a2) a3) a4) a5
  pieceProg arg13 kv u 0 0 hkv hu (by omega) (by omega) acc
  pieceProg arg13 kv u 0 1 hkv hu (by omega) (by omega) acc
  pieceProg arg13 kv u 0 2 hkv hu (by omega) (by omega) acc
  pieceProg arg13 kv u 0 3 hkv hu (by omega) (by omega) acc
  pieceProg arg13 kv u 1 0 hkv hu (by omega) (by omega) acc
  pieceProg arg13 kv u 1 1 hkv hu (by omega) (by omega) acc
  pieceProg arg13 kv u 1 2 hkv hu (by omega) (by omega) acc
  pieceProg arg13 kv u 1 3 hkv hu (by omega) (by omega) acc

/-! ## The rest of the block -/

/-- Eight rows, one per key head, repeated over the four query heads of each. -/
def perHead (v : FVec F S8x2048 .f32) : FVec F S32x2048 .f32 :=
  concatenate S32x2048 0
    [⟨S4x2048, broadcastTo S4x2048 (shapeCast S1x2048 (extractStridedSlice S1x2048 ![0, 0] v slices_S8x2048_o0_0_S1x2048) shapeCasts_S1x2048_S1x2048) broadcasts_S1x2048_S4x2048⟩,
     ⟨S4x2048, broadcastTo S4x2048 (shapeCast S1x2048 (extractStridedSlice S1x2048 ![1, 0] v slices_S8x2048_o1_0_S1x2048) shapeCasts_S1x2048_S1x2048) broadcasts_S1x2048_S4x2048⟩,
     ⟨S4x2048, broadcastTo S4x2048 (shapeCast S1x2048 (extractStridedSlice S1x2048 ![2, 0] v slices_S8x2048_o2_0_S1x2048) shapeCasts_S1x2048_S1x2048) broadcasts_S1x2048_S4x2048⟩,
     ⟨S4x2048, broadcastTo S4x2048 (shapeCast S1x2048 (extractStridedSlice S1x2048 ![3, 0] v slices_S8x2048_o3_0_S1x2048) shapeCasts_S1x2048_S1x2048) broadcasts_S1x2048_S4x2048⟩,
     ⟨S4x2048, broadcastTo S4x2048 (shapeCast S1x2048 (extractStridedSlice S1x2048 ![4, 0] v slices_S8x2048_o4_0_S1x2048) shapeCasts_S1x2048_S1x2048) broadcasts_S1x2048_S4x2048⟩,
     ⟨S4x2048, broadcastTo S4x2048 (shapeCast S1x2048 (extractStridedSlice S1x2048 ![5, 0] v slices_S8x2048_o5_0_S1x2048) shapeCasts_S1x2048_S1x2048) broadcasts_S1x2048_S4x2048⟩,
     ⟨S4x2048, broadcastTo S4x2048 (shapeCast S1x2048 (extractStridedSlice S1x2048 ![6, 0] v slices_S8x2048_o6_0_S1x2048) shapeCasts_S1x2048_S1x2048) broadcasts_S1x2048_S4x2048⟩,
     ⟨S4x2048, broadcastTo S4x2048 (shapeCast S1x2048 (extractStridedSlice S1x2048 ![7, 0] v slices_S8x2048_o7_0_S1x2048) shapeCasts_S1x2048_S1x2048) broadcasts_S1x2048_S4x2048⟩]
    concatenates_S4x2048_S4x2048_S4x2048_S4x2048_S4x2048_S4x2048_S4x2048_S4x2048_S32x2048_d0

/-- The norms scaled by the estimator's constant, per query head. -/
def factor (nrm : Vec F S1x8x2048 .bf16) : FVec F S32x2048 .f32 :=
  perHead (mulf (extf .f32 (shapeCast S8x2048 nrm shapeCasts_S1x8x2048_S8x2048) bitsLt_bf16_f32) (broadcast S8x2048 (Scalar.ofBits .f32 0x39973FD8#32)))

/-- The block's scores: the raw products less the query sums, scaled. -/
def scoresB (nrm : Vec F S1x8x2048 .bf16) (raw : Vec F S1x32x2048 .f32) (qs : Vec F S32x1 .f32) : FVec F S32x2048 .f32 :=
  mulf (subf (shapeCast S32x2048 raw shapeCasts_S1x32x2048_S32x2048) (broadcastTo S32x2048 (shapeCast S32x1 qs shapeCasts_S32x1_S32x1) broadcasts_S32x1_S32x2048)) (factor nrm)

/-- Which of the block's positions lie before the sequence's length `v1`; `v2` is the block's first position. -/
def validB (v2 v1 : BitVec 32) : IVec S32x2048 1 :=
  cmpi .slt (addi (broadcast S32x2048 v2) (iota .tc S32x2048 32 [1] iota_S32x2048_d1_w32)) (broadcast S32x2048 v1)

/-- The scores the block hands out: zero past the length. -/
def csB (v2 v1 : BitVec 32) (nrm : Vec F S1x8x2048 .bf16) (raw : Vec F S1x32x2048 .f32) (qs : Vec F S32x1 .f32) : FVec F S1x32x2048 .f32 :=
  shapeCast S1x32x2048 (select (validB v2 v1) (scoresB nrm raw qs) (broadcast S32x2048 (Scalar.ofBits .f32 0x00000000#32))) shapeCasts_S32x2048_S1x32x2048

/-- The scores the softmax reads: −∞ past the length. -/
def maskedB (v2 v1 : BitVec 32) (nrm : Vec F S1x8x2048 .bf16) (raw : Vec F S1x32x2048 .f32) (qs : Vec F S32x1 .f32) : FVec F S32x2048 .f32 :=
  select (validB v2 v1) (scoresB nrm raw qs) (broadcast S32x2048 (Scalar.ofBits .f32 0xFF800000#32))

/-- The running maximum after the block. -/
def mNew (msk : FVec F S32x2048 .f32) (m : Vec F S32x128 .f32) : FVec F S32x128 .f32 :=
  maximumf m (broadcastTo S32x128 (shapeCast S32x1 (multiReduction .maximumf [1] S32 msk 0xFF800000#32 reduces_S32x2048_S32 (.inl rfl) rfl) shapeCasts_S32_S32x1) broadcasts_S32x1_S32x128)

/-- The factor the block rescales the running sums by. -/
def alphaB (msk : FVec F S32x2048 .f32) (m : Vec F S32x128 .f32) : FVec F S32x128 .f32 := exp (subf m (mNew msk m))

/-- The block's exponentials. -/
def eB (msk : FVec F S32x2048 .f32) (m : Vec F S32x128 .f32) : FVec F S32x2048 .f32 :=
  exp (subf msk (broadcastTo S32x2048 (extractStridedSlice S32x1 ![0, 0] (mNew msk m) slices_S32x128_o0_0_S32x1) broadcasts_S32x1_S32x2048))

/-- The running denominator after the block. -/
def lNew (msk : FVec F S32x2048 .f32) (m l : Vec F S32x128 .f32) : FVec F S32x128 .f32 :=
  shapeCast S32x128 (addf (mulf l (alphaB msk m)) (broadcastTo S32x128 (shapeCast S32x1 (multiReduction .add [1] S32 (eB msk m) 0x00000000#32 reduces_S32x2048_S32 (.inl rfl) rfl) shapeCasts_S32_S32x1) broadcasts_S32x1_S32x128)) shapeCasts_S32x128_S32x128

/-- The block's weights: the exponentials times the values' scales, in bf16. -/
def pB (msk : FVec F S32x2048 .f32) (m : Vec F S32x128 .f32) (vs : Vec F S1x8x2048 .f32) : FVec F S32x2048 .bf16 :=
  shapeCast S32x2048 (truncf .bf16 (mulf (eB msk m) (perHead (shapeCast S8x2048 vs shapeCasts_S1x8x2048_S8x2048))) bitsLt_bf16_f32) shapeCasts_S32x2048_S32x2048

/-- The rescaling factors as one row over the heads. -/
def alphaRow (msk : FVec F S32x2048 .f32) (m : Vec F S32x128 .f32) : FVec F S1x128 .f32 :=
  extractStridedSlice S1x128 ![0, 0]
    (transpose S128x128 [1, 0]
      (concatenate S128x128 0 [⟨S32x128, alphaB msk m⟩, ⟨S32x128, alphaB msk m⟩, ⟨S32x128, alphaB msk m⟩, ⟨S32x128, alphaB msk m⟩] concatenates_S32x128_S32x128_S32x128_S32x128_S128x128_d0)
      transposes_S128x128_p1_0_S128x128)
    slices_S128x128_o0_0_S1x128

/-- One head's packed codes, unpacked: row `2r` the low half of byte row `r`, row `2r + 1` the high half, each sign-extended. -/
def unpack (v : Vec F S1x1x64x2048 .i8) : FVec F S128x2048 .bf16 :=
  let w : IVec S64x2048 32 := extui 32 (shapeCast S64x2048 v shapeCasts_S1x1x64x2048_S64x2048) natLt_8_32
  truncf .bf16 (sitofp .f32 (shapeCast S128x2048 (concatenate S64x2x2048 1
    [⟨S64x1x2048, shapeCast S64x1x2048 (shrsi (shli w (broadcast S64x2048 28#32)) (broadcast S64x2048 28#32)) shapeCasts_S64x2048_S64x1x2048⟩,
     ⟨S64x1x2048, shapeCast S64x1x2048 (shrsi (shli w (broadcast S64x2048 24#32)) (broadcast S64x2048 28#32)) shapeCasts_S64x2048_S64x1x2048⟩]
    concatenates_S64x1x2048_S64x1x2048_S64x2x2048_d1) shapeCasts_S64x2x2048_S128x2048)) bitsLt_bf16_f32

/-- One head's rows of the running weighted sum after the block. -/
def accRows (ar : FVec F S1x128 .f32) (p : Vec F S32x2048 .bf16) (v : Vec F S1x1x64x2048 .i8) (a : Vec F S128x32 .f32) : FVec F S128x32 .f32 :=
  shapeCast S128x32 (addf (mulf a (broadcastTo S128x32 (extractStridedSlice S1x32 ![0, 0] ar slices_S1x128_o0_0_S1x32) broadcasts_S1x32_S128x32))
    (matmul dot_S128x2048_S32x2048_S128x32_1_1_0_0_n_n none (unpack v) p (constant S128x32 .f32 0x00000000#32))) shapeCasts_S128x32_S128x32

/-- One head's step of the running weighted sum. -/
def accProg (arg6 : Memref sig .tc .vmem S1x8x64x2048 .i8) (arg16 : Memref sig .tc .vmem S1024x32 .f32) (kv : ℕ) (hkv : kv < 8)
    (ar : FVec F S1x128 .f32) (p : Vec F S32x2048 .bf16) : Prog (TpuEff nD τ sig (Elt F) Λ₀ .tc) PUnit := do
  let v : Vec F S1x1x64x2048 .i8 ← Prog.lift (.load arg6 (Rect.unit (s := S1x8x64x2048) ![0, kv, 0, 0] S1x1x64x2048.size (inb_codes hkv)).toLoadRect (View.loadsAt_vmem h_S1x1x64x2048))
  let a : Vec F S128x32 .f32 ← Prog.lift (.load arg16 (Rect.unit (s := S1024x32) ![kv * 128, 0] S128x32.size (inb_acc hkv)).toLoadRect (View.loadsAt_vmem h_S128x32))
  let _d : Vec F S128x32 .f32 ← Prog.lift (.load arg16 (Rect.unit (s := S1024x32) ![kv * 128, 0] S128x32.size (inb_acc hkv)).toLoadRect (View.loadsAt_vmem h_S128x32))
  Prog.lift (.store arg16 (Rect.unit (s := S1024x32) ![kv * 128, 0] S128x32.size (inb_acc hkv)) (accRows ar p v a) Finset.univ (View.stores_vmem_bits_univ h_S128x32 rfl) (.inl rfl))

/-- What the block does once its tiles are stored. -/
def tailProg (v2 v1 : BitVec 32) (arg5 : Memref sig .tc .vmem S1x8x2048 .bf16) (arg6 : Memref sig .tc .vmem S1x8x64x2048 .i8)
    (arg7 : Memref sig .tc .vmem S1x8x2048 .f32) (arg9 : Memref sig .tc .vmem S32x1 .f32) (arg13 : Memref sig .tc .vmem S1x32x2048 .f32)
    (arg14 : Memref sig .tc .vmem S32x128 .f32) (arg15 : Memref sig .tc .vmem S32x128 .f32) (arg16 : Memref sig .tc .vmem S1024x32 .f32)
    (arg17 : Memref sig .tc .vmem S32x2048 .bf16) (harg17 : arg17.IsWhole) : Prog (TpuEff nD τ sig (Elt F) Λ₀ .tc) PUnit := do
  let nrm : Vec F S1x8x2048 .bf16 ← Prog.lift (.load arg5 (Rect.unit (s := S1x8x2048) ![0, 0, 0] S1x8x2048.size inb_S1x8x2048_S1x8x2048_0_0_0).toLoadRect (View.loadsAt_vmem h_S1x8x2048))
  let raw : Vec F S1x32x2048 .f32 ← Prog.lift (.load arg13 (Rect.unit (s := S1x32x2048) ![0, 0, 0] S1x32x2048.size inb_S1x32x2048_S1x32x2048_0_0_0).toLoadRect (View.loadsAt_vmem h_S1x32x2048))
  let qs : Vec F S32x1 .f32 ← Prog.lift (.load arg9 (Rect.unit (s := S32x1) ![0, 0] S32x1.size inb_S32x1_S32x1_0_0).toLoadRect (View.loadsAt_vmem h_S32x1))
  let _d0 : Vec F S1x32x2048 .f32 ← Prog.lift (.load arg13 (Rect.unit (s := S1x32x2048) ![0, 0, 0] S1x32x2048.size inb_S1x32x2048_S1x32x2048_0_0_0).toLoadRect (View.loadsAt_vmem h_S1x32x2048))
  Prog.lift (.store arg13 (Rect.unit (s := S1x32x2048) ![0, 0, 0] S1x32x2048.size inb_S1x32x2048_S1x32x2048_0_0_0) (csB v2 v1 nrm raw qs) Finset.univ (View.stores_vmem_bits_univ h_S1x32x2048 rfl) (.inl rfl))
  let m : Vec F S32x128 .f32 ← Prog.lift (.load arg14 (Rect.unit (s := S32x128) ![0, 0] S32x128.size inb_S32x128_S32x128_0_0).toLoadRect (View.loadsAt_vmem h_S32x128))
  let l : Vec F S32x128 .f32 ← Prog.lift (.load arg15 (Rect.unit (s := S32x128) ![0, 0] S32x128.size inb_S32x128_S32x128_0_0).toLoadRect (View.loadsAt_vmem h_S32x128))
  let _d1 : Vec F S32x128 .f32 ← Prog.lift (.load arg15 (Rect.unit (s := S32x128) ![0, 0] S32x128.size inb_S32x128_S32x128_0_0).toLoadRect (View.loadsAt_vmem h_S32x128))
  Prog.lift (.store arg15 (Rect.unit (s := S32x128) ![0, 0] S32x128.size inb_S32x128_S32x128_0_0) (lNew (maskedB v2 v1 nrm raw qs) m l) Finset.univ (View.stores_vmem_bits_univ h_S32x128 rfl) (.inl rfl))
  let _d2 : Vec F S32x128 .f32 ← Prog.lift (.load arg14 (Rect.unit (s := S32x128) ![0, 0] S32x128.size inb_S32x128_S32x128_0_0).toLoadRect (View.loadsAt_vmem h_S32x128))
  Prog.lift (.store arg14 (Rect.unit (s := S32x128) ![0, 0] S32x128.size inb_S32x128_S32x128_0_0) (shapeCast S32x128 (mNew (maskedB v2 v1 nrm raw qs) m) shapeCasts_S32x128_S32x128) Finset.univ (View.stores_vmem_bits_univ h_S32x128 rfl) (.inl rfl))
  let vs : Vec F S1x8x2048 .f32 ← Prog.lift (.load arg7 (Rect.unit (s := S1x8x2048) ![0, 0, 0] S1x8x2048.size inb_S1x8x2048_S1x8x2048_0_0_0).toLoadRect (View.loadsAt_vmem h_S1x8x2048))
  let _d3 : Vec F S32x2048 .bf16 ← Prog.lift (.load arg17 (Rect.unit (s := S32x2048) ![0, 0] S32x2048.size inb_S32x2048_S32x2048_0_0).toLoadRect (View.loadsAt_vmem h_S32x2048))
  Prog.lift (.store arg17 (Rect.unit (s := S32x2048) ![0, 0] S32x2048.size inb_S32x2048_S32x2048_0_0) (pB (maskedB v2 v1 nrm raw qs) m vs) Finset.univ (View.stores_vmem h_S32x2048 (harg17.storeExact_slice rfl _ packedbf16_S32x2048_S32x2048_0_0) (fun _ => rfl)) (.inl rfl))
  let p : Vec F S32x2048 .bf16 ← Prog.lift (.load arg17 (Rect.unit (s := S32x2048) ![0, 0] S32x2048.size inb_S32x2048_S32x2048_0_0).toLoadRect (View.loadsAt_vmem h_S32x2048))
  let ar : FVec F S1x128 .f32 := alphaRow (maskedB v2 v1 nrm raw qs) m
  accProg arg6 arg16 0 (by omega) ar p
  accProg arg6 arg16 1 (by omega) ar p
  accProg arg6 arg16 2 (by omega) ar p
  accProg arg6 arg16 3 (by omega) ar p
  accProg arg6 arg16 4 (by omega) ar p
  accProg arg6 arg16 5 (by omega) ar p
  accProg arg6 arg16 6 (by omega) ar p
  accProg arg6 arg16 7 (by omega) ar p

/-- The sixteen tiles in order. -/
def tilesProg (arg3 : Memref sig .tc .vmem S6x128x256 .bf16) (arg4 : Memref sig .tc .vmem S1x8x6x128x128 .i8) (arg13 : Memref sig .tc .vmem S1x32x2048 .f32) :
    Prog (TpuEff nD τ sig (Elt F) Λ₀ .tc) PUnit := do
  tile arg3 arg4 arg13 0 0 (by omega) (by omega)
  tile arg3 arg4 arg13 0 1 (by omega) (by omega)
  tile arg3 arg4 arg13 1 0 (by omega) (by omega)
  tile arg3 arg4 arg13 1 1 (by omega) (by omega)
  tile arg3 arg4 arg13 2 0 (by omega) (by omega)
  tile arg3 arg4 arg13 2 1 (by omega) (by omega)
  tile arg3 arg4 arg13 3 0 (by omega) (by omega)
  tile arg3 arg4 arg13 3 1 (by omega) (by omega)
  tile arg3 arg4 arg13 4 0 (by omega) (by omega)
  tile arg3 arg4 arg13 4 1 (by omega) (by omega)
  tile arg3 arg4 arg13 5 0 (by omega) (by omega)
  tile arg3 arg4 arg13 5 1 (by omega) (by omega)
  tile arg3 arg4 arg13 6 0 (by omega) (by omega)
  tile arg3 arg4 arg13 6 1 (by omega) (by omega)
  tile arg3 arg4 arg13 7 0 (by omega) (by omega)
  tile arg3 arg4 arg13 7 1 (by omega) (by omega)

/-- The whole block. -/
def blockProg (v2 v1 : BitVec 32) (arg3 : Memref sig .tc .vmem S6x128x256 .bf16) (arg4 : Memref sig .tc .vmem S1x8x6x128x128 .i8)
    (arg5 : Memref sig .tc .vmem S1x8x2048 .bf16) (arg6 : Memref sig .tc .vmem S1x8x64x2048 .i8)
    (arg7 : Memref sig .tc .vmem S1x8x2048 .f32) (arg9 : Memref sig .tc .vmem S32x1 .f32) (arg13 : Memref sig .tc .vmem S1x32x2048 .f32)
    (arg14 : Memref sig .tc .vmem S32x128 .f32) (arg15 : Memref sig .tc .vmem S32x128 .f32) (arg16 : Memref sig .tc .vmem S1024x32 .f32)
    (arg17 : Memref sig .tc .vmem S32x2048 .bf16) (harg17 : arg17.IsWhole) : Prog (TpuEff nD τ sig (Elt F) Λ₀ .tc) PUnit := do
  tilesProg arg3 arg4 arg13
  tailProg v2 v1 arg5 arg6 arg7 arg9 arg13 arg14 arg15 arg16 arg17 harg17

/-! ## The other three regions -/

/-- What the running maximum starts at: the new token's score. -/
def m0B (sn : Vec F S32x1 .f32) : FVec F S32x128 .f32 :=
  shapeCast S32x128 (broadcastTo S32x128 (shapeCast S32x1 (shapeCast S32x1 sn shapeCasts_S32x1_S32x1) shapeCasts_S32x1_S32x1) broadcasts_S32x1_S32x128) shapeCasts_S32x128_S32x128

/-- What the running denominator starts at: one, the new token's own term. -/
def l0B : FVec F S32x128 .f32 := shapeCast S32x128 (broadcast S32x128 (Scalar.ofBits .f32 0x3F800000#32)) shapeCasts_S32x128_S32x128

/-- What the running weighted sum starts at. -/
def a0B : FVec F S1024x32 .f32 := shapeCast S1024x32 (broadcast S1024x32 (Scalar.ofBits .f32 0x00000000#32)) shapeCasts_S1024x32_S1024x32

/-- The first point of a sequence: the running values are set. -/
def initProg (arg8 : Memref sig .tc .vmem S32x1 .f32)
    (arg14 : Memref sig .tc .vmem S32x128 .f32) (arg15 : Memref sig .tc .vmem S32x128 .f32) (arg16 : Memref sig .tc .vmem S1024x32 .f32) : Prog (TpuEff nD τ sig (Elt F) Λ₀ .tc) PUnit := do
  let sn : Vec F S32x1 .f32 ← Prog.lift (.load arg8 (Rect.unit (s := S32x1) ![0, 0] S32x1.size inb_S32x1_S32x1_0_0).toLoadRect (View.loadsAt_vmem h_S32x1))
  let _d0 : Vec F S32x128 .f32 ← Prog.lift (.load arg14 (Rect.unit (s := S32x128) ![0, 0] S32x128.size inb_S32x128_S32x128_0_0).toLoadRect (View.loadsAt_vmem h_S32x128))
  Prog.lift (.store arg14 (Rect.unit (s := S32x128) ![0, 0] S32x128.size inb_S32x128_S32x128_0_0) (m0B sn) Finset.univ (View.stores_vmem_bits_univ h_S32x128 rfl) (.inl rfl))
  let _d1 : Vec F S32x128 .f32 ← Prog.lift (.load arg15 (Rect.unit (s := S32x128) ![0, 0] S32x128.size inb_S32x128_S32x128_0_0).toLoadRect (View.loadsAt_vmem h_S32x128))
  Prog.lift (.store arg15 (Rect.unit (s := S32x128) ![0, 0] S32x128.size inb_S32x128_S32x128_0_0) l0B Finset.univ (View.stores_vmem_bits_univ h_S32x128 rfl) (.inl rfl))
  let _d2 : Vec F S1024x32 .f32 ← Prog.lift (.load arg16 (Rect.unit (s := S1024x32) ![0, 0] S1024x32.size inb_S1024x32_S1024x32_0_0).toLoadRect (View.loadsAt_vmem h_S1024x32))
  Prog.lift (.store arg16 (Rect.unit (s := S1024x32) ![0, 0] S1024x32.size inb_S1024x32_S1024x32_0_0) a0B Finset.univ (View.stores_vmem_bits_univ h_S1024x32 rfl) (.inl rfl))

/-- The scores of a block past the length. -/
def zeroB : FVec F S1x32x2048 .f32 := shapeCast S1x32x2048 (broadcast S32x2048 (Scalar.ofBits .f32 0x00000000#32)) shapeCasts_S32x2048_S1x32x2048

/-- A block past the length: its scores are zero. -/
def skipProg (arg13 : Memref sig .tc .vmem S1x32x2048 .f32) : Prog (TpuEff nD τ sig (Elt F) Λ₀ .tc) PUnit := do
  let _d : Vec F S1x32x2048 .f32 ← Prog.lift (.load arg13 (Rect.unit (s := S1x32x2048) ![0, 0, 0] S1x32x2048.size inb_S1x32x2048_S1x32x2048_0_0_0).toLoadRect (View.loadsAt_vmem h_S1x32x2048))
  Prog.lift (.store arg13 (Rect.unit (s := S1x32x2048) ![0, 0, 0] S1x32x2048.size inb_S1x32x2048_S1x32x2048_0_0_0) zeroB Finset.univ (View.stores_vmem_bits_univ h_S1x32x2048 rfl) (.inl rfl))

/-- Every column's key head. -/
def colHead : IVec S64x32 32 :=
  let v15 : IVec S64x32 32 := iota .tc S64x32 32 [1] iota_S64x32_d1_w32
  let v17 : IVec S64x32 32 := divsi v15 (broadcast S64x32 4#32)
  select (andi (cmpi .ne (subi (extui 32 (cmpi .sgt v15 (broadcast S64x32 0#32)) natLt_1_32) (extui 32 (cmpi .slt v15 (broadcast S64x32 0#32)) natLt_1_32))
      (broadcast S64x32 (Scalar.subi (Scalar.extui (Scalar.cmpi .sgt 4#32 0#32)) (Scalar.extui (Scalar.cmpi .slt 4#32 0#32)))))
    (cmpi .ne (remsi v15 (broadcast S64x32 4#32)) (broadcast S64x32 0#32)))
    (subi v17 (broadcast S64x32 1#32)) v17

/-- Keep `d` in the columns of key head `k`. -/
def pick (k : BitVec 32) (d acc : FVec F S64x32 .f32) : FVec F S64x32 .f32 := select (cmpi .eq colHead (broadcast S64x32 k)) d acc

/-- Every column's rows of the weighted sum, of one half of the nibbles. -/
def gather (d : Fin 8 → FVec F S64x32 .f32) : FVec F S64x32 .f32 :=
  pick 7#32 (d 7) (pick 6#32 (d 6) (pick 5#32 (d 5) (pick 4#32 (d 4) (pick 3#32 (d 3) (pick 2#32 (d 2) (pick 1#32 (d 1) (pick 0#32 (d 0)
    (broadcast S64x32 (Scalar.ofBits .f32 0x00000000#32)))))))))

/-- What the last point hands out: the cache's weighted sum over the denominator, plus the new token's own term. -/
def outB (lo hi : Fin 8 → FVec F S64x32 .f32) (l : Vec F S32x128 .f32) (sn : Vec F S32x1 .f32) (m : Vec F S32x1 .f32) (vsh : Vec F S32x1 .f32) (vch : Vec F S32x128 .f32) :
    FVec F S1x32x128 .bf16 :=
  shapeCast S1x32x128 (truncf .bf16
    (addf (divf (transpose S32x128 [1, 0] (concatenate S128x32 0 [⟨S64x32, gather lo⟩, ⟨S64x32, gather hi⟩] concatenates_S64x32_S64x32_S128x32_d0) transposes_S128x32_p1_0_S32x128) l)
      (mulf (broadcastTo S32x128 (extf .f32 (truncf .bf16 (mulf (divf (exp (subf (shapeCast S32x1 sn shapeCasts_S32x1_S32x1) m)) (extractStridedSlice S32x1 ![0, 0] l slices_S32x128_o0_0_S32x1)) (shapeCast S32x1 vsh shapeCasts_S32x1_S32x1)) bitsLt_bf16_f32) bitsLt_bf16_f32) broadcasts_S32x1_S32x128)
        (shapeCast S32x128 vch shapeCasts_S32x128_S32x128))) bitsLt_bf16_f32) shapeCasts_S32x128_S1x32x128

theorem inb_strided {kv nib : ℕ} (hkv : kv < 8) (hn : nib < 2) :
    ∀ a, S64x32.size a = 0 ∨ (![kv * 128 + nib, 0] : Fin 2 → ℕ) a + (![2, 1] : Fin 2 → ℕ) a * (S64x32.size a - 1) < S1024x32.size a := by
  intro a; right; fin_cases a <;> simp [S64x32, S1024x32] <;> omega

/-- Every other row of one head's part of the weighted sum. -/
def rowsProg (arg16 : Memref sig .tc .vmem S1024x32 .f32) (kv nib : ℕ) (hkv : kv < 8) (hn : nib < 2) : Prog (TpuEff nD τ sig (Elt F) Λ₀ .tc) (Vec F S64x32 .f32) :=
  Prog.lift (.load arg16 (⟨![kv * 128 + nib, 0], S64x32.size, ![2, 1], inb_strided hkv hn⟩ : LoadRect S1024x32) (View.loadsAt_vmem h_S64x32))

/-- The last point of a sequence. -/
def finProg (arg8 : Memref sig .tc .vmem S32x1 .f32) (arg10 : Memref sig .tc .vmem S32x128 .f32) (arg11 : Memref sig .tc .vmem S32x1 .f32)
    (arg12 : Memref sig .tc .vmem S1x32x128 .bf16) (harg12 : arg12.IsWhole)
    (arg14 : Memref sig .tc .vmem S32x128 .f32) (arg15 : Memref sig .tc .vmem S32x128 .f32) (arg16 : Memref sig .tc .vmem S1024x32 .f32) : Prog (TpuEff nD τ sig (Elt F) Λ₀ .tc) PUnit := do
  let a0 ← rowsProg arg16 0 0 (by omega) (by omega)
  let a1 ← rowsProg arg16 1 0 (by omega) (by omega)
  let a2 ← rowsProg arg16 2 0 (by omega) (by omega)
  let a3 ← rowsProg arg16 3 0 (by omega) (by omega)
  let a4 ← rowsProg arg16 4 0 (by omega) (by omega)
  let a5 ← rowsProg arg16 5 0 (by omega) (by omega)
  let a6 ← rowsProg arg16 6 0 (by omega) (by omega)
  let a7 ← rowsProg arg16 7 0 (by omega) (by omega)
  let b0 ← rowsProg arg16 0 1 (by omega) (by omega)
  let b1 ← rowsProg arg16 1 1 (by omega) (by omega)
  let b2 ← rowsProg arg16 2 1 (by omega) (by omega)
  let b3 ← rowsProg arg16 3 1 (by omega) (by omega)
  let b4 ← rowsProg arg16 4 1 (by omega) (by omega)
  let b5 ← rowsProg arg16 5 1 (by omega) (by omega)
  let b6 ← rowsProg arg16 6 1 (by omega) (by omega)
  let b7 ← rowsProg arg16 7 1 (by omega) (by omega)
  let l : Vec F S32x128 .f32 ← Prog.lift (.load arg15 (Rect.unit (s := S32x128) ![0, 0] S32x128.size inb_S32x128_S32x128_0_0).toLoadRect (View.loadsAt_vmem h_S32x128))
  let sn : Vec F S32x1 .f32 ← Prog.lift (.load arg8 (Rect.unit (s := S32x1) ![0, 0] S32x1.size inb_S32x1_S32x1_0_0).toLoadRect (View.loadsAt_vmem h_S32x1))
  let m : Vec F S32x1 .f32 ← Prog.lift (.load arg14 (Rect.unit (s := S32x128) ![0, 0] S32x1.size inb_S32x128_S32x1_0_0).toLoadRect (View.loadsAt_vmem h_S32x1))
  let vsh : Vec F S32x1 .f32 ← Prog.lift (.load arg11 (Rect.unit (s := S32x1) ![0, 0] S32x1.size inb_S32x1_S32x1_0_0).toLoadRect (View.loadsAt_vmem h_S32x1))
  let vch : Vec F S32x128 .f32 ← Prog.lift (.load arg10 (Rect.unit (s := S32x128) ![0, 0] S32x128.size inb_S32x128_S32x128_0_0).toLoadRect (View.loadsAt_vmem h_S32x128))
  let _d : Vec F S1x32x128 .bf16 ← Prog.lift (.load arg12 (Rect.unit (s := S1x32x128) ![0, 0, 0] S1x32x128.size inb_S1x32x128_S1x32x128_0_0_0).toLoadRect (View.loadsAt_vmem h_S1x32x128))
  Prog.lift (.store arg12 (Rect.unit (s := S1x32x128) ![0, 0, 0] S1x32x128.size inb_S1x32x128_S1x32x128_0_0_0) (outB ![a0, a1, a2, a3, a4, a5, a6, a7] ![b0, b1, b2, b3, b4, b5, b6, b7] l sn m vsh vch) Finset.univ (View.stores_vmem h_S1x32x128 (harg12.storeExact_slice rfl _ packedbf16_S1x32x128_S1x32x128_0_0_0) (fun _ => rfl)) (.inl rfl))

/-- Whether a point is the first of its sequence, as the kernel computes it. -/
abbrev cond1 (i : grid1.Coords) : BitVec 1 := Scalar.cmpi .ne (Scalar.extui (Scalar.cmpi .eq (BitVec.ofNat 32 (i 1).val) 0#32) : BitVec 32) 0#32

/-- The whole body: one load of the sequence's length and four guarded regions. -/
def attendProg (i : grid1.Coords) (arg2 : Memref sig .tc .smem S6 .i32) (arg3 : Memref sig .tc .vmem S6x128x256 .bf16) (arg4 : Memref sig .tc .vmem S1x8x6x128x128 .i8) (arg5 : Memref sig .tc .vmem S1x8x2048 .bf16) (arg6 : Memref sig .tc .vmem S1x8x64x2048 .i8) (arg7 : Memref sig .tc .vmem S1x8x2048 .f32) (arg8 : Memref sig .tc .vmem S32x1 .f32) (arg9 : Memref sig .tc .vmem S32x1 .f32) (arg10 : Memref sig .tc .vmem S32x128 .f32) (arg11 : Memref sig .tc .vmem S32x1 .f32) (arg12 : Memref sig .tc .vmem S1x32x128 .bf16) (harg12 : arg12.IsWhole) (arg13 : Memref sig .tc .vmem S1x32x2048 .f32) (arg14 : Memref sig .tc .vmem S32x128 .f32) (arg15 : Memref sig .tc .vmem S32x128 .f32) (arg16 : Memref sig .tc .vmem S1024x32 .f32) (arg17 : Memref sig .tc .vmem S32x2048 .bf16) (harg17 : arg17.IsWhole) :
    Prog (TpuEff nD τ sig (Elt F) Λ₀ .tc) PUnit := do
  let v1 : Elt F .i32 ← smemLoad arg2 (Rect.unit (s := S6) (k1_off1 i) S1.size (k1_off1_inb i)) numel1_S1 rfl
  if _h : cond1 i = 1#1 then
    initProg arg8 arg14 arg15 arg16
  else pure ⟨⟩
  if _h : k1_cond2 i v1 = 1#1 then
    skipProg arg13
  else pure ⟨⟩
  if _h : k1_cond3 i v1 = 1#1 then
    blockProg (Scalar.muli (BitVec.ofNat 32 (i 1).val) 2048#32) v1 arg3 arg4 arg5 arg6 arg7 arg9 arg13 arg14 arg15 arg16 arg17 harg17
  else pure ⟨⟩
  if _h : k1_cond4 i = 1#1 then
    finProg arg8 arg10 arg11 arg12 harg12 arg14 arg15 arg16
  else pure ⟨⟩
  pure ⟨⟩

end Cert.Kernel.Attend

end
-- ==== Proof.Twin.Own.lean ====
/-
Steps of a body over memrefs held by values: a load reads a rectangle of what the memref holds, a store puts its payload over
one. Each is stated for any program and any continuation.
-/
module

public import Idealize.ShloMosaic.Lib.VecWindow
public import Idealize.ShloMosaic.Lib.Memref
public import Idealize.ShloMosaic.Lib.Tactic
public import Idealize.ShloMosaic.Lib.Pipeline.Regions

@[expose] public section

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} {𝒱 : Variants} {c : Thread nD τ} {bd : Option 𝒱.V} {E : Set Name}
variable {s : Shape} {e : EltTy}
universe v

/-- A load at any rectangle of a memref held by values. -/
theorem load {cs : CoreSpace} {m : Memref sig c.2.kind cs s e} {r : LoadRect s} {hl : m.view.LoadsAt r} {q : PosShare TreeShare} {X : s.Idx → Val e}
    {K : (r.shape.Idx → Val e) → sProp (MT nD τ sig Ix Val Name U Lvl)} :
    iprop(owns c m q X ∗ (owns c m q X -∗ K (fun x => X (r.idx x))))
      ⊢ wp frame (wpE defs 𝒱 c bd) E (Prog.lift (.load m r hl)) K := by
  unfold owns
  iintro ⟨⟨%f, %hf, H⟩, Hk⟩
  subst hf
  iapply (wp_load 𝒱 c bd E (Q := K) (k := .ret) (S := m.view.set) (View.setOn_subset_set _ _)) $$ H
  iintro H
  iapply (le_wp_ret frame (wpE defs 𝒱 c bd) E (m.view.readAt Val r f) K)
  rw [show m.view.readAt Val r f = fun x => m.view.read Val f (r.idx x) from rfl]
  iapply Hk
  iexists f
  isplitr
  · ipureintro; rfl
  · iexact H

/-- A load of the memref's own sizes. -/
theorem load_full {cs : CoreSpace} {m : Memref sig c.2.kind cs s e} {off : Fin s.rank → ℕ} {inb : ∀ a, off a + s.size a ≤ s.size a}
    {hl : m.view.LoadsAt (Rect.unit off s.size inb).toLoadRect} {q : PosShare TreeShare} {X : s.Idx → Val e}
    {K : (s.Idx → Val e) → sProp (MT nD τ sig Ix Val Name U Lvl)} :
    iprop(owns c m q X ∗ (owns c m q X -∗ K X))
      ⊢ wp frame (wpE defs 𝒱 c bd) E (Prog.lift (.load m (Rect.unit off s.size inb).toLoadRect hl)) K := by
  have h := load (defs := defs) (𝒱 := 𝒱) (bd := bd) (E := E) (m := m) (r := (Rect.unit off s.size inb).toLoadRect) (hl := hl) (q := q) (X := X) (K := K)
  have e : (fun x => X ((Rect.unit off s.size inb).toLoadRect.idx x)) = X := by
    funext x
    exact congrArg X (Rect.emb_unit_full inb x)
  rw [e] at h
  exact h

/-- A store at a unit-stride rectangle of a memref held by values. -/
theorem store {cs : CoreSpace} {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : Finset.univ = Finset.univ ∨ ∀ a, (Rect.unit off size inb).stride a = 1} {X : s.Idx → Val e}
    {K : PUnit → sProp (MT nD τ sig Ix Val Name U Lvl)} :
    iprop(owns c m fullShare X ∗ (owns c m fullShare (VecWindow.put X off size w) -∗ K ⟨⟩))
      ⊢ wp frame (wpE defs 𝒱 c bd) E (Prog.lift (.store m (Rect.unit off size inb) w Finset.univ hx hm)) K := by
  unfold owns
  iintro ⟨⟨%f, %hf, H⟩, Hk⟩
  have h := wp_store_writes₀ (defs := defs) 𝒱 c bd E (Q := K) (m := m) (r := Rect.unit off size inb) (w := w) (hx := hx) (hm := hm) (k := .ret) (f := f) (S := m.view.set) (m.view.set_slice_subset _)
  iapply h $$ H
  iintro H
  iapply (le_wp_ret frame (wpE defs 𝒱 c bd) E PUnit.unit K)
  iapply Hk
  iexists (m.view.writes Val f [⟨Rect.unit off size inb, w⟩])
  isplitr
  · ipureintro
    subst hf
    exact View.read_writes_cons_put m.view f inb w [] rfl
  · iexact H

/-- A store of the memref's own sizes. -/
theorem store_full {cs : CoreSpace} {m : Memref sig c.2.kind cs s e} {off : Fin s.rank → ℕ} {inb : ∀ a, off a + s.size a ≤ s.size a}
    {w : s.Idx → Val e} {hx : (m.access (Rect.unit off s.size inb)).Stores Finset.univ}
    {hm : Finset.univ = Finset.univ ∨ ∀ a, (Rect.unit off s.size inb).stride a = 1} {X : s.Idx → Val e}
    {K : PUnit → sProp (MT nD τ sig Ix Val Name U Lvl)} :
    iprop(owns c m fullShare X ∗ (owns c m fullShare w -∗ K ⟨⟩))
      ⊢ wp frame (wpE defs 𝒱 c bd) E (Prog.lift (.store m (Rect.unit off s.size inb) w Finset.univ hx hm)) K := by
  unfold owns
  iintro ⟨⟨%f, %hf, H⟩, Hk⟩
  have h := wp_store_writes₀ (defs := defs) 𝒱 c bd E (Q := K) (m := m) (r := Rect.unit off s.size inb) (w := w) (hx := hx) (hm := hm) (k := .ret) (f := f) (S := m.view.set) (m.view.set_slice_subset _)
  iapply h $$ H
  iintro H
  iapply (le_wp_ret frame (wpE defs 𝒱 c bd) E PUnit.unit K)
  iapply Hk
  iexists (m.view.writes Val f [⟨Rect.unit off s.size inb, w⟩])
  isplitr
  · ipureintro
    exact View.read_writes_full m.view f inb w []
  · iexact H

/-- Two programs in sequence. -/
theorem seq {α β : Type} {p : Prog (TpuEff nD τ sig Val Λ c.2) α} {k : α → Prog (TpuEff nD τ sig Val Λ c.2) β} {H : sProp (MT nD τ sig Ix Val Name U Lvl)}
    {K : β → sProp (MT nD τ sig Ix Val Name U Lvl)}
    (h : H ⊢ wp frame (wpE defs 𝒱 c bd) E p (fun x => wp frame (wpE defs 𝒱 c bd) E (k x) K)) :
    H ⊢ wp frame (wpE defs 𝒱 c bd) E (p >>= k) K := by
  rw [wp_bind]; exact h

/-- A program that has returned. -/
theorem ret {α : Type} (a : α) {K : α → sProp (MT nD τ sig Ix Val Name U Lvl)} :
    K a ⊢ wp frame (wpE defs 𝒱 c bd) E (pure a) K := le_wp_ret frame (wpE defs 𝒱 c bd) E a K

/-- A load in front of a program. -/
theorem load_k {β : Type} {cs : CoreSpace} {m : Memref sig c.2.kind cs s e} {r : LoadRect s} {hl : m.view.LoadsAt r} {q : PosShare TreeShare} {X : s.Idx → Val e}
    {k : (r.shape.Idx → Val e) → Prog (TpuEff nD τ sig Val Λ c.2) β} {K : β → sProp (MT nD τ sig Ix Val Name U Lvl)} :
    iprop(owns c m q X ∗ (owns c m q X -∗ wp frame (wpE defs 𝒱 c bd) E (k fun x => X (r.idx x)) K))
      ⊢ wp frame (wpE defs 𝒱 c bd) E (Prog.lift (.load m r hl) >>= k) K :=
  seq (load (K := fun x => wp frame (wpE defs 𝒱 c bd) E (k x) K))

/-- A load of the memref's own sizes in front of a program. -/
theorem load_full_k {β : Type} {cs : CoreSpace} {m : Memref sig c.2.kind cs s e} {off : Fin s.rank → ℕ} {inb : ∀ a, off a + s.size a ≤ s.size a}
    {hl : m.view.LoadsAt (Rect.unit off s.size inb).toLoadRect} {q : PosShare TreeShare} {X : s.Idx → Val e}
    {k : (s.Idx → Val e) → Prog (TpuEff nD τ sig Val Λ c.2) β} {K : β → sProp (MT nD τ sig Ix Val Name U Lvl)} :
    iprop(owns c m q X ∗ (owns c m q X -∗ wp frame (wpE defs 𝒱 c bd) E (k X) K))
      ⊢ wp frame (wpE defs 𝒱 c bd) E (Prog.lift (.load m (Rect.unit off s.size inb).toLoadRect hl) >>= k) K :=
  seq (load_full (K := fun x => wp frame (wpE defs 𝒱 c bd) E (k x) K))

/-- A store in front of a program. -/
theorem store_k {β : Type} {cs : CoreSpace} {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : Finset.univ = Finset.univ ∨ ∀ a, (Rect.unit off size inb).stride a = 1} {X : s.Idx → Val e}
    {k : PUnit → Prog (TpuEff nD τ sig Val Λ c.2) β} {K : β → sProp (MT nD τ sig Ix Val Name U Lvl)} :
    iprop(owns c m fullShare X ∗ (owns c m fullShare (VecWindow.put X off size w) -∗ wp frame (wpE defs 𝒱 c bd) E (k ⟨⟩) K))
      ⊢ wp frame (wpE defs 𝒱 c bd) E (Prog.lift (.store m (Rect.unit off size inb) w Finset.univ hx hm) >>= k) K :=
  seq (store (K := fun x => wp frame (wpE defs 𝒱 c bd) E (k x) K))

/-- A store of the memref's own sizes in front of a program. -/
theorem store_full_k {β : Type} {cs : CoreSpace} {m : Memref sig c.2.kind cs s e} {off : Fin s.rank → ℕ} {inb : ∀ a, off a + s.size a ≤ s.size a}
    {w : s.Idx → Val e} {hx : (m.access (Rect.unit off s.size inb)).Stores Finset.univ}
    {hm : Finset.univ = Finset.univ ∨ ∀ a, (Rect.unit off s.size inb).stride a = 1} {X : s.Idx → Val e}
    {k : PUnit → Prog (TpuEff nD τ sig Val Λ c.2) β} {K : β → sProp (MT nD τ sig Ix Val Name U Lvl)} :
    iprop(owns c m fullShare X ∗ (owns c m fullShare w -∗ wp frame (wpE defs 𝒱 c bd) E (k ⟨⟩) K))
      ⊢ wp frame (wpE defs 𝒱 c bd) E (Prog.lift (.store m (Rect.unit off s.size inb) w Finset.univ hx hm) >>= k) K :=
  seq (store_full (K := fun x => wp frame (wpE defs 𝒱 c bd) E (k x) K))

/-- A program run under a condition. -/
def guarded {Eff : Type → Type v} (p : Prop) [Decidable p] (t : Prog Eff PUnit) : Prog Eff PUnit := if _h : p then t else pure ⟨⟩

theorem guarded_bind {Eff : Type → Type v} {β : Type} (p : Prop) [Decidable p] (t : Prog Eff PUnit) (k : PUnit → Prog Eff β) :
    guarded p t >>= k = if _h : p then t >>= k else pure ⟨⟩ >>= k := by
  unfold guarded; split <;> rfl

end Cert.Kernel.Own

end
-- ==== Proof.Twin.Body.lean ====
/-
What the decode kernel's body does at one grid point, by values: from what its windows and scratches hold on entry to what
they hold when it has run.
-/
module

public import proofs.«01_k».proof.Proof.Twin.Rolled
public import proofs.«01_k».proof.Proof.Twin.Own

@[expose] public section

noncomputable section

namespace Cert.Kernel.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-! ## The raw products of a block -/

/-- Sixteen rows of queries of one byte column. -/
def lhsAt (X : Vec F S6x128x256 .bf16) (t kv : ℕ) (ht : t < 6) (hkv : kv < 8) : Vec F S1x16x256 .bf16 :=
  fun x => X ((Rect.unit (s := S6x128x256) ![t, kv * 16, 0] S1x16x256.size (inb_lhs ht hkv)).toLoadRect.idx x)

/-- Thirty-two rows of packed bytes of one byte column. -/
def bitsAt (X : Vec F S1x8x6x128x128 .i8) (kv t r : ℕ) (hkv : kv < 8) (ht : t < 6) (hr : r < 4) : Vec F S1x1x1x32x128 .i8 :=
  fun x => X ((Rect.unit (s := S1x8x6x128x128) ![0, kv, t, r * 32, 0] S1x1x1x32x128.size (inb_bits ht hkv hr)).toLoadRect.idx x)

/-- One byte column's product. -/
def termAt (X3 : Vec F S6x128x256 .bf16) (X4 : Vec F S1x8x6x128x128 .i8) (kv u t : ℕ) (hkv : kv < 8) (hu : u < 2) (ht : t < 6) : FVec F S16x256 .f32 :=
  part (lhsAt X3 t kv ht hkv) (bitsAt X4 kv t (u * 2 + 0) hkv ht (by omega)) (bitsAt X4 kv t (u * 2 + 1) hkv ht (by omega))

/-- One tile's product: the six byte columns added up. -/
def tileAcc (X3 : Vec F S6x128x256 .bf16) (X4 : Vec F S1x8x6x128x128 .i8) (kv u : ℕ) (hkv : kv < 8) (hu : u < 2) : FVec F S16x256 .f32 :=
  addf (addf (addf (addf (addf (termAt X3 X4 kv u 0 hkv hu (by omega)) (termAt X3 X4 kv u 1 hkv hu (by omega))) (termAt X3 X4 kv u 2 hkv hu (by omega)))
    (termAt X3 X4 kv u 3 hkv hu (by omega))) (termAt X3 X4 kv u 4 hkv hu (by omega))) (termAt X3 X4 kv u 5 hkv hu (by omega))

/-- One piece of a tile's product. -/
def pieceAt (X3 : Vec F S6x128x256 .bf16) (X4 : Vec F S1x8x6x128x128 .i8) (kv u h c : ℕ) (hkv : kv < 8) (hu : u < 2) (hh : h < 2) (hc : c < 4) : FVec F S1x4x128 .f32 :=
  piece (tileAcc X3 X4 kv u hkv hu) h c hh hc

/-- The piece an element of the block lies in, in the order of the stores. -/
def ord (y : S1x32x2048.Idx) : ℕ := (y 1).val / 4 * 16 + (y 2).val / 128

theorem y1_lt (y : S1x32x2048.Idx) : (y 1).val < 32 := (y 1).isLt
theorem y2_lt (y : S1x32x2048.Idx) : (y 2).val < 2048 := (y 2).isLt

theorem mem_piece (y : S1x32x2048.Idx) (kv u h c : ℕ) (hu : u < 2) (hh : h < 2) (hc : c < 4)
    (e : kv = (y 1).val / 4) (e' : u * 8 + h * 4 + c = (y 2).val / 128) :
    ∀ a, (![0, kv * 4, (u * 8 + h * 4 + c) * 128] : Fin 3 → ℕ) a ≤ (y a).val ∧ (y a).val < (![0, kv * 4, (u * 8 + h * 4 + c) * 128] : Fin 3 → ℕ) a + S1x4x128.size a := by
  have h0 : (y 0).val < 1 := (y 0).isLt
  intro a; fin_cases a
  · exact ⟨Nat.zero_le _, h0⟩
  · simp [S1x4x128]; omega
  · simp [S1x4x128]; omega

/-- The block's raw products. -/
def rawB (X3 : Vec F S6x128x256 .bf16) (X4 : Vec F S1x8x6x128x128 .i8) : Vec F S1x32x2048 .f32 := fun y =>
  pieceAt X3 X4 ((y 1).val / 4) ((y 2).val / 128 / 8) ((y 2).val / 128 / 4 % 2) ((y 2).val / 128 % 4)
    (by have := y1_lt y; omega) (by have := y2_lt y; omega) (by omega) (by omega)
    (Rect.unitLocal (s := S1x32x2048) (off := ![0, (y 1).val / 4 * 4, ((y 2).val / 128 / 8 * 8 + (y 2).val / 128 / 4 % 2 * 4 + (y 2).val / 128 % 4) * 128]) (size := S1x4x128.size) y
      (mem_piece y _ _ _ _ (by have := y2_lt y; omega) (by omega) (by omega) rfl (by omega)))

theorem rawB_eq (X3 : Vec F S6x128x256 .bf16) (X4 : Vec F S1x8x6x128x128 .i8) (y : S1x32x2048.Idx) (kv u h c : ℕ) (hkv : kv < 8) (hu : u < 2) (hh : h < 2) (hc : c < 4)
    (hm : ∀ a, (![0, kv * 4, (u * 8 + h * 4 + c) * 128] : Fin 3 → ℕ) a ≤ (y a).val ∧ (y a).val < (![0, kv * 4, (u * 8 + h * 4 + c) * 128] : Fin 3 → ℕ) a + S1x4x128.size a) :
    pieceAt X3 X4 kv u h c hkv hu hh hc (Rect.unitLocal (s := S1x32x2048) (off := ![0, kv * 4, (u * 8 + h * 4 + c) * 128]) (size := S1x4x128.size) y hm) = rawB X3 X4 y := by
  have h1 : kv * 4 ≤ (y 1).val ∧ (y 1).val < kv * 4 + 4 := hm 1
  have h2 : (u * 8 + h * 4 + c) * 128 ≤ (y 2).val ∧ (y 2).val < (u * 8 + h * 4 + c) * 128 + 128 := hm 2
  obtain rfl : kv = (y 1).val / 4 := by omega
  obtain rfl : u = (y 2).val / 128 / 8 := by omega
  obtain rfl : h = (y 2).val / 128 / 4 % 2 := by omega
  obtain rfl : c = (y 2).val / 128 % 4 := by omega
  rfl

/-- The first `n` pieces hold the raw products. -/
def Done (X3 : Vec F S6x128x256 .bf16) (X4 : Vec F S1x8x6x128x128 .i8) (n : ℕ) (X : Vec F S1x32x2048 .f32) : Prop := ∀ y, ord y < n → X y = rawB X3 X4 y

theorem done_zero (X3 : Vec F S6x128x256 .bf16) (X4 : Vec F S1x8x6x128x128 .i8) (X : Vec F S1x32x2048 .f32) : Done X3 X4 0 X := fun _ h => absurd h (Nat.not_lt_zero _)

theorem done_all {X3 : Vec F S6x128x256 .bf16} {X4 : Vec F S1x8x6x128x128 .i8} {X : Vec F S1x32x2048 .f32} (h : Done X3 X4 128 X) : X = rawB X3 X4 := by
  funext y
  exact h y (by have := y1_lt y; have := y2_lt y; unfold ord; omega)

theorem done_put {X3 : Vec F S6x128x256 .bf16} {X4 : Vec F S1x8x6x128x128 .i8} {X : Vec F S1x32x2048 .f32} (kv u h c : ℕ) (hkv : kv < 8) (hu : u < 2) (hh : h < 2) (hc : c < 4)
    {n : ℕ} (hn : n = kv * 16 + u * 8 + h * 4 + c) (hX : Done X3 X4 n X) :
    Done X3 X4 (n + 1) (VecWindow.put X ![0, kv * 4, (u * 8 + h * 4 + c) * 128] S1x4x128.size (pieceAt X3 X4 kv u h c hkv hu hh hc)) := by
  intro y hy
  unfold VecWindow.put
  split
  · rename_i hm
    exact rawB_eq X3 X4 y kv u h c hkv hu hh hc hm
  · rename_i hm
    refine hX y ?_
    by_contra hlt
    apply hm
    have := y1_lt y; have := y2_lt y
    unfold ord at hy hlt
    exact mem_piece y kv u h c hu hh hc (by omega) (by omega)

/-! ## The running weighted sum -/

/-- One head's packed codes. -/
def codesAt (X : Vec F S1x8x64x2048 .i8) (kv : ℕ) (hkv : kv < 8) : Vec F S1x1x64x2048 .i8 :=
  fun x => X ((Rect.unit (s := S1x8x64x2048) ![0, kv, 0, 0] S1x1x64x2048.size (inb_codes hkv)).toLoadRect.idx x)

/-- One head's rows of the running weighted sum. -/
def rowsAt (A : Vec F S1024x32 .f32) (kv : ℕ) (hkv : kv < 8) : Vec F S128x32 .f32 :=
  fun x => A ((Rect.unit (s := S1024x32) ![kv * 128, 0] S128x32.size (inb_acc hkv)).toLoadRect.idx x)

theorem y0_lt (y : S1024x32.Idx) : (y 0).val < 1024 := (y 0).isLt

theorem mem_rows (y : S1024x32.Idx) (kv : ℕ) (e : kv = (y 0).val / 128) :
    ∀ a, (![kv * 128, 0] : Fin 2 → ℕ) a ≤ (y a).val ∧ (y a).val < (![kv * 128, 0] : Fin 2 → ℕ) a + S128x32.size a := by
  have h1 : (y 1).val < 32 := (y 1).isLt
  intro a; fin_cases a
  · simp [S128x32]; omega
  · simp [S128x32]; omega

/-- One head's new rows. -/
def accAt (ar : FVec F S1x128 .f32) (p : Vec F S32x2048 .bf16) (X6 : Vec F S1x8x64x2048 .i8) (A : Vec F S1024x32 .f32) (kv : ℕ) (hkv : kv < 8) : FVec F S128x32 .f32 :=
  accRows ar p (codesAt X6 kv hkv) (rowsAt A kv hkv)

/-- The running weighted sum after the block. -/
def accB (ar : FVec F S1x128 .f32) (p : Vec F S32x2048 .bf16) (X6 : Vec F S1x8x64x2048 .i8) (A : Vec F S1024x32 .f32) : Vec F S1024x32 .f32 := fun y =>
  accAt ar p X6 A ((y 0).val / 128) (by have := y0_lt y; omega)
    (Rect.unitLocal (s := S1024x32) (off := ![(y 0).val / 128 * 128, 0]) (size := S128x32.size) y (mem_rows y _ rfl))

/-- The first `n` heads' rows are the new ones, the rest as they were. -/
def DoneA (ar : FVec F S1x128 .f32) (p : Vec F S32x2048 .bf16) (X6 : Vec F S1x8x64x2048 .i8) (A : Vec F S1024x32 .f32) (n : ℕ) (X : Vec F S1024x32 .f32) : Prop :=
  ∀ y, X y = if (y 0).val / 128 < n then accB ar p X6 A y else A y

theorem doneA_zero (ar : FVec F S1x128 .f32) (p : Vec F S32x2048 .bf16) (X6 : Vec F S1x8x64x2048 .i8) (A : Vec F S1024x32 .f32) : DoneA ar p X6 A 0 A := fun y => by simp

theorem doneA_all {ar : FVec F S1x128 .f32} {p : Vec F S32x2048 .bf16} {X6 : Vec F S1x8x64x2048 .i8} {A X : Vec F S1024x32 .f32} (h : DoneA ar p X6 A 8 X) : X = accB ar p X6 A := by
  funext y
  rw [h y, if_pos (by have := y0_lt y; omega)]

theorem doneA_rows {ar : FVec F S1x128 .f32} {p : Vec F S32x2048 .bf16} {X6 : Vec F S1x8x64x2048 .i8} {A X : Vec F S1024x32 .f32} {kv : ℕ} (hkv : kv < 8) (h : DoneA ar p X6 A kv X) :
    rowsAt X kv hkv = rowsAt A kv hkv := by
  funext x
  unfold rowsAt
  rw [h, if_neg]
  have e : (((Rect.unit (s := S1024x32) ![kv * 128, 0] S128x32.size (inb_acc hkv)).toLoadRect.idx x) 0).val = kv * 128 + 1 * (x 0).val := rfl
  rw [e]; omega

theorem doneA_put {ar : FVec F S1x128 .f32} {p : Vec F S32x2048 .bf16} {X6 : Vec F S1x8x64x2048 .i8} {A X : Vec F S1024x32 .f32} {kv : ℕ} (hkv : kv < 8) (h : DoneA ar p X6 A kv X) :
    DoneA ar p X6 A (kv + 1) (VecWindow.put X ![kv * 128, 0] S128x32.size (accRows ar p (codesAt X6 kv hkv) (rowsAt X kv hkv))) := by
  intro y
  rw [doneA_rows hkv h]
  unfold VecWindow.put
  split
  · rename_i hm
    have h0 : kv * 128 ≤ (y 0).val ∧ (y 0).val < kv * 128 + 128 := hm 0
    obtain rfl : kv = (y 0).val / 128 := by omega
    rw [if_pos (by omega)]
    rfl
  · rename_i hm
    rw [h y]
    have hne : kv ≠ (y 0).val / 128 := fun e => hm (mem_rows y kv e)
    by_cases hlt : (y 0).val / 128 < kv
    · rw [if_pos hlt, if_pos (by omega)]
    · rw [if_neg hlt, if_neg (by omega)]

/-- Every other row of one head's part of the weighted sum. -/
def halfAt (A : Vec F S1024x32 .f32) (kv nib : ℕ) (hkv : kv < 8) (hn : nib < 2) : Vec F S64x32 .f32 :=
  fun x => A ((⟨![kv * 128 + nib, 0], S64x32.size, ![2, 1], inb_strided hkv hn⟩ : LoadRect S1024x32).idx x)

/-- The first column of the running maximum. -/
def mCol (M : Vec F S32x128 .f32) : Vec F S32x1 .f32 :=
  fun x => M ((Rect.unit (s := S32x128) ![0, 0] S32x1.size inb_S32x128_S32x1_0_0).toLoadRect.idx x)

/-- The last point's output from what the scratches hold. -/
def outV (A : Vec F S1024x32 .f32) (L : Vec F S32x128 .f32) (sn : Vec F S32x1 .f32) (M : Vec F S32x128 .f32) (vsh : Vec F S32x1 .f32) (vch : Vec F S32x128 .f32) : FVec F S1x32x128 .bf16 :=
  outB (fun kv => halfAt A kv.val 0 kv.isLt (by omega)) (fun kv => halfAt A kv.val 1 kv.isLt (by omega)) L sn (mCol M) vsh vch

/-! ## The programs' steps -/

section Steps

variable {c : Dev nD} {E : Set ℕ} {β : Type}

/-- One byte column. -/
theorem term_k {arg3 : Memref sig .tc .vmem S6x128x256 .bf16} {arg4 : Memref sig .tc .vmem S1x8x6x128x128 .i8} {kv u t : ℕ} {hkv : kv < 8} {hu : u < 2} {ht : t < 6}
    {X3 : Vec F S6x128x256 .bf16} {X4 : Vec F S1x8x6x128x128 .i8}
    {k : FVec F S16x256 .f32 → Prog (TpuEff nD τ sig (Elt F) Λ₀ .tc) β} {K : β → sProp 𝕄} :
    iprop(owns (c : Thread nD τ) arg3 fullShare X3 ∗ owns (c : Thread nD τ) arg4 fullShare X4
        ∗ (iprop(owns (c : Thread nD τ) arg3 fullShare X3 ∗ owns (c : Thread nD τ) arg4 fullShare X4)
          -∗ wp frame (wpE (defs₀ (F := F)) Variants.none (c : Thread nD τ) none) E (k (termAt X3 X4 kv u t hkv hu ht)) K))
      ⊢ wp frame (wpE (defs₀ (F := F)) Variants.none (c : Thread nD τ) none) E (termProg arg3 arg4 kv u t hkv hu ht >>= k) K := by
  apply Own.seq (c := (c : Thread nD τ))
  unfold termProg
  iintro ⟨H3, H4, Hk⟩
  iapply Own.load_k (c := (c : Thread nD τ)) (X := X3)
  isplitl [H3]; · iexact H3
  iintro H3
  iapply Own.load_k (c := (c : Thread nD τ)) (X := X4)
  isplitl [H4]; · iexact H4
  iintro H4
  iapply Own.load_k (c := (c : Thread nD τ)) (X := X4)
  isplitl [H4]; · iexact H4
  iintro H4
  iapply Own.ret (c := (c : Thread nD τ))
  iapply Hk
  isplitl [H3]; · iexact H3
  iexact H4

/-- One piece. -/
theorem piece_k {arg13 : Memref sig .tc .vmem S1x32x2048 .f32} {kv u h cc : ℕ} {hkv : kv < 8} {hu : u < 2} {hh : h < 2} {hc : cc < 4}
    {X3 : Vec F S6x128x256 .bf16} {X4 : Vec F S1x8x6x128x128 .i8} (n : ℕ) (hn : n = kv * 16 + u * 8 + h * 4 + cc)
    {k : PUnit → Prog (TpuEff nD τ sig (Elt F) Λ₀ .tc) β} {K : β → sProp 𝕄} :
    iprop((∃ X, ⌜Done X3 X4 n X⌝ ∗ owns (c : Thread nD τ) arg13 fullShare X)
        ∗ ((∃ X, ⌜Done X3 X4 (n + 1) X⌝ ∗ owns (c : Thread nD τ) arg13 fullShare X)
          -∗ wp frame (wpE (defs₀ (F := F)) Variants.none (c : Thread nD τ) none) E (k ⟨⟩) K))
      ⊢ wp frame (wpE (defs₀ (F := F)) Variants.none (c : Thread nD τ) none) E (pieceProg arg13 kv u h cc hkv hu hh hc (tileAcc X3 X4 kv u hkv hu) >>= k) K := by
  apply Own.seq (c := (c : Thread nD τ))
  unfold pieceProg
  iintro ⟨⟨%X, %hX, H⟩, Hk⟩
  iapply Own.load_k (c := (c : Thread nD τ)) (X := X)
  isplitl [H]; · iexact H
  iintro H
  iapply Own.store (c := (c : Thread nD τ)) (X := X)
  isplitl [H]; · iexact H
  iintro H
  iapply Hk
  iexists _
  isplitr; swap
  · iexact H
  · ipureintro
    exact done_put kv u h cc hkv hu hh hc hn hX

/-- One tile. -/
theorem tile_k {arg3 : Memref sig .tc .vmem S6x128x256 .bf16} {arg4 : Memref sig .tc .vmem S1x8x6x128x128 .i8} {arg13 : Memref sig .tc .vmem S1x32x2048 .f32} {kv u : ℕ} {hkv : kv < 8} {hu : u < 2}
    {X3 : Vec F S6x128x256 .bf16} {X4 : Vec F S1x8x6x128x128 .i8} (n : ℕ) (hn : n = kv * 16 + u * 8)
    {k : PUnit → Prog (TpuEff nD τ sig (Elt F) Λ₀ .tc) β} {K : β → sProp 𝕄} :
    iprop(owns (c : Thread nD τ) arg3 fullShare X3 ∗ owns (c : Thread nD τ) arg4 fullShare X4 ∗ (∃ X, ⌜Done X3 X4 n X⌝ ∗ owns (c : Thread nD τ) arg13 fullShare X)
        ∗ (iprop(owns (c : Thread nD τ) arg3 fullShare X3 ∗ owns (c : Thread nD τ) arg4 fullShare X4 ∗ (∃ X, ⌜Done X3 X4 (n + 8) X⌝ ∗ owns (c : Thread nD τ) arg13 fullShare X))
          -∗ wp frame (wpE (defs₀ (F := F)) Variants.none (c : Thread nD τ) none) E (k ⟨⟩) K))
      ⊢ wp frame (wpE (defs₀ (F := F)) Variants.none (c : Thread nD τ) none) E (tile arg3 arg4 arg13 kv u hkv hu >>= k) K := by
  apply Own.seq (c := (c : Thread nD τ))
  unfold tile
  iintro ⟨H3, H4, H, Hk⟩
  iapply term_k (X3 := X3) (X4 := X4)
  isplitl [H3]; · iexact H3
  isplitl [H4]; · iexact H4
  iintro ⟨H3, H4⟩
  iapply term_k (X3 := X3) (X4 := X4)
  isplitl [H3]; · iexact H3
  isplitl [H4]; · iexact H4
  iintro ⟨H3, H4⟩
  iapply term_k (X3 := X3) (X4 := X4)
  isplitl [H3]; · iexact H3
  isplitl [H4]; · iexact H4
  iintro ⟨H3, H4⟩
  iapply term_k (X3 := X3) (X4 := X4)
  isplitl [H3]; · iexact H3
  isplitl [H4]; · iexact H4
  iintro ⟨H3, H4⟩
  iapply term_k (X3 := X3) (X4 := X4)
  isplitl [H3]; · iexact H3
  isplitl [H4]; · iexact H4
  iintro ⟨H3, H4⟩
  iapply term_k (X3 := X3) (X4 := X4)
  isplitl [H3]; · iexact H3
  isplitl [H4]; · iexact H4
  iintro ⟨H3, H4⟩
  iapply piece_k (X3 := X3) (X4 := X4) (n + 0) (by omega)
  isplitl [H]; · iexact H
  iintro H
  iapply piece_k (X3 := X3) (X4 := X4) (n + 1) (by omega)
  isplitl [H]; · iexact H
  iintro H
  iapply piece_k (X3 := X3) (X4 := X4) (n + 2) (by omega)
  isplitl [H]; · iexact H
  iintro H
  iapply piece_k (X3 := X3) (X4 := X4) (n + 3) (by omega)
  isplitl [H]; · iexact H
  iintro H
  iapply piece_k (X3 := X3) (X4 := X4) (n + 4) (by omega)
  isplitl [H]; · iexact H
  iintro H
  iapply piece_k (X3 := X3) (X4 := X4) (n + 5) (by omega)
  isplitl [H]; · iexact H
  iintro H
  iapply piece_k (X3 := X3) (X4 := X4) (n + 6) (by omega)
  isplitl [H]; · iexact H
  iintro H
  rw [← bind_pure (pieceProg _ _ _ _ _ _ _ _ _ _)]
  iapply piece_k (X3 := X3) (X4 := X4) (n + 7) (by omega)
  isplitl [H]; · iexact H
  iintro H
  iapply Own.ret (c := (c : Thread nD τ))
  iapply Hk
  isplitl [H3]; · iexact H3
  isplitl [H4]; · iexact H4
  iexact H

/-- The sixteen tiles: the scores window holds the block's raw products. -/
theorem tiles_k {arg3 : Memref sig .tc .vmem S6x128x256 .bf16} {arg4 : Memref sig .tc .vmem S1x8x6x128x128 .i8} {arg13 : Memref sig .tc .vmem S1x32x2048 .f32}
    {X3 : Vec F S6x128x256 .bf16} {X4 : Vec F S1x8x6x128x128 .i8}
    {k : PUnit → Prog (TpuEff nD τ sig (Elt F) Λ₀ .tc) β} {K : β → sProp 𝕄} :
    iprop(owns (c : Thread nD τ) arg3 fullShare X3 ∗ owns (c : Thread nD τ) arg4 fullShare X4 ∗ (∃ d, owns (c : Thread nD τ) arg13 fullShare d)
        ∗ (iprop(owns (c : Thread nD τ) arg3 fullShare X3 ∗ owns (c : Thread nD τ) arg4 fullShare X4 ∗ owns (c : Thread nD τ) arg13 fullShare (rawB X3 X4))
          -∗ wp frame (wpE (defs₀ (F := F)) Variants.none (c : Thread nD τ) none) E (k ⟨⟩) K))
      ⊢ wp frame (wpE (defs₀ (F := F)) Variants.none (c : Thread nD τ) none) E (tilesProg arg3 arg4 arg13 >>= k) K := by
  apply Own.seq (c := (c : Thread nD τ))
  unfold tilesProg
  iintro ⟨H3, H4, ⟨%d, H⟩, Hk⟩
  ihave H := (show owns (c : Thread nD τ) arg13 fullShare d ⊢ (iprop(∃ X, ⌜Done X3 X4 0 X⌝ ∗ owns (c : Thread nD τ) arg13 fullShare X) : sProp 𝕄) from by
    iintro H
    iexists d
    isplitr
    · ipureintro; exact done_zero X3 X4 d
    · iexact H) $$ H
  iapply tile_k (X3 := X3) (X4 := X4) 0 (by omega)
  isplitl [H3]; · iexact H3
  isplitl [H4]; · iexact H4
  isplitl [H]; · iexact H
  iintro ⟨H3, H4, H⟩
  iapply tile_k (X3 := X3) (X4 := X4) 8 (by omega)
  isplitl [H3]; · iexact H3
  isplitl [H4]; · iexact H4
  isplitl [H]; · iexact H
  iintro ⟨H3, H4, H⟩
  iapply tile_k (X3 := X3) (X4 := X4) 16 (by omega)
  isplitl [H3]; · iexact H3
  isplitl [H4]; · iexact H4
  isplitl [H]; · iexact H
  iintro ⟨H3, H4, H⟩
  iapply tile_k (X3 := X3) (X4 := X4) 24 (by omega)
  isplitl [H3]; · iexact H3
  isplitl [H4]; · iexact H4
  isplitl [H]; · iexact H
  iintro ⟨H3, H4, H⟩
  iapply tile_k (X3 := X3) (X4 := X4) 32 (by omega)
  isplitl [H3]; · iexact H3
  isplitl [H4]; · iexact H4
  isplitl [H]; · iexact H
  iintro ⟨H3, H4, H⟩
  iapply tile_k (X3 := X3) (X4 := X4) 40 (by omega)
  isplitl [H3]; · iexact H3
  isplitl [H4]; · iexact H4
  isplitl [H]; · iexact H
  iintro ⟨H3, H4, H⟩
  iapply tile_k (X3 := X3) (X4 := X4) 48 (by omega)
  isplitl [H3]; · iexact H3
  isplitl [H4]; · iexact H4
  isplitl [H]; · iexact H
  iintro ⟨H3, H4, H⟩
  iapply tile_k (X3 := X3) (X4 := X4) 56 (by omega)
  isplitl [H3]; · iexact H3
  isplitl [H4]; · iexact H4
  isplitl [H]; · iexact H
  iintro ⟨H3, H4, H⟩
  iapply tile_k (X3 := X3) (X4 := X4) 64 (by omega)
  isplitl [H3]; · iexact H3
  isplitl [H4]; · iexact H4
  isplitl [H]; · iexact H
  iintro ⟨H3, H4, H⟩
  iapply tile_k (X3 := X3) (X4 := X4) 72 (by omega)
  isplitl [H3]; · iexact H3
  isplitl [H4]; · iexact H4
  isplitl [H]; · iexact H
  iintro ⟨H3, H4, H⟩
  iapply tile_k (X3 := X3) (X4 := X4) 80 (by omega)
  isplitl [H3]; · iexact H3
  isplitl [H4]; · iexact H4
  isplitl [H]; · iexact H
  iintro ⟨H3, H4, H⟩
  iapply tile_k (X3 := X3) (X4 := X4) 88 (by omega)
  isplitl [H3]; · iexact H3
  isplitl [H4]; · iexact H4
  isplitl [H]; · iexact H
  iintro ⟨H3, H4, H⟩
  iapply tile_k (X3 := X3) (X4 := X4) 96 (by omega)
  isplitl [H3]; · iexact H3
  isplitl [H4]; · iexact H4
  isplitl [H]; · iexact H
  iintro ⟨H3, H4, H⟩
  iapply tile_k (X3 := X3) (X4 := X4) 104 (by omega)
  isplitl [H3]; · iexact H3
  isplitl [H4]; · iexact H4
  isplitl [H]; · iexact H
  iintro ⟨H3, H4, H⟩
  iapply tile_k (X3 := X3) (X4 := X4) 112 (by omega)
  isplitl [H3]; · iexact H3
  isplitl [H4]; · iexact H4
  isplitl [H]; · iexact H
  iintro ⟨H3, H4, H⟩
  rw [← bind_pure (tile _ _ _ _ _ _ _)]
  iapply tile_k (X3 := X3) (X4 := X4) 120 (by omega)
  isplitl [H3]; · iexact H3
  isplitl [H4]; · iexact H4
  isplitl [H]; · iexact H
  iintro ⟨H3, H4, H⟩
  iapply Own.ret (c := (c : Thread nD τ))
  iapply Hk
  isplitl [H3]; · iexact H3
  isplitl [H4]; · iexact H4
  icases H with ⟨%X, %hX, H⟩
  rw [← done_all hX]
  iexact H

/-- One head's step of the running weighted sum. -/
theorem acc_k {arg6 : Memref sig .tc .vmem S1x8x64x2048 .i8} {arg16 : Memref sig .tc .vmem S1024x32 .f32} {kv : ℕ} {hkv : kv < 8}
    {ar : FVec F S1x128 .f32} {p : Vec F S32x2048 .bf16} {X6 : Vec F S1x8x64x2048 .i8} {A : Vec F S1024x32 .f32} (n : ℕ) (hn : n = kv)
    {k : PUnit → Prog (TpuEff nD τ sig (Elt F) Λ₀ .tc) β} {K : β → sProp 𝕄} :
    iprop(owns (c : Thread nD τ) arg6 fullShare X6 ∗ (∃ X, ⌜DoneA ar p X6 A n X⌝ ∗ owns (c : Thread nD τ) arg16 fullShare X)
        ∗ (iprop(owns (c : Thread nD τ) arg6 fullShare X6 ∗ (∃ X, ⌜DoneA ar p X6 A (n + 1) X⌝ ∗ owns (c : Thread nD τ) arg16 fullShare X))
          -∗ wp frame (wpE (defs₀ (F := F)) Variants.none (c : Thread nD τ) none) E (k ⟨⟩) K))
      ⊢ wp frame (wpE (defs₀ (F := F)) Variants.none (c : Thread nD τ) none) E (accProg arg6 arg16 kv hkv ar p >>= k) K := by
  subst hn
  apply Own.seq (c := (c : Thread nD τ))
  unfold accProg
  iintro ⟨H6, ⟨%X, %hX, H⟩, Hk⟩
  iapply Own.load_k (c := (c : Thread nD τ)) (X := X6)
  isplitl [H6]; · iexact H6
  iintro H6
  iapply Own.load_k (c := (c : Thread nD τ)) (X := X)
  isplitl [H]; · iexact H
  iintro H
  iapply Own.load_k (c := (c : Thread nD τ)) (X := X)
  isplitl [H]; · iexact H
  iintro H
  iapply Own.store (c := (c : Thread nD τ)) (X := X)
  isplitl [H]; · iexact H
  iintro H
  iapply Hk
  isplitl [H6]; · iexact H6
  iexists _
  isplitr; swap
  · iexact H
  · ipureintro
    exact doneA_put hkv hX

/-- What the block does once its tiles are stored. -/
theorem tail_k {v2 v1 : BitVec 32} {arg5 : Memref sig .tc .vmem S1x8x2048 .bf16} {arg6 : Memref sig .tc .vmem S1x8x64x2048 .i8}
    {arg7 : Memref sig .tc .vmem S1x8x2048 .f32} {arg9 : Memref sig .tc .vmem S32x1 .f32} {arg13 : Memref sig .tc .vmem S1x32x2048 .f32}
    {arg14 : Memref sig .tc .vmem S32x128 .f32} {arg15 : Memref sig .tc .vmem S32x128 .f32} {arg16 : Memref sig .tc .vmem S1024x32 .f32}
    {arg17 : Memref sig .tc .vmem S32x2048 .bf16} {harg17 : arg17.IsWhole}
    {X5 : Vec F S1x8x2048 .bf16} {X6 : Vec F S1x8x64x2048 .i8} {X7 : Vec F S1x8x2048 .f32} {X9 : Vec F S32x1 .f32}
    {R : Vec F S1x32x2048 .f32} {M L : Vec F S32x128 .f32} {A : Vec F S1024x32 .f32} {P : Vec F S32x2048 .bf16}
    {k : PUnit → Prog (TpuEff nD τ sig (Elt F) Λ₀ .tc) β} {K : β → sProp 𝕄} :
    iprop(owns (c : Thread nD τ) arg5 fullShare X5 ∗ owns (c : Thread nD τ) arg6 fullShare X6 ∗ owns (c : Thread nD τ) arg7 fullShare X7 ∗ owns (c : Thread nD τ) arg9 fullShare X9 ∗ owns (c : Thread nD τ) arg13 fullShare R ∗ owns (c : Thread nD τ) arg14 fullShare M ∗ owns (c : Thread nD τ) arg15 fullShare L ∗ owns (c : Thread nD τ) arg16 fullShare A ∗ owns (c : Thread nD τ) arg17 fullShare P
        ∗ (iprop(owns (c : Thread nD τ) arg5 fullShare X5 ∗ owns (c : Thread nD τ) arg6 fullShare X6 ∗ owns (c : Thread nD τ) arg7 fullShare X7 ∗ owns (c : Thread nD τ) arg9 fullShare X9 ∗ owns (c : Thread nD τ) arg13 fullShare (csB v2 v1 X5 R X9) ∗ owns (c : Thread nD τ) arg14 fullShare (shapeCast S32x128 (mNew (maskedB v2 v1 X5 R X9) M) shapeCasts_S32x128_S32x128)
            ∗ owns (c : Thread nD τ) arg15 fullShare (lNew (maskedB v2 v1 X5 R X9) M L) ∗ owns (c : Thread nD τ) arg16 fullShare (accB (alphaRow (maskedB v2 v1 X5 R X9) M) (pB (maskedB v2 v1 X5 R X9) M X7) X6 A) ∗ owns (c : Thread nD τ) arg17 fullShare (pB (maskedB v2 v1 X5 R X9) M X7))
          -∗ wp frame (wpE (defs₀ (F := F)) Variants.none (c : Thread nD τ) none) E (k ⟨⟩) K))
      ⊢ wp frame (wpE (defs₀ (F := F)) Variants.none (c : Thread nD τ) none) E (tailProg v2 v1 arg5 arg6 arg7 arg9 arg13 arg14 arg15 arg16 arg17 harg17 >>= k) K := by
  apply Own.seq (c := (c : Thread nD τ))
  unfold tailProg
  iintro ⟨H5, H6, H7, H9, H13, H14, H15, H16, H17, Hk⟩
  iapply Own.load_full_k (c := (c : Thread nD τ))
  isplitl [H5]; · iexact H5
  iintro H5
  iapply Own.load_full_k (c := (c : Thread nD τ))
  isplitl [H13]; · iexact H13
  iintro H13
  iapply Own.load_full_k (c := (c : Thread nD τ))
  isplitl [H9]; · iexact H9
  iintro H9
  iapply Own.load_full_k (c := (c : Thread nD τ))
  isplitl [H13]; · iexact H13
  iintro H13
  iapply Own.store_full_k (c := (c : Thread nD τ))
  isplitl [H13]; · iexact H13
  iintro H13
  iapply Own.load_full_k (c := (c : Thread nD τ))
  isplitl [H14]; · iexact H14
  iintro H14
  iapply Own.load_full_k (c := (c : Thread nD τ))
  isplitl [H15]; · iexact H15
  iintro H15
  iapply Own.load_full_k (c := (c : Thread nD τ))
  isplitl [H15]; · iexact H15
  iintro H15
  iapply Own.store_full_k (c := (c : Thread nD τ))
  isplitl [H15]; · iexact H15
  iintro H15
  iapply Own.load_full_k (c := (c : Thread nD τ))
  isplitl [H14]; · iexact H14
  iintro H14
  iapply Own.store_full_k (c := (c : Thread nD τ))
  isplitl [H14]; · iexact H14
  iintro H14
  iapply Own.load_full_k (c := (c : Thread nD τ))
  isplitl [H7]; · iexact H7
  iintro H7
  iapply Own.load_full_k (c := (c : Thread nD τ))
  isplitl [H17]; · iexact H17
  iintro H17
  iapply Own.store_full_k (c := (c : Thread nD τ))
  isplitl [H17]; · iexact H17
  iintro H17
  iapply Own.load_full_k (c := (c : Thread nD τ))
  isplitl [H17]; · iexact H17
  iintro H17
  ihave H := (show owns (c : Thread nD τ) arg16 fullShare A ⊢ (iprop(∃ X, ⌜DoneA (alphaRow (maskedB v2 v1 X5 R X9) M) (pB (maskedB v2 v1 X5 R X9) M X7) X6 A 0 X⌝ ∗ owns (c : Thread nD τ) arg16 fullShare X) : sProp 𝕄) from by
    iintro H
    iexists A
    isplitr
    · ipureintro; exact doneA_zero _ _ _ _
    · iexact H) $$ H16
  iapply acc_k (X6 := X6) (A := A) 0 (by omega)
  isplitl [H6]; · iexact H6
  isplitl [H]; · iexact H
  iintro ⟨H6, H⟩
  iapply acc_k (X6 := X6) (A := A) 1 (by omega)
  isplitl [H6]; · iexact H6
  isplitl [H]; · iexact H
  iintro ⟨H6, H⟩
  iapply acc_k (X6 := X6) (A := A) 2 (by omega)
  isplitl [H6]; · iexact H6
  isplitl [H]; · iexact H
  iintro ⟨H6, H⟩
  iapply acc_k (X6 := X6) (A := A) 3 (by omega)
  isplitl [H6]; · iexact H6
  isplitl [H]; · iexact H
  iintro ⟨H6, H⟩
  iapply acc_k (X6 := X6) (A := A) 4 (by omega)
  isplitl [H6]; · iexact H6
  isplitl [H]; · iexact H
  iintro ⟨H6, H⟩
  iapply acc_k (X6 := X6) (A := A) 5 (by omega)
  isplitl [H6]; · iexact H6
  isplitl [H]; · iexact H
  iintro ⟨H6, H⟩
  iapply acc_k (X6 := X6) (A := A) 6 (by omega)
  isplitl [H6]; · iexact H6
  isplitl [H]; · iexact H
  iintro ⟨H6, H⟩
  rw [← bind_pure (accProg _ _ _ _ _ _)]
  iapply acc_k (X6 := X6) (A := A) 7 (by omega)
  isplitl [H6]; · iexact H6
  isplitl [H]; · iexact H
  iintro ⟨H6, H⟩
  icases H with ⟨%X, %hX, H16⟩
  rw [doneA_all hX]
  iapply Own.ret (c := (c : Thread nD τ))
  iapply Hk
  isplitl [H5]; · iexact H5
  isplitl [H6]; · iexact H6
  isplitl [H7]; · iexact H7
  isplitl [H9]; · iexact H9
  isplitl [H13]; · iexact H13
  isplitl [H14]; · iexact H14
  isplitl [H15]; · iexact H15
  isplitl [H16]; · iexact H16
  iexact H17

/-- The first point's region. -/
theorem init_k {arg8 : Memref sig .tc .vmem S32x1 .f32} {arg14 arg15 : Memref sig .tc .vmem S32x128 .f32} {arg16 : Memref sig .tc .vmem S1024x32 .f32}
    {X8 : Vec F S32x1 .f32} {M L : Vec F S32x128 .f32} {A : Vec F S1024x32 .f32}
    {k : PUnit → Prog (TpuEff nD τ sig (Elt F) Λ₀ .tc) β} {K : β → sProp 𝕄} :
    iprop(owns (c : Thread nD τ) arg8 fullShare X8 ∗ owns (c : Thread nD τ) arg14 fullShare M ∗ owns (c : Thread nD τ) arg15 fullShare L ∗ owns (c : Thread nD τ) arg16 fullShare A
        ∗ (iprop(owns (c : Thread nD τ) arg8 fullShare X8 ∗ owns (c : Thread nD τ) arg14 fullShare (m0B X8) ∗ owns (c : Thread nD τ) arg15 fullShare l0B ∗ owns (c : Thread nD τ) arg16 fullShare a0B) -∗ wp frame (wpE (defs₀ (F := F)) Variants.none (c : Thread nD τ) none) E (k ⟨⟩) K))
      ⊢ wp frame (wpE (defs₀ (F := F)) Variants.none (c : Thread nD τ) none) E (initProg arg8 arg14 arg15 arg16 >>= k) K := by
  apply Own.seq (c := (c : Thread nD τ))
  unfold initProg
  iintro ⟨H8, H14, H15, H16, Hk⟩
  iapply Own.load_full_k (c := (c : Thread nD τ))
  isplitl [H8]; · iexact H8
  iintro H8
  iapply Own.load_full_k (c := (c : Thread nD τ))
  isplitl [H14]; · iexact H14
  iintro H14
  iapply Own.store_full_k (c := (c : Thread nD τ))
  isplitl [H14]; · iexact H14
  iintro H14
  iapply Own.load_full_k (c := (c : Thread nD τ))
  isplitl [H15]; · iexact H15
  iintro H15
  iapply Own.store_full_k (c := (c : Thread nD τ))
  isplitl [H15]; · iexact H15
  iintro H15
  iapply Own.load_full_k (c := (c : Thread nD τ))
  isplitl [H16]; · iexact H16
  iintro H16
  iapply Own.store_full (c := (c : Thread nD τ))
  isplitl [H16]; · iexact H16
  iintro H16
  iapply Hk
  isplitl [H8]; · iexact H8
  isplitl [H14]; · iexact H14
  isplitl [H15]; · iexact H15
  iexact H16

/-- A block past the length. -/
theorem skip_k {arg13 : Memref sig .tc .vmem S1x32x2048 .f32} {R : Vec F S1x32x2048 .f32}
    {k : PUnit → Prog (TpuEff nD τ sig (Elt F) Λ₀ .tc) β} {K : β → sProp 𝕄} :
    iprop(owns (c : Thread nD τ) arg13 fullShare R ∗ (owns (c : Thread nD τ) arg13 fullShare zeroB -∗ wp frame (wpE (defs₀ (F := F)) Variants.none (c : Thread nD τ) none) E (k ⟨⟩) K))
      ⊢ wp frame (wpE (defs₀ (F := F)) Variants.none (c : Thread nD τ) none) E (skipProg arg13 >>= k) K := by
  apply Own.seq (c := (c : Thread nD τ))
  unfold skipProg
  iintro ⟨H13, Hk⟩
  iapply Own.load_full_k (c := (c : Thread nD τ))
  isplitl [H13]; · iexact H13
  iintro H13
  iapply Own.store_full (c := (c : Thread nD τ))
  isplitl [H13]; · iexact H13
  iintro H13
  iapply Hk
  iexact H13

/-- The last point's region. -/
theorem fin_k {arg8 : Memref sig .tc .vmem S32x1 .f32} {arg10 : Memref sig .tc .vmem S32x128 .f32} {arg11 : Memref sig .tc .vmem S32x1 .f32}
    {arg12 : Memref sig .tc .vmem S1x32x128 .bf16} {harg12 : arg12.IsWhole} {arg14 arg15 : Memref sig .tc .vmem S32x128 .f32} {arg16 : Memref sig .tc .vmem S1024x32 .f32}
    {X8 X11 : Vec F S32x1 .f32} {X10 M L : Vec F S32x128 .f32} {A : Vec F S1024x32 .f32} {O : Vec F S1x32x128 .bf16}
    {k : PUnit → Prog (TpuEff nD τ sig (Elt F) Λ₀ .tc) β} {K : β → sProp 𝕄} :
    iprop(owns (c : Thread nD τ) arg8 fullShare X8 ∗ owns (c : Thread nD τ) arg10 fullShare X10 ∗ owns (c : Thread nD τ) arg11 fullShare X11 ∗ owns (c : Thread nD τ) arg12 fullShare O ∗ owns (c : Thread nD τ) arg14 fullShare M ∗ owns (c : Thread nD τ) arg15 fullShare L ∗ owns (c : Thread nD τ) arg16 fullShare A
        ∗ (iprop(owns (c : Thread nD τ) arg8 fullShare X8 ∗ owns (c : Thread nD τ) arg10 fullShare X10 ∗ owns (c : Thread nD τ) arg11 fullShare X11 ∗ owns (c : Thread nD τ) arg12 fullShare (outV A L X8 M X11 X10) ∗ owns (c : Thread nD τ) arg14 fullShare M ∗ owns (c : Thread nD τ) arg15 fullShare L ∗ owns (c : Thread nD τ) arg16 fullShare A)
          -∗ wp frame (wpE (defs₀ (F := F)) Variants.none (c : Thread nD τ) none) E (k ⟨⟩) K))
      ⊢ wp frame (wpE (defs₀ (F := F)) Variants.none (c : Thread nD τ) none) E (finProg arg8 arg10 arg11 arg12 harg12 arg14 arg15 arg16 >>= k) K := by
  apply Own.seq (c := (c : Thread nD τ))
  unfold finProg rowsProg
  iintro ⟨H8, H10, H11, H12, H14, H15, H16, Hk⟩
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_k (c := (c : Thread nD τ)) (X := A)
  isplitl [H16]; · iexact H16
  iintro H16
  iapply Own.load_full_k (c := (c : Thread nD τ))
  isplitl [H15]; · iexact H15
  iintro H15
  iapply Own.load_full_k (c := (c : Thread nD τ))
  isplitl [H8]; · iexact H8
  iintro H8
  iapply Own.load_k (c := (c : Thread nD τ)) (X := M)
  isplitl [H14]; · iexact H14
  iintro H14
  iapply Own.load_full_k (c := (c : Thread nD τ))
  isplitl [H11]; · iexact H11
  iintro H11
  iapply Own.load_full_k (c := (c : Thread nD τ))
  isplitl [H10]; · iexact H10
  iintro H10
  iapply Own.load_full_k (c := (c : Thread nD τ))
  isplitl [H12]; · iexact H12
  iintro H12
  iapply Own.store_full (c := (c : Thread nD τ))
  isplitl [H12]; · iexact H12
  iintro H12
  iapply Hk
  isplitl [H8]; · iexact H8
  isplitl [H10]; · iexact H10
  isplitl [H11]; · iexact H11
  isplitl [H12]
  · iexact H12
  isplitl [H14]; · iexact H14
  isplitl [H15]; · iexact H15
  iexact H16

end Steps

end Cert.Kernel.Attend

end
-- ==== Proof.Twin.Attend.lean ====
/-
What the decode kernel's body does at one grid point, assembled: the scratches carried from point to point, the scores block
and the output block as functions of the point, the sequence's length and the windows' blocks.
-/
module

public import proofs.«01_k».proof.Proof.Twin.Body

@[expose] public section

noncomputable section

namespace Cert.Kernel.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- What the kernel carries from point to point: the running maximum, the running denominator, the running weighted sum. -/
structure Scr (F : FTy → Type) where
  /-- the running maximum -/
  m : Vec F S32x128 .f32
  /-- the running denominator -/
  l : Vec F S32x128 .f32
  /-- the running weighted sum -/
  a : Vec F S1024x32 .f32

/-- The point's first position. -/
abbrev v2At (i : grid1.Coords) : BitVec 32 := Scalar.muli (BitVec.ofNat 32 (i 1).val) 2048#32

/-- The scratches after the first region. -/
def initS (i : grid1.Coords) (X8 : Vec F S32x1 .f32) (s : Scr F) : Scr F :=
  if cond1 i = 1#1 then ⟨m0B X8, l0B, a0B⟩ else s

/-- The scratches after the block's region. -/
def blockS (i : grid1.Coords) (v1 : BitVec 32) (X3 : Vec F S6x128x256 .bf16) (X4 : Vec F S1x8x6x128x128 .i8) (X5 : Vec F S1x8x2048 .bf16) (X6 : Vec F S1x8x64x2048 .i8) (X7 : Vec F S1x8x2048 .f32) (X9 : Vec F S32x1 .f32) (s : Scr F) : Scr F :=
  if k1_cond3 i v1 = 1#1 then
    ⟨shapeCast S32x128 (mNew (maskedB (v2At i) v1 X5 (rawB X3 X4) X9) s.m) shapeCasts_S32x128_S32x128, lNew (maskedB (v2At i) v1 X5 (rawB X3 X4) X9) s.m s.l, accB (alphaRow (maskedB (v2At i) v1 X5 (rawB X3 X4) X9) s.m) (pB (maskedB (v2At i) v1 X5 (rawB X3 X4) X9) s.m X7) X6 s.a⟩
  else s

/-- The scores block the point leaves. -/
def csOut (i : grid1.Coords) (v1 : BitVec 32) (X3 : Vec F S6x128x256 .bf16) (X4 : Vec F S1x8x6x128x128 .i8) (X5 : Vec F S1x8x2048 .bf16) (X9 : Vec F S32x1 .f32) : Vec F S1x32x2048 .f32 :=
  if k1_cond3 i v1 = 1#1 then csB (v2At i) v1 X5 (rawB X3 X4) X9 else zeroB

/-- The output block the point leaves. -/
def outOut (i : grid1.Coords) (X8 : Vec F S32x1 .f32) (X10 : Vec F S32x128 .f32) (X11 : Vec F S32x1 .f32) (s : Scr F) (X12 : Vec F S1x32x128 .bf16) : Vec F S1x32x128 .bf16 :=
  if k1_cond4 i = 1#1 then outV s.a s.l X8 s.m X11 X10 else X12

/-- A block is either inside the length or past it. -/
theorem cond2_of (i : grid1.Coords) (v1 : BitVec 32) (h : k1_cond3 i v1 ≠ 1#1) : k1_cond2 i v1 = 1#1 := by
  have hz : ∀ b : Bool, (IntOp.cmpi CmpIPredicate.ne (BitVec.setWidth 32 (BitVec.ofBool b)) 0#32 = 1#1) ↔ b = true := by decide
  unfold k1_cond3 at h
  unfold k1_cond2
  change ¬ (IntOp.cmpi CmpIPredicate.ne (BitVec.setWidth 32 (BitVec.ofBool ((v2At i).slt v1))) 0#32 = 1#1) at h
  change IntOp.cmpi CmpIPredicate.ne (BitVec.setWidth 32 (BitVec.ofBool (v1.sle (v2At i)))) 0#32 = 1#1
  rw [hz] at h ⊢
  revert h
  generalize v2At i = w
  intro h
  rw [BitVec.sle_iff_toInt_le]
  rw [BitVec.slt_iff_toInt_lt] at h
  omega

/-- The length the body reads: word `i 0` of the table. -/
abbrev lenAt (arg2 : Memref sig .tc .smem S6 .i32) {c : Dev nD} (i : grid1.Coords) (f : Buf (Elt F) (arg2.view.loc (c : Thread nD τ))) : BitVec 32 :=
  (arg2.access (Rect.unit (s := S6) (k1_off1 i) S1.size (k1_off1_inb i))).read (Elt F) f (Shape.Idx.first (numel1_S1.symm ▸ Nat.one_pos))

/-- The body as a chain of guarded regions. -/
theorem attendProg_eq (i : grid1.Coords) (arg2 : Memref sig .tc .smem S6 .i32) (arg3 : Memref sig .tc .vmem S6x128x256 .bf16) (arg4 : Memref sig .tc .vmem S1x8x6x128x128 .i8) (arg5 : Memref sig .tc .vmem S1x8x2048 .bf16) (arg6 : Memref sig .tc .vmem S1x8x64x2048 .i8) (arg7 : Memref sig .tc .vmem S1x8x2048 .f32) (arg8 : Memref sig .tc .vmem S32x1 .f32) (arg9 : Memref sig .tc .vmem S32x1 .f32) (arg10 : Memref sig .tc .vmem S32x128 .f32) (arg11 : Memref sig .tc .vmem S32x1 .f32) (arg12 : Memref sig .tc .vmem S1x32x128 .bf16) (harg12 : arg12.IsWhole) (arg13 : Memref sig .tc .vmem S1x32x2048 .f32) (arg14 : Memref sig .tc .vmem S32x128 .f32) (arg15 : Memref sig .tc .vmem S32x128 .f32) (arg16 : Memref sig .tc .vmem S1024x32 .f32) (arg17 : Memref sig .tc .vmem S32x2048 .bf16) (harg17 : arg17.IsWhole) :
    attendProg i arg2 arg3 arg4 arg5 arg6 arg7 arg8 arg9 arg10 arg11 arg12 harg12 arg13 arg14 arg15 arg16 arg17 harg17 (F := F)
      = (smemLoad arg2 (Rect.unit (s := S6) (k1_off1 i) S1.size (k1_off1_inb i)) numel1_S1 rfl >>= fun v1 =>
          Own.guarded (cond1 i = 1#1) (initProg arg8 arg14 arg15 arg16) >>= fun _ =>
          Own.guarded (k1_cond2 i v1 = 1#1) (skipProg arg13) >>= fun _ =>
          Own.guarded (k1_cond3 i v1 = 1#1) (blockProg (v2At i) v1 arg3 arg4 arg5 arg6 arg7 arg9 arg13 arg14 arg15 arg16 arg17 harg17) >>= fun _ =>
          Own.guarded (k1_cond4 i = 1#1) (finProg arg8 arg10 arg11 arg12 harg12 arg14 arg15 arg16) >>= fun _ => pure ⟨⟩) := by
  simp only [Own.guarded_bind]
  rfl

section Steps

variable {c : Dev nD} {E : Set ℕ} {β : Type}

/-- The first region. -/
theorem init_g {i : grid1.Coords} {arg8 : Memref sig .tc .vmem S32x1 .f32} {arg14 : Memref sig .tc .vmem S32x128 .f32} {arg15 : Memref sig .tc .vmem S32x128 .f32} {arg16 : Memref sig .tc .vmem S1024x32 .f32} {X8 : Vec F S32x1 .f32} {s : Scr F} {k : PUnit → Prog (TpuEff nD τ sig (Elt F) Λ₀ .tc) β} {K : β → sProp 𝕄} :
    iprop(owns (c : Thread nD τ) arg8 fullShare X8 ∗ owns (c : Thread nD τ) arg14 fullShare s.m ∗ owns (c : Thread nD τ) arg15 fullShare s.l ∗ owns (c : Thread nD τ) arg16 fullShare s.a ∗ (iprop(owns (c : Thread nD τ) arg8 fullShare X8 ∗ owns (c : Thread nD τ) arg14 fullShare (initS i X8 s).m ∗ owns (c : Thread nD τ) arg15 fullShare (initS i X8 s).l ∗ owns (c : Thread nD τ) arg16 fullShare (initS i X8 s).a) -∗ wp frame (wpE (defs₀ (F := F)) Variants.none (c : Thread nD τ) none) E (k ⟨⟩) K))
      ⊢ wp frame (wpE (defs₀ (F := F)) Variants.none (c : Thread nD τ) none) E (Own.guarded (cond1 i = 1#1) (initProg arg8 arg14 arg15 arg16) >>= k) K := by
  unfold initS Own.guarded
  split
  · exact init_k
  · iintro ⟨H8, H14, H15, H16, Hk⟩
    rw [pure_bind]
    iapply Hk
    isplitl [H8]; · iexact H8
    isplitl [H14]; · iexact H14
    isplitl [H15]; · iexact H15
    iexact H16

/-- The region of a block past the length. -/
theorem skip_g {i : grid1.Coords} {v1 : BitVec 32} {arg13 : Memref sig .tc .vmem S1x32x2048 .f32} {k : PUnit → Prog (TpuEff nD τ sig (Elt F) Λ₀ .tc) β} {K : β → sProp 𝕄} :
    iprop((∃ d, owns (c : Thread nD τ) arg13 fullShare d) ∗ ((∃ d, ⌜k1_cond3 i v1 ≠ 1#1 → d = zeroB⌝ ∗ owns (c : Thread nD τ) arg13 fullShare d) -∗ wp frame (wpE (defs₀ (F := F)) Variants.none (c : Thread nD τ) none) E (k ⟨⟩) K))
      ⊢ wp frame (wpE (defs₀ (F := F)) Variants.none (c : Thread nD τ) none) E (Own.guarded (k1_cond2 i v1 = 1#1) (skipProg arg13) >>= k) K := by
  unfold Own.guarded
  split
  · iintro ⟨⟨%d, H⟩, Hk⟩
    iapply skip_k (R := d)
    isplitl [H]; · iexact H
    iintro H
    iapply Hk
    iexists zeroB
    isplitr; · ipureintro; exact fun _ => rfl
    iexact H
  · rename_i h2
    iintro ⟨⟨%d, H⟩, Hk⟩
    rw [pure_bind]
    iapply Hk
    iexists d
    isplitr; · ipureintro; exact fun h => absurd (cond2_of i v1 h) h2
    iexact H

/-- The block's region. -/
theorem block_g {i : grid1.Coords} {v1 : BitVec 32} {arg3 : Memref sig .tc .vmem S6x128x256 .bf16} {arg4 : Memref sig .tc .vmem S1x8x6x128x128 .i8} {arg5 : Memref sig .tc .vmem S1x8x2048 .bf16} {arg6 : Memref sig .tc .vmem S1x8x64x2048 .i8} {arg7 : Memref sig .tc .vmem S1x8x2048 .f32} {arg9 : Memref sig .tc .vmem S32x1 .f32} {arg13 : Memref sig .tc .vmem S1x32x2048 .f32} {arg14 : Memref sig .tc .vmem S32x128 .f32} {arg15 : Memref sig .tc .vmem S32x128 .f32} {arg16 : Memref sig .tc .vmem S1024x32 .f32} {arg17 : Memref sig .tc .vmem S32x2048 .bf16} {harg17 : arg17.IsWhole} {X3 : Vec F S6x128x256 .bf16} {X4 : Vec F S1x8x6x128x128 .i8} {X5 : Vec F S1x8x2048 .bf16} {X6 : Vec F S1x8x64x2048 .i8} {X7 : Vec F S1x8x2048 .f32} {X9 : Vec F S32x1 .f32} {s : Scr F} {k : PUnit → Prog (TpuEff nD τ sig (Elt F) Λ₀ .tc) β} {K : β → sProp 𝕄} :
    iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg9 fullShare X9 ∗ (∃ d, ⌜k1_cond3 i v1 ≠ 1#1 → d = zeroB⌝ ∗ owns (c : Thread nD τ) arg13 fullShare d) ∗ owns (c : Thread nD τ) arg14 fullShare s.m ∗ owns (c : Thread nD τ) arg15 fullShare s.l ∗ owns (c : Thread nD τ) arg16 fullShare s.a ∗ (∃ d, owns (c : Thread nD τ) arg17 fullShare d)
      ∗ (iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg9 fullShare X9 ∗ owns (c : Thread nD τ) arg13 fullShare (csOut i v1 X3 X4 X5 X9) ∗ owns (c : Thread nD τ) arg14 fullShare (blockS i v1 X3 X4 X5 X6 X7 X9 s).m ∗ owns (c : Thread nD τ) arg15 fullShare (blockS i v1 X3 X4 X5 X6 X7 X9 s).l ∗ owns (c : Thread nD τ) arg16 fullShare (blockS i v1 X3 X4 X5 X6 X7 X9 s).a ∗ (∃ d, owns (c : Thread nD τ) arg17 fullShare d)) -∗ wp frame (wpE (defs₀ (F := F)) Variants.none (c : Thread nD τ) none) E (k ⟨⟩) K))
      ⊢ wp frame (wpE (defs₀ (F := F)) Variants.none (c : Thread nD τ) none) E (Own.guarded (k1_cond3 i v1 = 1#1) (blockProg (v2At i) v1 arg3 arg4 arg5 arg6 arg7 arg9 arg13 arg14 arg15 arg16 arg17 harg17) >>= k) K := by
  unfold blockS csOut Own.guarded
  split
  · iintro ⟨H3, H4, H5, H6, H7, H9, ⟨%d, -, H13⟩, H14, H15, H16, ⟨%P, H17⟩, Hk⟩
    unfold blockProg
    rw [bind_assoc]
    iapply tiles_k (X3 := X3) (X4 := X4)
    isplitl [H3]; · iexact H3
    isplitl [H4]; · iexact H4
    isplitl [H13]; · iexists d; iexact H13
    iintro ⟨H3, H4, H13⟩
    iapply tail_k (X5 := X5) (X6 := X6) (X7 := X7) (X9 := X9) (R := rawB X3 X4) (M := s.m) (L := s.l) (A := s.a) (P := P)
    isplitl [H5]; · iexact H5
    isplitl [H6]; · iexact H6
    isplitl [H7]; · iexact H7
    isplitl [H9]; · iexact H9
    isplitl [H13]; · iexact H13
    isplitl [H14]; · iexact H14
    isplitl [H15]; · iexact H15
    isplitl [H16]; · iexact H16
    isplitl [H17]; · iexact H17
    iintro ⟨H5, H6, H7, H9, H13, H14, H15, H16, H17⟩
    iapply Hk
    isplitl [H3]; · iexact H3
    isplitl [H4]; · iexact H4
    isplitl [H5]; · iexact H5
    isplitl [H6]; · iexact H6
    isplitl [H7]; · iexact H7
    isplitl [H9]; · iexact H9
    isplitl [H13]; · iexact H13
    isplitl [H14]; · iexact H14
    isplitl [H15]; · iexact H15
    isplitl [H16]; · iexact H16
    iexists _; iexact H17
  · rename_i h3
    iintro ⟨H3, H4, H5, H6, H7, H9, ⟨%d, %hd, H13⟩, H14, H15, H16, ⟨%P, H17⟩, Hk⟩
    obtain rfl := hd h3
    rw [pure_bind]
    iapply Hk
    isplitl [H3]; · iexact H3
    isplitl [H4]; · iexact H4
    isplitl [H5]; · iexact H5
    isplitl [H6]; · iexact H6
    isplitl [H7]; · iexact H7
    isplitl [H9]; · iexact H9
    isplitl [H13]; · iexact H13
    isplitl [H14]; · iexact H14
    isplitl [H15]; · iexact H15
    isplitl [H16]; · iexact H16
    iexists _; iexact H17

/-- The last region. -/
theorem fin_g {i : grid1.Coords} {arg8 : Memref sig .tc .vmem S32x1 .f32} {arg10 : Memref sig .tc .vmem S32x128 .f32} {arg11 : Memref sig .tc .vmem S32x1 .f32} {arg12 : Memref sig .tc .vmem S1x32x128 .bf16} {arg14 : Memref sig .tc .vmem S32x128 .f32} {arg15 : Memref sig .tc .vmem S32x128 .f32} {arg16 : Memref sig .tc .vmem S1024x32 .f32} {harg12 : arg12.IsWhole} {X8 : Vec F S32x1 .f32} {X10 : Vec F S32x128 .f32} {X11 : Vec F S32x1 .f32} {X12 : Vec F S1x32x128 .bf16} {s : Scr F} {k : PUnit → Prog (TpuEff nD τ sig (Elt F) Λ₀ .tc) β} {K : β → sProp 𝕄} :
    iprop(owns (c : Thread nD τ) arg8 fullShare X8 ∗ owns (c : Thread nD τ) arg10 fullShare X10 ∗ owns (c : Thread nD τ) arg11 fullShare X11 ∗ owns (c : Thread nD τ) arg12 fullShare X12 ∗ owns (c : Thread nD τ) arg14 fullShare s.m ∗ owns (c : Thread nD τ) arg15 fullShare s.l ∗ owns (c : Thread nD τ) arg16 fullShare s.a
      ∗ (iprop(owns (c : Thread nD τ) arg8 fullShare X8 ∗ owns (c : Thread nD τ) arg10 fullShare X10 ∗ owns (c : Thread nD τ) arg11 fullShare X11 ∗ owns (c : Thread nD τ) arg12 fullShare (outOut i X8 X10 X11 s X12) ∗ owns (c : Thread nD τ) arg14 fullShare s.m ∗ owns (c : Thread nD τ) arg15 fullShare s.l ∗ owns (c : Thread nD τ) arg16 fullShare s.a) -∗ wp frame (wpE (defs₀ (F := F)) Variants.none (c : Thread nD τ) none) E (k ⟨⟩) K))
      ⊢ wp frame (wpE (defs₀ (F := F)) Variants.none (c : Thread nD τ) none) E (Own.guarded (k1_cond4 i = 1#1) (finProg arg8 arg10 arg11 arg12 harg12 arg14 arg15 arg16) >>= k) K := by
  unfold outOut Own.guarded
  split
  · exact fin_k
  · iintro ⟨H8, H10, H11, H12, H14, H15, H16, Hk⟩
    rw [pure_bind]
    iapply Hk
    isplitl [H8]; · iexact H8
    isplitl [H10]; · iexact H10
    isplitl [H11]; · iexact H11
    isplitl [H12]; · iexact H12
    isplitl [H14]; · iexact H14
    isplitl [H15]; · iexact H15
    iexact H16

/-- The scratches the point leaves. -/
abbrev stepS (i : grid1.Coords) (v1 : BitVec 32) (X3 : Vec F S6x128x256 .bf16) (X4 : Vec F S1x8x6x128x128 .i8) (X5 : Vec F S1x8x2048 .bf16) (X6 : Vec F S1x8x64x2048 .i8) (X7 : Vec F S1x8x2048 .f32) (X8 : Vec F S32x1 .f32) (X9 : Vec F S32x1 .f32) (s : Scr F) : Scr F :=
  blockS i v1 X3 X4 X5 X6 X7 X9 (initS i X8 s)

/-- The load of the sequence's length. -/
theorem len_k {i : grid1.Coords} {arg2 : Memref sig .tc .smem S6 .i32} {q : PosShare TreeShare} {f : Buf (Elt F) (arg2.view.loc (c : Thread nD τ))}
    {k : BitVec 32 → Prog (TpuEff nD τ sig (Elt F) Λ₀ .tc) β} {K : β → sProp 𝕄} :
    iprop((arg2.view.loc (c : Thread nD τ) ↦{q} f) ∗ ((arg2.view.loc (c : Thread nD τ) ↦{q} f) -∗ wp frame (wpE (defs₀ (F := F)) Variants.none (c : Thread nD τ) none) E (k (lenAt arg2 i f)) K))
      ⊢ wp frame (wpE (defs₀ (F := F)) Variants.none (c : Thread nD τ) none) E ((smemLoad arg2 (Rect.unit (s := S6) (k1_off1 i) S1.size (k1_off1_inb i)) numel1_S1 rfl : Prog (TpuEff nD τ sig (Elt F) Λ₀ .tc) (Elt F .i32)) >>= k) K := by
  apply Own.seq (c := (c : Thread nD τ))
  unfold smemLoad
  iintro ⟨H2, Hk⟩
  iapply (wp_smemLoadElt (defs := defs₀ (F := F)) Variants.none (c : Thread nD τ) none E (m := arg2) (r := Rect.unit (s := S6) (k1_off1 i) S1.size (k1_off1_inb i))
    (x := Shape.Idx.first (numel1_S1.symm ▸ Nat.one_pos)) (S := Finset.univ) (q := q) (f := f) (Finset.subset_univ _)) $$ H2
  iintro H2
  iapply Own.ret (c := (c : Thread nD τ))
  iapply Hk
  iexact H2

/-- The whole body at one point. -/
theorem attend_wp {i : grid1.Coords} {arg2 : Memref sig .tc .smem S6 .i32} {arg3 : Memref sig .tc .vmem S6x128x256 .bf16} {arg4 : Memref sig .tc .vmem S1x8x6x128x128 .i8} {arg5 : Memref sig .tc .vmem S1x8x2048 .bf16} {arg6 : Memref sig .tc .vmem S1x8x64x2048 .i8} {arg7 : Memref sig .tc .vmem S1x8x2048 .f32} {arg8 : Memref sig .tc .vmem S32x1 .f32} {arg9 : Memref sig .tc .vmem S32x1 .f32} {arg10 : Memref sig .tc .vmem S32x128 .f32} {arg11 : Memref sig .tc .vmem S32x1 .f32} {arg12 : Memref sig .tc .vmem S1x32x128 .bf16} {arg13 : Memref sig .tc .vmem S1x32x2048 .f32} {arg14 : Memref sig .tc .vmem S32x128 .f32} {arg15 : Memref sig .tc .vmem S32x128 .f32} {arg16 : Memref sig .tc .vmem S1024x32 .f32} {arg17 : Memref sig .tc .vmem S32x2048 .bf16} {harg12 : arg12.IsWhole} {harg17 : arg17.IsWhole} {X3 : Vec F S6x128x256 .bf16} {X4 : Vec F S1x8x6x128x128 .i8} {X5 : Vec F S1x8x2048 .bf16} {X6 : Vec F S1x8x64x2048 .i8} {X7 : Vec F S1x8x2048 .f32} {X8 : Vec F S32x1 .f32} {X9 : Vec F S32x1 .f32} {X10 : Vec F S32x128 .f32} {X11 : Vec F S32x1 .f32} {X12 : Vec F S1x32x128 .bf16} {s : Scr F}
    {q : PosShare TreeShare} {f : Buf (Elt F) (arg2.view.loc (c : Thread nD τ))} {K : PUnit → sProp 𝕄} :
    iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ (∃ d, owns (c : Thread nD τ) arg13 fullShare d) ∗ owns (c : Thread nD τ) arg14 fullShare s.m ∗ owns (c : Thread nD τ) arg15 fullShare s.l ∗ owns (c : Thread nD τ) arg16 fullShare s.a ∗ (∃ d, owns (c : Thread nD τ) arg17 fullShare d) ∗ (arg2.view.loc (c : Thread nD τ) ↦{q} f)
      ∗ (iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare (outOut i X8 X10 X11 (stepS i (lenAt arg2 i f) X3 X4 X5 X6 X7 X8 X9 s) X12) ∗ owns (c : Thread nD τ) arg13 fullShare (csOut i (lenAt arg2 i f) X3 X4 X5 X9) ∗ owns (c : Thread nD τ) arg14 fullShare (stepS i (lenAt arg2 i f) X3 X4 X5 X6 X7 X8 X9 s).m ∗ owns (c : Thread nD τ) arg15 fullShare (stepS i (lenAt arg2 i f) X3 X4 X5 X6 X7 X8 X9 s).l ∗ owns (c : Thread nD τ) arg16 fullShare (stepS i (lenAt arg2 i f) X3 X4 X5 X6 X7 X8 X9 s).a ∗ (∃ d, owns (c : Thread nD τ) arg17 fullShare d) ∗ (arg2.view.loc (c : Thread nD τ) ↦{q} f)) -∗ K ⟨⟩))
      ⊢ wp frame (wpE (defs₀ (F := F)) Variants.none (c : Thread nD τ) none) E (attendProg i arg2 arg3 arg4 arg5 arg6 arg7 arg8 arg9 arg10 arg11 arg12 harg12 arg13 arg14 arg15 arg16 arg17 harg17) K := by
  rw [attendProg_eq]
  iintro ⟨H3, H4, H5, H6, H7, H8, H9, H10, H11, H12, H13, H14, H15, H16, H17, H2, Hk⟩
  iapply len_k
  isplitl [H2]; · iexact H2
  iintro H2
  iapply init_g (X8 := X8) (s := s)
  isplitl [H8]; · iexact H8
  isplitl [H14]; · iexact H14
  isplitl [H15]; · iexact H15
  isplitl [H16]; · iexact H16
  iintro ⟨H8, H14, H15, H16⟩
  iapply skip_g (v1 := lenAt arg2 i f)
  isplitl [H13]; · iexact H13
  iintro H13
  iapply block_g (X3 := X3) (X4 := X4) (X5 := X5) (X6 := X6) (X7 := X7) (X9 := X9) (s := initS i X8 s)
  isplitl [H3]; · iexact H3
  isplitl [H4]; · iexact H4
  isplitl [H5]; · iexact H5
  isplitl [H6]; · iexact H6
  isplitl [H7]; · iexact H7
  isplitl [H9]; · iexact H9
  isplitl [H13]; · iexact H13
  isplitl [H14]; · iexact H14
  isplitl [H15]; · iexact H15
  isplitl [H16]; · iexact H16
  isplitl [H17]; · iexact H17
  iintro ⟨H3, H4, H5, H6, H7, H9, H13, H14, H15, H16, H17⟩
  iapply fin_g (X8 := X8) (X10 := X10) (X11 := X11) (X12 := X12) (s := stepS i (lenAt arg2 i f) X3 X4 X5 X6 X7 X8 X9 s)
  isplitl [H8]; · iexact H8
  isplitl [H10]; · iexact H10
  isplitl [H11]; · iexact H11
  isplitl [H12]; · iexact H12
  isplitl [H14]; · iexact H14
  isplitl [H15]; · iexact H15
  isplitl [H16]; · iexact H16
  iintro ⟨H8, H10, H11, H12, H14, H15, H16⟩
  iapply Own.ret (c := (c : Thread nD τ))
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H2

end Steps

end Cert.Kernel.Attend

end
-- ==== Proof.Twin.RolledEq.lean ====
/-
The printed body of the decode kernel is the rolled one.
-/
module

public import proofs.«01_k».proof.Proof.Twin.Rolled

@[expose] public section

noncomputable section

namespace Cert.Kernel.Attend

open Idealize.ShloMosaic Idealize.SL.Sem Cert.Kernel Cert.Kernel.Gen

variable {F : FTy → Type} [FloatOps F]

set_option maxRecDepth 1000000 in
/-- The printed body and the rolled one are the same program. -/
theorem cc1_attend_eq (i : grid1.Coords) (arg2 : Memref sig .tc .smem S6 .i32) (harg2 : arg2.IsWhole) (arg3 : Memref sig .tc .vmem S6x128x256 .bf16) (harg3 : arg3.IsWhole) (arg4 : Memref sig .tc .vmem S1x8x6x128x128 .i8) (harg4 : arg4.IsWhole) (arg5 : Memref sig .tc .vmem S1x8x2048 .bf16) (harg5 : arg5.IsWhole) (arg6 : Memref sig .tc .vmem S1x8x64x2048 .i8) (harg6 : arg6.IsWhole) (arg7 : Memref sig .tc .vmem S1x8x2048 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S32x128 .f32) (harg10 : arg10.IsWhole) (arg11 : Memref sig .tc .vmem S32x1 .f32) (harg11 : arg11.IsWhole) (arg12 : Memref sig .tc .vmem S1x32x128 .bf16) (harg12 : arg12.IsWhole) (arg13 : Memref sig .tc .vmem S1x32x2048 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S1024x32 .f32) (harg16 : arg16.IsWhole) (arg17 : Memref sig .tc .vmem S32x2048 .bf16) (harg17 : arg17.IsWhole) :
    cc1_attend (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = attendProg i arg2 arg3 arg4 arg5 arg6 arg7 arg8 arg9 arg10 arg11 arg12 harg12 arg13 arg14 arg15 arg16 arg17 harg17 := by
  chain_rfl

end Cert.Kernel.Attend

end
-- ==== Proof.Twin.Region1.lean ====
/-
The decode call: what its windows hold at every grid point, what it carries from point to point, and the body's obligation.
-/
module

public import proofs.«01_k».proof.Proof.Twin.Attend
public import proofs.«01_k».proof.Proof.Twin.RolledEq
public import proofs.«01_k».proof.Proof.Gen.Kernel.Launch
public import Idealize.ShloMosaic.Lib.Pipeline.FrameBody
public import Idealize.ShloMosaic.Lib.Pipeline.RegionsLoop
public import Idealize.ShloMosaic.Lib.Pipeline.FrameSuffix
public import Idealize.ShloMosaic.Lib.Pipeline.RegionArraysTS
public import Idealize.ShloMosaic.Lib.Ring
public import Idealize.ShloMosaic.Lib.Tactic
public import Idealize.ShloMosaic.Lib.WordCmp

@[expose] public section

set_option maxRecDepth 16384

noncomputable section

namespace Cert.Kernel.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the call is entered, and the table's contents
variable (V : (c : Dev nD) → (b : Ref sig .tc) → Buf (Elt F) ((c : Thread nD τ).loc b)) (a : (pcfg1 (F := F)).Adm)

/-! ## Schedules and conditions -/

/-- The output block is written back at the last point of a sequence. -/
theorem flush1_9 : ∀ t : Fin (cfg1 a).N, ((cfg1 a).win 9).flush t = true ↔ t.val % 8 = 7 :=
  (fun t => Pipeline.Window.flushOf_reads cc1_transform_9 reads1_9 hreads1_9 0 (by decide) (by decide) (Pipeline.Window.sep_of_coord cc1_transform_9 0 0 (fun _ => rfl) (by decide)) (P := 8) (m := 7) (by decide) rfl t : ∀ t : Fin grid1.N, Pipeline.Window.flushOf grid1 true cc1_transform_9 t = true ↔ t.val % 8 = 7)

theorem cond1_iff : ∀ t : Fin grid1.N, cond1 (grid1.coords t) = 1#1 ↔ t.val % 8 = 0 := fun t => by
  have ht : t.val < 48 := Nat.lt_of_lt_of_eq t.isLt N_1
  have e0 : (grid1.coords t 0).val = t.val / 8 % 6 := Pipeline.Grid.coords_val t 0 (by decide) rfl
  have e1 : (grid1.coords t 1).val = t.val / 1 % 8 := Pipeline.Grid.coords_val t 1 (by decide) rfl
  simp only [cond1, e0, e1]
  word_cmp

theorem cond4_iff : ∀ t : Fin grid1.N, k1_cond4 (grid1.coords t) = 1#1 ↔ t.val % 8 = 7 := fun t => by
  have ht : t.val < 48 := Nat.lt_of_lt_of_eq t.isLt N_1
  have e0 : (grid1.coords t 0).val = t.val / 8 % 6 := Pipeline.Grid.coords_val t 0 (by decide) rfl
  have e1 : (grid1.coords t 1).val = t.val / 1 % 8 := Pipeline.Grid.coords_val t 1 (by decide) rfl
  simp only [k1_cond4, e0, e1]
  word_cmp

/-! ## The windows' blocks -/

/-- Window `w`'s block at point `t`, read off its array as the call finds it. -/
def iblk (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

theorem before_0_of {c : Dev nD} (dat : Dat τ (Elt F) Unit ℕ (UR sig nD τ) ℕ (cfg1 a) c) (hA : dat.A 0 = V c (Pipeline.arrRef spec1 0))
    (hafter : ∀ t, dat.after 0 t = iblk V a c 0 t) (t : Fin (cfg1 a).N) (d) : dat.before 0 t d = iblk V a c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
abbrev b0 (c : Dev nD) (t : Fin (cfg1 a).N) : Vec F S6x128x256 .bf16 := iblk V a c 0 t

theorem before_1_of {c : Dev nD} (dat : Dat τ (Elt F) Unit ℕ (UR sig nD τ) ℕ (cfg1 a) c) (hA : dat.A 1 = V c (Pipeline.arrRef spec1 1))
    (hafter : ∀ t, dat.after 1 t = iblk V a c 1 t) (t : Fin (cfg1 a).N) (d) : dat.before 1 t d = iblk V a c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
abbrev b1 (c : Dev nD) (t : Fin (cfg1 a).N) : Vec F S1x8x6x128x128 .i8 := iblk V a c 1 t

theorem before_2_of {c : Dev nD} (dat : Dat τ (Elt F) Unit ℕ (UR sig nD τ) ℕ (cfg1 a) c) (hA : dat.A 2 = V c (Pipeline.arrRef spec1 2))
    (hafter : ∀ t, dat.after 2 t = iblk V a c 2 t) (t : Fin (cfg1 a).N) (d) : dat.before 2 t d = iblk V a c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
abbrev b2 (c : Dev nD) (t : Fin (cfg1 a).N) : Vec F S1x8x2048 .bf16 := iblk V a c 2 t

theorem before_3_of {c : Dev nD} (dat : Dat τ (Elt F) Unit ℕ (UR sig nD τ) ℕ (cfg1 a) c) (hA : dat.A 3 = V c (Pipeline.arrRef spec1 3))
    (hafter : ∀ t, dat.after 3 t = iblk V a c 3 t) (t : Fin (cfg1 a).N) (d) : dat.before 3 t d = iblk V a c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
abbrev b3 (c : Dev nD) (t : Fin (cfg1 a).N) : Vec F S1x8x64x2048 .i8 := iblk V a c 3 t

theorem before_4_of {c : Dev nD} (dat : Dat τ (Elt F) Unit ℕ (UR sig nD τ) ℕ (cfg1 a) c) (hA : dat.A 4 = V c (Pipeline.arrRef spec1 4))
    (hafter : ∀ t, dat.after 4 t = iblk V a c 4 t) (t : Fin (cfg1 a).N) (d) : dat.before 4 t d = iblk V a c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
abbrev b4 (c : Dev nD) (t : Fin (cfg1 a).N) : Vec F S1x8x2048 .f32 := iblk V a c 4 t

theorem before_5_of {c : Dev nD} (dat : Dat τ (Elt F) Unit ℕ (UR sig nD τ) ℕ (cfg1 a) c) (hA : dat.A 5 = V c (Pipeline.arrRef spec1 5))
    (hafter : ∀ t, dat.after 5 t = iblk V a c 5 t) (t : Fin (cfg1 a).N) (d) : dat.before 5 t d = iblk V a c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
abbrev b5 (c : Dev nD) (t : Fin (cfg1 a).N) : Vec F S32x1 .f32 := iblk V a c 5 t

theorem before_6_of {c : Dev nD} (dat : Dat τ (Elt F) Unit ℕ (UR sig nD τ) ℕ (cfg1 a) c) (hA : dat.A 6 = V c (Pipeline.arrRef spec1 6))
    (hafter : ∀ t, dat.after 6 t = iblk V a c 6 t) (t : Fin (cfg1 a).N) (d) : dat.before 6 t d = iblk V a c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
abbrev b6 (c : Dev nD) (t : Fin (cfg1 a).N) : Vec F S32x1 .f32 := iblk V a c 6 t

theorem before_7_of {c : Dev nD} (dat : Dat τ (Elt F) Unit ℕ (UR sig nD τ) ℕ (cfg1 a) c) (hA : dat.A 7 = V c (Pipeline.arrRef spec1 7))
    (hafter : ∀ t, dat.after 7 t = iblk V a c 7 t) (t : Fin (cfg1 a).N) (d) : dat.before 7 t d = iblk V a c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
abbrev b7 (c : Dev nD) (t : Fin (cfg1 a).N) : Vec F S32x128 .f32 := iblk V a c 7 t

theorem before_8_of {c : Dev nD} (dat : Dat τ (Elt F) Unit ℕ (UR sig nD τ) ℕ (cfg1 a) c) (hA : dat.A 8 = V c (Pipeline.arrRef spec1 8))
    (hafter : ∀ t, dat.after 8 t = iblk V a c 8 t) (t : Fin (cfg1 a).N) (d) : dat.before 8 t d = iblk V a c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
abbrev b8 (c : Dev nD) (t : Fin (cfg1 a).N) : Vec F S32x1 .f32 := iblk V a c 8 t

/-- The table as the body is handed it. -/
abbrev tb : Memref sig .tc .smem S6 .i32 := Memref.whole main_arg8

/-- The length the body reads at a point. -/
abbrev len (c : Dev nD) (t : Fin (cfg1 a).N) : BitVec 32 := lenAt tb (c := c) (grid1.coords t) (a.1 0)

/-! ## What is carried -/

/-- One point's change of the carried values. -/
def stepAt (c : Dev nD) (t : Fin (cfg1 a).N) (s : Scr F) : Scr F :=
  stepS (grid1.coords t) (len a c t) (b0 V a c t) (b1 V a c t) (b2 V a c t) (b3 V a c t) (b4 V a c t) (b5 V a c t) (b6 V a c t) s

/-- The carried values after the first `n` points (before the first: anything). -/
def stAt (c : Dev nD) : ℕ → Scr F
  | 0 => ⟨l0B, l0B, a0B⟩
  | n + 1 => if h : n < (cfg1 a).N then stepAt V a c ⟨n, h⟩ (stAt c n) else stAt c n

theorem stAt_succ (c : Dev nD) (t : Fin (cfg1 a).N) : stAt V a c (t.val + 1) = stepAt V a c t (stAt V a c t.val) := by
  show (if h : t.val < (cfg1 a).N then _ else _) = _
  rw [dif_pos t.isLt]

/-- The first point of a sequence forgets what was carried. -/
theorem stepAt_first (c : Dev nD) (t : Fin (cfg1 a).N) (ht : t.val % 8 = 0) (s s' : Scr F) : stepAt V a c t s = stepAt V a c t s' := by
  unfold stepAt stepS initS
  rw [if_pos ((cond1_iff t).mpr ht), if_pos ((cond1_iff t).mpr ht)]

/-! ## The invariant -/

abbrev sc0 : Memref sig .tc .vmem S32x128 .f32 := Memref.whole cc1_scratch0
abbrev sc1 : Memref sig .tc .vmem S32x128 .f32 := Memref.whole cc1_scratch1
abbrev sc2 : Memref sig .tc .vmem S1024x32 .f32 := Memref.whole cc1_scratch2
abbrev sc3 : Memref sig .tc .vmem S32x2048 .bf16 := Memref.whole cc1_scratch3

/-- The other call's buffers, at anything. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f))

theorem assoc_eq {M : Type _} [RA M] (P Q R : sProp M) : iprop((P ∗ Q) ∗ R) = iprop(P ∗ Q ∗ R) :=
  Idealize.SL.BI.equiv_iff.mp ⟨Idealize.SL.BI.sep_assoc, Idealize.SL.BI.sep_assoc'⟩

/-- The scoped buffers no window of the call stages: the other call's, and the four scratches. -/
theorem scoped_split (c : Dev nD) : (Pipeline.scopedRest spec1 c : sProp 𝕄)
    = iprop(others c ∗ (∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) := by
  rw [scopedRest1_eq]
  simp only [sc0, sc1, sc2, sc3, owns_whole]
  unfold others
  simp only [assoc_eq]
  try rfl

/-- The table at its contents. -/
abbrev tbl (c : Dev nD) : sProp 𝕄 := tb.view.loc (c : Thread nD τ) ↦{fullShare} (a.1 0)

theorem tables_eq (c : Dev nD) : (Pipeline.prefHeld pre1 c (fun _ => fullShare) a.1 : sProp 𝕄) = tbl a c := by
  unfold Pipeline.prefHeld
  rw [show (Finset.univ : Finset (Fin 1)) = {(0 : Fin 1)} from by decide, bigSep_singleton]
  rfl

/-- Between points: the carried scratches at what the points so far left (before the first: at anything). -/
def Inv (c : Dev nD) (n : ℕ) : sProp 𝕄 :=
  iprop(∃ s : Scr F, ⌜n = 0 ∨ s = stAt V a c n⌝ ∗ owns (c : Thread nD τ) sc0 fullShare s.m ∗ owns (c : Thread nD τ) sc1 fullShare s.l ∗ owns (c : Thread nD τ) sc2 fullShare s.a
    ∗ (∃ d, owns (c : Thread nD τ) sc3 fullShare d) ∗ others c ∗ (∃ r, prngReg c r) ∗ tbl a c)

/-- The output block a last point leaves. -/
def outAt (c : Dev nD) (t : Fin (cfg1 a).N) : Vec F S1x32x128 .bf16 :=
  outV (stAt V a c (t.val + 1)).a (stAt V a c (t.val + 1)).l (b5 V a c t) (stAt V a c (t.val + 1)).m (b8 V a c t) (b7 V a c t)

/-- The scores block a point leaves. -/
def csAt (c : Dev nD) (t : Fin (cfg1 a).N) : Vec F S1x32x2048 .f32 :=
  csOut (grid1.coords t) (len a c t) (b0 V a c t) (b1 V a c t) (b2 V a c t) (b6 V a c t)

/-- The call's proof data. -/
def dat1 (c : Dev nD) : Dat τ (Elt F) Unit ℕ (UR sig nD τ) ℕ (cfg1 a) c where
  A w := V c (Pipeline.arrRef spec1 w)
  after w t := match w with

    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => iblk V a c 5 t
    | ⟨6, _⟩ => iblk V a c 6 t
    | ⟨7, _⟩ => iblk V a c 7 t
    | ⟨8, _⟩ => iblk V a c 8 t
    | ⟨9, _⟩ => outAt V a c t
    | ⟨10, _⟩ => csAt V a c t
  Φ t := Inv V a c t.val
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk V a c 0 t := by dsimp only [dat1]; try rfl
theorem before1_0 (c : Dev nD) (t : Fin (cfg1 a).N) (d) : (dat1 V a c).before 0 t d = iblk V a c 0 t :=
  before_0_of V a (dat1 V a c) (A_eq1 V a c 0) (after1_0 V a c) t d
theorem after1_1 (c : Dev nD) (t : Fin (cfg1 a).N) : (dat1 V a c).after 1 t = iblk V a c 1 t := by dsimp only [dat1]; try rfl
theorem before1_1 (c : Dev nD) (t : Fin (cfg1 a).N) (d) : (dat1 V a c).before 1 t d = iblk V a c 1 t :=
  before_1_of V a (dat1 V a c) (A_eq1 V a c 1) (after1_1 V a c) t d
theorem after1_2 (c : Dev nD) (t : Fin (cfg1 a).N) : (dat1 V a c).after 2 t = iblk V a c 2 t := by dsimp only [dat1]; try rfl
theorem before1_2 (c : Dev nD) (t : Fin (cfg1 a).N) (d) : (dat1 V a c).before 2 t d = iblk V a c 2 t :=
  before_2_of V a (dat1 V a c) (A_eq1 V a c 2) (after1_2 V a c) t d
theorem after1_3 (c : Dev nD) (t : Fin (cfg1 a).N) : (dat1 V a c).after 3 t = iblk V a c 3 t := by dsimp only [dat1]; try rfl
theorem before1_3 (c : Dev nD) (t : Fin (cfg1 a).N) (d) : (dat1 V a c).before 3 t d = iblk V a c 3 t :=
  before_3_of V a (dat1 V a c) (A_eq1 V a c 3) (after1_3 V a c) t d
theorem after1_4 (c : Dev nD) (t : Fin (cfg1 a).N) : (dat1 V a c).after 4 t = iblk V a c 4 t := by dsimp only [dat1]; try rfl
theorem before1_4 (c : Dev nD) (t : Fin (cfg1 a).N) (d) : (dat1 V a c).before 4 t d = iblk V a c 4 t :=
  before_4_of V a (dat1 V a c) (A_eq1 V a c 4) (after1_4 V a c) t d
theorem after1_5 (c : Dev nD) (t : Fin (cfg1 a).N) : (dat1 V a c).after 5 t = iblk V a c 5 t := by dsimp only [dat1]; try rfl
theorem before1_5 (c : Dev nD) (t : Fin (cfg1 a).N) (d) : (dat1 V a c).before 5 t d = iblk V a c 5 t :=
  before_5_of V a (dat1 V a c) (A_eq1 V a c 5) (after1_5 V a c) t d
theorem after1_6 (c : Dev nD) (t : Fin (cfg1 a).N) : (dat1 V a c).after 6 t = iblk V a c 6 t := by dsimp only [dat1]; try rfl
theorem before1_6 (c : Dev nD) (t : Fin (cfg1 a).N) (d) : (dat1 V a c).before 6 t d = iblk V a c 6 t :=
  before_6_of V a (dat1 V a c) (A_eq1 V a c 6) (after1_6 V a c) t d
theorem after1_7 (c : Dev nD) (t : Fin (cfg1 a).N) : (dat1 V a c).after 7 t = iblk V a c 7 t := by dsimp only [dat1]; try rfl
theorem before1_7 (c : Dev nD) (t : Fin (cfg1 a).N) (d) : (dat1 V a c).before 7 t d = iblk V a c 7 t :=
  before_7_of V a (dat1 V a c) (A_eq1 V a c 7) (after1_7 V a c) t d
theorem after1_8 (c : Dev nD) (t : Fin (cfg1 a).N) : (dat1 V a c).after 8 t = iblk V a c 8 t := by dsimp only [dat1]; try rfl
theorem before1_8 (c : Dev nD) (t : Fin (cfg1 a).N) (d) : (dat1 V a c).before 8 t d = iblk V a c 8 t :=
  before_8_of V a (dat1 V a c) (A_eq1 V a c 8) (after1_8 V a c) t d
theorem after1_9 (c : Dev nD) (t : Fin (cfg1 a).N) : (dat1 V a c).after 9 t = outAt V a c t := by dsimp only [dat1]; try rfl
theorem after1_10 (c : Dev nD) (t : Fin (cfg1 a).N) : (dat1 V a c).after 10 t = csAt V a c t := by dsimp only [dat1]; try rfl

/-! ## The body at a point -/

abbrev ms0 (t : Fin (cfg1 a).N) : Memref sig .tc .vmem S6x128x256 .bf16 := spec1_0.stage ((cfg1 a).slots t 0)
abbrev hs0 (t : Fin (cfg1 a).N) : (ms0 a t).IsWhole := hstage1_0 (((cfg1 a).slots t 0).cast nbuf1_0)
abbrev ms1 (t : Fin (cfg1 a).N) : Memref sig .tc .vmem S1x8x6x128x128 .i8 := spec1_1.stage ((cfg1 a).slots t 1)
abbrev hs1 (t : Fin (cfg1 a).N) : (ms1 a t).IsWhole := hstage1_1 (((cfg1 a).slots t 1).cast nbuf1_1)
abbrev ms2 (t : Fin (cfg1 a).N) : Memref sig .tc .vmem S1x8x2048 .bf16 := spec1_2.stage ((cfg1 a).slots t 2)
abbrev hs2 (t : Fin (cfg1 a).N) : (ms2 a t).IsWhole := hstage1_2 (((cfg1 a).slots t 2).cast nbuf1_2)
abbrev ms3 (t : Fin (cfg1 a).N) : Memref sig .tc .vmem S1x8x64x2048 .i8 := spec1_3.stage ((cfg1 a).slots t 3)
abbrev hs3 (t : Fin (cfg1 a).N) : (ms3 a t).IsWhole := hstage1_3 (((cfg1 a).slots t 3).cast nbuf1_3)
abbrev ms4 (t : Fin (cfg1 a).N) : Memref sig .tc .vmem S1x8x2048 .f32 := spec1_4.stage ((cfg1 a).slots t 4)
abbrev hs4 (t : Fin (cfg1 a).N) : (ms4 a t).IsWhole := hstage1_4 (((cfg1 a).slots t 4).cast nbuf1_4)
abbrev ms5 (t : Fin (cfg1 a).N) : Memref sig .tc .vmem S32x1 .f32 := spec1_5.stage ((cfg1 a).slots t 5)
abbrev hs5 (t : Fin (cfg1 a).N) : (ms5 a t).IsWhole := hstage1_5 (((cfg1 a).slots t 5).cast nbuf1_5)
abbrev ms6 (t : Fin (cfg1 a).N) : Memref sig .tc .vmem S32x1 .f32 := spec1_6.stage ((cfg1 a).slots t 6)
abbrev hs6 (t : Fin (cfg1 a).N) : (ms6 a t).IsWhole := hstage1_6 (((cfg1 a).slots t 6).cast nbuf1_6)
abbrev ms7 (t : Fin (cfg1 a).N) : Memref sig .tc .vmem S32x128 .f32 := spec1_7.stage ((cfg1 a).slots t 7)
abbrev hs7 (t : Fin (cfg1 a).N) : (ms7 a t).IsWhole := hstage1_7 (((cfg1 a).slots t 7).cast nbuf1_7)
abbrev ms8 (t : Fin (cfg1 a).N) : Memref sig .tc .vmem S32x1 .f32 := spec1_8.stage ((cfg1 a).slots t 8)
abbrev hs8 (t : Fin (cfg1 a).N) : (ms8 a t).IsWhole := hstage1_8 (((cfg1 a).slots t 8).cast nbuf1_8)
abbrev ms9 (t : Fin (cfg1 a).N) : Memref sig .tc .vmem S1x32x128 .bf16 := spec1_9.stage ((cfg1 a).slots t 9)
abbrev hs9 (t : Fin (cfg1 a).N) : (ms9 a t).IsWhole := hstage1_9 (((cfg1 a).slots t 9).cast nbuf1_9)
abbrev ms10 (t : Fin (cfg1 a).N) : Memref sig .tc .vmem S1x32x2048 .f32 := spec1_10.stage ((cfg1 a).slots t 10)
abbrev hs10 (t : Fin (cfg1 a).N) : (ms10 a t).IsWhole := hstage1_10 (((cfg1 a).slots t 10).cast nbuf1_10)

/-- The body at point `t`, on what the pipeline calls it with. -/
abbrev bodyAt1 (t : Fin (cfg1 a).N) : Prog (TpuEff nD τ sig (Elt F) Λ₀ .tc) PUnit :=
  cc1_attend (grid1.coords t) tb (Memref.isWhole_whole _) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (ms10 a t) (hs10 a t) sc0 (Memref.isWhole_whole _) sc1 (Memref.isWhole_whole _) sc2 (Memref.isWhole_whole _) sc3 (Memref.isWhole_whole _)

/-- Only the output window is ever idle. -/
theorem live (w : Fin (cfg1 a).W) (hw : w ≠ 9) (t : Fin (cfg1 a).N) : (cfg1 a).idle w ((cfg1 a).grid.coords t) = false := by
  show idle1 a.1 w (grid1.coords t) = false
  revert hw
  fin_cases w <;> intro hw <;> first | rfl | exact absurd rfl hw | skip
  show (!(k1_cond2 (grid1.coords t) (a.1.atD 0 (k1_off1 (grid1.coords t))) == 1#1) && !(k1_cond3 (grid1.coords t) (a.1.atD 0 (k1_off1 (grid1.coords t))) == 1#1)) = false
  by_cases h : k1_cond3 (grid1.coords t) (a.1.atD 0 (k1_off1 (grid1.coords t))) = 1#1
  · rw [h]; simp
  · rw [cond2_of _ _ h]; simp

theorem leaves_live (c : Dev nD) (w : Fin (cfg1 a).W) (hw : w ≠ 9) (t : Fin (cfg1 a).N) :
    (dat1 V a c).leavesExact w t = owns (c : Thread nD τ) (((cfg1 a).win w).stage ((cfg1 a).slots t w)) fullShare ((dat1 V a c).after w t) := by
  unfold Dat.leavesExact; rw [live a w hw t]

/-- What the body is called with, window by window, -/
def bodyPre1 (c : Dev nD) (t : Fin (cfg1 a).N) : sProp 𝕄 :=
  iprop((dat1 V a c).Φ t.castSucc ∗ (dat1 V a c).owesAt () t.castSucc

    ∗ (∃ d, owns (c : Thread nD τ) (ms0 a t) fullShare ((dat1 V a c).before 0 t d))
    ∗ (∃ d, owns (c : Thread nD τ) (ms1 a t) fullShare ((dat1 V a c).before 1 t d))
    ∗ (∃ d, owns (c : Thread nD τ) (ms2 a t) fullShare ((dat1 V a c).before 2 t d))
    ∗ (∃ d, owns (c : Thread nD τ) (ms3 a t) fullShare ((dat1 V a c).before 3 t d))
    ∗ (∃ d, owns (c : Thread nD τ) (ms4 a t) fullShare ((dat1 V a c).before 4 t d))
    ∗ (∃ d, owns (c : Thread nD τ) (ms5 a t) fullShare ((dat1 V a c).before 5 t d))
    ∗ (∃ d, owns (c : Thread nD τ) (ms6 a t) fullShare ((dat1 V a c).before 6 t d))
    ∗ (∃ d, owns (c : Thread nD τ) (ms7 a t) fullShare ((dat1 V a c).before 7 t d))
    ∗ (∃ d, owns (c : Thread nD τ) (ms8 a t) fullShare ((dat1 V a c).before 8 t d))
    ∗ (∃ d, owns (c : Thread nD τ) (ms9 a t) fullShare ((dat1 V a c).before 9 t d))
    ∗ (∃ d, owns (c : Thread nD τ) (ms10 a t) fullShare ((dat1 V a c).before 10 t d)))

/-- and what it returns. -/
def bodyPost1 (c : Dev nD) (t : Fin (cfg1 a).N) : sProp 𝕄 :=
  iprop((dat1 V a c).Φ t.succ ∗ (dat1 V a c).owesAt () t.succ

    ∗ (dat1 V a c).leavesExact 0 t
    ∗ (dat1 V a c).leavesExact 1 t
    ∗ (dat1 V a c).leavesExact 2 t
    ∗ (dat1 V a c).leavesExact 3 t
    ∗ (dat1 V a c).leavesExact 4 t
    ∗ (dat1 V a c).leavesExact 5 t
    ∗ (dat1 V a c).leavesExact 6 t
    ∗ (dat1 V a c).leavesExact 7 t
    ∗ (dat1 V a c).leavesExact 8 t
    ∗ (dat1 V a c).leavesExact 9 t
    ∗ (dat1 V a c).leavesExact 10 t)

theorem outOut_pos {i : grid1.Coords} (h : k1_cond4 i = 1#1) (X8 : Vec F S32x1 .f32) (X10 : Vec F S32x128 .f32) (X11 : Vec F S32x1 .f32) (s : Scr F) (X12 : Vec F S1x32x128 .bf16) :
    outOut i X8 X10 X11 s X12 = outV s.a s.l X8 s.m X11 X10 := if_pos h
theorem outOut_neg {i : grid1.Coords} (h : k1_cond4 i ≠ 1#1) (X8 : Vec F S32x1 .f32) (X10 : Vec F S32x128 .f32) (X11 : Vec F S32x1 .f32) (s : Scr F) (X12 : Vec F S1x32x128 .bf16) :
    outOut i X8 X10 X11 s X12 = X12 := if_neg h

theorem owns_pos {c : Dev nD} {mm : Memref sig .tc .vmem S1x32x128 .bf16} {i : grid1.Coords} (h : k1_cond4 i = 1#1) (X8 : Vec F S32x1 .f32) (X10 : Vec F S32x128 .f32) (X11 : Vec F S32x1 .f32) (s : Scr F) (X12 : Vec F S1x32x128 .bf16) :
    (owns (c : Thread nD τ) mm fullShare (outOut i X8 X10 X11 s X12) : sProp 𝕄) ⊢ owns (c : Thread nD τ) mm fullShare (outV s.a s.l X8 s.m X11 X10) := by rw [outOut_pos h]
theorem owns_neg {c : Dev nD} {mm : Memref sig .tc .vmem S1x32x128 .bf16} {i : grid1.Coords} (h : k1_cond4 i ≠ 1#1) (X8 : Vec F S32x1 .f32) (X10 : Vec F S32x128 .f32) (X11 : Vec F S32x1 .f32) (s : Scr F) (X12 : Vec F S1x32x128 .bf16) :
    (owns (c : Thread nD τ) mm fullShare (outOut i X8 X10 X11 s X12) : sProp 𝕄) ⊢ owns (c : Thread nD τ) mm fullShare X12 := by rw [outOut_neg h]

/-- The output block after the body, idle or not. -/
theorem leaves_9 (c : Dev nD) (t : Fin (cfg1 a).N) (d) :
    owns (c : Thread nD τ) (ms9 a t) fullShare (outOut (grid1.coords t) (b5 V a c t) (b7 V a c t) (b8 V a c t) (stAt V a c (t.val + 1)) ((dat1 V a c).before 9 t d))
      ⊢ ((dat1 V a c).leavesExact 9 t : sProp 𝕄) := by
  by_cases h : t.val % 8 = 7
  · have hi : (cfg1 a).idle 9 ((cfg1 a).grid.coords t) = false := by
      show (!(k1_cond4 (grid1.coords t) == 1#1)) = false
      rw [(cond4_iff t).mpr h]; rfl
    unfold Dat.leavesExact; rw [hi, after1_9]
    exact owns_pos ((cond4_iff t).mpr h) _ _ _ _ _
  · have hi : (cfg1 a).idle 9 ((cfg1 a).grid.coords t) = true := by
      show (!(k1_cond4 (grid1.coords t) == 1#1)) = true
      have := fun e => h ((cond4_iff t).mp e)
      simpa using this
    have hf : ((cfg1 a).win 9).flush t = false := by
      have := fun e => h ((flush1_9 a t).mp e)
      simpa using this
    rw [Dat.leavesExact_idle _ _ _ hi hf]
    refine (owns_neg (fun e => h ((cond4_iff t).mp e)) _ _ _ _ _).trans ?_
    iintro H
    iexists d
    iexact H

set_option maxHeartbeats 2000000 in
/-- The body at any point. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  rw [cc1_attend_eq]
  simp only [before1_0, before1_1, before1_2, before1_3, before1_4, before1_5, before1_6, before1_7, before1_8]
  rw [show (dat1 V a c).owesAt () t.succ = (dat1 V a c).owesAt () t.castSucc from rfl,
    show (dat1 V a c).Φ t.castSucc = Inv V a c t.val from rfl, show (dat1 V a c).Φ t.succ = Inv V a c (t.val + 1) from rfl]
  rw [leaves_live V a c 0 (show (0 : Fin 11) ≠ 9 by decide) t, leaves_live V a c 1 (show (1 : Fin 11) ≠ 9 by decide) t, leaves_live V a c 2 (show (2 : Fin 11) ≠ 9 by decide) t, leaves_live V a c 3 (show (3 : Fin 11) ≠ 9 by decide) t, leaves_live V a c 4 (show (4 : Fin 11) ≠ 9 by decide) t, leaves_live V a c 5 (show (5 : Fin 11) ≠ 9 by decide) t, leaves_live V a c 6 (show (6 : Fin 11) ≠ 9 by decide) t, leaves_live V a c 7 (show (7 : Fin 11) ≠ 9 by decide) t, leaves_live V a c 8 (show (8 : Fin 11) ≠ 9 by decide) t, leaves_live V a c 10 (show (10 : Fin 11) ≠ 9 by decide) t]
  rw [after1_0, after1_1, after1_2, after1_3, after1_4, after1_5, after1_6, after1_7, after1_8, after1_10]
  unfold Inv
  iintro ⟨⟨%s, %hs, HM, HL, HA, HP, Hr, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hst : stepAt V a c t s = stAt V a c (t.val + 1) := by
    rw [stAt_succ]
    rcases hs with h0 | h
    · exact stepAt_first V a c t (by rw [h0]) _ _
    · rw [h]
  iapply (attend_wp (c := c) (E := Set.univ) (s := s) (q := fullShare) (f := a.1 0) (X3 := b0 V a c t) (X4 := b1 V a c t) (X5 := b2 V a c t) (X6 := b3 V a c t) (X7 := b4 V a c t) (X8 := b5 V a c t) (X9 := b6 V a c t) (X10 := b7 V a c t) (X11 := b8 V a c t) (X12 := (dat1 V a c).before 9 t d9))

  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HM]; · iexact HM
  isplitl [HL]; · iexact HL
  isplitl [HA]; · iexact HA
  isplitl [HP]; · iexact HP
  isplitl [HT]; · iexact HT
  rw [show stepS (grid1.coords t) (lenAt tb (c := c) (grid1.coords t) (a.1 0)) (b0 V a c t) (b1 V a c t) (b2 V a c t) (b3 V a c t) (b4 V a c t) (b5 V a c t) (b6 V a c t) s = stAt V a c (t.val + 1) from hst]
  iintro ⟨H0, H1, H2, H3, H4, H5, H6, H7, H8, H9, H10, HM, HL, HA, HP, HT⟩
  isplitl [HM HL HA HP Hr Hg HT]
  · iexists (stAt V a c (t.val + 1))
    isplitr; · ipureintro; exact Or.inr rfl
    isplitl [HM]; · iexact HM
    isplitl [HL]; · iexact HL
    isplitl [HA]; · iexact HA
    isplitl [HP]; · iexact HP
    isplitl [Hr]; · iexact Hr
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (leaves_9 V a c t d9)
    iexact H9
  iexact H10

/-- The body table's row at point `t`'s slots is the body. -/
theorem defs₀_row1 (t : Fin (cfg1 a).N) :
    defs₀ (F := F) .tc (cfg1 a).body ((cfg1 a).bodyArgs t ((cfg1 a).slots t)) = bodyAt1 a t := by
  unfold defs₀; rw [Defs.onTc_tc]

/-- The library's body obligation, at every point. -/
theorem body_obligation1 (c : Dev nD) : BodyObligation (dat1 (F := F) V a c) (defs₀ (F := F)) Variants.none () Set.univ := fun t => by
  rw [bigSep_W1, bigSep_W1, defs₀_row1]
  exact triple_restated (sound_body1 V a c t) rfl .rfl fun _ => .rfl

/-- What the call is entered with is the invariant before the first point. -/
theorem inv_in (c : Dev nD) : iprop(iprop((Pipeline.scopedRest spec1 c : sProp 𝕄) ∗ (∃ r, prngReg c r)) ∗ Pipeline.prefHeld pre1 c (fun _ => fullShare) a.1) ⊢ Inv V a c 0 := by
  rw [scoped_split, tables_eq]
  unfold Inv
  iintro ⟨⟨⟨Hr, ⟨%d0, HM⟩, ⟨%d1, HL⟩, ⟨%d2, HA⟩, HP⟩, Hg⟩, HT⟩
  iexists (⟨d0, d1, d2⟩ : Scr F)
  isplitr; · ipureintro; exact Or.inl rfl
  isplitl [HM]; · iexact HM
  isplitl [HL]; · iexact HL
  isplitl [HA]; · iexact HA
  isplitl [HP]; · iexact HP
  isplitl [Hr]; · iexact Hr
  isplitl [Hg]; · iexact Hg
  iexact HT

/-- After any point the invariant gives back what the call was entered with. -/
theorem inv_out (c : Dev nD) (n : ℕ) : Inv V a c n ⊢ iprop(iprop((Pipeline.scopedRest spec1 c : sProp 𝕄) ∗ (∃ r, prngReg c r)) ∗ Pipeline.prefHeld pre1 c (fun _ => fullShare) a.1) := by
  rw [scoped_split, tables_eq]
  unfold Inv
  iintro ⟨%s, -, HM, HL, HA, HP, Hr, Hg, HT⟩
  isplitr [HT]
  · isplitr [Hg]
    · isplitl [Hr]; · iexact Hr
      isplitl [HM]; · iexists _; iexact HM
      isplitl [HL]; · iexists _; iexact HL
      isplitl [HA]; · iexists _; iexact HA
      iexact HP
    iexact Hg
  iexact HT

end Cert.Kernel.Attend

end
-- ==== Proof.Twin.Tables.lean ====
/-
The blocks that the decode call fetches of the cache: whatever the lengths are, the block's number is at most the number
of the grid step, so every block lies inside its array.
-/
module

public import proofs.«01_k».proof.Proof.Gen.Kernel.Launch
public import Idealize.ShloMosaic.Lib.WordCmp

@[expose] public section

set_option maxRecDepth 16384

noncomputable section

namespace Cert.Kernel.Attend

open Idealize.ShloMosaic Idealize.ShloMosaic.TcCoe Idealize.ShloMosaic.Tactic
open Cert.Kernel Cert.Kernel.Gen

variable {F : FTy → Type} [FloatOps F]

/-- The word that numbers the block of the cache fetched at step `s` of a sequence of length `v1`: the smaller of `s` and
    the floor of `max (v1 − 1) 0` by 2048, as the index maps compute it. -/
def lastW (v1 arg1 : BitVec 32) : BitVec 32 :=
  let v3 : BitVec 32 := Scalar.maxsi (Scalar.subi v1 1#32) 0#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 2048#32 0#32)) (Scalar.extui (Scalar.cmpi .slt 2048#32 0#32))
  let v18 : BitVec 1 := Scalar.andi (Scalar.cmpi .ne v9 v14) (Scalar.cmpi .ne (Scalar.remsi v3 2048#32) 0#32)
  Scalar.minsi arg1 (Scalar.select v18 (Scalar.subi (Scalar.divsi v3 2048#32) 1#32) (Scalar.divsi v3 2048#32))

/-- A small number's word read signed. -/
theorem ofNat_toInt {n : ℕ} (h : n < 2 ^ 31) : (BitVec.ofNat 32 n).toInt = n := by
  rw [BitVec.toInt_eq_toNat_of_lt (by rw [BitVec.toNat_ofNat]; omega), BitVec.toNat_ofNat]; omega

/-- As a number it is the smaller of the step and the quotient. -/
theorem lastW_toNat (v1 : BitVec 32) (s : Nat) (hs : s < 8) :
    (lastW v1 (BitVec.ofNat 32 s)).toNat = min s ((v1 - 1#32).toInt.toNat / 2048) := by
  have hcorner : ∀ x : BitVec 32, ¬ IntOp.SDivCorner x 2048#32 := fun x h => by
    rcases h with h | ⟨_, h⟩ <;> exact absurd h (by decide)
  generalize hw : v1 - 1#32 = w
  have e3 : (Scalar.maxsi (Scalar.subi v1 1#32) 0#32 : BitVec 32) = BitVec.ofNat 32 w.toInt.toNat := by
    show (if (0#32).slt (v1 - 1#32) then v1 - 1#32 else 0#32) = _
    rw [hw]
    by_cases h : 0 < w.toInt
    · rw [if_pos (by simpa [BitVec.slt] using h)]
      apply BitVec.eq_of_toInt_eq
      have := BitVec.toInt_lt (x := w)
      have e : (BitVec.ofNat 32 w.toInt.toNat).toInt = w.toInt.toNat := ofNat_toInt (by omega)
      rw [e]; omega
    · rw [if_neg (by simpa [BitVec.slt] using h), Int.toNat_of_nonpos (by omega)]
  unfold lastW
  rw [e3]
  have hlt : w.toInt.toNat < 2 ^ 31 := by have := BitVec.toInt_lt (x := w); omega
  generalize w.toInt.toNat = n at hlt
  have hint : (BitVec.ofNat 32 n).toInt = n := ofNat_toInt hlt
  have hmsb : (BitVec.ofNat 32 n).msb = false := by rw [BitVec.msb_eq_decide, BitVec.toNat_ofNat]; simp; omega
  have hdiv : (Scalar.divsi (BitVec.ofNat 32 n) 2048#32 : BitVec 32) = BitVec.ofNat 32 (n / 2048) := by
    show (if IntOp.SDivCorner _ _ then _ else _) = _
    rw [if_neg (hcorner _)]
    apply BitVec.eq_of_toNat_eq
    rw [BitVec.sdiv_eq, hmsb]
    show (BitVec.ofNat 32 n / 2048#32).toNat = _
    rw [BitVec.toNat_udiv, BitVec.toNat_ofNat, BitVec.toNat_ofNat, BitVec.toNat_ofNat, show 2048 % 2 ^ 32 = 2048 from rfl, Nat.mod_eq_of_lt (show n < 2 ^ 32 by omega)]
    omega
  have hrem : (Scalar.remsi (BitVec.ofNat 32 n) 2048#32 : BitVec 32) = BitVec.ofNat 32 (n % 2048) := by
    show (if IntOp.SDivCorner _ _ then _ else _) = _
    rw [if_neg (hcorner _)]
    apply BitVec.eq_of_toNat_eq
    rw [BitVec.srem_eq, hmsb]
    show (BitVec.ofNat 32 n % 2048#32).toNat = _
    rw [BitVec.toNat_umod, BitVec.toNat_ofNat, BitVec.toNat_ofNat, BitVec.toNat_ofNat, show 2048 % 2 ^ 32 = 2048 from rfl, Nat.mod_eq_of_lt (show n < 2 ^ 32 by omega)]
    omega
  dsimp only
  rw [hdiv, hrem]
  have hsel : (Scalar.select (Scalar.andi (Scalar.cmpi .ne (Scalar.subi (Scalar.extui (Scalar.cmpi .sgt (BitVec.ofNat 32 n) 0#32)) (Scalar.extui (Scalar.cmpi .slt (BitVec.ofNat 32 n) 0#32)))
      (Scalar.subi (Scalar.extui (Scalar.cmpi .sgt 2048#32 0#32)) (Scalar.extui (Scalar.cmpi .slt 2048#32 0#32)))) (Scalar.cmpi .ne (BitVec.ofNat 32 (n % 2048)) 0#32))
      (Scalar.subi (BitVec.ofNat 32 (n / 2048)) 1#32) (BitVec.ofNat 32 (n / 2048)) : BitVec 32) = BitVec.ofNat 32 (n / 2048) := by
    rcases Nat.eq_zero_or_pos n with rfl | hp
    · decide
    · have h1 : (Scalar.cmpi .sgt (BitVec.ofNat 32 n) 0#32 : BitVec 1) = 1#1 := by
        show BitVec.ofBool ((0#32).slt _) = _
        rw [show (0#32).slt (BitVec.ofNat 32 n) = true by simp only [BitVec.slt, hint]; exact decide_eq_true (by simpa using hp)]; rfl
      have h2 : (Scalar.cmpi .slt (BitVec.ofNat 32 n) 0#32 : BitVec 1) = 0#1 := by
        show BitVec.ofBool ((BitVec.ofNat 32 n).slt _) = _
        rw [show (BitVec.ofNat 32 n).slt 0#32 = false by simp only [BitVec.slt, hint]; exact decide_eq_false (by simp)]; rfl
      rw [h1, h2]
      have h3 : ∀ x : BitVec 1, (Scalar.andi (Scalar.cmpi .ne (Scalar.subi (Scalar.extui 1#1) (Scalar.extui 0#1))
        (Scalar.subi (Scalar.extui (Scalar.cmpi .sgt 2048#32 0#32)) (Scalar.extui (Scalar.cmpi .slt 2048#32 0#32)))) x : BitVec 1) = 0#1 := by decide
      rw [h3]
      rfl
  rw [hsel]
  show (if (BitVec.ofNat 32 s).slt (BitVec.ofNat 32 (n / 2048)) then BitVec.ofNat 32 s else BitVec.ofNat 32 (n / 2048)).toNat = _
  have hs' : (BitVec.ofNat 32 s).toInt = s := ofNat_toInt (by omega)
  have hq' : (BitVec.ofNat 32 (n / 2048)).toInt = (n / 2048 : ℕ) := ofNat_toInt (by omega)
  by_cases h : s < n / 2048
  · rw [if_pos (by simp only [BitVec.slt, hs', hq', decide_eq_true_eq]; omega), BitVec.toNat_ofNat]; omega
  · rw [if_neg (by simp only [BitVec.slt, hs', hq', decide_eq_true_eq]; omega), BitVec.toNat_ofNat]; omega

/-- The block number is below eight. -/
theorem lastW_lt (v1 : BitVec 32) (s : Nat) (hs : s < 8) : (lastW v1 (BitVec.ofNat 32 s)).toNat < 8 := by
  rw [lastW_toNat v1 s hs]; omega

/-- The length that the index maps read at a grid point. -/
abbrev lenW (pf : pre1.Contents (Elt F)) (i : grid1.Coords) : BitVec 32 :=
  pf.at 0 (Rect.unit (s := S6) ![(Scalar.indexCast (BitVec.ofNat 32 (i 0).val)).toNat] S1.size (k1_off1_inb i)) numel1_S1

theorem transform1_eq (pf : pre1.Contents (Elt F)) (i : grid1.Coords) :
    cc1_transform_1 k1_off1_inb numel1_S1 pf i = ![(BitVec.ofNat 32 (i 0).val).toNat, 0, 0, (lastW (lenW pf i) (BitVec.ofNat 32 (i 1).val)).toNat, 0] := rfl
theorem transform2_eq (pf : pre1.Contents (Elt F)) (i : grid1.Coords) :
    cc1_transform_2 k1_off1_inb numel1_S1 pf i = ![(BitVec.ofNat 32 (i 0).val).toNat, 0, (lastW (lenW pf i) (BitVec.ofNat 32 (i 1).val)).toNat] := rfl
theorem transform3_eq (pf : pre1.Contents (Elt F)) (i : grid1.Coords) :
    cc1_transform_3 k1_off1_inb numel1_S1 pf i = ![(BitVec.ofNat 32 (i 0).val).toNat, 0, 0, (lastW (lenW pf i) (BitVec.ofNat 32 (i 1).val)).toNat] := rfl
theorem transform4_eq (pf : pre1.Contents (Elt F)) (i : grid1.Coords) :
    cc1_transform_4 k1_off1_inb numel1_S1 pf i = ![(BitVec.ofNat 32 (i 0).val).toNat, 0, (lastW (lenW pf i) (BitVec.ofNat 32 (i 1).val)).toNat] := rfl

/-- Every block that the call fetches lies inside its array and is made of whole words, whatever the lengths. -/
theorem ok_any (pf : pre1.Contents (Elt F)) : ok1 pf := by
  have h0 : ∀ i : grid1.Coords, (BitVec.ofNat 32 (i 0).val).toNat < 6 := fun i => by
    have h := (i 0).isLt
    rw [BitVec.toNat_ofNat]; exact Nat.lt_of_le_of_lt (Nat.mod_le _ _) h
  have h1 : ∀ i : grid1.Coords, (lastW (lenW pf i) (BitVec.ofNat 32 (i 1).val)).toNat < 8 := fun i => lastW_lt _ _ (i 1).isLt
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inl rfl⟩⟩
  · rw [transform1_eq]
    have := h0 i; have := h1 i
    fin_cases a <;> simp <;> omega
  · rw [transform2_eq]
    have := h0 i; have := h1 i
    fin_cases a <;> simp <;> omega
  · rw [transform3_eq]
    have := h0 i; have := h1 i
    fin_cases a <;> simp <;> omega
  · rw [transform4_eq]
    have := h0 i; have := h1 i
    fin_cases a <;> simp <;> omega

end Cert.Kernel.Attend

end
-- ==== Proof.Twin.Run.lean ====
/-
The whole program: the host operations before the calls, the two calls, the host operations after them. At each boundary
the contents of every buffer are named (`W0` … `W4`); the run ends with every buffer at `W4`.
-/
module

public import proofs.«01_k».proof.Proof.Twin.Region0
public import proofs.«01_k».proof.Proof.Twin.Region1
public import proofs.«01_k».proof.Proof.Twin.Tables
public import proofs.«01_k».proof.Proof.Gen.Kernel.Regions
public import Idealize.ShloMosaic.Lib.Pipeline.RegionsLoop
public import Idealize.ShloMosaic.Lib.Pipeline.FrameSuffix
public import Idealize.ShloMosaic.Lib.Pipeline.RegionArraysTS

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Prep Cert.Kernel.Attend
open Cert.Kernel.Gen hiding V0 V1 V2 V3 V4 segs V1_of V2_of V3_of V4_of V4_main_arg0 V4_main_arg1 V4_main_arg2 V4_main_arg3 V4_main_arg4 V4_main_arg5 V4_main_arg6 V4_main_arg7 V4_main_arg8

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays. -/
abbrev argRefs : List (Ref sig .tc) := [main_arg0, main_arg1, main_arg2, main_arg3, main_arg4, main_arg5, main_arg6, main_arg7, main_arg8]

/-! ## The contents of the buffers at each boundary -/

/-- At the launch. -/
abbrev W0 (c : Dev nD) : Valuation τ sig (Elt F) := fun b => m (c, b)
/-- After the host operations before the calls. -/
abbrev W1 (c : Dev nD) : Valuation τ sig (Elt F) := StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
/-- The same at the TensorCore's references: what the first call is entered with. -/
abbrev V1 : (c : Dev nD) → (b : Ref sig .tc) → Buf (Elt F) ((c : Thread nD τ).loc b) := fun c b => W1 m c (Proc.devRef .tc b)

/-- After the first call: its arrays at what it leaves, the others as they were. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- A reference that is none of the first call's output arrays is as it was. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩
/-- The same at the TensorCore's references: what the second call is entered with. -/
abbrev V2 : (c : Dev nD) → (b : Ref sig .tc) → Buf (Elt F) ((c : Thread nD τ).loc b) := fun c b => W2 m c (Proc.devRef .tc b)
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem argsIn0 : ∀ a ∈ argRefs, ∀ w : Fin cfg0.W, Pipeline.arrRef spec0 w = a → (cfg0.win w).isOut = false :=
  ListAll.forall_mem_of_all_decide (by decide +kernel)
theorem args0 : ∀ a ∈ argRefs, a ∉ hostOps0_W := ListAll.forall_mem_of_all_decide (by decide +kernel)
theorem args2 : ∀ a ∈ argRefs, a ∉ hostOps2_W := ListAll.forall_mem_of_all_decide (by decide +kernel)
/-- The second call finds the arguments as launched. -/
theorem W2_args (c : Dev nD) : ∀ a ∈ argRefs, W2 m c (Proc.devRef .tc a) = m ((c : Thread nD τ).loc a) :=
  fun a ha => (W2_of m c a (argsIn0 a ha)).trans (W1_of m c a (args0 a ha))

/-! ## The tables and the proof data -/

/-- The one device. -/
abbrev dev0 : Dev nD := (0 : Fin nD)
theorem dev_eq (c : Dev nD) : c = dev0 := Subsingleton.elim (α := Fin 1) c dev0

/-- The table that the decode call prefetches: the lengths as launched. -/
def tab : (pcfg1 (F := F)).Adm := ⟨fun k => m ((dev0 : Thread nD τ).loc (pre1.ref k)), ok_any _⟩
/-- The admissible tables of the two calls: the first has none. -/
def adm : (p : Fin 2) → (pcfgs (F := F) p).Adm
  | ⟨0, _⟩ => cfg0.toPCfg_adm
  | ⟨1, _⟩ => tab m
/-- Each call's proof data at its entry contents. -/
def pdats : (p : Fin 2) → (c : Dev nD) → Dat τ (Elt F) Unit ℕ (UR sig nD τ) ℕ (Pipeline.pin (pcfgs (F := F)) (adm m) p) c
  | ⟨0, _⟩ => fun c => dat0 (V1 m) c
  | ⟨1, _⟩ => fun c => dat1 (V2 m) (tab m) c
abbrev 𝒱₀ : Variants := Variants.none
def L : GSem nD τ sig → Finset Unit := fun g => if g.1.2 = .tc then {()} else ∅
abbrev lv : GSem nD τ sig → Unit → ℕ := fun _ _ => 0
/-- What rides beside the buffers: the generator's register and the core's debts, at nothing. -/
abbrev R (c : Dev nD) : sProp 𝕄 := iprop((∃ r, prngReg c r) ∗ ∃ W, owes (c : Thread nD τ) (0 : CellTallies nD τ sig Unit) W)

/-- After the second call: its arrays at what it leaves, the others as they were. -/
def W3 (c : Dev nD) : Valuation τ sig (Elt F) := Pipeline.afterRegion (dat1 (V2 m) (tab m) c) (W2 m c)
theorem W3_arr (c : Dev nD) (w : Fin (cfg1 (tab m)).W) :
    W3 m c (Proc.devRef .tc (Pipeline.arrRef spec1 w)) = (dat1 (V2 m) (tab m) c).arrAt w (cfg1 (tab m)).N :=
  Pipeline.afterRegion_arr (dat1 (V2 m) (tab m) c) (W2 m c) (launch1 (F := F)).win.arr_inj w
theorem W3_of (c : Dev nD) (r : Ref sig .tc) (h : ∀ w : Fin 11, Pipeline.arrRef spec1 w = r → (spec1 w).isOut = false) :
    W3 m c (Proc.devRef .tc r) = W2 m c (Proc.devRef .tc r) :=
  Pipeline.afterRegion_keeps (dat1 (V2 m) (tab m) c) (W2 m c) (launch1 (F := F)).win.arr_inj (fun w => A_eq1 (V2 m) (tab m) c w) r h
theorem argsIn1 : ∀ a ∈ argRefs, ∀ w : Fin 11, Pipeline.arrRef spec1 w = a → (spec1 w).isOut = false :=
  ListAll.forall_mem_of_all_decide (by decide +kernel)
/-- After the host operations that follow the calls. -/
abbrev W4 (c : Dev nD) : Valuation τ sig (Elt F) := StableHlo.after hostOps2 (W3 m c)
theorem W4_of (c : Dev nD) (r : Ref sig .tc) (h : r ∉ hostOps2_W) : W4 m c (Proc.devRef .tc r) = W3 m c (Proc.devRef .tc r) :=
  StableHlo.after_of_writes_sub hostOps2 _ hostOps2_writes h
/-- The arguments end as launched. -/
theorem W4_args (c : Dev nD) : ∀ a ∈ argRefs, W4 m c (Proc.devRef .tc a) = m ((c : Thread nD τ).loc a) :=
  fun a ha => (W4_of m c a (args2 a ha)).trans ((W3_of m c a (argsIn1 a ha)).trans (W2_args m c a ha))

/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the debts. -/
abbrev Tₙ (c : Dev nD) : sProp 𝕄 := iprop(StableHlo.held (c : Thread nD τ) (Pipeline.ucRefs τ sig) (W4 m c) ∗ ∃ r, prngReg c r)

set_option backward.isDefEq.respectTransparency.types false in
/-- The first call between `W1` and `W2`. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The levels: nothing is owed. -/
theorem hcut : Pipeline.LevelCut (nD := nD) (τ := τ) (pcfgs (F := F)) (adm m) () L lv 1 (fun _ => 0) (fun _ => 0) where
  hι _ _ _ := by unfold L; rw [if_pos rfl]; exact Finset.mem_singleton_self _
  hιb _ _ _ := le_refl _
  hD _ _ _ h := absurd h (by simp)

set_option backward.isDefEq.respectTransparency.types false in
/-- The second call, entered with every buffer at `W2`. -/
def reg1 : Pipeline.RegionSeg (pcfgs (F := F)) (adm m) (pdats m) () defs₀ 𝒱₀ L lv 1 :=
  Pipeline.RegionSeg.ofHeldInT (pcfgs (F := F)) (adm m) (pdats m) () defs₀ 𝒱₀ L lv 1 (fun _ => 0) (Pipeline.ucRefs τ sig)
    (fun c => iprop(∃ r, prngReg c r)) (fun c => iprop(∃ r, prngReg c r)) launch1
    (fun c => (body_obligation1 (V2 m) (tab m) c).loose) (fun _ _ => rfl) (fun _ => rfl) (fun c => (dat1 (V2 m) (tab m) c).share_full fun _ => rfl)
    (fun c => inv_in (V2 m) (tab m) c) (fun c => inv_out (V2 m) (tab m) c _)
    (fun _ => 0) (hcut m) (fun _ => iprop(emp)) (W2 m)
    (fun c w => A_eq1 (V2 m) (tab m) c w)
    (fun c k => by
      have hc := dev_eq c
      subst hc
      match k with
      | ⟨0, _⟩ => exact (W2_args m dev0 main_arg8 (by decide)).symm)

/-! ## @main as segments, and the run -/

abbrev segs : List (Pipeline.Seg (pcfgs (F := F)) (adm m) (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

theorem uc_arr1 : Pipeline.arrRefs (τ := τ) spec1 ⊆ Pipeline.ucRefs τ sig :=
  Pipeline.arrRefs_sub_ucRefs spec1 (by decide)
theorem uc_tbl1 : Pipeline.tblRefs (τ := τ) pre1 ⊆ Pipeline.ucRefs τ sig :=
  Pipeline.tblRefs_sub_ucRefs pre1 (by decide)

set_option backward.isDefEq.respectTransparency.types false in
theorem reg1_pre (c : Dev nD) : iprop(StableHlo.held (c : Thread nD τ) (Pipeline.ucRefs τ sig) (W2 m c) ∗ R c) ⊢ (reg1 m).pre c := by
  unfold reg1
  refine BIBase.Entails.trans ?_ (Pipeline.RegionSeg.ofHeldInT_pre (pcs := pcfgs (F := F)) (a := adm m) (pdats := pdats m) (p := 1) (S := Pipeline.ucRefs τ sig) uc_arr1 uc_tbl1 c)
  iintro ⟨Hh, Hp, HO⟩
  isplitl [Hh]; · iexact Hh
  isplitl [HO]; · iexact HO
  isplitl [Hp]; · iexact Hp
  iempintro

set_option backward.isDefEq.respectTransparency.types false in
theorem reg1_post (c : Dev nD) : (reg1 m).post c ⊢ iprop(StableHlo.held (c : Thread nD τ) (Pipeline.ucRefs τ sig) (W3 m c) ∗ R c) := by
  unfold reg1
  refine BIBase.Entails.trans (Pipeline.RegionSeg.ofHeldInT_post (pcs := pcfgs (F := F)) (a := adm m) (pdats := pdats m) (p := 1) (S := Pipeline.ucRefs τ sig) uc_arr1 uc_tbl1 c) ?_
  iintro ⟨Hh, HO, Hp, -⟩
  isplitl [Hh]; · iexact Hh
  isplitl [Hp]; · iexact Hp
  iexact HO

set_option backward.isDefEq.respectTransparency.types false in
/-- Every execution from zero counters ends, without a fault, with every buffer of the program at `W4` and every counter at zero. -/
theorem run : θ_run defs (onTc (τ := τ) (main (F := F))) ⟨m, fun _ => 0, ρ⟩ (fun r => (∀ c : Dev nD, ∀ b : Ref sig .tc,
      ¬ (Proc.devRef .tc b : DevRef τ sig).isScoped → r.2.mem ((c.tc : Thread nD τ).loc b) = W4 m c (Proc.devRef .tc b))
      ∧ r.2.sem = fun _ => 0) :=
  Pipeline.θ_run_regions_kit_sems (pcfgs (F := F)) (adm m) (pdats m) () (cellOf_inj (adm m)) emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun g h => by unfold L; rw [if_neg h]) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun c => reg1_pre m c, fun c => reg1_post m c, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h hz => ⟨fun c b hb => h c _ (mem_uc b hb), funext fun g => hz g (.inr (regions_no_unscoped g.2))⟩)

/-- The frame: every argument ends as launched and every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1 c main_arg0 (by decide)).trans (W4_args m c main_arg0 (by decide)),
      (h.1 c main_arg1 (by decide)).trans (W4_args m c main_arg1 (by decide)),
      (h.1 c main_arg2 (by decide)).trans (W4_args m c main_arg2 (by decide)),
      (h.1 c main_arg3 (by decide)).trans (W4_args m c main_arg3 (by decide)),
      (h.1 c main_arg4 (by decide)).trans (W4_args m c main_arg4 (by decide)),
      (h.1 c main_arg5 (by decide)).trans (W4_args m c main_arg5 (by decide)),
      (h.1 c main_arg6 (by decide)).trans (W4_args m c main_arg6 (by decide)),
      (h.1 c main_arg7 (by decide)).trans (W4_args m c main_arg7 (by decide)),
      (h.1 c main_arg8 (by decide)).trans (W4_args m c main_arg8 (by decide))⟩, h.2⟩) (run m ρ)

end Cert.Kernel.Run

end
-- ==== Proof.Value.Expand.lean ====
/- The bit expansion of the attention kernel over the extended reals: row `16 p + i` of the 256 sign rows made of 32 rows of
   packed bytes is 2 or 0 as bit `p % 8` of byte row `2 i + p / 8` says. -/
module

public import proofs.«01_k».proof.Proof.Body
public import Idealize.ShloMosaic.Lib.Pointwise
public import Idealize.ShloMosaic.Lib.IdealHost
public import Idealize.ShloMosaic.Lib.BitcastPair
public import Idealize.ShloMosaic.Lib.BitcastFour
public import Idealize.ShloMosaic.Lib.Pipeline.ValueKit

@[expose] public section

set_option maxRecDepth 16384

noncomputable section

namespace Cert.KernelIdeal.Attend

open Idealize.ShloMosaic Idealize.SL.Sem Cert.KernelIdeal Cert.KernelIdeal.Gen

/-- Two, or zero, as a bit says. -/
def two (b : Bool) : EReal := if b then 2 else 0

theorem ofBits_two_bf16 : Ideal.ofBits .bf16 0x4000#16 = 2 := by
  simp [Ideal.ofBits, Ideal.ieee]
  rw [← EReal.coe_mul]
  norm_num
  rfl

/-- A half word cut out of a word of which the mask leaves bits 14 and 30. -/
theorem half_masked (w : BitVec 32) (s : ℕ) (hs : s < 2) :
    (IntOp.andi w 1073758208#32).extractLsb' (16 * s) 16 = if w.getLsbD (16 * s + 14) then 0x4000#16 else 0#16 := by
  have key : ∀ q : ℕ, q < 16 → (1073758208#32).getLsbD (16 * s + q) = decide (q = 14) := by
    intro q hq
    obtain rfl | rfl : s = 0 ∨ s = 1 := by omega
    all_goals interval_cases q <;> rfl
  apply BitVec.eq_of_getLsbD_eq
  intro q hq
  have e : (IntOp.andi w 1073758208#32).getLsbD (16 * s + q) = (w.getLsbD (16 * s + q) && decide (q = 14)) := by
    show (w &&& 1073758208#32).getLsbD _ = _
    rw [BitVec.getLsbD_and, key q hq]
  rw [BitVec.getLsbD_extractLsb', e]
  have h4 : ∀ q : ℕ, q < 16 → (0x4000#16).getLsbD q = decide (q = 14) := by
    intro q hq; interval_cases q <;> rfl
  by_cases h14 : q = 14
  · subst h14; split <;> simp_all
  · split <;> simp_all

theorem read_half (b : Bool) : FloatOps.ofBits (F := Ideal) .bf16 (if b then 0x4000#16 else 0#16) = two b := by
  cases b
  · exact Ideal.ofBits_zero_bf16
  · exact ofBits_two_bf16

/-- The masked words of a plane, read as half words and then as bf16. -/
theorem plane_at (v : IVec S8x128 32) (r : Fin 16) (l : Fin 128) :
    (bitcastToFloat .bf16 (bitcast S16x128 16 (andi v (broadcast S8x128 1073758208#32)) bitcasts_S8x128_w32_S16x128_w16) : FVec Ideal S16x128 .bf16) (ix2 r l)
      = two ((v (ix2 ⟨r.val / 2, by omega⟩ l)).getLsbD (16 * (r.val % 2) + 14)) := by
  show FloatOps.ofBits (F := Ideal) .bf16 (bitcast S16x128 16 (andi v (broadcast S8x128 1073758208#32)) bitcasts_S8x128_w32_S16x128_w16 (ix2 r l)) = _
  rw [bitcast_32_16]
  have e : ∀ h, (bitcasts_S8x128_w32_S16x128_w16 : S8x128.Bitcasts 32 S16x128 16).srcIdx (ix2 r l) (S16x128.row (ix2 r l) / 2) h = ix2 ⟨r.val / 2, by omega⟩ l := by
    intro h
    funext c
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))
  rw [e]
  have er : S16x128.row (ix2 r l) = r.val := rfl
  rw [er]
  show FloatOps.ofBits (F := Ideal) .bf16 ((IntOp.andi (v (ix2 ⟨r.val / 2, by omega⟩ l)) 1073758208#32).extractLsb' (16 * (r.val % 2)) 16) = _
  rw [half_masked _ _ (by omega), read_half]

/-- Which bit of its half word a plane takes. -/
theorem shl_bit (x : BitVec 32) (s p : ℕ) (hs : s < 2) (hp : p < 15) :
    (IntOp.shli .vector x (BitVec.ofNat 32 (14 - p))).getLsbD (16 * s + 14) = x.getLsbD (16 * s + p) := by
  have e : (BitVec.ofNat 32 (14 - p)).toNat = 14 - p := by rw [BitVec.toNat_ofNat]; omega
  unfold IntOp.shli
  rw [if_pos (by rw [e]; omega), BitVec.shiftLeft_eq', e, BitVec.getLsbD_shiftLeft]
  rw [show 16 * s + 14 - (14 - p) = 16 * s + p by omega]
  simp only [show 16 * s + 14 < 32 by omega, show ¬ (16 * s + 14 < 14 - p) by omega, decide_true, decide_false, Bool.not_false, Bool.true_and]

theorem shr_bit (x : BitVec 32) (s : ℕ) (hs : s < 2) :
    (IntOp.shrui .vector x 1#32).getLsbD (16 * s + 14) = x.getLsbD (16 * s + 15) := by
  unfold IntOp.shrui
  rw [if_pos (by decide), BitVec.ushiftRight_eq', BitVec.getLsbD_ushiftRight]
  congr 1
  show 1 + (16 * s + 14) = _
  omega

/-- The planes in the order of the rows. -/
def planeOf {F : FTy → Type} [FloatOps F] (w : IVec S8x128 32) (p : Fin 16) : FVec F S16x128 .bf16 :=
  if p.val = 15 then shrPlane w else shlPlane w (BitVec.ofNat 32 (14 - p.val))

theorem planeOf_at (w : IVec S8x128 32) (p : Fin 16) (r : Fin 16) (l : Fin 128) :
    (planeOf (F := Ideal) w p) (ix2 r l) = two ((w (ix2 ⟨r.val / 2, by omega⟩ l)).getLsbD (16 * (r.val % 2) + p.val)) := by
  unfold planeOf
  split
  · rename_i h
    rw [shrPlane, plane_at, h]
    exact congrArg two (shr_bit _ _ (by omega))
  · rename_i h
    rw [shlPlane, plane_at]
    exact congrArg two (shl_bit _ _ _ (by omega) (by omega))

theorem expand_eq {F : FTy → Type} [FloatOps F] (v : Vec F S1x1x1x32x128 .i8) :
    expand v = concatenate S256x128 0 (List.ofFn fun p : Fin 16 => (⟨S16x128, planeOf (F := F) (bitcast S8x128 32 (shapeCast S32x128 v shapeCasts_S1x1x1x32x128_S32x128) bitcasts_S32x128_w8_S8x128_w32) p⟩ : (s : Shape) × (s.Idx → F .bf16)))
      concatenates_S16x128_S16x128_S16x128_S16x128_S16x128_S16x128_S16x128_S16x128_S16x128_S16x128_S16x128_S16x128_S16x128_S16x128_S16x128_S16x128_S256x128_d0 := rfl

/-- The expansion, entry by entry. -/
theorem expand_at (v : Vec Ideal S1x1x1x32x128 .i8) (k : Fin 256) (l : Fin 128) :
    (expand (F := Ideal) v) (ix2 k l)
      = two ((v (ix5 0 0 0 ⟨2 * (k.val % 16) + k.val / 16 / 8, by omega⟩ l)).getLsbD (k.val / 16 % 8)) := by
  have hc : Shape.Concatenates ((List.ofFn fun p : Fin 16 => (⟨S16x128, planeOf (F := Ideal) (bitcast S8x128 32 (shapeCast S32x128 v shapeCasts_S1x1x1x32x128_S32x128) bitcasts_S32x128_w8_S8x128_w32) p⟩ : (s : Shape) × (s.Idx → Ideal .bf16))).map (·.1)) S256x128 0 :=
    concatenates_S16x128_S16x128_S16x128_S16x128_S16x128_S16x128_S16x128_S16x128_S16x128_S16x128_S16x128_S16x128_S16x128_S16x128_S16x128_S16x128_S256x128_d0
  have hk : k.val / 16 < 16 := by omega
  have hm : k.val % 16 < 16 := by omega
  have e0 : (expand (F := Ideal) v) (ix2 k l) = concatenate S256x128 0 (List.ofFn fun p : Fin 16 => (⟨S16x128, planeOf (F := Ideal) (bitcast S8x128 32 (shapeCast S32x128 v shapeCasts_S1x1x1x32x128_S32x128) bitcasts_S32x128_w8_S8x128_w32) p⟩ : (s : Shape) × (s.Idx → Ideal .bf16))) hc (ix2 k l) :=
    congrFun (expand_eq v) (ix2 k l)
  refine e0.trans ((concatenate_ofFn_apply (t := S256x128) (s₁ := S16x128) 0
    (planeOf (F := Ideal) (bitcast S8x128 32 (shapeCast S32x128 v shapeCasts_S1x1x1x32x128_S32x128) bitcasts_S32x128_w8_S8x128_w32)) hc rfl 16 rfl (ix2 k l)
    ⟨k.val / 16, hk⟩ rfl (ix2 ⟨k.val % 16, hm⟩ l) rfl
    (fun b hb => by match b with | ⟨0, _⟩ => exact absurd rfl hb | ⟨1, _⟩ => rfl)).trans ?_)
  rw [planeOf_at]
  congr 1
  have h := bitcast_8_32_getLsbD_ix2 (shapeCast S32x128 v shapeCasts_S1x1x1x32x128_S32x128) bitcasts_S32x128_w8_S8x128_w32 (⟨k.val % 16 / 2, by omega⟩ : Fin 8) l
    (16 * (k.val % 16 % 2) + k.val / 16) (by omega) ⟨2 * (k.val % 16) + k.val / 16 / 8, by omega⟩ (by show 2 * (k.val % 16) + k.val / 16 / 8 = 4 * (k.val % 16 / 2) + (16 * (k.val % 16 % 2) + k.val / 16) / 8; omega)
  refine h.trans ?_
  have e : (16 * (k.val % 16 % 2) + k.val / 16) % 8 = k.val / 16 % 8 := by omega
  rw [e]
  congr 1
  show shapeCast S32x128 v shapeCasts_S1x1x1x32x128_S32x128 (ix2 _ l) = _
  pointwise

end Cert.KernelIdeal.Attend

end
-- ==== Proof.Value.Raw.lean ====
/- The raw products of one block over the extended reals: the element of a query head and a position is the sum over the six byte
   columns and the 256 rows of a left-hand factor times a bit of the packed signs. -/
module

public import proofs.«01_k».proof.Proof.Value.Expand

@[expose] public section

set_option maxRecDepth 16384

noncomputable section

namespace Cert.KernelIdeal.Attend

open Idealize.ShloMosaic Idealize.SL.Sem Cert.KernelIdeal Cert.KernelIdeal.Gen

/-- One product, entry by entry: the left half of the columns reads the first 32 rows of bytes, the right half the second. -/
theorem part_at (l : Vec Ideal S1x16x256 .bf16) (a b : Vec Ideal S1x1x1x32x128 .i8) (r : Fin 16) (h : Fin 2) (q : Fin 128) :
    (part (F := Ideal) l a b) (ix2 r ⟨h.val * 128 + q.val, by omega⟩)
      = ∑ k : Fin 256, l (ix3 0 r k) * (expand (F := Ideal) (if h.val = 0 then a else b)) (ix2 k q) := by
  unfold part
  pointwise
  refine Finset.sum_congr rfl fun k _ => ?_
  congr 1
  obtain ⟨h, hh⟩ := h
  obtain rfl | rfl : h = 0 ∨ h = 1 := by omega
  · pointwise
  · pointwise

/-- The bit of a packed byte that row `k` of a tile's second factor is. -/
def bitOf (X4 : Vec Ideal S1x8x6x128x128 .i8) (kv : Fin 8) (t : Fin 6) (r : Fin 4) (q : Fin 128) (k : Fin 256) : Bool :=
  (X4 (ix5 0 kv t ⟨r.val * 32 + (2 * (k.val % 16) + k.val / 16 / 8), by omega⟩ q)).getLsbD (k.val / 16 % 8)

/-- One byte column's contribution. -/
theorem termAt_at (X3 : Vec Ideal S6x128x256 .bf16) (X4 : Vec Ideal S1x8x6x128x128 .i8) (kv : Fin 8) (u : Fin 2) (t : Fin 6) (r : Fin 16) (h : Fin 2) (q : Fin 128) :
    (termAt (F := Ideal) X3 X4 kv.val u.val t.val kv.isLt u.isLt t.isLt) (ix2 r ⟨h.val * 128 + q.val, by omega⟩)
      = ∑ k : Fin 256, X3 (ix3 t ⟨kv.val * 16 + r.val, by omega⟩ k) * two (bitOf X4 kv t ⟨u.val * 2 + h.val, by omega⟩ q k) := by
  unfold termAt
  rw [part_at]
  refine Finset.sum_congr rfl fun k _ => ?_
  have e1 : (lhsAt (F := Ideal) X3 t.val kv.val t.isLt kv.isLt) (ix3 0 r k) = X3 (ix3 t ⟨kv.val * 16 + r.val, by omega⟩ k) := by
    unfold lhsAt
    congr 1
    funext d
    match d with
    | ⟨0, _⟩ => exact Fin.ext (by show t.val + 1 * 0 = t.val; omega)
    | ⟨1, _⟩ => exact Fin.ext (by show kv.val * 16 + 1 * r.val = kv.val * 16 + r.val; omega)
    | ⟨2, _⟩ => exact Fin.ext (by show 0 + 1 * k.val = k.val; omega)
  have e2 : ∀ (rr : ℕ) (hr : rr < 4), (expand (F := Ideal) (bitsAt (F := Ideal) X4 kv.val t.val rr kv.isLt t.isLt hr)) (ix2 k q) = two (bitOf X4 kv t ⟨rr, hr⟩ q k) := by
    intro rr hr
    rw [expand_at]
    unfold bitOf bitsAt
    congr 3
    funext d
    match d with
    | ⟨0, _⟩ => exact Fin.ext (by show 0 + 1 * 0 = 0; omega)
    | ⟨1, _⟩ => exact Fin.ext (by show kv.val + 1 * 0 = kv.val; omega)
    | ⟨2, _⟩ => exact Fin.ext (by show t.val + 1 * 0 = t.val; omega)
    | ⟨3, _⟩ => exact Fin.ext (by show rr * 32 + 1 * (2 * (k.val % 16) + k.val / 16 / 8) = rr * 32 + (2 * (k.val % 16) + k.val / 16 / 8); omega)
    | ⟨4, _⟩ => exact Fin.ext (by show 0 + 1 * q.val = q.val; omega)
  rw [e1]
  congr 1
  obtain ⟨h, hh⟩ := h
  obtain rfl | rfl : h = 0 ∨ h = 1 := by omega
  · rw [if_pos rfl, e2]
  · rw [if_neg (by simp), e2]

/-- A tile's product: the six byte columns together. -/
theorem tileAcc_at (X3 : Vec Ideal S6x128x256 .bf16) (X4 : Vec Ideal S1x8x6x128x128 .i8) (kv : Fin 8) (u : Fin 2) (r : Fin 16) (h : Fin 2) (q : Fin 128) :
    (tileAcc (F := Ideal) X3 X4 kv.val u.val kv.isLt u.isLt) (ix2 r ⟨h.val * 128 + q.val, by omega⟩)
      = ∑ t : Fin 6, ∑ k : Fin 256, X3 (ix3 t ⟨kv.val * 16 + r.val, by omega⟩ k) * two (bitOf X4 kv t ⟨u.val * 2 + h.val, by omega⟩ q k) := by
  rw [Fin.sum_univ_six]
  have e := fun t : Fin 6 => termAt_at X3 X4 kv u t r h q
  rw [← e 0, ← e 1, ← e 2, ← e 3, ← e 4, ← e 5]
  rfl

/-- The raw product of query head `4 kv + g` and position `1024 u + 512 h + 128 c + q` of a block. -/
theorem rawB_at (X3 : Vec Ideal S6x128x256 .bf16) (X4 : Vec Ideal S1x8x6x128x128 .i8) (kv : Fin 8) (g : Fin 4) (u : Fin 2) (h : Fin 2) (c : Fin 4) (q : Fin 128) :
    (rawB (F := Ideal) X3 X4) (ix3 0 ⟨kv.val * 4 + g.val, by omega⟩ ⟨(u.val * 8 + h.val * 4 + c.val) * 128 + q.val, by omega⟩)
      = ∑ t : Fin 6, ∑ k : Fin 256, X3 (ix3 t ⟨kv.val * 16 + (c.val * 4 + g.val), by omega⟩ k) * two (bitOf X4 kv t ⟨u.val * 2 + h.val, by omega⟩ q k) := by
  rw [← tileAcc_at X3 X4 kv u ⟨c.val * 4 + g.val, by omega⟩ h q]
  have hkv := kv.isLt
  have hg := g.isLt
  have hq := q.isLt
  have hm : ∀ a, (![0, kv.val * 4, (u.val * 8 + h.val * 4 + c.val) * 128] : Fin 3 → ℕ) a ≤ ((ix3 0 ⟨kv.val * 4 + g.val, by omega⟩ ⟨(u.val * 8 + h.val * 4 + c.val) * 128 + q.val, by omega⟩ : S1x32x2048.Idx) a).val
      ∧ ((ix3 0 ⟨kv.val * 4 + g.val, by omega⟩ ⟨(u.val * 8 + h.val * 4 + c.val) * 128 + q.val, by omega⟩ : S1x32x2048.Idx) a).val < (![0, kv.val * 4, (u.val * 8 + h.val * 4 + c.val) * 128] : Fin 3 → ℕ) a + S1x4x128.size a := by
    intro a
    match a with
    | ⟨0, _⟩ => exact ⟨Nat.le_refl 0, Nat.one_pos⟩
    | ⟨1, _⟩ => exact ⟨by show kv.val * 4 ≤ kv.val * 4 + g.val; omega, by show kv.val * 4 + g.val < kv.val * 4 + 4; omega⟩
    | ⟨2, _⟩ => exact ⟨by show _ ≤ (u.val * 8 + h.val * 4 + c.val) * 128 + q.val; exact Nat.le_add_right _ _, by show (u.val * 8 + h.val * 4 + c.val) * 128 + q.val < (u.val * 8 + h.val * 4 + c.val) * 128 + 128; omega⟩
  rw [← rawB_eq X3 X4 _ kv.val u.val h.val c.val kv.isLt u.isLt h.isLt c.isLt hm]
  unfold pieceAt
  have e : (Rect.unitLocal (s := S1x32x2048) (off := ![0, kv.val * 4, (u.val * 8 + h.val * 4 + c.val) * 128]) (size := S1x4x128.size) (ix3 0 ⟨kv.val * 4 + g.val, by omega⟩ ⟨(u.val * 8 + h.val * 4 + c.val) * 128 + q.val, by omega⟩) hm : S1x4x128.Idx) = ix3 0 g q := by
    funext a
    match a with
    | ⟨0, _⟩ => rfl
    | ⟨1, _⟩ => exact Fin.ext (by show kv.val * 4 + g.val - kv.val * 4 = g.val; omega)
    | ⟨2, _⟩ => exact Fin.ext (by show (u.val * 8 + h.val * 4 + c.val) * 128 + q.val - (u.val * 8 + h.val * 4 + c.val) * 128 = q.val; omega)
  rw [e]
  unfold piece
  pointwise

end Cert.KernelIdeal.Attend

end
-- ==== Proof.Value.Scores.lean ====
/- The scores block of one grid point over the extended reals, read at an index. -/
module

public import proofs.«01_k».proof.Proof.Value.Raw
public import proofs.«01_k».proof.Proof.Attend

@[expose] public section

set_option maxRecDepth 16384

noncomputable section

namespace Cert.KernelIdeal.Attend

open Idealize.ShloMosaic Idealize.SL.Sem Cert.KernelIdeal Cert.KernelIdeal.Gen

theorem slices_head (k : Fin 8) : S8x2048.Slices ![k.val, 0] S1x2048 := by
  obtain ⟨k, hk⟩ := k
  interval_cases k
  · exact slices_S8x2048_o0_0_S1x2048
  · exact slices_S8x2048_o1_0_S1x2048
  · exact slices_S8x2048_o2_0_S1x2048
  · exact slices_S8x2048_o3_0_S1x2048
  · exact slices_S8x2048_o4_0_S1x2048
  · exact slices_S8x2048_o5_0_S1x2048
  · exact slices_S8x2048_o6_0_S1x2048
  · exact slices_S8x2048_o7_0_S1x2048

/-- One key head's row, repeated over its query heads. -/
def headRow (v : FVec Ideal S8x2048 .f32) (k : Fin 8) : FVec Ideal S4x2048 .f32 :=
  broadcastTo S4x2048 (shapeCast S1x2048 (extractStridedSlice S1x2048 ![k.val, 0] v (slices_head k)) shapeCasts_S1x2048_S1x2048) broadcasts_S1x2048_S4x2048

theorem headRow_at (v : FVec Ideal S8x2048 .f32) (k : Fin 8) (g : Fin 4) (p : Fin 2048) : headRow v k (ix2 g p) = v (ix2 k p) := by
  unfold headRow
  pointwise

theorem perHead_at (v : FVec Ideal S8x2048 .f32) (kv : Fin 8) (g : Fin 4) (p : Fin 2048) :
    (perHead (F := Ideal) v) (ix2 ⟨kv.val * 4 + g.val, by omega⟩ p) = v (ix2 kv p) := by
  have hc : Shape.Concatenates ((List.ofFn fun k : Fin 8 => (⟨S4x2048, headRow v k⟩ : (s : Shape) × (s.Idx → Ideal .f32))).map (·.1)) S32x2048 0 :=
    concatenates_S4x2048_S4x2048_S4x2048_S4x2048_S4x2048_S4x2048_S4x2048_S4x2048_S32x2048_d0
  have e0 : perHead (F := Ideal) v = concatenate S32x2048 0 (List.ofFn fun k : Fin 8 => (⟨S4x2048, headRow v k⟩ : (s : Shape) × (s.Idx → Ideal .f32))) hc := rfl
  have hkv := kv.isLt
  have hg := g.isLt
  rw [e0]
  refine (concatenate_ofFn_apply (t := S32x2048) (s₁ := S4x2048) 0 (headRow v) hc rfl 4 rfl (ix2 ⟨kv.val * 4 + g.val, by omega⟩ p) kv (by show (kv.val * 4 + g.val) / 4 = kv.val; omega) (ix2 g p)
    (by show g.val = (kv.val * 4 + g.val) % 4; omega)
    (fun b hb => by match b with | ⟨0, _⟩ => exact absurd rfl hb | ⟨1, _⟩ => rfl)).trans ?_
  exact headRow_at v kv g p

/-- The estimator's constant. -/
abbrev est : EReal := Ideal.ofBits .f32 0x39973FD8#32

/-- The block's scores, entry by entry. -/
theorem csB_at (v2 v1 : BitVec 32) (nrm : Vec Ideal S1x8x2048 .bf16) (raw : Vec Ideal S1x32x2048 .f32) (qs : Vec Ideal S32x1 .f32) (kv : Fin 8) (g : Fin 4) (p : Fin 2048) :
    (csB (F := Ideal) v2 v1 nrm raw qs) (ix3 0 ⟨kv.val * 4 + g.val, by omega⟩ p)
      = if (v2 + BitVec.ofNat 32 p.val).slt v1 then (raw (ix3 0 ⟨kv.val * 4 + g.val, by omega⟩ p) - qs (ix2 ⟨kv.val * 4 + g.val, by omega⟩ 0)) * (nrm (ix3 0 kv p) * est) else 0 := by
  unfold csB scoresB factor validB
  pointwise [perHead_at]
  show (if BitVec.ofBool ((v2 + BitVec.ofNat 32 p.val).slt v1) = 1#1 then _ else _) = _
  cases (v2 + BitVec.ofNat 32 p.val).slt v1 <;> rfl

theorem zeroB_at (y : S1x32x2048.Idx) : (zeroB (F := Ideal)) y = 0 := Ideal.ofBits_zero_f32

theorem v2At_toInt (i : grid1.Coords) (n : ℕ) (hn : n < 2048) : (v2At i + BitVec.ofNat 32 n).toInt = (i 1).val * 2048 + n := by
  have hi : (i 1).val < 8 := (i 1).isLt
  have e : v2At i + BitVec.ofNat 32 n = BitVec.ofNat 32 ((i 1).val * 2048 + n) := by
    show BitVec.ofNat 32 (i 1).val * 2048#32 + BitVec.ofNat 32 n = _
    rw [BitVec.ofNat_add, BitVec.ofNat_mul]
  rw [e, BitVec.toInt_eq_toNat_of_lt (by rw [BitVec.toNat_ofNat]; omega), BitVec.toNat_ofNat]
  omega

/-- What a grid point leaves in its scores block: zero at and past the sequence's length. -/
theorem csOut_at (i : grid1.Coords) (v1 : BitVec 32) (X3 : Vec Ideal S6x128x256 .bf16) (X4 : Vec Ideal S1x8x6x128x128 .i8) (X5 : Vec Ideal S1x8x2048 .bf16) (X9 : Vec Ideal S32x1 .f32) (kv : Fin 8) (g : Fin 4) (p : Fin 2048) :
    (csOut (F := Ideal) i v1 X3 X4 X5 X9) (ix3 0 ⟨kv.val * 4 + g.val, by omega⟩ p)
      = if ((i 1).val * 2048 + p.val : ℤ) < v1.toInt then ((rawB (F := Ideal) X3 X4) (ix3 0 ⟨kv.val * 4 + g.val, by omega⟩ p) - X9 (ix2 ⟨kv.val * 4 + g.val, by omega⟩ 0)) * (X5 (ix3 0 kv p) * est) else 0 := by
  have hp := v2At_toInt i p.val p.isLt
  have h0 := v2At_toInt i 0 (by omega)
  rw [show v2At i + BitVec.ofNat 32 0 = v2At i from BitVec.add_zero _] at h0
  unfold csOut
  split
  · rw [csB_at]
    have e : ((v2At i + BitVec.ofNat 32 p.val).slt v1 = true) ↔ (((i 1).val * 2048 + p.val : ℤ) < v1.toInt) := by
      rw [BitVec.slt_iff_toInt_lt, hp]
    by_cases h : ((i 1).val * 2048 + p.val : ℤ) < v1.toInt
    · rw [if_pos h, if_pos (e.mpr h)]
    · rw [if_neg h, if_neg (fun h' => h (e.mp h'))]
  · rename_i h3
    rw [zeroB_at, if_neg]
    intro hlt
    refine h3 ?_
    have hz : ∀ b : Bool, (IntOp.cmpi CmpIPredicate.ne (BitVec.setWidth 32 (BitVec.ofBool b)) 0#32 = 1#1) ↔ b = true := by decide
    unfold k1_cond3
    change IntOp.cmpi CmpIPredicate.ne (BitVec.setWidth 32 (BitVec.ofBool ((v2At i).slt v1))) 0#32 = 1#1
    rw [hz, BitVec.slt_iff_toInt_lt, h0]
    omega

end Cert.KernelIdeal.Attend

end
-- ==== Proof.Value.Arrays.lean ====
/- The arrays that the two calls leave, over the extended reals, and the blocks that the second call reads. -/
module

public import proofs.«01_k».proof.Proof.Value.Scores
public import proofs.«01_k».proof.Proof.Run
public import Idealize.ShloMosaic.Lib.Pipeline.Covers

@[expose] public section

set_option maxRecDepth 16384

noncomputable section

namespace Cert.KernelIdeal.Attend

open Idealize.ShloMosaic Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b)) (a : (pcfg1 (F := Ideal)).Adm)

/-- The grid point of a sequence and a block of positions. -/
def pt (b : ℕ) (s : ℕ) (h : b * 8 + s < 48) : Fin (cfg1 a).N := ⟨b * 8 + s, Nat.lt_of_lt_of_eq h N_1.symm⟩

theorem co_0 (t : Fin grid1.N) : (grid1.coords t 0).val = t.val / 8 % 6 := Pipeline.Grid.coords_val t 0 (by decide) rfl
theorem co_1 (t : Fin grid1.N) : (grid1.coords t 1).val = t.val / 1 % 8 := Pipeline.Grid.coords_val t 1 (by decide) rfl
theorem pt_0 (b s : ℕ) (h : b * 8 + s < 48) (hs : s < 8) : (grid1.coords (pt a b s h) 0).val = b := by
  rw [co_0]; show (b * 8 + s) / 8 % 6 = b; omega
theorem pt_1 (b s : ℕ) (h : b * 8 + s < 48) (hs : s < 8) : (grid1.coords (pt a b s h) 1).val = s := by
  rw [co_1]; show (b * 8 + s) / 1 % 8 = s; omega

theorem covers_10 : ((cfg1 a).win 10).Covers :=
  ((cfg1 a).win 10).covers_of_indexMap_surj rfl (by show ∀ d, 0 < S1x32x2048.size d; decide) fun β => by
    have h0 : (β (0 : Fin 3)).val < 6 := Nat.lt_of_lt_of_eq (β (0 : Fin 3)).isLt (by show (S6x32x16384.size 0 + S1x32x2048.size 0 - 1) / S1x32x2048.size 0 = 6; decide)
    have h1 : (β (1 : Fin 3)).val < 1 := Nat.lt_of_lt_of_eq (β (1 : Fin 3)).isLt (by show (S6x32x16384.size 1 + S1x32x2048.size 1 - 1) / S1x32x2048.size 1 = 1; decide)
    have h2 : (β (2 : Fin 3)).val < 8 := Nat.lt_of_lt_of_eq (β (2 : Fin 3)).isLt (by show (S6x32x16384.size 2 + S1x32x2048.size 2 - 1) / S1x32x2048.size 2 = 8; decide)
    refine ⟨grid1.coords (pt a (β (0 : Fin 3)).val (β (2 : Fin 3)).val (by omega)), fun d => ?_⟩
    have e0 := pt_0 a (β (0 : Fin 3)).val (β (2 : Fin 3)).val (by omega) h2
    have e1 := pt_1 a (β (0 : Fin 3)).val (β (2 : Fin 3)).val (by omega) h2
    show cc1_transform_10 _ d = _
    match d with
    | ⟨0, _⟩ => show (BitVec.ofNat 32 (grid1.coords _ 0).val).toNat = (β (0 : Fin 3)).val; rw [e0, BitVec.toNat_ofNat]; omega
    | ⟨1, _⟩ => show 0 = (β (1 : Fin 3)).val; omega
    | ⟨2, _⟩ => show (BitVec.ofNat 32 (grid1.coords _ 1).val).toNat = (β (2 : Fin 3)).val; rw [e1, BitVec.toNat_ofNat]; omega

/-- The scores array after the second call: every block as its own grid point left it. -/
theorem arr_scores (c : Dev nD) :
    (dat1 V a c).arrAt 10 (cfg1 a).N = fun i : S6x32x16384.Idx =>
      csAt V a c (pt a (i 0).val ((i 2).val / 2048) (by have h0 : (i 0).val < 6 := (i 0).isLt; have h2 : (i 2).val < 16384 := (i 2).isLt; omega)) (ix3 0 (i 1) ⟨(i 2).val % 2048, by omega⟩) := by
  refine (dat1 V a c).arrAt_eq_of_covers 10 _ (covers_10 a) fun t hf y => ?_
  blk_simp
  rw [after1_10]
  have ht : t.val < 48 := Nat.lt_of_lt_of_eq t.isLt N_1
  have e0 : ((cfg1 a).win 10).index t (0 : Fin 3) = t.val / 8 := by
    show (BitVec.ofNat 32 (grid1.coords t 0).val).toNat = _
    rw [co_0, BitVec.toNat_ofNat]; omega
  have e2 : ((cfg1 a).win 10).index t (2 : Fin 3) = t.val % 8 := by
    show (BitVec.ofNat 32 (grid1.coords t 1).val).toNat = _
    rw [co_1, BitVec.toNat_ofNat]; omega
  have y0 : (y (0 : Fin 3)).val < 1 := (y (0 : Fin 3)).isLt
  have y2 : (y (2 : Fin 3)).val < 2048 := (y (2 : Fin 3)).isLt
  have key : ∀ (t' : Fin (cfg1 a).N) (z : S1x32x2048.Idx), t' = t → z = y → csAt V a c t y = csAt V a c t' z := by
    intro t' z h1 h2; rw [h1, h2]
  refine key _ _ (Fin.ext ?_) ?_
  · show ((cfg1 a).win 10).index t (0 : Fin 3) * 8 + (((cfg1 a).win 10).index t (2 : Fin 3) * 2048 + (y (2 : Fin 3)).val) / 2048 = t.val
    rw [e0, e2]; omega
  · funext d
    match d with
    | ⟨0, _⟩ => exact Fin.ext (by show 0 = (y (0 : Fin 3)).val; omega)
    | ⟨1, _⟩ =>
      refine Fin.ext ?_
      have h1 : ((((cfg1 a).win 10).blk t).view.emb y (1 : Fin 3)).val = (y (1 : Fin 3)).val := by
        refine (Pipeline.Window.rect_emb_val _ _ _ _ rfl).trans ?_
        show 0 * 32 + (y (1 : Fin 3)).val = _
        omega
      exact h1
    | ⟨2, _⟩ => exact Fin.ext (by show (((cfg1 a).win 10).index t (2 : Fin 3) * 2048 + (y (2 : Fin 3)).val) % 2048 = (y (2 : Fin 3)).val; omega)

end Cert.KernelIdeal.Attend

end
-- ==== Proof.Value.Blocks.lean ====
/- What the blocks that the second call reads hold, entry by entry, over the arrays it finds. -/
module

public import proofs.«01_k».proof.Proof.Value.Arrays

@[expose] public section

set_option maxRecDepth 16384

noncomputable section

namespace Cert.KernelIdeal.Attend

open Idealize.ShloMosaic Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b)) (a : (pcfg1 (F := Ideal)).Adm)

theorem co_0' (t : Fin grid1.N) (ht : t.val < 48) : (BitVec.ofNat 32 (grid1.coords t 0).val).toNat = t.val / 8 := by
  rw [co_0, BitVec.toNat_ofNat]; omega
theorem co_1' (t : Fin grid1.N) (ht : t.val < 48) : (BitVec.ofNat 32 (grid1.coords t 1).val).toNat = t.val % 8 := by
  rw [co_1, BitVec.toNat_ofNat]; omega

/-- The length read at a grid point is its sequence's entry of the table. -/
theorem len_eq (c : Dev nD) (t : Fin (cfg1 a).N) (b : Fin 6) (hb : t.val / 8 = b.val) : len a c t = (a.1 0 : S6.Idx → BitVec 32) (Idealize.ShloMosaic.ix1 b) := by
  have ht : t.val < 48 := Nat.lt_of_lt_of_eq t.isLt N_1
  refine congrArg (a.1 0 : S6.Idx → BitVec 32) (funext fun d => Fin.ext ?_)
  match d with
  | ⟨0, _⟩ =>
    show (BitVec.ofNat 32 (grid1.coords t 0).val).toNat + 1 * 0 = b.val
    rw [co_0' t ht]; omega
theorem lenW_eq (c : Dev nD) (t : Fin (cfg1 a).N) : lenW a.1 (grid1.coords t) = len a c t := rfl

/-- The queries' block: the rows of the point's sequence. -/
theorem b0_at (c : Dev nD) (t : Fin (cfg1 a).N) (b : Fin 6) (hb : t.val / 8 = b.val) (u : Fin 6) (i : Fin 128) (k : Fin 256) :
    b0 V a c t (ix3 u i k) = (V c main_v10_0 : S6x768x256.Idx → EReal) (ix3 u ⟨b.val * 128 + i.val, by omega⟩ k) := by
  have ht : t.val < 48 := Nat.lt_of_lt_of_eq t.isLt N_1
  refine congrArg (V c main_v10_0 : S6x768x256.Idx → EReal) (funext fun d => Fin.ext ?_)
  match d with
  | ⟨0, _⟩ => refine (Pipeline.Window.rect_emb_val _ _ _ _ rfl).trans ?_; show 0 * 6 + u.val = u.val; omega
  | ⟨1, _⟩ =>
    refine (Pipeline.Window.rect_emb_val _ _ _ _ rfl).trans ?_
    show (BitVec.ofNat 32 (grid1.coords t 0).val).toNat * 128 + i.val = b.val * 128 + i.val
    rw [co_0' t ht]; omega
  | ⟨2, _⟩ => refine (Pipeline.Window.rect_emb_val _ _ _ _ rfl).trans ?_; show 0 * 256 + k.val = k.val; omega

/-- The query sums' block. -/
theorem b6_at (c : Dev nD) (t : Fin (cfg1 a).N) (b : Fin 6) (hb : t.val / 8 = b.val) (i : Fin 32) :
    b6 V a c t (ix2 i 0) = (V c main_v10_2 : S192x1.Idx → EReal) (ix2 ⟨b.val * 32 + i.val, by omega⟩ 0) := by
  have ht : t.val < 48 := Nat.lt_of_lt_of_eq t.isLt N_1
  refine congrArg (V c main_v10_2 : S192x1.Idx → EReal) (funext fun d => Fin.ext ?_)
  match d with
  | ⟨0, _⟩ =>
    refine (Pipeline.Window.rect_emb_val _ _ _ _ rfl).trans ?_
    show (BitVec.ofNat 32 (grid1.coords t 0).val).toNat * 32 + i.val = b.val * 32 + i.val
    rw [co_0' t ht]; omega
  | ⟨1, _⟩ => refine (Pipeline.Window.rect_emb_val _ _ _ _ rfl).trans ?_; show 0 * 1 + 0 = 0; omega

/-- A block that holds a position below the length is its own: the index map does not hold it back. -/
theorem lastW_own (v1 : BitVec 32) (s p : ℕ) (hs : s < 8) (h : ((s : ℤ) * 2048 + p) < v1.toInt) : (lastW v1 (BitVec.ofNat 32 s)).toNat = s := by
  rw [lastW_toNat _ _ hs]
  have h1 : (v1 - 1#32).toInt = v1.toInt - 1 := by
    rw [BitVec.toInt_sub]
    have := BitVec.toInt_lt (x := v1)
    have e : (1#32).toInt = 1 := by decide
    rw [e]
    have hlt : v1.toInt < 2 ^ 31 := this
    refine Int.bmod_eq_of_le ?_ ?_ <;> omega
  rw [h1]
  omega

/-- The bits' block at a position below the length. -/
theorem b1_at (c : Dev nD) (t : Fin (cfg1 a).N) (b : Fin 6) (s : Fin 8) (hb : t.val / 8 = b.val) (hs : t.val % 8 = s.val)
    (hl : (lastW (len a c t) (BitVec.ofNat 32 s.val)).toNat = s.val) (kv : Fin 8) (u : Fin 6) (r : Fin 128) (q : Fin 128) :
    b1 V a c t (ix5 0 kv u r q) = (V c main_v3 : S6x8x6x1024x128.Idx → BitVec 8) (ix5 b kv u ⟨s.val * 128 + r.val, by omega⟩ q) := by
  have ht : t.val < 48 := Nat.lt_of_lt_of_eq t.isLt N_1
  have e1 : (grid1.coords t 1).val = s.val := by rw [co_1]; omega
  refine congrArg (V c main_v3 : S6x8x6x1024x128.Idx → BitVec 8) (funext fun d => Fin.ext ?_)
  match d with
  | ⟨0, _⟩ =>
    refine (Pipeline.Window.rect_emb_val _ _ _ _ rfl).trans ?_
    show (BitVec.ofNat 32 (grid1.coords t 0).val).toNat * 1 + 0 = b.val
    rw [co_0' t ht]; omega
  | ⟨1, _⟩ => refine (Pipeline.Window.rect_emb_val _ _ _ _ rfl).trans ?_; show 0 * 8 + kv.val = kv.val; omega
  | ⟨2, _⟩ => refine (Pipeline.Window.rect_emb_val _ _ _ _ rfl).trans ?_; show 0 * 6 + u.val = u.val; omega
  | ⟨3, _⟩ =>
    refine (Pipeline.Window.rect_emb_val _ _ _ _ rfl).trans ?_
    show (lastW (len a c t) (BitVec.ofNat 32 (grid1.coords t 1).val)).toNat * 128 + r.val = s.val * 128 + r.val
    rw [e1, hl]
  | ⟨4, _⟩ => refine (Pipeline.Window.rect_emb_val _ _ _ _ rfl).trans ?_; show 0 * 128 + q.val = q.val; omega

/-- The norms' block at a position below the length. -/
theorem b2_at (c : Dev nD) (t : Fin (cfg1 a).N) (b : Fin 6) (s : Fin 8) (hb : t.val / 8 = b.val) (hs : t.val % 8 = s.val)
    (hl : (lastW (len a c t) (BitVec.ofNat 32 s.val)).toNat = s.val) (kv : Fin 8) (p : Fin 2048) :
    b2 V a c t (ix3 0 kv p) = (V c main_v5 : S6x8x16384.Idx → EReal) (ix3 b kv ⟨s.val * 2048 + p.val, by omega⟩) := by
  have ht : t.val < 48 := Nat.lt_of_lt_of_eq t.isLt N_1
  have e1 : (grid1.coords t 1).val = s.val := by rw [co_1]; omega
  refine congrArg (V c main_v5 : S6x8x16384.Idx → EReal) (funext fun d => Fin.ext ?_)
  match d with
  | ⟨0, _⟩ =>
    refine (Pipeline.Window.rect_emb_val _ _ _ _ rfl).trans ?_
    show (BitVec.ofNat 32 (grid1.coords t 0).val).toNat * 1 + 0 = b.val
    rw [co_0' t ht]; omega
  | ⟨1, _⟩ => refine (Pipeline.Window.rect_emb_val _ _ _ _ rfl).trans ?_; show 0 * 8 + kv.val = kv.val; omega
  | ⟨2, _⟩ =>
    refine (Pipeline.Window.rect_emb_val _ _ _ _ rfl).trans ?_
    show (lastW (len a c t) (BitVec.ofNat 32 (grid1.coords t 1).val)).toNat * 2048 + p.val = s.val * 2048 + p.val
    rw [e1, hl]

end Cert.KernelIdeal.Attend

end
-- ==== Proof.Value.Host.lean ====
/- What the host operations around the two calls compute, entry by entry. -/
module

public import proofs.«01_k».proof.Proof.Run
public import Idealize.ShloMosaic.Lib.StableHlo.ReadAt
public import Idealize.ShloMosaic.Lib.Pointwise
public import Idealize.ShloMosaic.Lib.IdealHost

@[expose] public section

set_option maxRecDepth 16384

noncomputable section

namespace Cert.KernelIdeal.Run

open Idealize.ShloMosaic Idealize.ShloMosaic.TcCoe Idealize.SL.Sem Cert.KernelIdeal Cert.KernelIdeal.Gen

variable (m : (ℓ : Loc nD τ sig) → Buf (Elt Ideal) ℓ)

theorem v7_at (c : Dev nD) (r : Fin 192) (d : Fin 128) :
    (V1 m c main_v7 : S192x128.Idx → EReal) (ix2 r d) = (m (c, Proc.devRef .tc main_arg0) : S6x1x4096.Idx → EReal) (ix3 ⟨r.val / 32, by omega⟩ 0 ⟨r.val % 32 * 128 + d.val, by omega⟩) := by
  unfold V1 W1
  after_reads_at

theorem v5_at (c : Dev nD) (b : Fin 6) (kv : Fin 8) (p : Fin 16384) :
    (V1 m c main_v5 : S6x8x16384.Idx → EReal) (ix3 b kv p) = (m (c, Proc.devRef .tc main_arg5) : S6x16384x8.Idx → EReal) (ix3 b p kv) := by
  unfold V1 W1
  after_reads_at

theorem v3_at (c : Dev nD) (b : Fin 6) (kv : Fin 8) (t : Fin 6) (x : Fin 128) (e : Fin 8) (q : Fin 128) :
    (V1 m c main_v3 : S6x8x6x1024x128.Idx → BitVec 8) (ix5 b kv t ⟨x.val * 8 + e.val, by omega⟩ q)
      = (m (c, Proc.devRef .tc main_arg4) : S6x16384x8x48.Idx → BitVec 8) (ix4 b ⟨x.val * 128 + q.val, by omega⟩ kv ⟨t.val * 8 + e.val, by omega⟩) := by
  unfold V1 W1
  after_reads_at

theorem v8_at (c : Dev nD) (b : Fin 6) (kv : Fin 8) (d : Fin 128) :
    (V1 m c main_v8 : S48x128.Idx → EReal) (ix2 ⟨b.val * 8 + kv.val, by omega⟩ d) = (m (c, Proc.devRef .tc main_arg1) : S6x1x8x128.Idx → EReal) (ix4 b 0 kv d) := by
  unfold V1 W1
  after_reads_at

theorem v9_at (c : Dev nD) (b : Fin 6) (kv : Fin 8) (d : Fin 128) :
    (V1 m c main_v9 : S48x128.Idx → EReal) (ix2 ⟨b.val * 8 + kv.val, by omega⟩ d) = (m (c, Proc.devRef .tc main_arg2) : S6x1x8x128.Idx → EReal) (ix4 b 0 kv d) := by
  unfold V1 W1
  after_reads_at

theorem v13_at (c : Dev nD) (b : Fin 6) (h : Fin 32) (p : Fin 16384) :
    (W4 m c (Proc.devRef .tc main_v13) : S6x1x32x16384.Idx → EReal) (ix4 b 0 h p) = (W3 m c (Proc.devRef .tc main_v11_1) : S6x32x16384.Idx → EReal) (ix3 b h p) := by
  unfold W4
  after_reads_at

theorem v16_at (c : Dev nD) (b : Fin 6) (kv : Fin 8) :
    (W4 m c (Proc.devRef .tc main_v16) : S6x1x8.Idx → EReal) (ix3 b 0 kv) = (W3 m c (Proc.devRef .tc main_v10_6) : S48x1.Idx → EReal) (ix2 ⟨b.val * 8 + kv.val, by omega⟩ 0) := by
  unfold W4
  after_reads_at

theorem v19_at (c : Dev nD) (b : Fin 6) (kv : Fin 8) :
    (W4 m c (Proc.devRef .tc main_v19) : S6x1x8.Idx → EReal) (ix3 b 0 kv) = (W3 m c (Proc.devRef .tc main_v10_8) : S48x1.Idx → EReal) (ix2 ⟨b.val * 8 + kv.val, by omega⟩ 0) := by
  unfold W4
  after_reads_at

theorem v15_at (c : Dev nD) (b : Fin 6) (kv : Fin 8) (j : Fin 48) :
    (W4 m c (Proc.devRef .tc main_v15) : S6x1x8x48.Idx → BitVec 8) (ix4 b 0 kv j) = BitVec.setWidth 8 ((W3 m c (Proc.devRef .tc main_v10_5) : S48x48.Idx → BitVec 32) (ix2 ⟨b.val * 8 + kv.val, by omega⟩ j)) := by
  unfold W4
  after_reads_at

theorem v18_at (c : Dev nD) (b : Fin 6) (kv : Fin 8) (j : Fin 64) :
    (W4 m c (Proc.devRef .tc main_v18) : S6x1x8x64.Idx → BitVec 8) (ix4 b 0 kv j) = BitVec.setWidth 8 ((W3 m c (Proc.devRef .tc main_v10_7) : S48x64.Idx → BitVec 32) (ix2 ⟨b.val * 8 + kv.val, by omega⟩ j)) := by
  unfold W4
  after_reads_at

end Cert.KernelIdeal.Run

end
-- ==== Proof.Value.PrepArrays.lean ====
/- The arrays that the first call leaves: each is one expression of its four inputs. -/
module

public import proofs.«01_k».proof.Proof.Run
public import Idealize.ShloMosaic.Lib.Pipeline.ValueKit

@[expose] public section

set_option maxRecDepth 16384

noncomputable section

namespace Cert.KernelIdeal.Prep

open Idealize.ShloMosaic Idealize.ShloMosaic.TcCoe Idealize.SL.Sem Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

/-- The one grid point. -/
def p0 : Fin cfg0.N := ⟨0, by decide +kernel⟩

theorem iblk0_0 (c : Dev nD) (t : Fin cfg0.N) : iblk0 V c 0 t = V c (Pipeline.arrRef spec0 0) := by
  refine funext fun y => congrArg (V c (Pipeline.arrRef spec0 0)) (funext fun d => Fin.ext ?_)
  refine (Pipeline.Window.rect_emb_val _ _ _ _ rfl).trans ?_
  match d with
  | ⟨0, _⟩ => show 0 * _ + (y 0).val = (y 0).val; omega
  | ⟨1, _⟩ => show 0 * _ + (y 1).val = (y 1).val; omega

theorem iblk0_1 (c : Dev nD) (t : Fin cfg0.N) : iblk0 V c 1 t = V c (Pipeline.arrRef spec0 1) := by
  refine funext fun y => congrArg (V c (Pipeline.arrRef spec0 1)) (funext fun d => Fin.ext ?_)
  refine (Pipeline.Window.rect_emb_val _ _ _ _ rfl).trans ?_
  match d with
  | ⟨0, _⟩ => show 0 * _ + (y 0).val = (y 0).val; omega
  | ⟨1, _⟩ => show 0 * _ + (y 1).val = (y 1).val; omega

theorem iblk0_2 (c : Dev nD) (t : Fin cfg0.N) : iblk0 V c 2 t = V c (Pipeline.arrRef spec0 2) := by
  refine funext fun y => congrArg (V c (Pipeline.arrRef spec0 2)) (funext fun d => Fin.ext ?_)
  refine (Pipeline.Window.rect_emb_val _ _ _ _ rfl).trans ?_
  match d with
  | ⟨0, _⟩ => show 0 * _ + (y 0).val = (y 0).val; omega
  | ⟨1, _⟩ => show 0 * _ + (y 1).val = (y 1).val; omega

theorem iblk0_3 (c : Dev nD) (t : Fin cfg0.N) : iblk0 V c 3 t = V c (Pipeline.arrRef spec0 3) := by
  refine funext fun y => congrArg (V c (Pipeline.arrRef spec0 3)) (funext fun d => Fin.ext ?_)
  refine (Pipeline.Window.rect_emb_val _ _ _ _ rfl).trans ?_
  match d with
  | ⟨0, _⟩ => show 0 * _ + (y 0).val = (y 0).val; omega
  | ⟨1, _⟩ => show 0 * _ + (y 1).val = (y 1).val; omega

theorem arr_4_of (c : Dev nD) (G : Vec F S6x768x256 .bf16) (h : (dat0 V c).after 4 p0 = G) : (dat0 V c).arrAt 4 cfg0.N = G := by
  refine Dat.arrAt_eq_of_after_last (dat0 V c) 4 p0 (by decide +kernel) _ ?_
  rw [h]
  exact fun j => rfl
theorem arr_4 (c : Dev nD) : (dat0 V c).arrAt 4 cfg0.N = out0_4 (V c main_v7) (V c main_v8) (V c main_v9) (V c main_arg3) := by
  refine arr_4_of V c _ ?_
  rw [after0_4, iblk0_0, iblk0_1, iblk0_2, iblk0_3]

theorem arr_6_of (c : Dev nD) (G : Vec F S192x1 .f32) (h : (dat0 V c).after 6 p0 = G) : (dat0 V c).arrAt 6 cfg0.N = G := by
  refine Dat.arrAt_eq_of_after_last (dat0 V c) 6 p0 (by decide +kernel) _ ?_
  rw [h]
  exact fun j => rfl
theorem arr_6 (c : Dev nD) : (dat0 V c).arrAt 6 cfg0.N = out0_6 (V c main_v7) (V c main_v8) (V c main_v9) (V c main_arg3) := by
  refine arr_6_of V c _ ?_
  rw [after0_6, iblk0_0, iblk0_1, iblk0_2, iblk0_3]

theorem arr_5_of (c : Dev nD) (G : Vec F S192x1 .f32) (h : (dat0 V c).after 5 p0 = G) : (dat0 V c).arrAt 5 cfg0.N = G := by
  refine Dat.arrAt_eq_of_after_last (dat0 V c) 5 p0 (by decide +kernel) _ ?_
  rw [h]
  exact fun j => rfl
theorem arr_5 (c : Dev nD) : (dat0 V c).arrAt 5 cfg0.N = out0_5 (V c main_v7) (V c main_v8) (V c main_v9) (V c main_arg3) := by
  refine arr_5_of V c _ ?_
  rw [after0_5, iblk0_0, iblk0_1, iblk0_2, iblk0_3]

theorem arr_7_of (c : Dev nD) (G : Vec F S192x128 .f32) (h : (dat0 V c).after 7 p0 = G) : (dat0 V c).arrAt 7 cfg0.N = G := by
  refine Dat.arrAt_eq_of_after_last (dat0 V c) 7 p0 (by decide +kernel) _ ?_
  rw [h]
  exact fun j => rfl
theorem arr_7 (c : Dev nD) : (dat0 V c).arrAt 7 cfg0.N = out0_7 (V c main_v7) (V c main_v8) (V c main_v9) (V c main_arg3) := by
  refine arr_7_of V c _ ?_
  rw [after0_7, iblk0_0, iblk0_1, iblk0_2, iblk0_3]

theorem arr_8_of (c : Dev nD) (G : Vec F S192x1 .f32) (h : (dat0 V c).after 8 p0 = G) : (dat0 V c).arrAt 8 cfg0.N = G := by
  refine Dat.arrAt_eq_of_after_last (dat0 V c) 8 p0 (by decide +kernel) _ ?_
  rw [h]
  exact fun j => rfl
theorem arr_8 (c : Dev nD) : (dat0 V c).arrAt 8 cfg0.N = out0_8 (V c main_v7) (V c main_v8) (V c main_v9) (V c main_arg3) := by
  refine arr_8_of V c _ ?_
  rw [after0_8, iblk0_0, iblk0_1, iblk0_2, iblk0_3]

theorem arr_9_of (c : Dev nD) (G : Vec F S48x48 .i32) (h : (dat0 V c).after 9 p0 = G) : (dat0 V c).arrAt 9 cfg0.N = G := by
  refine Dat.arrAt_eq_of_after_last (dat0 V c) 9 p0 (by decide +kernel) _ ?_
  rw [h]
  exact fun j => rfl
theorem arr_9 (c : Dev nD) : (dat0 V c).arrAt 9 cfg0.N = out0_9 (V c main_v7) (V c main_v8) (V c main_v9) (V c main_arg3) := by
  refine arr_9_of V c _ ?_
  rw [after0_9, iblk0_0, iblk0_1, iblk0_2, iblk0_3]

theorem arr_10_of (c : Dev nD) (G : Vec F S48x1 .bf16) (h : (dat0 V c).after 10 p0 = G) : (dat0 V c).arrAt 10 cfg0.N = G := by
  refine Dat.arrAt_eq_of_after_last (dat0 V c) 10 p0 (by decide +kernel) _ ?_
  rw [h]
  exact fun j => rfl
theorem arr_10 (c : Dev nD) : (dat0 V c).arrAt 10 cfg0.N = out0_10 (V c main_v7) (V c main_v8) (V c main_v9) (V c main_arg3) := by
  refine arr_10_of V c _ ?_
  rw [after0_10, iblk0_0, iblk0_1, iblk0_2, iblk0_3]

theorem arr_11_of (c : Dev nD) (G : Vec F S48x64 .i32) (h : (dat0 V c).after 11 p0 = G) : (dat0 V c).arrAt 11 cfg0.N = G := by
  refine Dat.arrAt_eq_of_after_last (dat0 V c) 11 p0 (by decide +kernel) _ ?_
  rw [h]
  exact fun j => rfl
theorem arr_11 (c : Dev nD) : (dat0 V c).arrAt 11 cfg0.N = out0_11 (V c main_v7) (V c main_v8) (V c main_v9) (V c main_arg3) := by
  refine arr_11_of V c _ ?_
  rw [after0_11, iblk0_0, iblk0_1, iblk0_2, iblk0_3]

theorem arr_12_of (c : Dev nD) (G : Vec F S48x1 .f32) (h : (dat0 V c).after 12 p0 = G) : (dat0 V c).arrAt 12 cfg0.N = G := by
  refine Dat.arrAt_eq_of_after_last (dat0 V c) 12 p0 (by decide +kernel) _ ?_
  rw [h]
  exact fun j => rfl
theorem arr_12 (c : Dev nD) : (dat0 V c).arrAt 12 cfg0.N = out0_12 (V c main_v7) (V c main_v8) (V c main_v9) (V c main_arg3) := by
  refine arr_12_of V c _ ?_
  rw [after0_12, iblk0_0, iblk0_1, iblk0_2, iblk0_3]

end Cert.KernelIdeal.Prep

end
-- ==== Proof.Value.Words.lean ====
/- The index words with which the preparation call lays out the left-hand factors of the score products: which column of the
   projected query, which query head and which group of positions each of their entries belongs to. -/
module

public import proofs.«01_k».proof.Proof.Region0
public import Idealize.ShloMosaic.Lib.Pointwise
public import Idealize.ShloMosaic.Lib.IdealHost
public import Idealize.ShloMosaic.Lib.Pipeline.ValueKit

@[expose] public section

set_option maxRecDepth 65536

noncomputable section

namespace Cert.KernelIdeal.Prep

open Idealize.ShloMosaic Idealize.SL.Sem Cert.KernelIdeal Cert.KernelIdeal.Gen

/-! ## The index words -/

/-- The column of the projected query that column `k` of the first left-hand factor holds. -/
def base (k : ℕ) : ℕ := (k / 16 % 8) * 48 + 4 * (k / 2 % 8 % 2) + k / 16 / 8 + 2 * (k % 2)

/-- The kernel's words for `base`. -/
def baseW : IVec S384x256 32 :=
  k0_pay38 (iota .tc S384x256 32 [1] iota_S384x256_d1_w32) (k0_pay37 k0_pay32 (k0_pay35 (iota .tc S384x256 32 [1] iota_S384x256_d1_w32) 2#32 k0_pay33 k0_pay34 (Scalar.extui (Scalar.cmpi .sgt 2#32 0#32)) 0#32) (k0_pay36 k0_pay32) 48#32)

theorem baseW_row (i : Fin 384) (k : Fin 256) : baseW (ix2 i k) = baseW (ix2 0 k) := rfl

theorem baseW_dec : ∀ k : Fin 256, baseW (ix2 0 k) = BitVec.ofNat 32 (base k.val) := by decide +kernel

/-- The query head that row `i` of a left-hand factor belongs to. -/
def head (i : ℕ) : ℕ := i / 16 * 4 + i % 4

/-- The kernel's words for `head`. -/
def headW : IVec S768x192 32 := addi k0_pay27 (select k0_pay29 (addi k0_pay28 k0_pay30) k0_pay28)

theorem headW_col (i : Fin 768) (k : Fin 192) : headW (ix2 i k) = headW (ix2 i 0) := rfl

theorem headW_dec : ∀ i : Fin 768, headW (ix2 i 0) = BitVec.ofNat 32 (head i.val) := by decide +kernel

/-- The kernel's words for the group of positions that a column serves. -/
def colW : IVec S768x256 32 := k0_pay40 k0_pay39 4#32

theorem colW_row (i : Fin 768) (k : Fin 256) : colW (ix2 i k) = colW (ix2 0 k) := rfl

theorem colW_dec : ∀ k : Fin 256, colW (ix2 0 k) = BitVec.ofNat 32 (k.val / 4 % 4) := by decide +kernel

/-- The rows at which the kernel keeps a column. -/
def keepW : IVec S768x256 1 :=
  k0_pay42 colW (Scalar.select (Scalar.cmpi .eq 4#32 0#32) 1#32 4#32) (k0_pay41 (iota .tc S768x256 32 [0] iota_S768x256_d0_w32)) 0#32

/-- The kernel's words for the group of positions that a row serves, as a value at column 0. -/
def rowW (i : Fin 768) : BitVec 32 :=
  let w := (k0_pay41 (iota .tc S768x256 32 [0] iota_S768x256_d0_w32)) (ix2 i 0)
  Scalar.select (IntOp.andi (IntOp.xori (IntOp.cmpi .slt w 0#32) (Scalar.cmpi .slt (Scalar.select (Scalar.cmpi .eq 4#32 0#32) 1#32 4#32) 0#32)) (IntOp.cmpi .ne w 0#32)) (IntOp.addi w (Scalar.select (Scalar.cmpi .eq 4#32 0#32) 1#32 4#32)) w

theorem rowW_dec : ∀ i : Fin 768, rowW i = BitVec.ofNat 32 (i.val / 4 % 4) := by decide +kernel

theorem keepW_eq (i : Fin 768) (k : Fin 256) : keepW (ix2 i k) = IntOp.cmpi .eq (colW (ix2 i k)) (rowW i) := rfl

theorem cmpi_eq_ofNat (a b : ℕ) (ha : a < 2 ^ 32) (hb : b < 2 ^ 32) : IntOp.cmpi .eq (BitVec.ofNat 32 a) (BitVec.ofNat 32 b) = if a = b then 1#1 else 0#1 := by
  by_cases h : a = b
  · subst h; simp [IntOp.cmpi]
  · have : BitVec.ofNat 32 a ≠ BitVec.ofNat 32 b := fun e => h (by
      have := congrArg BitVec.toNat e
      rw [BitVec.toNat_ofNat, BitVec.toNat_ofNat, Nat.mod_eq_of_lt ha, Nat.mod_eq_of_lt hb] at this
      exact this)
    rw [if_neg h]
    show BitVec.ofBool (BitVec.ofNat 32 a == BitVec.ofNat 32 b) = 0#1
    rw [beq_false_of_ne this]
    rfl

theorem keepW_at (i : Fin 768) (k : Fin 256) : keepW (ix2 i k) = if k.val / 4 % 4 = i.val / 4 % 4 then 1#1 else 0#1 := by
  rw [keepW_eq, colW_row, colW_dec, rowW_dec, cmpi_eq_ofNat _ _ (by omega) (by omega)]

end Cert.KernelIdeal.Prep

end
-- ==== Proof.Value.Prep.lean ====
/- What the preparation call computes over the extended reals, read at an index: the projected queries, their sums, and the
   left-hand factors of the score products. -/
module

public import proofs.«01_k».proof.Proof.Value.Words

@[expose] public section

set_option maxRecDepth 65536

noncomputable section

namespace Cert.KernelIdeal.Prep

open Idealize.ShloMosaic Idealize.SL.Sem Cert.KernelIdeal Cert.KernelIdeal.Gen

/-- A sum over one-hot factors is the one term. -/
theorem sum_onehot {n : ℕ} (f : Fin n → EReal) (a : Fin n) (p : Fin n → Prop) [DecidablePred p] (h : ∀ k, p k ↔ k = a) :
    ∑ k, f k * (if p k then 1 else 0) = f a := by
  simp only [h]
  rw [Finset.sum_eq_single a (fun b _ hb => by rw [if_neg hb, mul_zero]) (fun h => absurd (Finset.mem_univ a) h), if_pos rfl, mul_one]

theorem sum_onehot' {n : ℕ} (f : Fin n → EReal) (a : Fin n) (p : Fin n → Prop) [DecidablePred p] (h : ∀ k, p k ↔ k = a) :
    ∑ k, (if p k then 1 else 0) * f k = f a := by
  simp only [h]
  rw [Finset.sum_eq_single a (fun b _ hb => by rw [if_neg hb, zero_mul]) (fun h => absurd (Finset.mem_univ a) h), if_pos rfl, one_mul]

/-- The projected queries. -/
theorem pay23_at (p : Vec Ideal S128x384 .bf16) (x : Vec Ideal S192x128 .bf16) (r : Fin 192) (s : Fin 384) :
    (k0_pay23 (F := Ideal) p x) (ix2 r s) = ∑ d : Fin 128, x (ix2 r d) * p (ix2 d s) := by
  unfold k0_pay23
  pointwise

/-- Their sums. -/
theorem pay26_at (q : FVec Ideal S192x384 .bf16) (r : Fin 192) :
    (k0_pay26 (F := Ideal) (k0_pay25 (F := Ideal) q)) (ix2 r 0) = ∑ s : Fin 384, q (ix2 r s) := by
  unfold k0_pay26 k0_pay25
  pointwise

/-- The one-hot rows that spread the query heads over the rows of a left-hand factor. -/
theorem pay31_at (i : Fin 768) (r : Fin 192) :
    (k0_pay31 (F := Ideal) k0_pay27 k0_pay28 k0_pay29 k0_pay30) (ix2 i r) = if r.val = head i.val then 1 else 0 := by
  have e : (k0_pay31 (F := Ideal) k0_pay27 k0_pay28 k0_pay29 k0_pay30) (ix2 i r)
      = Scalar.select (IntOp.cmpi .eq (headW (ix2 i r)) (BitVec.ofNat 32 r.val)) (1 : EReal) 0 := by
    unfold k0_pay31
    pointwise
    rfl
  rw [e, headW_col, headW_dec, cmpi_eq_ofNat _ _ (by unfold head; omega) (by omega)]
  by_cases h : head i.val = r.val
  · rw [if_pos h, if_pos h.symm]; rfl
  · rw [if_neg h, if_neg (fun e => h e.symm)]; rfl

/-- One left-hand factor, with the column words shifted by `w`. -/
theorem pay48_at (q : FVec Ideal S192x384 .bf16) (w : ℕ) (hw : w < 41) (i : Fin 768) (k : Fin 256) (hb : base k.val + w < 384) :
    (k0_pay48 (F := Ideal) q (k0_pay31 (F := Ideal) k0_pay27 k0_pay28 k0_pay29 k0_pay30) (iota .tc S384x256 32 [0] iota_S384x256_d0_w32) baseW keepW (BitVec.ofNat 32 w)) (ix3 0 i k)
      = if k.val / 4 % 4 = i.val / 4 % 4 then q (ix2 ⟨head i.val, by unfold head; omega⟩ ⟨base k.val + w, hb⟩) else 0 := by
  unfold k0_pay48
  pointwise
  have e1 : ∀ x : Fin 192, (∑ x_1 : Fin 384, Scalar.select (IntOp.cmpi CmpIPredicate.eq (BitVec.ofNat 32 x_1.val) (IntOp.addi (baseW (ix2 x_1 k)) (BitVec.ofNat 32 w)))
              (q (ix2 x x_1) : EReal) 0) = q (ix2 x ⟨base k.val + w, hb⟩) := by
    intro x
    rw [Finset.sum_eq_single (⟨base k.val + w, hb⟩ : Fin 384)]
    · rw [baseW_row, baseW_dec]
      rw [show IntOp.addi (BitVec.ofNat 32 (base k.val)) (BitVec.ofNat 32 w) = BitVec.ofNat 32 (base k.val + w) from (BitVec.ofNat_add _ _).symm,
        cmpi_eq_ofNat _ _ (by omega) (by omega), if_pos rfl]
      rfl
    · intro b _ hne
      rw [baseW_row, baseW_dec]
      rw [show IntOp.addi (BitVec.ofNat 32 (base k.val)) (BitVec.ofNat 32 w) = BitVec.ofNat 32 (base k.val + w) from (BitVec.ofNat_add _ _).symm,
        cmpi_eq_ofNat _ _ (by omega) (by omega), if_neg (fun h => hne (Fin.ext h))]
      rfl
    · exact fun h => absurd (Finset.mem_univ _) h
  simp only [e1, pay31_at]
  rw [sum_onehot' (fun x : Fin 192 => (q (ix2 x ⟨base k.val + w, hb⟩) : EReal)) ⟨head i.val, by unfold head; omega⟩ (fun x => x.val = head i.val)
    (fun x => ⟨fun h => Fin.ext h, fun h => congrArg Fin.val h⟩), keepW_at]
  by_cases h : k.val / 4 % 4 = i.val / 4 % 4
  · rw [if_pos h, if_pos h]; rfl
  · rw [if_neg h, if_neg h]; rfl

theorem base_lt (k : Fin 256) : base k.val < 344 := by unfold base; omega

/-- The left-hand factors that the preparation leaves. -/
theorem out0_4_at (x0 : Vec Ideal S192x128 .bf16) (x1 : Vec Ideal S48x128 .bf16) (x2 : Vec Ideal S48x128 .bf16) (x3 : Vec Ideal S128x384 .bf16) (t : Fin 6) (i : Fin 768) (k : Fin 256) :
    (out0_4 (F := Ideal) x0 x1 x2 x3) (ix3 t i k)
      = if k.val / 4 % 4 = i.val / 4 % 4 then ∑ d : Fin 128, x0 (ix2 ⟨head i.val, by unfold head; omega⟩ d) * x3 (ix2 d ⟨base k.val + 8 * t.val, by have := base_lt k; omega⟩) else 0 := by
  have hld3 : View.ld x3 r0_0 = x3 := View.ld_unit_lit _ x3 (by decide)
  have hld0 : View.ld x0 r0_5 = x0 := View.ld_unit_lit _ x0 (by decide)
  have hq : k0_pay56 (F := Ideal) x0 x1 x2 x3 = k0_pay23 (F := Ideal) x3 x0 := by
    unfold k0_pay56; rw [hld3, hld0]
  have hb := base_lt k
  have key : ∀ (w : ℕ) (hw : w < 41), (k0_pay48 (F := Ideal) (k0_pay56 x0 x1 x2 x3) (k0_pay59 x0 x1 x2 x3) (k0_pay58 x0 x1 x2 x3) (k0_pay61 x0 x1 x2 x3) (k0_pay64 x0 x1 x2 x3) (BitVec.ofNat 32 w)) (ix3 0 i k)
      = if k.val / 4 % 4 = i.val / 4 % 4 then ∑ d : Fin 128, x0 (ix2 ⟨head i.val, by unfold head; omega⟩ d) * x3 (ix2 d ⟨base k.val + w, by omega⟩) else 0 := by
    intro w hw
    rw [hq, ← pay23_at]
    exact pay48_at _ w hw i k (by omega)
  unfold out0_4
  refine View.canon_eq_of_allAt _ _ _ (cover0_4 _ _ _ _ _ _ _) ?_
  have piece : ∀ (n : ℕ) (hn : n < 6) (inb) (P : FVec Ideal S1x768x256 .bf16) (hP : P (ix3 0 i k) = if k.val / 4 % 4 = i.val / 4 % 4 then ∑ d : Fin 128, x0 (ix2 ⟨head i.val, by unfold head; omega⟩ d) * x3 (ix2 d ⟨base k.val + 8 * n, by omega⟩) else 0)
      (x : S1x768x256.Idx), ((Rect.unit (s := S6x768x256) ![n, 0, 0] S1x768x256.size inb).emb x : S6x768x256.Idx) = ix3 t i k →
      P x = if k.val / 4 % 4 = i.val / 4 % 4 then ∑ d : Fin 128, x0 (ix2 ⟨head i.val, by unfold head; omega⟩ d) * x3 (ix2 d ⟨base k.val + 8 * t.val, by omega⟩) else 0 := by
    intro n hn inb P hP x hx
    have h0 : n + 1 * (x 0).val = t.val := congrArg Fin.val (congrFun hx 0)
    have h1 : 0 + 1 * (x 1).val = i.val := congrArg Fin.val (congrFun hx 1)
    have h2 : 0 + 1 * (x 2).val = k.val := congrArg Fin.val (congrFun hx 2)
    have hx0 : (x 0).val < 1 := (x 0).isLt
    obtain rfl : n = t.val := by omega
    have ex : x = ix3 0 i k := by
      funext a
      match a with
      | ⟨0, _⟩ => exact Fin.ext (by show (x 0).val = 0; omega)
      | ⟨1, _⟩ => exact Fin.ext (by show (x 1).val = i.val; omega)
      | ⟨2, _⟩ => exact Fin.ext (by show (x 2).val = k.val; omega)
    rw [ex]
    exact hP
  intro p hp
  simp only [List.mem_cons, List.not_mem_nil, or_false] at hp
  rcases hp with rfl | rfl | rfl | rfl | rfl | rfl
  · exact piece 5 (by omega) inb_S6x768x256_S1x768x256_5_0_0 _ (key 40 (by omega))
  · exact piece 4 (by omega) inb_S6x768x256_S1x768x256_4_0_0 _ (key 32 (by omega))
  · exact piece 3 (by omega) inb_S6x768x256_S1x768x256_3_0_0 _ (key 24 (by omega))
  · exact piece 2 (by omega) inb_S6x768x256_S1x768x256_2_0_0 _ (key 16 (by omega))
  · exact piece 1 (by omega) inb_S6x768x256_S1x768x256_1_0_0 _ (key 8 (by omega))
  · exact piece 0 (by omega) inb_S6x768x256_S1x768x256_0_0_0 _ (key 0 (by omega))

/-- The query sums that the preparation leaves. -/
theorem out0_6_at (x0 : Vec Ideal S192x128 .bf16) (x1 : Vec Ideal S48x128 .bf16) (x2 : Vec Ideal S48x128 .bf16) (x3 : Vec Ideal S128x384 .bf16) (r : Fin 192) :
    (out0_6 (F := Ideal) x0 x1 x2 x3) (ix2 r 0) = ∑ s : Fin 384, ∑ d : Fin 128, x0 (ix2 r d) * x3 (ix2 d s) := by
  have hld3 : View.ld x3 r0_0 = x3 := View.ld_unit_lit _ x3 (by decide)
  have hld0 : View.ld x0 r0_5 = x0 := View.ld_unit_lit _ x0 (by decide)
  have hq : k0_pay56 (F := Ideal) x0 x1 x2 x3 = k0_pay23 (F := Ideal) x3 x0 := by
    unfold k0_pay56; rw [hld3, hld0]
  unfold out0_6
  rw [View.canon_cons_unit_lit _ _ _ (by decide), pay26_at, hq]
  exact Finset.sum_congr rfl fun s _ => pay23_at _ _ _ _

end Cert.KernelIdeal.Prep

end
-- ==== Proof.Value.Reindex.lean ====
/- The kernel's sums over byte groups and lanes, put in the order of the sketch. -/
module

public import proofs.«01_k».proof.Proof.Value.Prep
public import proofs.«01_k».proof.Proof.Value.Expand

@[expose] public section

set_option maxRecDepth 16384

noncomputable section

namespace Cert.KernelIdeal.Attend

open Idealize.ShloMosaic Cert.KernelIdeal.Prep

theorem back_t : ∀ (t : Fin 6) (k : Fin 256), (base k.val + 8 * t.val) % 48 / 8 = t.val := by decide +kernel
theorem back_k : ∀ (t : Fin 6) (k : Fin 256),
    ((base k.val + 8 * t.val) / 48 + 8 * ((base k.val + 8 * t.val) % 2)) * 16 + 4 * (k.val / 4 % 4) + (base k.val + 8 * t.val) % 8 / 2 = k.val := by decide +kernel
theorem fore_s : ∀ (c : Fin 4) (s : Fin 384),
    base ((s.val / 48 + 8 * (s.val % 2)) * 16 + 4 * c.val + s.val % 8 / 2) + 8 * (s.val % 48 / 8) = s.val := by decide +kernel
theorem fore_c : ∀ (c : Fin 4) (s : Fin 384), ((s.val / 48 + 8 * (s.val % 2)) * 16 + 4 * c.val + s.val % 8 / 2) / 4 % 4 = c.val := by decide +kernel
theorem at_byte : ∀ (t : Fin 6) (k : Fin 256), t.val * 8 + (2 * (k.val % 4) + k.val / 128) = (base k.val + 8 * t.val) % 48 := by decide +kernel
theorem at_plane : ∀ (t : Fin 6) (k : Fin 256), k.val / 16 % 8 = (base k.val + 8 * t.val) / 48 := by decide +kernel

/-- Over the columns of class `c` of every byte group, each of the 384 sketch entries is met exactly once. -/
theorem sum_reindex (c : Fin 4) (Q : Fin 384 → EReal) (B : Fin 48 → ℕ → Bool) :
    (∑ t : Fin 6, ∑ k : Fin 256, (if k.val / 4 % 4 = c.val then Q ⟨base k.val + 8 * t.val, by have := base_lt k; omega⟩ else 0) * two (B ⟨t.val * 8 + (2 * (k.val % 4) + k.val / 128), by omega⟩ (k.val / 16 % 8)))
      = ∑ s : Fin 384, Q s * two (B ⟨s.val % 48, by omega⟩ (s.val / 48)) := by
  rw [← Finset.sum_product' (f := fun (t : Fin 6) (k : Fin 256) => (if k.val / 4 % 4 = c.val then Q ⟨base k.val + 8 * t.val, by have := base_lt k; omega⟩ else 0) * two (B ⟨t.val * 8 + (2 * (k.val % 4) + k.val / 128), by omega⟩ (k.val / 16 % 8)))]
  have h1 : ∀ p : Fin 6 × Fin 256, (if p.2.val / 4 % 4 = c.val then Q ⟨base p.2.val + 8 * p.1.val, by have := base_lt p.2; omega⟩ else 0) * two (B ⟨p.1.val * 8 + (2 * (p.2.val % 4) + p.2.val / 128), by omega⟩ (p.2.val / 16 % 8))
      = if p.2.val / 4 % 4 = c.val then Q ⟨base p.2.val + 8 * p.1.val, by have := base_lt p.2; omega⟩ * two (B ⟨p.1.val * 8 + (2 * (p.2.val % 4) + p.2.val / 128), by omega⟩ (p.2.val / 16 % 8)) else 0 := by
    intro p; split
    · rfl
    · exact zero_mul _
  rw [Finset.sum_congr rfl fun p _ => h1 p, ← Finset.sum_filter]
  have hc := c.isLt
  refine Finset.sum_bij' (fun p _ => (⟨base p.2.val + 8 * p.1.val, by have := base_lt p.2; omega⟩ : Fin 384))
    (fun s _ => ((⟨s.val % 48 / 8, by omega⟩ : Fin 6), (⟨(s.val / 48 + 8 * (s.val % 2)) * 16 + 4 * c.val + s.val % 8 / 2, by omega⟩ : Fin 256))) ?_ ?_ ?_ ?_ ?_
  · exact fun p _ => Finset.mem_univ _
  · intro s _
    refine Finset.mem_filter.mpr ⟨Finset.mem_product.mpr ⟨Finset.mem_univ _, Finset.mem_univ _⟩, ?_⟩
    exact fore_c c s
  · rintro ⟨t, k⟩ hp
    have hk : k.val / 4 % 4 = c.val := (Finset.mem_filter.mp hp).2
    refine Prod.ext (Fin.ext ?_) (Fin.ext ?_)
    · exact back_t t k
    · have h := back_k t k
      rw [hk] at h
      exact h
  · intro s _
    exact Fin.ext (fore_s c s)
  · rintro ⟨t, k⟩ hp
    have hk : k.val / 4 % 4 = c.val := (Finset.mem_filter.mp hp).2
    have key : ∀ (i j : Fin 48) (p q : ℕ), i = j → p = q → two (B i p) = two (B j q) := by intro i j p q h h'; rw [h, h']
    refine congrArg (Q _ * ·) (key _ _ _ _ (Fin.ext ?_) ?_)
    · exact at_byte t k
    · exact at_plane t k

end Cert.KernelIdeal.Attend

end
-- ==== Proof.Value.KernelScores.lean ====
/- The scores that the whole kernel returns, entry by entry, over the arguments. -/
module

public import proofs.«01_k».proof.Proof.Value.Blocks
public import proofs.«01_k».proof.Proof.Value.Host
public import proofs.«01_k».proof.Proof.Value.PrepArrays
public import proofs.«01_k».proof.Proof.Value.Prep
public import proofs.«01_k».proof.Proof.Value.Reindex

@[expose] public section

set_option maxRecDepth 16384

noncomputable section

namespace Cert.KernelIdeal.Run

open Idealize.ShloMosaic Idealize.ShloMosaic.TcCoe Idealize.SL.Sem Cert.KernelIdeal Cert.KernelIdeal.Gen Cert.KernelIdeal.Prep Cert.KernelIdeal.Attend

variable (m : (ℓ : Loc nD τ sig) → Buf (Elt Ideal) ℓ)

/-- The arguments as arrays. -/
abbrev aX (c : Dev nD) : S6x1x4096.Idx → EReal := m (c, Proc.devRef .tc main_arg0)
abbrev aK (c : Dev nD) : S6x1x8x128.Idx → EReal := m (c, Proc.devRef .tc main_arg1)
abbrev aV (c : Dev nD) : S6x1x8x128.Idx → EReal := m (c, Proc.devRef .tc main_arg2)
abbrev aP (c : Dev nD) : S128x384.Idx → EReal := m (c, Proc.devRef .tc main_arg3)
abbrev aBits (c : Dev nD) : S6x16384x8x48.Idx → BitVec 8 := m (c, Proc.devRef .tc main_arg4)
abbrev aNorm (c : Dev nD) : S6x16384x8.Idx → EReal := m (c, Proc.devRef .tc main_arg5)
abbrev aLen (c : Dev nD) : S6.Idx → BitVec 32 := m (c, Proc.devRef .tc main_arg8)

/-- The projected query: head `h` of sequence `b`, sketch entry `s`. -/
def qp (c : Dev nD) (b : Fin 6) (h : Fin 32) (s : Fin 384) : EReal :=
  ∑ d : Fin 128, aX m c (ix3 b 0 ⟨h.val * 128 + d.val, by omega⟩) * aP m c (ix2 d s)

theorem V1_arg3 (c : Dev nD) : (V1 m c main_arg3 : S128x384.Idx → EReal) = aP m c := W1_of m c main_arg3 (by decide)

theorem V2_v10_0 (c : Dev nD) : V2 m c main_v10_0 = out0_4 (V1 m c main_v7) (V1 m c main_v8) (V1 m c main_v9) (V1 m c main_arg3) :=
  (W2_arr m c 4).trans (arr_4 (V1 m) c)
theorem V2_v10_2 (c : Dev nD) : V2 m c main_v10_2 = out0_6 (V1 m c main_v7) (V1 m c main_v8) (V1 m c main_v9) (V1 m c main_arg3) :=
  (W2_arr m c 6).trans (arr_6 (V1 m) c)
theorem V2_v3 (c : Dev nD) : V2 m c main_v3 = V1 m c main_v3 := W2_of_ne m c main_v3 (by decide)
theorem V2_v5 (c : Dev nD) : V2 m c main_v5 = V1 m c main_v5 := W2_of_ne m c main_v5 (by decide)

theorem v7_row (c : Dev nD) (b : Fin 6) (h : Fin 32) (d : Fin 128) (r : ℕ) (hr : r < 192) (e : r = b.val * 32 + h.val) :
    (V1 m c main_v7 : S192x128.Idx → EReal) (ix2 ⟨r, hr⟩ d) = aX m c (ix3 b 0 ⟨h.val * 128 + d.val, by omega⟩) := by
  subst e
  rw [v7_at]
  have key : ∀ (b' : Fin 6) (n : Fin 4096), b' = b → n = ⟨h.val * 128 + d.val, by omega⟩ → aX m c (ix3 b' 0 n) = aX m c (ix3 b 0 ⟨h.val * 128 + d.val, by omega⟩) := by
    intro b' n h1 h2; rw [h1, h2]
  exact key _ _ (Fin.ext (by show (b.val * 32 + h.val) / 32 = b.val; omega)) (Fin.ext (by show (b.val * 32 + h.val) % 32 * 128 + d.val = h.val * 128 + d.val; omega))

/-- The expanded queries that the second call finds. -/
theorem lhs_at (c : Dev nD) (b : Fin 6) (kv : Fin 8) (g : Fin 4) (cc : Fin 4) (t : Fin 6) (k : Fin 256) :
    (V2 m c main_v10_0 : S6x768x256.Idx → EReal) (ix3 t ⟨b.val * 128 + (kv.val * 16 + (cc.val * 4 + g.val)), by omega⟩ k)
      = if k.val / 4 % 4 = cc.val then qp m c b ⟨kv.val * 4 + g.val, by omega⟩ ⟨base k.val + 8 * t.val, by have := base_lt k; omega⟩ else 0 := by
  rw [V2_v10_0]
  refine (out0_4_at _ _ _ _ _ _ _).trans ?_
  have e : (b.val * 128 + (kv.val * 16 + (cc.val * 4 + g.val))) / 4 % 4 = cc.val := by omega
  show (if k.val / 4 % 4 = (b.val * 128 + (kv.val * 16 + (cc.val * 4 + g.val))) / 4 % 4 then _ else _) = _
  rw [e]
  refine if_congr Iff.rfl (Finset.sum_congr rfl fun d _ => ?_) rfl
  rw [V1_arg3]
  refine congrArg (· * _) ?_
  exact v7_row m c b ⟨kv.val * 4 + g.val, by omega⟩ d _ _ (by show (b.val * 128 + (kv.val * 16 + (cc.val * 4 + g.val))) / 16 * 4 + (b.val * 128 + (kv.val * 16 + (cc.val * 4 + g.val))) % 4 = b.val * 32 + (kv.val * 4 + g.val); omega)

theorem qsum_at (c : Dev nD) (b : Fin 6) (h : Fin 32) :
    (V2 m c main_v10_2 : S192x1.Idx → EReal) (ix2 ⟨b.val * 32 + h.val, by omega⟩ 0) = ∑ s : Fin 384, qp m c b h s := by
  rw [V2_v10_2]
  refine (out0_6_at _ _ _ _ _).trans ?_
  refine Finset.sum_congr rfl fun s _ => Finset.sum_congr rfl fun d _ => ?_
  rw [V1_arg3]
  exact congrArg (· * _) (v7_row m c b h d _ _ rfl)

/-- What the kernel scores a position below the length with. -/
def kscore (c : Dev nD) (b : Fin 6) (kv : Fin 8) (g : Fin 4) (p : Fin 16384) : EReal :=
  (∑ s : Fin 384, qp m c b ⟨kv.val * 4 + g.val, by omega⟩ s * two ((aBits m c (ix4 b p kv ⟨s.val % 48, by omega⟩)).getLsbD (s.val / 48))
    - ∑ s : Fin 384, qp m c b ⟨kv.val * 4 + g.val, by omega⟩ s) * (aNorm m c (ix3 b p kv) * est)

theorem raw_arg (c : Dev nD) (b : Fin 6) (s : Fin 8) (kv : Fin 8) (g : Fin 4) (u h : Fin 2) (cc : Fin 4) (q : Fin 128)
    (t : Fin (cfg1 (tab m)).N) (hb : t.val / 8 = b.val) (hs : t.val % 8 = s.val)
    (hl : (lastW (len (tab m) c t) (BitVec.ofNat 32 s.val)).toNat = s.val) :
    (rawB (F := Ideal) (b0 (V2 m) (tab m) c t) (b1 (V2 m) (tab m) c t)) (ix3 0 ⟨kv.val * 4 + g.val, by omega⟩ ⟨(u.val * 8 + h.val * 4 + cc.val) * 128 + q.val, by omega⟩)
      = ∑ s' : Fin 384, qp m c b ⟨kv.val * 4 + g.val, by omega⟩ s' * two ((aBits m c (ix4 b ⟨s.val * 2048 + ((u.val * 8 + h.val * 4 + cc.val) * 128 + q.val), by omega⟩ kv ⟨s'.val % 48, by omega⟩)).getLsbD (s'.val / 48)) := by
  rw [rawB_at]
  rw [← sum_reindex cc (fun s' => qp m c b ⟨kv.val * 4 + g.val, by omega⟩ s') (fun j p => (aBits m c (ix4 b ⟨s.val * 2048 + ((u.val * 8 + h.val * 4 + cc.val) * 128 + q.val), by omega⟩ kv j)).getLsbD p)]
  refine Finset.sum_congr rfl fun w _ => Finset.sum_congr rfl fun k _ => ?_
  rw [b0_at (V2 m) (tab m) c t b hb, lhs_at m c b kv g cc w k]
  by_cases hk : k.val / 4 % 4 = cc.val
  · rw [if_pos hk]
    refine congrArg (_ * ·) (congrArg two (congrArg (fun z : BitVec 8 => z.getLsbD (k.val / 16 % 8)) ?_))
    rw [b1_at (V2 m) (tab m) c t b s hb hs hl, V2_v3]
    have key : ∀ r : Fin 1024, r.val = (s.val * 16 + (u.val * 2 + h.val) * 4 + cc.val) * 8 + (2 * (k.val % 4) + k.val / 128) →
        (V1 m c main_v3 : S6x8x6x1024x128.Idx → BitVec 8) (ix5 b kv w r q) = aBits m c (ix4 b ⟨s.val * 2048 + ((u.val * 8 + h.val * 4 + cc.val) * 128 + q.val), by omega⟩ kv ⟨w.val * 8 + (2 * (k.val % 4) + k.val / 128), by omega⟩) := by
      intro r hr
      have hr' : r = ⟨(⟨s.val * 16 + (u.val * 2 + h.val) * 4 + cc.val, by omega⟩ : Fin 128).val * 8 + (⟨(2 * (k.val % 4) + k.val / 128), by omega⟩ : Fin 8).val, by show (s.val * 16 + (u.val * 2 + h.val) * 4 + cc.val) * 8 + (2 * (k.val % 4) + k.val / 128) < 1024; omega⟩ := Fin.ext hr
      rw [hr', v3_at]
      have key2 : ∀ p p' : Fin 16384, p = p' → aBits m c (ix4 b p kv ⟨w.val * 8 + (2 * (k.val % 4) + k.val / 128), by omega⟩) = aBits m c (ix4 b p' kv ⟨w.val * 8 + (2 * (k.val % 4) + k.val / 128), by omega⟩) := by
        intro p p' h; rw [h]
      exact key2 _ _ (Fin.ext (by show (s.val * 16 + (u.val * 2 + h.val) * 4 + cc.val) * 128 + q.val = s.val * 2048 + ((u.val * 8 + h.val * 4 + cc.val) * 128 + q.val); omega))
    exact key _ (by show s.val * 128 + ((u.val * 2 + h.val) * 32 + (2 * (k.val % 16) + k.val / 16 / 8)) = _; omega)
  · rw [if_neg hk, zero_mul, zero_mul]

/-- The kernel's scores. -/
theorem kernel_scores (c : Dev nD) (b : Fin 6) (kv : Fin 8) (g : Fin 4) (p : Fin 16384) :
    (W4 m c (Proc.devRef .tc main_v13) : S6x1x32x16384.Idx → EReal) (ix4 b 0 ⟨kv.val * 4 + g.val, by omega⟩ p)
      = if (p.val : ℤ) < (aLen m c (Idealize.ShloMosaic.ix1 b)).toInt then kscore m c b kv g p else 0 := by
  rw [v13_at, show (W3 m c (Proc.devRef .tc main_v11_1) : S6x32x16384.Idx → EReal) = _ from (W3_arr m c 10).trans (arr_scores (V2 m) (tab m) c)]
  obtain rfl := dev_eq c
  have hp := p.isLt
  have hb := b.isLt
  have hpf : b.val * 8 + p.val / 2048 < 48 := by omega
  obtain ⟨t, ht⟩ : ∃ t, t = pt (tab m) b.val (p.val / 2048) hpf := ⟨_, rfl⟩
  show csAt (V2 m) (tab m) dev0 (pt (tab m) b.val (p.val / 2048) hpf) (ix3 0 ⟨kv.val * 4 + g.val, by omega⟩ ⟨p.val % 2048, by omega⟩) = _
  rw [← ht]
  have htv : t.val = b.val * 8 + p.val / 2048 := by rw [ht]; rfl
  have hb8 : t.val / 8 = b.val := by omega
  have hs8 : t.val % 8 = p.val / 2048 := by omega
  have hlen : len (tab m) dev0 t = aLen m dev0 (Idealize.ShloMosaic.ix1 b) := len_eq (tab m) dev0 t b hb8
  have hco : (grid1.coords t 1).val = p.val / 2048 := by rw [co_1]; omega
  unfold csAt
  rw [csOut_at, hco, hlen]
  have hcond : ((p.val / 2048 : ℕ) : ℤ) * 2048 + ((p.val % 2048 : ℕ) : ℤ) = (p.val : ℤ) := by omega
  show (if ((p.val / 2048 : ℕ) : ℤ) * 2048 + ((p.val % 2048 : ℕ) : ℤ) < _ then _ else _) = _
  rw [hcond]
  by_cases hlt : (p.val : ℤ) < (aLen m dev0 (Idealize.ShloMosaic.ix1 b)).toInt
  · rw [if_pos hlt, if_pos hlt]
    have hl : (lastW (len (tab m) dev0 t) (BitVec.ofNat 32 (p.val / 2048))).toNat = p.val / 2048 :=
      lastW_own _ _ (p.val % 2048) (by omega) (by rw [hlen, hcond]; exact hlt)
    unfold kscore
    have h2 := b2_at (V2 m) (tab m) dev0 t b ⟨p.val / 2048, by omega⟩ hb8 hs8 hl kv ⟨p.val % 2048, by omega⟩
    have h6 := b6_at (V2 m) (tab m) dev0 t b hb8 ⟨kv.val * 4 + g.val, by omega⟩
    have hr := raw_arg m dev0 b ⟨p.val / 2048, by omega⟩ kv g ⟨p.val % 2048 / 1024, by omega⟩ ⟨p.val % 2048 / 512 % 2, by omega⟩ ⟨p.val % 2048 / 128 % 4, by omega⟩ ⟨p.val % 128, by omega⟩ t hb8 hs8 hl
    have e1 : (⟨p.val / 2048 * 2048 + p.val % 2048, by omega⟩ : Fin 16384) = p := Fin.ext (by show p.val / 2048 * 2048 + p.val % 2048 = p.val; omega)
    have e2 : (p.val % 2048 / 1024 * 8 + p.val % 2048 / 512 % 2 * 4 + p.val % 2048 / 128 % 4) * 128 + p.val % 128 = p.val % 2048 := by omega
    simp only [e2, e1] at h2 hr
    rw [hr, h2, h6, V2_v5, v5_at, qsum_at m dev0 b ⟨kv.val * 4 + g.val, by omega⟩]
  · rw [if_neg hlt, if_neg hlt]

end Cert.KernelIdeal.Run

end
-- ==== Proof.Value.Append.lean ====
/- What the preparation call computes of the new key and value rows: the norm, the scale and the codes, read at an index. -/
module

public import proofs.«01_k».proof.Proof.Value.Prep

@[expose] public section

set_option maxRecDepth 65536

noncomputable section

namespace Cert.Value

open Idealize.ShloMosaic

/-- The largest magnitude of a row of 128 numbers. -/
def rowMax (f : Fin 128 → EReal) : EReal :=
  (Finset.univ : Finset (Fin 128)).fold max (Ideal.ofBits .f32 0xFF800000#32) fun d => FloatOps.absf (F := Ideal) (φ := .f32) (f d)

/-- The scale of a row: the largest magnitude over seven, or one for a row of zeros. -/
def rowScale (f : Fin 128 → EReal) : EReal := if rowMax f = 0 then 1 else Ideal.div (rowMax f) (Ideal.ofBits .f32 0x40E00000#32)

/-- The code of a number at a scale: the nearest integer, clipped to seven. -/
def codeOf (v s : EReal) : BitVec 32 :=
  FloatOps.fptosi (F := Ideal) (φ := .f32) 32 (min (Ideal.ofBits .f32 0x40E00000#32) (max (Ideal.ofBits .f32 0xC0E00000#32) (FloatOps.roundeven (F := Ideal) (φ := .f32) (Ideal.div v s))))

/-- Two codes in one byte: the low four bits and the high four. -/
def packOf (lo hi : BitVec 32) : BitVec 32 := IntOp.ori (IntOp.andi lo 15#32) (IntOp.shli .vector (IntOp.andi hi 15#32) 4#32)

end Cert.Value

namespace Cert.KernelIdeal.Prep

open Idealize.ShloMosaic Idealize.SL.Sem Cert.KernelIdeal Cert.KernelIdeal.Gen Cert.Value

variable (v : FVec Ideal S48x128 .bf16)

theorem pay10_at (r : Fin 48) : (k0_pay10 (F := Ideal) v : S48x1.Idx → EReal) (ix2 r 0) = Ideal.sqrt (∑ d : Fin 128, (v : S48x128.Idx → EReal) (ix2 r d) * (v : S48x128.Idx → EReal) (ix2 r d)) := by
  unfold k0_pay10
  dsimp only
  pointwise

theorem pay12_at (r : Fin 48) : (k0_pay12 (F := Ideal) v : S48x1.Idx → EReal) (ix2 r 0) = rowScale fun d => (v : S48x128.Idx → EReal) (ix2 r d) := by
  unfold k0_pay12 k0_pay11
  dsimp only
  pointwise
  rfl

theorem pay14_at (w s : FVec Ideal S48x128 .f32) (r : Fin 48) (j : Fin 64) : k0_pay14 (F := Ideal) w s (ix2 r j)
    = packOf (codeOf (w (ix2 r ⟨j.val, by omega⟩)) (s (ix2 r ⟨j.val, by omega⟩))) (codeOf (w (ix2 r ⟨64 + j.val, by omega⟩)) (s (ix2 r ⟨64 + j.val, by omega⟩))) := by
  unfold k0_pay14
  pointwise
  rfl

/-- The norms that the preparation leaves. -/
theorem out0_10_at (x0 : Vec Ideal S192x128 .bf16) (x1 : Vec Ideal S48x128 .bf16) (x2 : Vec Ideal S48x128 .bf16) (x3 : Vec Ideal S128x384 .bf16) (r : Fin 48) :
    (out0_10 (F := Ideal) x0 x1 x2 x3) (ix2 r 0) = Ideal.sqrt (∑ d : Fin 128, (x1 : S48x128.Idx → EReal) (ix2 r d) * (x1 : S48x128.Idx → EReal) (ix2 r d)) := by
  have hld : View.ld x1 r0_1 = x1 := View.ld_unit_lit _ x1 (by decide)
  have hq : k0_pay50 (F := Ideal) x0 x1 x2 x3 = x1 := by
    unfold k0_pay50 k0_pay2; rw [hld]; exact funext fun i => by pointwise
  unfold out0_10
  rw [View.canon_cons_unit_lit _ _ _ (by decide), pay10_at, hq]

theorem pay51_eq (x0 : Vec Ideal S192x128 .bf16) (x1 : Vec Ideal S48x128 .bf16) (x2 : Vec Ideal S48x128 .bf16) (x3 : Vec Ideal S128x384 .bf16) : k0_pay51 (F := Ideal) x0 x1 x2 x3 = x2 := by
  have hld : View.ld x2 r0_1 = x2 := View.ld_unit_lit _ x2 (by decide)
  unfold k0_pay51 k0_pay3; rw [hld]; exact funext fun i => by pointwise

/-- The scales that the preparation leaves. -/
theorem out0_12_at (x0 : Vec Ideal S192x128 .bf16) (x1 : Vec Ideal S48x128 .bf16) (x2 : Vec Ideal S48x128 .bf16) (x3 : Vec Ideal S128x384 .bf16) (r : Fin 48) :
    (out0_12 (F := Ideal) x0 x1 x2 x3) (ix2 r 0) = rowScale fun d => (x2 : S48x128.Idx → EReal) (ix2 r d) := by
  unfold out0_12
  rw [View.canon_cons_unit_lit _ _ _ (by decide), pay12_at, pay51_eq]

/-- The codes that the preparation leaves. -/
theorem out0_11_at (x0 : Vec Ideal S192x128 .bf16) (x1 : Vec Ideal S48x128 .bf16) (x2 : Vec Ideal S48x128 .bf16) (x3 : Vec Ideal S128x384 .bf16) (r : Fin 48) (j : Fin 64) :
    (out0_11 (F := Ideal) x0 x1 x2 x3) (ix2 r j) = packOf (codeOf ((x2 : S48x128.Idx → EReal) (ix2 r ⟨j.val, by omega⟩)) (rowScale fun d => (x2 : S48x128.Idx → EReal) (ix2 r d)))
      (codeOf ((x2 : S48x128.Idx → EReal) (ix2 r ⟨64 + j.val, by omega⟩)) (rowScale fun d => (x2 : S48x128.Idx → EReal) (ix2 r d))) := by
  have h13 : ∀ d : Fin 128, k0_pay13 (F := Ideal) x2 (ix2 r d) = rowScale fun d => (x2 : S48x128.Idx → EReal) (ix2 r d) := by
    intro d; refine Eq.trans ?_ (pay12_at x2 r); unfold k0_pay13; pointwise
  have h11 : ∀ d : Fin 128, k0_pay11 (F := Ideal) x2 (ix2 r d) = (x2 : S48x128.Idx → EReal) (ix2 r d) := by
    intro d; unfold k0_pay11; pointwise
  unfold out0_11
  rw [View.canon_cons_unit_lit _ _ _ (by decide), pay14_at, pay51_eq, h13, h13, h11, h11]

end Cert.KernelIdeal.Prep
end
-- ==== Proof.Value.RefScores.lean ====
/- What the reference computes, entry by entry. -/
module

public import proofs.«01_k».proof.Proof.Gen.ReferenceIdeal.Run
public import Idealize.ShloMosaic.Lib.Pointwise
public import Idealize.ShloMosaic.Lib.IdealHost
public import Idealize.ShloMosaic.Lib.Tactic.CleanTypes

@[expose] public section

set_option maxRecDepth 16384

noncomputable section

namespace Cert.ReferenceIdeal.Value

open Idealize.ShloMosaic Idealize.ShloMosaic.TcCoe Idealize.SL.Sem Cert.ReferenceIdeal Cert.ReferenceIdeal.Gen Idealize.ShloMosaic.StableHlo

variable (V0 : Valuation τ sig (Elt Ideal))

abbrev rX : S6x1x4096.Idx → EReal := V0 (Proc.devRef .tc main_arg0)
abbrev rP : S128x384.Idx → EReal := V0 (Proc.devRef .tc main_arg3)
abbrev rBits : S6x16384x8x48.Idx → BitVec 8 := V0 (Proc.devRef .tc main_arg4)
abbrev rNorm : S6x16384x8.Idx → EReal := V0 (Proc.devRef .tc main_arg5)
abbrev rLen : S6.Idx → BitVec 32 := V0 (Proc.devRef .tc main_arg8)

theorem v45_at (b : Fin 6) (kv : Fin 8) (g : Fin 4) (pl : Fin 8) (j : Fin 48) :
    (res_main_v45 V0 : S6x1x8x4x8x48.Idx → EReal) (ix6 b 0 kv g pl j)
      = ∑ d : Fin 128, rX V0 (ix3 b 0 ⟨(kv.val * 4 + g.val) * 128 + d.val, by omega⟩) * rP V0 (ix2 d ⟨pl.val * 48 + j.val, by omega⟩) := by
  unfold res_main_v45
  clean_types
  pointwise

theorem v104_at (b : Fin 6) (p : Fin 16384) :
    (res_main_v104 V0 : S6x1x1x1x16384.Idx → BitVec 1) (ix5 b 0 0 0 p) = IntOp.cmpi .slt (BitVec.ofNat 32 p.val) (rLen V0 (ix1 b)) := by
  unfold res_main_v104
  clean_types
  pointwise

/-- The sum over the planes, read at an index. -/
theorem red_at (X : S6x1x8x4x8x16384.Idx → EReal) (b : Fin 6) (kv : Fin 8) (g : Fin 4) (p : Fin 16384) :
    Ideal.hostReduceAdd reducesTo_S6x1x8x4x8x16384_S6x1x8x4x16384_d4 X 0 (ix5 b 0 kv g p) = ∑ pl : Fin 8, X (ix6 b 0 kv g pl p) := by
  have hr : S6x1x8x4x8x16384.Reduces [4] S6x1x8x4x16384 := by decide
  rw [Ideal.hostReduceAdd_single _ hr, zero_add]
  refine Finset.sum_congr rfl fun pl _ => congrArg X (funext fun d => Fin.ext ?_)
  match d with
  | ⟨0, _⟩ => rfl
  | ⟨1, _⟩ => rfl
  | ⟨2, _⟩ => rfl
  | ⟨3, _⟩ => rfl
  | ⟨4, _⟩ => rfl
  | ⟨5, _⟩ => rfl

/-- A bit as the sketch reads it: one or minus one. -/
def sgn (b : Bool) : EReal := if b then 1 else -1

theorem sgn_word : ∀ (n : Fin 256) (x : Fin 8),
    IntOp.subi (IntOp.muli (2#32) (IntOp.andi (IntOp.shrsi ArithUnit.host (BitVec.setWidth 32 (BitVec.ofFin (w := 8) n)) (BitVec.ofNat 32 x.val)) 1#32)) 1#32
      = if (BitVec.ofFin (w := 8) n).getLsbD x.val then 1#32 else -1#32 := by decide +kernel

theorem sgn_at (w : BitVec 8) (x : Fin 8) :
    (FloatOps.sitofp (F := Ideal) FTy.f32 (IntOp.subi (IntOp.muli (2#32) (IntOp.andi (IntOp.shrsi ArithUnit.host (BitVec.setWidth 32 w) (BitVec.ofNat 32 x.val)) 1#32)) 1#32) : EReal)
      = sgn (w.getLsbD x.val) := by
  have h := sgn_word w.toFin x
  rw [show BitVec.ofFin (w := 8) w.toFin = w from rfl] at h
  rw [h]
  unfold sgn
  by_cases hb : w.getLsbD x.val = true
  · rw [if_pos hb, if_pos hb]
    show (((1#32 : BitVec 32).toInt : ℝ) : EReal) = 1
    rw [show (1#32 : BitVec 32).toInt = 1 from by decide]
    norm_num
  · rw [if_neg hb, if_neg hb]
    show (((-1#32 : BitVec 32).toInt : ℝ) : EReal) = -1
    rw [show (-1#32 : BitVec 32).toInt = -1 from by decide]
    norm_num

/-- The reference's unmasked score. -/
theorem v71_at (b : Fin 6) (kv : Fin 8) (g : Fin 4) (p : Fin 16384) :
    (res_main_v71 V0 : S6x1x8x4x16384.Idx → EReal) (ix5 b 0 kv g p)
      = (∑ pl : Fin 8, ∑ j : Fin 48, sgn ((rBits V0 (ix4 b p kv j)).getLsbD pl.val)
          * ∑ d : Fin 128, rX V0 (ix3 b 0 ⟨(kv.val * 4 + g.val) * 128 + d.val, by omega⟩) * rP V0 (ix2 d ⟨pl.val * 48 + j.val, by omega⟩))
        * (rNorm V0 (ix3 b p kv) * Ideal.ofBits .f32 0x39973FD8#32) := by
  unfold res_main_v71
  clean_types
  pointwise
  rw [red_at]
  pointwise
  refine congrArg (· * _) (Finset.sum_congr rfl fun pl _ => Finset.sum_congr rfl fun j _ => ?_)
  rw [v45_at, sgn_at]

/-- The reference's scores. -/
theorem v193_at (b : Fin 6) (kv : Fin 8) (g : Fin 4) (p : Fin 16384) :
    (shapeCast S6x1x32x16384 (select (broadcastInDim S6x1x8x4x16384 ![0, 1, 2, 3, 4] bcast_S6x1x1x1x16384_S6x1x8x4x16384_0_1_2_3_4 (res_main_v104 V0)) (res_main_v71 V0) (broadcastInDim S6x1x8x4x16384 ![] bcast_S_S6x1x8x4x16384 (id (constant (F := Ideal) S_ .f32 0x00000000#32)))) shapeCasts_S6x1x8x4x16384_S6x1x32x16384 : S6x1x32x16384.Idx → EReal)
        (ix4 b 0 ⟨kv.val * 4 + g.val, by omega⟩ p)
      = if (p.val : ℤ) < (rLen V0 (ix1 b)).toInt then (res_main_v71 V0 : S6x1x8x4x16384.Idx → EReal) (ix5 b 0 kv g p) else (0 : EReal) := by
  pointwise
  rw [v104_at]
  have hp : (BitVec.ofNat 32 p.val).toInt = p.val := by
    have hn : (BitVec.ofNat 32 p.val).toNat = p.val := by rw [BitVec.toNat_ofNat]; omega
    rw [BitVec.toInt_eq_toNat_of_lt (by rw [hn]; omega), hn]
  have h0 : (constant (F := Ideal) S_ .f32 0#32 ix0 : EReal) = 0 := by pointwise
  have e : ((BitVec.ofNat 32 p.val).slt (rLen V0 (ix1 b)) = true) ↔ ((p.val : ℤ) < (rLen V0 (ix1 b)).toInt) := by
    rw [BitVec.slt_iff_toInt_lt, hp]
  refine Eq.trans (b := if (BitVec.ofNat 32 p.val).slt (rLen V0 (ix1 b)) = true then (res_main_v71 V0 : S6x1x8x4x16384.Idx → EReal) (ix5 b 0 kv g p) else (0 : EReal)) ?_ ?_
  · show (if BitVec.ofBool ((BitVec.ofNat 32 p.val).slt (rLen V0 (ix1 b))) = 1#1 then _ else (constant (F := Ideal) S_ .f32 0#32 ix0 : EReal)) = _
    rw [h0]
    cases (BitVec.ofNat 32 p.val).slt (rLen V0 (ix1 b)) <;> rfl
  · exact if_congr e rfl rfl

end Cert.ReferenceIdeal.Value

end
-- ==== Proof.Value.Equation.lean ====
/- Twice the set bits' queries less all the queries is the sum of the signed queries, where the queries are finite. -/
module

public import proofs.«01_k».proof.Proof.Value.RefScores
public import proofs.«01_k».proof.Proof.Value.Expand

@[expose] public section

set_option maxRecDepth 16384

noncomputable section

namespace Cert.Value

open Idealize.ShloMosaic Cert.KernelIdeal.Attend Cert.ReferenceIdeal.Value

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of products of finite numbers is finite. -/
theorem sum_mul_finite {ι : Type} (s : Finset ι) (x y : ι → EReal) (hx : ∀ i, ∃ r : ℝ, x i = r) (hy : ∀ i, ∃ r : ℝ, y i = r) :
    ∃ r : ℝ, (∑ i ∈ s, x i * y i) = r := by
  choose f hf using hx
  choose g hg using hy
  refine ⟨∑ i ∈ s, f i * g i, ?_⟩
  rw [← coe_sum]
  exact Finset.sum_congr rfl fun i _ => by rw [hf, hg, EReal.coe_mul]

/-- The estimator's two forms agree on finite queries. -/
theorem sums_eq (Q : Fin 384 → EReal) (hQ : ∀ s, ∃ r : ℝ, Q s = r) (B : Fin 48 → ℕ → Bool) :
    (∑ s : Fin 384, Q s * two (B ⟨s.val % 48, by omega⟩ (s.val / 48))) - ∑ s : Fin 384, Q s
      = ∑ pl : Fin 8, ∑ j : Fin 48, sgn (B j pl.val) * Q ⟨pl.val * 48 + j.val, by omega⟩ := by
  choose q hq using hQ
  have h1 : ∀ s : Fin 384, Q s * two (B ⟨s.val % 48, by omega⟩ (s.val / 48)) = ((q s * (if B ⟨s.val % 48, by omega⟩ (s.val / 48) then 2 else 0) : ℝ) : EReal) := by
    intro s
    rw [hq]
    unfold two
    split
    · rw [EReal.coe_mul]; rfl
    · simp
  have h2 : ∀ (pl : Fin 8) (j : Fin 48), sgn (B j pl.val) * Q ⟨pl.val * 48 + j.val, by omega⟩ = (((if B j pl.val then 1 else -1) * q ⟨pl.val * 48 + j.val, by omega⟩ : ℝ) : EReal) := by
    intro pl j
    rw [hq]
    unfold sgn
    split <;> simp
  rw [Finset.sum_congr rfl fun s _ => h1 s, Finset.sum_congr rfl fun s _ => hq s, coe_sum, coe_sum]
  rw [Finset.sum_congr rfl fun pl _ => Finset.sum_congr rfl fun j _ => h2 pl j]
  rw [Finset.sum_congr rfl fun pl _ => coe_sum _ _, coe_sum, ← EReal.coe_sub]
  refine congrArg (fun r : ℝ => (r : EReal)) ?_
  rw [← Finset.sum_sub_distrib]
  rw [← Finset.sum_product' (f := fun (pl : Fin 8) (j : Fin 48) => ((if B j pl.val then 1 else -1) * q ⟨pl.val * 48 + j.val, by omega⟩ : ℝ))]
  refine Finset.sum_bij' (fun s _ => ((⟨s.val / 48, by omega⟩ : Fin 8), (⟨s.val % 48, by omega⟩ : Fin 48))) (fun p _ => (⟨p.1.val * 48 + p.2.val, by omega⟩ : Fin 384)) ?_ ?_ ?_ ?_ ?_
  · exact fun s _ => Finset.mem_product.mpr ⟨Finset.mem_univ _, Finset.mem_univ _⟩
  · exact fun p _ => Finset.mem_univ _
  · exact fun s _ => Fin.ext (by show s.val / 48 * 48 + s.val % 48 = s.val; omega)
  · rintro ⟨a, b⟩ _
    exact Prod.ext (Fin.ext (by show (a.val * 48 + b.val) / 48 = a.val; omega)) (Fin.ext (by show (a.val * 48 + b.val) % 48 = b.val; omega))
  · intro s _
    have e : (⟨s.val / 48 * 48 + s.val % 48, by omega⟩ : Fin 384) = s := Fin.ext (by show s.val / 48 * 48 + s.val % 48 = s.val; omega)
    show q s * _ - q s = _ * q ⟨s.val / 48 * 48 + s.val % 48, _⟩
    rw [e]
    split <;> ring

end Cert.Value

end
-- ==== Proof.Value.Bits.lean ====
/- The bits of the new key rows that the preparation call packs: byte `j` holds, for each of the eight planes, the sign of one
   sketch entry. -/
module

public import proofs.«01_k».proof.Proof.Value.Append
public import proofs.«01_k».proof.Proof.Value.Equation

@[expose] public section

set_option maxRecDepth 65536

noncomputable section

namespace Cert.Value

open Idealize.ShloMosaic

/-- Eight bits as a number: plane `pl` counts `2 ^ pl`. -/
def packNat (B : Fin 8 → Bool) : ℕ := ∑ pl : Fin 8, if B pl then 2 ^ pl.val else 0

theorem packNat_lt (B : Fin 8 → Bool) : packNat B < 256 := by
  revert B
  unfold packNat
  decide +kernel

/-- A small natural number converts to its own word. -/
theorem fptosi_nat (n : ℕ) (h : n < 256) : Ideal.fptosi 32 ((n : ℝ) : EReal) = BitVec.ofNat 32 n := by
  have h1 : Ideal.toIntClamped (-(2 ^ (32 - 1) : Nat)) ((2 ^ (32 - 1) : Nat) - 1) ((n : ℝ) : EReal) = (n : ℤ) := by
    show max _ (min _ (if (0 : ℝ) ≤ (n : ℝ) then ⌊(n : ℝ)⌋ else ⌈(n : ℝ)⌉)) = (n : ℤ)
    rw [if_pos (Nat.cast_nonneg n), Int.floor_natCast]
    omega
  unfold Ideal.fptosi
  rw [h1, BitVec.ofInt_natCast]

end Cert.Value

namespace Cert.KernelIdeal.Prep

open Idealize.ShloMosaic Idealize.SL.Sem Cert.KernelIdeal Cert.KernelIdeal.Gen Cert.Value

/-- The kernel's words for the byte that a sketch entry belongs to. -/
def byteW : IVec S384x128 32 :=
  have v8 : IVec S384x128 32 := iota .tc S384x128 32 [0] iota_S384x128_d0_w32
  let v10 : BitVec 1 := Scalar.cmpi .eq 48#32 0#32
  let v11 : BitVec 32 := Scalar.select v10 1#32 48#32
  have v12 : IVec S384x128 32 := broadcast S384x128 v11
  have v13 : IVec S384x128 32 := remsi v8 v12
  have v14 : IVec S384x128 32 := broadcast S384x128 0#32
  have v15 : IVec S384x128 1 := cmpi .ne v13 v14
  have v16 : IVec S384x128 32 := broadcast S384x128 0#32
  have v17 : IVec S384x128 1 := cmpi .slt v13 v16
  let v18 : BitVec 1 := Scalar.cmpi .slt v11 0#32
  have v19 : IVec S384x128 1 := broadcast S384x128 v18
  have v20 : IVec S384x128 1 := broadcastTo S384x128 v19 broadcasts_S384x128_S384x128
  have v21 : IVec S384x128 1 := xori v17 v20
  have v22 : IVec S384x128 1 := andi v21 v15
  have v23 : IVec S384x128 32 := broadcast S384x128 v11
  have v24 : IVec S384x128 32 := addi v13 v23
  select v22 v24 v13

theorem byteW_row (k : Fin 384) (n : Fin 128) : byteW (ix2 k n) = byteW (ix2 k 0) := rfl

theorem byteW_dec : ∀ k : Fin 384, byteW (ix2 k 0) = BitVec.ofNat 32 (k.val % 48) := by decide +kernel

/-- The kernel's words for the weight of a sketch entry's bit. -/
def weightW : IVec S384x128 32 :=
  let v40 : BitVec 32 := Scalar.extui (Scalar.cmpi .slt 48#32 0#32)
  let v41 : BitVec 32 := Scalar.subi (Scalar.extui (Scalar.cmpi .sgt 48#32 0#32)) v40
  have v42 : IVec S384x128 32 := broadcast S384x128 v41
  have v43 : IVec S384x128 1 := cmpi .ne k0_pay8 v42
  have v44 : IVec S384x128 32 := broadcast S384x128 48#32
  have v45 : IVec S384x128 32 := remsi (iota .tc S384x128 32 [0] iota_S384x128_d0_w32) v44
  have v46 : IVec S384x128 32 := broadcast S384x128 0#32
  have v47 : IVec S384x128 1 := cmpi .ne v45 v46
  have v48 : IVec S384x128 1 := andi v43 v47
  have v49 : IVec S384x128 32 := broadcast S384x128 1#32
  have v50 : IVec S384x128 32 := subi k0_pay7 v49
  have v51 : IVec S384x128 32 := select v48 v50 k0_pay7
  shli k0_pay6 v51

theorem weightW_row (k : Fin 384) (n : Fin 128) : weightW (ix2 k n) = weightW (ix2 k 0) := rfl

theorem weightW_dec : ∀ k : Fin 384, weightW (ix2 k 0) = BitVec.ofNat 32 (2 ^ (k.val / 48)) := by decide +kernel

theorem pay5_at (k : Fin 384) (n : Fin 128) : k0_pay5 (ix2 k n) = if k.val % 48 = n.val then 1#1 else 0#1 := by
  have e : k0_pay5 (ix2 k n) = IntOp.cmpi .eq (byteW (ix2 k n)) (BitVec.ofNat 32 n.val) := by
    unfold k0_pay5 byteW
    pointwise
  rw [e, byteW_row, byteW_dec, cmpi_eq_ofNat _ _ (by omega) (by omega)]

/-- The packing product's right operand. -/
def placeW : IVec S384x128 32 := select k0_pay5 weightW (broadcast S384x128 0#32)

theorem placeW_at (k : Fin 384) (n : Fin 128) : placeW (ix2 k n) = if k.val % 48 = n.val then BitVec.ofNat 32 (2 ^ (k.val / 48)) else 0#32 := by
  show Scalar.select (k0_pay5 (ix2 k n)) (weightW (ix2 k n)) 0#32 = _
  rw [pay5_at, weightW_row, weightW_dec]
  by_cases h : k.val % 48 = n.val
  · rw [if_pos h, if_pos h]; rfl
  · rw [if_neg h, if_neg h]; rfl

theorem placeW_toInt (k : Fin 384) (n : Fin 128) : (placeW (ix2 k n)).toInt = if k.val % 48 = n.val then (2 ^ (k.val / 48) : ℤ) else 0 := by
  rw [placeW_at]
  by_cases h : k.val % 48 = n.val
  · rw [if_pos h, if_pos h]
    have : ∀ k : Fin 384, (BitVec.ofNat 32 (2 ^ (k.val / 48))).toInt = 2 ^ (k.val / 48) := by decide +kernel
    exact this k
  · rw [if_neg h, if_neg h]; rfl

/-- One term of the packing product. -/
theorem select_coe (w : BitVec 1) (k : Fin 384) (j : Fin 48) :
    Scalar.select w ((((placeW (ix2 k ⟨j.val, by omega⟩)).toInt : ℝ)) : EReal) 0 = (((if w == 1#1 then (if k.val % 48 = j.val then (2 : ℝ) ^ (k.val / 48) else 0) else 0 : ℝ)) : EReal) := by
  rw [placeW_toInt]
  have hw : w = 0#1 ∨ w = 1#1 := by revert w; decide
  rcases hw with rfl | rfl
  · show (0 : EReal) = ((0 : ℝ) : EReal)
    rfl
  · show ((((if k.val % 48 = j.val then (2 ^ (k.val / 48) : ℤ) else 0 : ℤ) : ℝ)) : EReal) = (((if k.val % 48 = j.val then (2 : ℝ) ^ (k.val / 48) else 0 : ℝ)) : EReal)
    split <;> simp

/-- The packing product's sum is the byte. -/
theorem sum_place (w : Fin 384 → BitVec 1) (j : Fin 48) :
    (∑ k : Fin 384, (if w k == 1#1 then (if k.val % 48 = j.val then (2 : ℝ) ^ (k.val / 48) else 0) else 0))
      = ((packNat fun pl => w ⟨pl.val * 48 + j.val, by omega⟩ == 1#1 : ℕ) : ℝ) := by
  unfold packNat
  rw [Nat.cast_sum]
  trans ∑ pl : Fin 8, ∑ i : Fin 48, if i = j then (if w ⟨pl.val * 48 + i.val, by omega⟩ == 1#1 then (2 : ℝ) ^ pl.val else 0) else 0
  · rw [← Finset.sum_product' (f := fun (pl : Fin 8) (i : Fin 48) => if i = j then (if w ⟨pl.val * 48 + i.val, by omega⟩ == 1#1 then (2 : ℝ) ^ pl.val else 0) else 0)]
    refine Finset.sum_bij' (fun s _ => ((⟨s.val / 48, by omega⟩ : Fin 8), (⟨s.val % 48, by omega⟩ : Fin 48))) (fun p _ => (⟨p.1.val * 48 + p.2.val, by omega⟩ : Fin 384)) ?_ ?_ ?_ ?_ ?_
    · exact fun s _ => Finset.mem_product.mpr ⟨Finset.mem_univ _, Finset.mem_univ _⟩
    · exact fun p _ => Finset.mem_univ _
    · exact fun s _ => Fin.ext (by show s.val / 48 * 48 + s.val % 48 = s.val; omega)
    · rintro ⟨a, b⟩ _
      exact Prod.ext (Fin.ext (by show (a.val * 48 + b.val) / 48 = a.val; omega)) (Fin.ext (by show (a.val * 48 + b.val) % 48 = b.val; omega))
    · intro s _
      have e : (⟨s.val / 48 * 48 + s.val % 48, by omega⟩ : Fin 384) = s := Fin.ext (by show s.val / 48 * 48 + s.val % 48 = s.val; omega)
      show _ = if (⟨s.val % 48, _⟩ : Fin 48) = j then (if w ⟨s.val / 48 * 48 + s.val % 48, _⟩ == 1#1 then (2 : ℝ) ^ (s.val / 48) else 0) else 0
      rw [e]
      by_cases h : s.val % 48 = j.val
      · rw [if_pos h, if_pos (Fin.ext h)]
      · rw [if_neg h, if_neg (fun e => h (congrArg Fin.val e)), ite_self]
  · refine Finset.sum_congr rfl fun pl _ => ?_
    rw [Finset.sum_ite_eq' Finset.univ j, if_pos (Finset.mem_univ _)]
    split <;> simp

/-- The packed bytes, from the signs. -/
theorem pay9_at (v : IVec S48x384 1) (r : Fin 48) (j : Fin 48) :
    k0_pay9 (F := Ideal) v (iota .tc S384x128 32 [0] iota_S384x128_d0_w32) k0_pay5 k0_pay6 48#32 k0_pay7 k0_pay8 (Scalar.extui (Scalar.cmpi .sgt 48#32 0#32)) (Scalar.cmpi .slt 48#32 0#32) (ix2 r j)
      = BitVec.ofNat 32 (packNat fun pl => v (ix2 r ⟨pl.val * 48 + j.val, by omega⟩) == 1#1) := by
  have e : k0_pay9 (F := Ideal) v (iota .tc S384x128 32 [0] iota_S384x128_d0_w32) k0_pay5 k0_pay6 48#32 k0_pay7 k0_pay8 (Scalar.extui (Scalar.cmpi .sgt 48#32 0#32)) (Scalar.cmpi .slt 48#32 0#32) (ix2 r j)
      = FloatOps.fptosi (F := Ideal) (φ := .f32) 32 (∑ k : Fin 384, Scalar.select (v (ix2 r k)) ((((placeW (ix2 k ⟨j.val, by omega⟩)).toInt : ℝ)) : EReal) 0) := by
    have e0 : k0_pay9 (F := Ideal) v (iota .tc S384x128 32 [0] iota_S384x128_d0_w32) k0_pay5 k0_pay6 48#32 k0_pay7 k0_pay8 (Scalar.extui (Scalar.cmpi .sgt 48#32 0#32)) (Scalar.cmpi .slt 48#32 0#32)
        = fptosi 32 (extractStridedSlice S48x48 ![0, 0] (matmul dot_S48x384_S384x128_S48x128_1_0_0_1_n_n none
            (truncf .bf16 (select v (broadcast S48x384 (Scalar.ofBits (F := Ideal) .f32 0x3F800000#32)) (broadcast S48x384 (Scalar.ofBits (F := Ideal) .f32 0x00000000#32))) bitsLt_bf16_f32)
            (truncf .bf16 (sitofp .f32 placeW) bitsLt_bf16_f32) (constant S48x128 .f32 0x00000000#32)) slices_S48x128_o0_0_S48x48) := rfl
    rw [e0]
    generalize placeW = z
    pointwise
    rfl
  rw [e, Finset.sum_congr rfl fun k _ => select_coe (v (ix2 r k)) k j, coe_sum, sum_place]
  exact fptosi_nat _ (packNat_lt _)

/-- The sign of a sketch entry of a new key row. -/
theorem pay52_at (x0 : Vec Ideal S192x128 .bf16) (x1 : Vec Ideal S48x128 .bf16) (x2 : Vec Ideal S48x128 .bf16) (x3 : Vec Ideal S128x384 .bf16) (r : Fin 48) (s : Fin 384) :
    k0_pay52 (F := Ideal) x0 x1 x2 x3 (ix2 r s) = FloatOps.cmpf (F := Ideal) (φ := .f32) .oge (∑ d : Fin 128, (x1 : S48x128.Idx → EReal) (ix2 r d) * (x3 : S128x384.Idx → EReal) (ix2 d s)) (0 : EReal) := by
  have hld1 : View.ld x1 r0_1 = x1 := View.ld_unit_lit _ x1 (by decide)
  have hld3 : View.ld x3 r0_0 = x3 := View.ld_unit_lit _ x3 (by decide)
  have h2 : k0_pay2 (F := Ideal) x1 = x1 := by unfold k0_pay2; exact funext fun i => by pointwise
  unfold k0_pay52 k0_pay4
  rw [hld1, hld3, h2]
  pointwise

/-- The packed bytes that the preparation leaves. -/
theorem out0_9_at (x0 : Vec Ideal S192x128 .bf16) (x1 : Vec Ideal S48x128 .bf16) (x2 : Vec Ideal S48x128 .bf16) (x3 : Vec Ideal S128x384 .bf16) (r : Fin 48) (j : Fin 48) :
    (out0_9 (F := Ideal) x0 x1 x2 x3) (ix2 r j) = BitVec.ofNat 32 (packNat fun pl =>
      FloatOps.cmpf (F := Ideal) (φ := .f32) .oge (∑ d : Fin 128, (x1 : S48x128.Idx → EReal) (ix2 r d) * (x3 : S128x384.Idx → EReal) (ix2 d ⟨pl.val * 48 + j.val, by omega⟩)) (0 : EReal) == 1#1) := by
  unfold out0_9
  rw [View.canon_cons_unit_lit _ _ _ (by decide), pay9_at]
  simp only [pay52_at]

end Cert.KernelIdeal.Prep
end
-- ==== Proof.Value.KernelAppend.lean ====
/- The sketch bits, the norm, the scale and the codes of the new rows that the whole kernel returns, over the arguments. -/
module

public import proofs.«01_k».proof.Proof.Value.KernelScores
public import proofs.«01_k».proof.Proof.Value.Append
public import proofs.«01_k».proof.Proof.Value.Bits

@[expose] public section

set_option maxRecDepth 16384

noncomputable section

namespace Cert.KernelIdeal.Run

open Idealize.ShloMosaic Idealize.ShloMosaic.TcCoe Idealize.SL.Sem Cert.KernelIdeal Cert.KernelIdeal.Gen Cert.KernelIdeal.Prep Cert.Value

variable (m : (ℓ : Loc nD τ sig) → Buf (Elt Ideal) ℓ)

theorem W3_v10_6 (c : Dev nD) : W3 m c (Proc.devRef .tc main_v10_6) = out0_10 (V1 m c main_v7) (V1 m c main_v8) (V1 m c main_v9) (V1 m c main_arg3) :=
  (W3_of m c main_v10_6 (by decide)).trans ((W2_arr m c 10).trans (arr_10 (V1 m) c))
theorem W3_v10_7 (c : Dev nD) : W3 m c (Proc.devRef .tc main_v10_7) = out0_11 (V1 m c main_v7) (V1 m c main_v8) (V1 m c main_v9) (V1 m c main_arg3) :=
  (W3_of m c main_v10_7 (by decide)).trans ((W2_arr m c 11).trans (arr_11 (V1 m) c))
theorem W3_v10_8 (c : Dev nD) : W3 m c (Proc.devRef .tc main_v10_8) = out0_12 (V1 m c main_v7) (V1 m c main_v8) (V1 m c main_v9) (V1 m c main_arg3) :=
  (W3_of m c main_v10_8 (by decide)).trans ((W2_arr m c 12).trans (arr_12 (V1 m) c))

theorem W3_v10_5 (c : Dev nD) : W3 m c (Proc.devRef .tc main_v10_5) = out0_9 (V1 m c main_v7) (V1 m c main_v8) (V1 m c main_v9) (V1 m c main_arg3) :=
  (W3_of m c main_v10_5 (by decide)).trans ((W2_arr m c 9).trans (arr_9 (V1 m) c))

/-- The sketch bits of a new key row: bit `pl` of byte `j` is the sign of sketch entry `pl * 48 + j`. -/
theorem kernel_bits (c : Dev nD) (b : Fin 6) (kv : Fin 8) (j : Fin 48) :
    (W4 m c (Proc.devRef .tc main_v15) : S6x1x8x48.Idx → BitVec 8) (ix4 b 0 kv j)
      = BitVec.setWidth 8 (BitVec.ofNat 32 (packNat fun pl =>
          FloatOps.cmpf (F := Ideal) (φ := .f32) .oge (∑ d : Fin 128, aK m c (ix4 b 0 kv d) * aP m c (ix2 d ⟨pl.val * 48 + j.val, by omega⟩)) (0 : EReal) == 1#1)) := by
  rw [v15_at, W3_v10_5]
  refine congrArg (BitVec.setWidth 8) ((out0_9_at _ _ _ _ _ _).trans ?_)
  rw [V1_arg3]
  refine congrArg (fun B => BitVec.ofNat 32 (packNat B)) (funext fun pl => congrArg (fun z : EReal => FloatOps.cmpf (F := Ideal) (φ := .f32) .oge z (0 : EReal) == 1#1) ?_)
  exact Finset.sum_congr rfl fun d _ => congrArg (· * _) (v8_at m c b kv d)

/-- The norm of a new key row. -/
theorem kernel_norm (c : Dev nD) (b : Fin 6) (kv : Fin 8) :
    (W4 m c (Proc.devRef .tc main_v16) : S6x1x8.Idx → EReal) (ix3 b 0 kv) = Ideal.sqrt (∑ d : Fin 128, aK m c (ix4 b 0 kv d) * aK m c (ix4 b 0 kv d)) := by
  rw [v16_at, W3_v10_6]
  refine (out0_10_at _ _ _ _ _).trans ?_
  exact congrArg Ideal.sqrt (Finset.sum_congr rfl fun d _ => congrArg₂ (· * ·) (v8_at m c b kv d) (v8_at m c b kv d))

/-- The scale of a new value row. -/
theorem kernel_scale (c : Dev nD) (b : Fin 6) (kv : Fin 8) :
    (W4 m c (Proc.devRef .tc main_v19) : S6x1x8.Idx → EReal) (ix3 b 0 kv) = rowScale fun d => aV m c (ix4 b 0 kv d) := by
  rw [v19_at, W3_v10_8]
  refine (out0_12_at _ _ _ _ _).trans ?_
  exact congrArg rowScale (funext fun d => v9_at m c b kv d)

/-- The codes of a new value row. -/
theorem kernel_codes (c : Dev nD) (b : Fin 6) (kv : Fin 8) (j : Fin 64) :
    (W4 m c (Proc.devRef .tc main_v18) : S6x1x8x64.Idx → BitVec 8) (ix4 b 0 kv j)
      = BitVec.setWidth 8 (packOf (codeOf (aV m c (ix4 b 0 kv ⟨j.val, by omega⟩)) (rowScale fun d => aV m c (ix4 b 0 kv d))) (codeOf (aV m c (ix4 b 0 kv ⟨64 + j.val, by omega⟩)) (rowScale fun d => aV m c (ix4 b 0 kv d)))) := by
  rw [v18_at, W3_v10_7]
  refine congrArg (BitVec.setWidth 8) ((out0_11_at _ _ _ _ _ _).trans ?_)
  have e := congrArg rowScale (funext fun d => v9_at m c b kv d)
  exact congrArg₂ packOf (congrArg₂ codeOf (v9_at m c b kv _) e) (congrArg₂ codeOf (v9_at m c b kv _) e)

end Cert.KernelIdeal.Run

end
-- ==== Proof.Value.RefAppend.lean ====
/- What the reference computes of the new key and value rows: the sketch bits, the norm, the scale and the codes, read at an index. -/
module

public import proofs.«01_k».proof.Proof.Value.Append
public import proofs.«01_k».proof.Proof.Value.Bits
public import proofs.«01_k».proof.Proof.Value.RefScores
public import Idealize.ShloMosaic.Lib.KernelVsHost

@[expose] public section

set_option maxRecDepth 65536

noncomputable section

namespace Cert.ReferenceIdeal.Value

open Idealize.ShloMosaic Idealize.ShloMosaic.TcCoe Idealize.SL.Sem Cert.ReferenceIdeal Cert.ReferenceIdeal.Gen Cert.Value

variable (V0 : Valuation τ sig (Elt Ideal))

abbrev rK : S6x1x8x128.Idx → EReal := V0 (Proc.devRef .tc main_arg1)
abbrev rV : S6x1x8x128.Idx → EReal := V0 (Proc.devRef .tc main_arg2)

private theorem fold_bools : ∀ b0 b1 b2 b3 b4 b5 b6 b7 : Bool,
    Finset.univ.fold (IntOp.addi (w := 32)) 0#32 (fun pl : Fin 8 => IntOp.shli .host ((BitVec.ofBool (![b0, b1, b2, b3, b4, b5, b6, b7] pl)).setWidth 32) (BitVec.ofNat 32 pl.val))
      = BitVec.ofNat 32 (packNat fun pl => BitVec.ofBool (![b0, b1, b2, b3, b4, b5, b6, b7] pl) == 1#1) := by
  decide +kernel

private theorem fold_bits : ∀ B : Fin 8 → BitVec 1,
    Finset.univ.fold (IntOp.addi (w := 32)) 0#32 (fun pl : Fin 8 => IntOp.shli .host ((B pl).setWidth 32) (BitVec.ofNat 32 pl.val)) = BitVec.ofNat 32 (packNat fun pl => B pl == 1#1) := by
  intro B
  have h : B = fun pl => BitVec.ofBool (![(B 0).getLsbD 0, (B 1).getLsbD 0, (B 2).getLsbD 0, (B 3).getLsbD 0, (B 4).getLsbD 0, (B 5).getLsbD 0, (B 6).getLsbD 0, (B 7).getLsbD 0] pl) := by
    have one : ∀ w : BitVec 1, w = BitVec.ofBool (w.getLsbD 0) := by decide
    refine funext fun pl => ?_
    fin_cases pl <;> exact one _
  rw [h]
  exact fold_bools _ _ _ _ _ _ _ _

/-- The sketch bits of a new key row: bit `pl` of byte `j` is the sign of sketch entry `pl * 48 + j`. -/
theorem v11_at (b : Fin 6) (kv : Fin 8) (j : Fin 48) :
    (trunci 8 (Host.reduce IntOp.addi (Host.shli (shapeCast _ (extui 32 (cmpf .oge (Host.dotGeneral (F := Ideal) (φ₁ := .bf16) (φ₂ := .bf16) dot_S6x1x8x128_S128x384_S6x1x8x384_3_0_012_1_n_n none (V0 (Proc.devRef .tc main_arg1)) (V0 (Proc.devRef .tc main_arg3))) (broadcastInDim S6x1x8x384 ![] bcast_S_S6x1x8x384 (constant (F := Ideal) S_ .f32 0x00000000#32))) natLt_1_32) shapeCasts_S6x1x8x384_S6x1x8x8x48) (broadcastInDim S6x1x8x8x48 ![0, 1, 2, 3, 4] bcast_S1x1x1x8x1_S6x1x8x8x48_0_1_2_3_4 (broadcastInDim S1x1x1x8x1 ![3, 4] bcast_S8x1_S1x1x1x8x1_3_4 (broadcastInDim S8x1 ![0] bcast_S8_S8x1_0 (iotaInDim S8 32 0))))) (constantI S_ 32 0#32) reducesTo_S6x1x8x8x48_S6x1x8x48_d3 h_S_) natLt_8_32 : S6x1x8x48.Idx → BitVec 8) (ix4 b 0 kv j)
      = BitVec.setWidth 8 (BitVec.ofNat 32 (packNat fun pl =>
          FloatOps.cmpf (F := Ideal) (φ := .f32) .oge (∑ d : Fin 128, rK V0 (ix4 b 0 kv d) * rP V0 (ix2 d ⟨pl.val * 48 + j.val, by omega⟩)) (0 : EReal) == 1#1)) := by
  have hr : S6x1x8x8x48.Reduces [3] S6x1x8x48 := by decide
  refine congrArg (BitVec.setWidth 8) (Eq.trans (Host.reduce_eq_fold_single _ _ _ _ hr _ _) ?_)
  rw [← fold_bits]
  refine Finset.fold_congr fun pl _ => ?_
  have e : hr.lift (ix4 b 0 kv j) pl = ix5 b 0 kv pl j := by
    refine funext fun a => Fin.ext ?_
    match a with
    | ⟨0, _⟩ => rfl
    | ⟨1, _⟩ => rfl
    | ⟨2, _⟩ => rfl
    | ⟨3, _⟩ => rfl
    | ⟨4, _⟩ => rfl
  refine (congrArg _ e).trans ?_
  pointwise

/-- The norm of a new key row. -/
theorem v16_at (b : Fin 6) (kv : Fin 8) :
    (truncf .bf16 (Host.sqrt (Host.reduceAdd (mulf (res_main_v12 V0) (res_main_v12 V0)) (constant (F := Ideal) S_ .f32 0x00000000#32) reducesTo_S6x1x8x128_S6x1x8_d3 h_S_)) bitsLt_bf16_f32 : S6x1x8.Idx → EReal) (ix3 b 0 kv)
      = Ideal.sqrt (∑ d : Fin 128, rK V0 (ix4 b 0 kv d) * rK V0 (ix4 b 0 kv d)) := by
  unfold res_main_v12
  pointwise

theorem v20_at (b : Fin 6) (kv : Fin 8) : (res_main_v20 V0 : S6x1x8x1.Idx → EReal) (ix4 b 0 kv 0) = rowMax fun d => rV V0 (ix4 b 0 kv d) := by
  unfold res_main_v20
  rw [hostReduce_maximumf_eq_multiReduction _ 0xFF800000#32 _ _ (by decide) (.inl rfl) rfl]
  unfold res_main_v17
  pointwise
  have hr : S6x1x8x128.Reduces [3] S6x1x8 := by decide
  refine (hr.fold_filter_drop_single max (Ideal.ofBits .f32 0xFF800000#32) (fun x => FloatOps.absf (F := Ideal) (φ := .f32) (rV V0 x)) (ix3 b 0 kv)).trans ?_
  unfold rowMax
  refine Finset.fold_congr fun d _ => congrArg (fun x => FloatOps.absf (F := Ideal) (φ := .f32) (rV V0 x)) (funext fun a => Fin.ext ?_)
  match a with
  | ⟨0, _⟩ => rfl
  | ⟨1, _⟩ => rfl
  | ⟨2, _⟩ => rfl
  | ⟨3, _⟩ => rfl

/-- The scale of a new value row. -/
theorem v25_at (b : Fin 6) (kv : Fin 8) : (res_main_v25 V0 : S6x1x8x1.Idx → EReal) (ix4 b 0 kv 0) = rowScale fun d => rV V0 (ix4 b 0 kv d) := by
  unfold res_main_v25
  pointwise [v20_at]
  have h1 : (id (constant (F := Ideal) S_ .f32 0x3F800000#32) ix0 : EReal) = 1 := by
    show (constant (F := Ideal) S_ .f32 0x3F800000#32 ix0 : EReal) = 1
    pointwise
  rw [h1]
  rfl

theorem v41_at (b : Fin 6) (kv : Fin 8) : (shapeCast S6x1x8 (res_main_v25 V0) shapeCasts_S6x1x8x1_S6x1x8 : S6x1x8.Idx → EReal) (ix3 b 0 kv) = rowScale fun d => rV V0 (ix4 b 0 kv d) := by
  refine Eq.trans ?_ (v25_at V0 b kv)
  pointwise

theorem v30_at (b : Fin 6) (kv : Fin 8) (d : Fin 128) : (res_main_v30 V0 : S6x1x8x128.Idx → BitVec 32) (ix4 b 0 kv d) = codeOf (rV V0 (ix4 b 0 kv d)) (rowScale fun d => rV V0 (ix4 b 0 kv d)) := by
  rw [← v25_at]
  unfold res_main_v30 res_main_v17
  pointwise
  rfl

/-- The codes of a new value row. -/
theorem v40_at (b : Fin 6) (kv : Fin 8) (j : Fin 64) :
    (trunci 8 (ori (andi (extractStridedSlice S6x1x8x64 ![0, 0, 0, 0] (res_main_v30 V0) slices_S6x1x8x128_S6x1x8x64_0_0_0_0) (broadcastInDim S6x1x8x64 ![] bcast_S_S6x1x8x64 (constantI S_ 32 15#32))) (Host.shli (andi (extractStridedSlice S6x1x8x64 ![0, 0, 0, 64] (res_main_v30 V0) slices_S6x1x8x128_S6x1x8x64_0_0_0_64) (broadcastInDim S6x1x8x64 ![] bcast_S_S6x1x8x64 (constantI S_ 32 15#32))) (broadcastInDim S6x1x8x64 ![] bcast_S_S6x1x8x64 (constantI S_ 32 4#32)))) natLt_8_32 : S6x1x8x64.Idx → BitVec 8) (ix4 b 0 kv j)
      = BitVec.setWidth 8 (packOf (codeOf (rV V0 (ix4 b 0 kv ⟨j.val, by omega⟩)) (rowScale fun d => rV V0 (ix4 b 0 kv d))) (codeOf (rV V0 (ix4 b 0 kv ⟨64 + j.val, by omega⟩)) (rowScale fun d => rV V0 (ix4 b 0 kv d)))) := by
  pointwise [v30_at]
  rfl

end Cert.ReferenceIdeal.Value
end
-- ==== Proof.Value.Match.lean ====
/- The kernel's results are the reference's: from equal arguments each covered result agrees at every index. -/
module

public import proofs.«01_k».proof.Proof.Value.KernelAppend
public import proofs.«01_k».proof.Proof.Value.RefAppend
public import proofs.«01_k».proof.Proof.Value.Equation

@[expose] public section

set_option maxRecDepth 16384

noncomputable section

namespace Cert.Value

open Idealize.ShloMosaic Idealize.ShloMosaic.TcCoe Idealize.SL.Sem Cert.KernelIdeal.Run Cert.ReferenceIdeal.Value

variable (m : (ℓ : Loc Cert.KernelIdeal.nD Cert.KernelIdeal.τ Cert.KernelIdeal.sig) → Buf (Elt Ideal) ℓ)
variable (c : Dev Cert.KernelIdeal.nD) (V0 : Valuation Cert.ReferenceIdeal.τ Cert.ReferenceIdeal.sig (Elt Ideal))

/-- The scores agree when the queries and the projection are finite. -/
theorem scores_eq (h0 : rX V0 = aX m c) (h3 : rP V0 = aP m c) (h4 : rBits V0 = aBits m c) (h5 : rNorm V0 = aNorm m c) (h8 : rLen V0 = aLen m c)
    (hx : ∀ i, ∃ r : ℝ, aX m c i = r) (hp : ∀ i, ∃ r : ℝ, aP m c i = r) (b : Fin 6) (kv : Fin 8) (g : Fin 4) (p : Fin 16384) :
    (if (p.val : ℤ) < (aLen m c (Idealize.ShloMosaic.ix1 b)).toInt then kscore m c b kv g p else 0)
      = if (p.val : ℤ) < (rLen V0 (Idealize.ShloMosaic.ix1 b)).toInt then (Cert.ReferenceIdeal.Value.res_main_v71 V0 : Cert.ReferenceIdeal.S6x1x8x4x16384.Idx → EReal) (ix5 b 0 kv g p) else (0 : EReal) := by
  rw [h8]
  refine if_congr Iff.rfl ?_ rfl
  rw [v71_at, h0, h3, h4, h5]
  unfold kscore
  have e := sums_eq (qp m c b ⟨kv.val * 4 + g.val, by omega⟩) (fun s => sum_mul_finite _ _ _ (fun d => hx _) (fun d => hp _)) fun j pl => (aBits m c (ix4 b p kv j)).getLsbD pl
  exact congrArg (fun z : EReal => z * (aNorm m c (ix3 b p kv) * Ideal.ofBits .f32 0x39973FD8#32)) e

end Cert.Value

end
-- ==== Proof.Value.Block.lean ====
/- What one block does to the running maximum, denominator and weighted sum, entry by entry. -/
module

public import proofs.«01_k».proof.Proof.Value.Scores

@[expose] public section

set_option maxRecDepth 16384

noncomputable section

namespace Cert.KernelIdeal.Attend

open Idealize.ShloMosaic Idealize.ShloMosaic.TcCoe Idealize.SL.Sem Cert.KernelIdeal Cert.KernelIdeal.Gen

/-- The largest of a block's entries. -/
def blockMax (f : Fin 2048 → EReal) : EReal := Finset.univ.fold max (Ideal.ofBits .f32 0xFF800000#32) f

theorem maskedB_at (v2 v1 : BitVec 32) (nrm : Vec Ideal S1x8x2048 .bf16) (raw : Vec Ideal S1x32x2048 .f32) (qs : Vec Ideal S32x1 .f32) (kv : Fin 8) (g : Fin 4) (p : Fin 2048) :
    (maskedB (F := Ideal) v2 v1 nrm raw qs) (ix2 ⟨kv.val * 4 + g.val, by omega⟩ p)
      = if (v2 + BitVec.ofNat 32 p.val).slt v1 then (raw (ix3 0 ⟨kv.val * 4 + g.val, by omega⟩ p) - qs (ix2 ⟨kv.val * 4 + g.val, by omega⟩ 0)) * (nrm (ix3 0 kv p) * est) else Ideal.ofBits .f32 0xFF800000#32 := by
  unfold maskedB scoresB factor validB
  pointwise [perHead_at]
  show (if BitVec.ofBool ((v2 + BitVec.ofNat 32 p.val).slt v1) = 1#1 then _ else _) = _
  cases (v2 + BitVec.ofNat 32 p.val).slt v1 <;> rfl

theorem mNew_at (msk : FVec Ideal S32x2048 .f32) (m : Vec Ideal S32x128 .f32) (h : Fin 32) (j : Fin 128) :
    (mNew (F := Ideal) msk m) (ix2 h j) = max (m (ix2 h j)) (blockMax fun p => msk (ix2 h p)) := by
  unfold mNew
  pointwise
  refine congrArg (max (m (ix2 h j))) ?_
  rfl

theorem eB_at (msk : FVec Ideal S32x2048 .f32) (m : Vec Ideal S32x128 .f32) (h : Fin 32) (p : Fin 2048) :
    (eB (F := Ideal) msk m) (ix2 h p) = Ideal.exp (msk (ix2 h p) - max (m (ix2 h 0)) (blockMax fun p => msk (ix2 h p))) := by
  unfold eB
  pointwise [mNew_at]

theorem alphaB_at (msk : FVec Ideal S32x2048 .f32) (m : Vec Ideal S32x128 .f32) (h : Fin 32) (j : Fin 128) :
    (alphaB (F := Ideal) msk m) (ix2 h j) = Ideal.exp (m (ix2 h j) - max (m (ix2 h j)) (blockMax fun p => msk (ix2 h p))) := by
  unfold alphaB
  pointwise [mNew_at]

theorem lNew_at (msk : FVec Ideal S32x2048 .f32) (m l : Vec Ideal S32x128 .f32) (h : Fin 32) (j : Fin 128) :
    (lNew (F := Ideal) msk m l) (ix2 h j) = l (ix2 h j) * Ideal.exp (m (ix2 h j) - max (m (ix2 h j)) (blockMax fun p => msk (ix2 h p)))
      + ∑ p : Fin 2048, Ideal.exp (msk (ix2 h p) - max (m (ix2 h 0)) (blockMax fun p => msk (ix2 h p))) := by
  unfold lNew
  pointwise [alphaB_at, eB_at]

theorem pB_at (msk : FVec Ideal S32x2048 .f32) (m : Vec Ideal S32x128 .f32) (vs : Vec Ideal S1x8x2048 .f32) (kv : Fin 8) (g : Fin 4) (p : Fin 2048) :
    (pB (F := Ideal) msk m vs) (ix2 ⟨kv.val * 4 + g.val, by omega⟩ p)
      = Ideal.exp (msk (ix2 ⟨kv.val * 4 + g.val, by omega⟩ p) - max (m (ix2 ⟨kv.val * 4 + g.val, by omega⟩ 0)) (blockMax fun p => msk (ix2 ⟨kv.val * 4 + g.val, by omega⟩ p))) * vs (ix3 0 kv p) := by
  unfold pB
  pointwise [perHead_at, eB_at]

theorem alphaRow_at (msk : FVec Ideal S32x2048 .f32) (m : Vec Ideal S32x128 .f32) (h : Fin 32) :
    (alphaRow (F := Ideal) msk m) (ix2 0 ⟨h.val, by omega⟩) = (alphaB (F := Ideal) msk m) (ix2 h 0) := by
  unfold alphaRow
  generalize alphaB (F := Ideal) msk m = x
  pointwise

/-- A code of a packed byte as a word: the low half (`0`) or the high half (`1`), sign-extended. -/
def nibW (w : BitVec 8) (n : Fin 2) : BitVec 32 :=
  IntOp.shrsi .vector (IntOp.shli .vector (w.setWidth 32) (if n = 0 then 28#32 else 24#32)) 28#32

theorem unpack_at0 (v : Vec Ideal S1x1x64x2048 .i8) (r : Fin 64) (p : Fin 2048) :
    (unpack (F := Ideal) v) (ix2 ⟨r.val * 2 + 0, by omega⟩ p) = ((nibW (v (ix4 0 0 r p)) 0).toInt : ℝ) := by
  unfold unpack
  pointwise
  rw [dif_pos (by omega)]
  rfl

theorem unpack_at1 (v : Vec Ideal S1x1x64x2048 .i8) (r : Fin 64) (p : Fin 2048) :
    (unpack (F := Ideal) v) (ix2 ⟨r.val * 2 + 1, by omega⟩ p) = ((nibW (v (ix4 0 0 r p)) 1).toInt : ℝ) := by
  unfold unpack
  pointwise
  rw [dif_neg (by omega)]
  rfl

theorem accRows_at (ar : FVec Ideal S1x128 .f32) (p : Vec Ideal S32x2048 .bf16) (v : Vec Ideal S1x1x64x2048 .i8) (a : Vec Ideal S128x32 .f32) (r : Fin 128) (h : Fin 32) :
    (accRows (F := Ideal) ar p v a) (ix2 r h) = a (ix2 r h) * ar (ix2 0 ⟨h.val, by omega⟩) + ∑ q : Fin 2048, (unpack (F := Ideal) v) (ix2 r q) * p (ix2 h q) := by
  unfold accRows
  generalize unpack (F := Ideal) v = x
  pointwise

theorem accB_at (ar : FVec Ideal S1x128 .f32) (p : Vec Ideal S32x2048 .bf16) (X6 : Vec Ideal S1x8x64x2048 .i8) (A : Vec Ideal S1024x32 .f32) (kv : Fin 8) (r : Fin 128) (h : Fin 32) :
    (accB (F := Ideal) ar p X6 A) (ix2 ⟨kv.val * 128 + r.val, by omega⟩ h)
      = A (ix2 ⟨kv.val * 128 + r.val, by omega⟩ h) * ar (ix2 0 ⟨h.val, by omega⟩) + ∑ q : Fin 2048, (unpack (F := Ideal) (codesAt X6 kv.val kv.isLt)) (ix2 r q) * p (ix2 h q) := by
  have key : ∀ (k : ℕ) (hk : k < 8) (z : S128x32.Idx), k = kv.val → z = ix2 r h →
      accAt (F := Ideal) ar p X6 A k hk z = A (ix2 ⟨kv.val * 128 + r.val, by omega⟩ h) * ar (ix2 0 ⟨h.val, by omega⟩) + ∑ q : Fin 2048, (unpack (F := Ideal) (codesAt X6 kv.val kv.isLt)) (ix2 r q) * p (ix2 h q) := by
    intro k hk z h1 h2
    subst h1 h2
    unfold accAt
    rw [accRows_at]
    refine congrArg (fun z => A z * _ + _) (funext fun a => Fin.ext ?_)
    match a with
    | ⟨0, _⟩ => show kv.val * 128 + 1 * r.val = kv.val * 128 + r.val; omega
    | ⟨1, _⟩ => show 0 + 1 * h.val = h.val; omega
  unfold accB
  refine key _ _ _ (by show (kv.val * 128 + r.val) / 128 = kv.val; omega) (funext fun a => Fin.ext ?_)
  match a with
  | ⟨0, _⟩ => show kv.val * 128 + r.val - (kv.val * 128 + r.val) / 128 * 128 = r.val; omega
  | ⟨1, _⟩ => show h.val - 0 = h.val; omega

theorem codesAt_at (X6 : Vec Ideal S1x8x64x2048 .i8) (kv : Fin 8) (r : Fin 64) (q : Fin 2048) : (codesAt (F := Ideal) X6 kv.val kv.isLt) (ix4 0 0 r q) = X6 (ix4 0 kv r q) := by
  refine congrArg X6 (funext fun a => Fin.ext ?_)
  match a with
  | ⟨0, _⟩ => rfl
  | ⟨1, _⟩ => show kv.val + 1 * 0 = kv.val; omega
  | ⟨2, _⟩ => show 0 + 1 * r.val = r.val; omega
  | ⟨3, _⟩ => show 0 + 1 * q.val = q.val; omega

theorem colHead_at (r : Fin 64) (h : Fin 32) : colHead (ix2 r h) = BitVec.ofNat 32 (h.val / 4) := by
  have e : colHead (ix2 r h) = colHead (ix2 0 h) := by
    unfold colHead
    pointwise
  have d : ∀ h : Fin 32, colHead (ix2 0 h) = BitVec.ofNat 32 (h.val / 4) := by decide +kernel
  exact e.trans (d h)

theorem gather_at (d : Fin 8 → FVec Ideal S64x32 .f32) (r : Fin 64) (kv : Fin 8) (g : Fin 4) : gather (F := Ideal) d (ix2 r ⟨kv.val * 4 + g.val, by omega⟩) = d kv (ix2 r ⟨kv.val * 4 + g.val, by omega⟩) := by
  unfold gather pick
  pointwise [colHead_at]
  rw [show (kv.val * 4 + g.val) / 4 = kv.val by omega]
  fin_cases kv <;> rfl

theorem outB_at0 (lo hi : Fin 8 → FVec Ideal S64x32 .f32) (l : Vec Ideal S32x128 .f32) (sn : Vec Ideal S32x1 .f32) (m : Vec Ideal S32x1 .f32) (vsh : Vec Ideal S32x1 .f32) (vch : Vec Ideal S32x128 .f32) (h : Fin 32) (r : Fin 64) :
    (outB (F := Ideal) lo hi l sn m vsh vch) (ix3 0 h ⟨r.val, by omega⟩)
      = Ideal.div (gather lo (ix2 r h)) (l (ix2 h ⟨r.val, by omega⟩)) + (Ideal.div (Ideal.exp (sn (ix2 h 0) - m (ix2 h 0))) (l (ix2 h 0)) * vsh (ix2 h 0)) * vch (ix2 h ⟨r.val, by omega⟩) := by
  unfold outB
  generalize gather lo = x
  generalize gather hi = y
  pointwise

theorem outB_at1 (lo hi : Fin 8 → FVec Ideal S64x32 .f32) (l : Vec Ideal S32x128 .f32) (sn : Vec Ideal S32x1 .f32) (m : Vec Ideal S32x1 .f32) (vsh : Vec Ideal S32x1 .f32) (vch : Vec Ideal S32x128 .f32) (h : Fin 32) (r : Fin 64) :
    (outB (F := Ideal) lo hi l sn m vsh vch) (ix3 0 h ⟨64 + r.val, by omega⟩)
      = Ideal.div (gather hi (ix2 r h)) (l (ix2 h ⟨64 + r.val, by omega⟩)) + (Ideal.div (Ideal.exp (sn (ix2 h 0) - m (ix2 h 0))) (l (ix2 h 0)) * vsh (ix2 h 0)) * vch (ix2 h ⟨64 + r.val, by omega⟩) := by
  unfold outB
  generalize gather lo = x
  generalize gather hi = y
  pointwise

theorem halfAt_at (A : Vec Ideal S1024x32 .f32) (kv : Fin 8) (n : ℕ) (hn : n < 2) (r : Fin 64) (h : Fin 32) :
    halfAt (F := Ideal) A kv.val n kv.isLt hn (ix2 r h) = A (ix2 ⟨kv.val * 128 + (r.val * 2 + n), by omega⟩ h) := by
  refine congrArg A (funext fun a => Fin.ext ?_)
  match a with
  | ⟨0, _⟩ => show kv.val * 128 + n + 2 * r.val = kv.val * 128 + (r.val * 2 + n); omega
  | ⟨1, _⟩ => show 0 + 1 * h.val = h.val; omega

theorem mCol_at (M : Vec Ideal S32x128 .f32) (h : Fin 32) : mCol (F := Ideal) M (ix2 h 0) = M (ix2 h 0) := by
  refine congrArg M (funext fun a => Fin.ext ?_)
  match a with
  | ⟨0, _⟩ => show 0 + 1 * h.val = h.val; omega
  | ⟨1, _⟩ => rfl

/-- What the last point hands out, in the first half of a head's columns (the low halves of the bytes). -/
theorem outV_at0 (A : Vec Ideal S1024x32 .f32) (L : Vec Ideal S32x128 .f32) (sn : Vec Ideal S32x1 .f32) (M : Vec Ideal S32x128 .f32) (vsh : Vec Ideal S32x1 .f32) (vch : Vec Ideal S32x128 .f32) (kv : Fin 8) (g : Fin 4) (r : Fin 64) :
    (outV (F := Ideal) A L sn M vsh vch) (ix3 0 ⟨kv.val * 4 + g.val, by omega⟩ ⟨r.val, by omega⟩)
      = Ideal.div (A (ix2 ⟨kv.val * 128 + (r.val * 2 + 0), by omega⟩ ⟨kv.val * 4 + g.val, by omega⟩)) (L (ix2 ⟨kv.val * 4 + g.val, by omega⟩ ⟨r.val, by omega⟩))
        + (Ideal.div (Ideal.exp (sn (ix2 ⟨kv.val * 4 + g.val, by omega⟩ 0) - M (ix2 ⟨kv.val * 4 + g.val, by omega⟩ 0))) (L (ix2 ⟨kv.val * 4 + g.val, by omega⟩ 0)) * vsh (ix2 ⟨kv.val * 4 + g.val, by omega⟩ 0)) * vch (ix2 ⟨kv.val * 4 + g.val, by omega⟩ ⟨r.val, by omega⟩) := by
  unfold outV
  rw [outB_at0, gather_at, halfAt_at, mCol_at]

/-- The same in the second half (the high halves of the bytes). -/
theorem outV_at1 (A : Vec Ideal S1024x32 .f32) (L : Vec Ideal S32x128 .f32) (sn : Vec Ideal S32x1 .f32) (M : Vec Ideal S32x128 .f32) (vsh : Vec Ideal S32x1 .f32) (vch : Vec Ideal S32x128 .f32) (kv : Fin 8) (g : Fin 4) (r : Fin 64) :
    (outV (F := Ideal) A L sn M vsh vch) (ix3 0 ⟨kv.val * 4 + g.val, by omega⟩ ⟨64 + r.val, by omega⟩)
      = Ideal.div (A (ix2 ⟨kv.val * 128 + (r.val * 2 + 1), by omega⟩ ⟨kv.val * 4 + g.val, by omega⟩)) (L (ix2 ⟨kv.val * 4 + g.val, by omega⟩ ⟨64 + r.val, by omega⟩))
        + (Ideal.div (Ideal.exp (sn (ix2 ⟨kv.val * 4 + g.val, by omega⟩ 0) - M (ix2 ⟨kv.val * 4 + g.val, by omega⟩ 0))) (L (ix2 ⟨kv.val * 4 + g.val, by omega⟩ 0)) * vsh (ix2 ⟨kv.val * 4 + g.val, by omega⟩ 0)) * vch (ix2 ⟨kv.val * 4 + g.val, by omega⟩ ⟨64 + r.val, by omega⟩) := by
  unfold outV
  rw [outB_at1, gather_at, halfAt_at, mCol_at]

end Cert.KernelIdeal.Attend

end
-- ==== Proof.Value.OutArray.lean ====
/- The second call's output array, and the blocks of the values, entry by entry. -/
module

public import proofs.«01_k».proof.Proof.Value.Blocks
public import proofs.«01_k».proof.Proof.Value.Host

@[expose] public section

set_option maxRecDepth 16384

noncomputable section

namespace Cert.KernelIdeal.Attend

open Idealize.ShloMosaic Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b)) (a : (pcfg1 (F := Ideal)).Adm)

theorem covers_9 : ((cfg1 a).win 9).Covers :=
  ((cfg1 a).win 9).covers_of_indexMap_surj rfl (by show ∀ d, 0 < S1x32x128.size d; decide) fun β => by
    have h0 : (β (0 : Fin 3)).val < 6 := Nat.lt_of_lt_of_eq (β (0 : Fin 3)).isLt (by show (S6x32x128.size 0 + S1x32x128.size 0 - 1) / S1x32x128.size 0 = 6; decide)
    have h1 : (β (1 : Fin 3)).val < 1 := Nat.lt_of_lt_of_eq (β (1 : Fin 3)).isLt (by show (S6x32x128.size 1 + S1x32x128.size 1 - 1) / S1x32x128.size 1 = 1; decide)
    have h2 : (β (2 : Fin 3)).val < 1 := Nat.lt_of_lt_of_eq (β (2 : Fin 3)).isLt (by show (S6x32x128.size 2 + S1x32x128.size 2 - 1) / S1x32x128.size 2 = 1; decide)
    refine ⟨grid1.coords (pt a (β (0 : Fin 3)).val 0 (by omega)), fun d => ?_⟩
    have e0 := pt_0 a (β (0 : Fin 3)).val 0 (by omega) (by omega)
    show cc1_transform_9 _ d = _
    match d with
    | ⟨0, _⟩ => show (BitVec.ofNat 32 (grid1.coords _ 0).val).toNat = (β (0 : Fin 3)).val; rw [e0, BitVec.toNat_ofNat]; omega
    | ⟨1, _⟩ => show 0 = (β (1 : Fin 3)).val; omega
    | ⟨2, _⟩ => show 0 = (β (2 : Fin 3)).val; omega

/-- The output array after the second call: every sequence's block as its last grid point left it. -/
theorem arr_out (c : Dev nD) :
    (dat1 V a c).arrAt 9 (cfg1 a).N = fun i : S6x32x128.Idx =>
      outAt V a c (pt a (i 0).val 7 (by have h0 : (i 0).val < 6 := (i 0).isLt; omega)) (ix3 0 (i 1) (i 2)) := by
  refine (dat1 V a c).arrAt_eq_of_covers 9 _ (covers_9 a) fun t hf y => ?_
  have h7 : t.val % 8 = 7 := (flush1_9 a t).mp hf
  blk_simp
  rw [after1_9]
  have ht : t.val < 48 := Nat.lt_of_lt_of_eq t.isLt N_1
  have e0 : ((cfg1 a).win 9).index t (0 : Fin 3) = t.val / 8 := by
    show (BitVec.ofNat 32 (grid1.coords t 0).val).toNat = _
    rw [co_0, BitVec.toNat_ofNat]; omega
  have y0 : (y (0 : Fin 3)).val < 1 := (y (0 : Fin 3)).isLt
  have key : ∀ (t' : Fin (cfg1 a).N) (z : S1x32x128.Idx), t' = t → z = y → outAt V a c t y = outAt V a c t' z := by
    intro t' z h1 h2; rw [h1, h2]
  refine key _ _ (Fin.ext ?_) ?_
  · show ((cfg1 a).win 9).index t (0 : Fin 3) * 8 + 7 = t.val
    rw [e0]; omega
  · funext d
    match d with
    | ⟨0, _⟩ => exact Fin.ext (by show 0 = (y (0 : Fin 3)).val; omega)
    | ⟨1, _⟩ =>
      refine Fin.ext ?_
      have h1 : ((((cfg1 a).win 9).blk t).view.emb y (1 : Fin 3)).val = (y (1 : Fin 3)).val := by
        refine (Pipeline.Window.rect_emb_val _ _ _ _ rfl).trans ?_
        show 0 * 32 + (y (1 : Fin 3)).val = (y (1 : Fin 3)).val
        omega
      exact h1
    | ⟨2, _⟩ =>
      refine Fin.ext ?_
      have h1 : ((((cfg1 a).win 9).blk t).view.emb y (2 : Fin 3)).val = (y (2 : Fin 3)).val := by
        refine (Pipeline.Window.rect_emb_val _ _ _ _ rfl).trans ?_
        show 0 * 128 + (y (2 : Fin 3)).val = (y (2 : Fin 3)).val
        omega
      exact h1

/-- The values' codes at a position below the length. -/
theorem b3_at (c : Dev nD) (t : Fin (cfg1 a).N) (b : Fin 6) (s : Fin 8) (hb : t.val / 8 = b.val) (hs : t.val % 8 = s.val)
    (hl : (lastW (len a c t) (BitVec.ofNat 32 s.val)).toNat = s.val) (kv : Fin 8) (r : Fin 64) (p : Fin 2048) :
    b3 V a c t (ix4 0 kv r p) = (V c main_v4 : S6x8x64x16384.Idx → BitVec 8) (ix4 b kv r ⟨s.val * 2048 + p.val, by omega⟩) := by
  have ht : t.val < 48 := Nat.lt_of_lt_of_eq t.isLt N_1
  have e1 : (grid1.coords t 1).val = s.val := by rw [co_1]; omega
  refine congrArg (V c main_v4 : S6x8x64x16384.Idx → BitVec 8) (funext fun d => Fin.ext ?_)
  match d with
  | ⟨0, _⟩ =>
    refine (Pipeline.Window.rect_emb_val _ _ _ _ rfl).trans ?_
    show (BitVec.ofNat 32 (grid1.coords t 0).val).toNat * 1 + 0 = b.val
    rw [co_0' t ht]; omega
  | ⟨1, _⟩ => refine (Pipeline.Window.rect_emb_val _ _ _ _ rfl).trans ?_; show 0 * 8 + kv.val = kv.val; omega
  | ⟨2, _⟩ => refine (Pipeline.Window.rect_emb_val _ _ _ _ rfl).trans ?_; show 0 * 64 + r.val = r.val; omega
  | ⟨3, _⟩ =>
    refine (Pipeline.Window.rect_emb_val _ _ _ _ rfl).trans ?_
    show (lastW (len a c t) (BitVec.ofNat 32 (grid1.coords t 1).val)).toNat * 2048 + p.val = s.val * 2048 + p.val
    rw [e1, hl]

/-- The values' scales at a position below the length. -/
theorem b4_at (c : Dev nD) (t : Fin (cfg1 a).N) (b : Fin 6) (s : Fin 8) (hb : t.val / 8 = b.val) (hs : t.val % 8 = s.val)
    (hl : (lastW (len a c t) (BitVec.ofNat 32 s.val)).toNat = s.val) (kv : Fin 8) (p : Fin 2048) :
    b4 V a c t (ix3 0 kv p) = (V c main_v6 : S6x8x16384.Idx → EReal) (ix3 b kv ⟨s.val * 2048 + p.val, by omega⟩) := by
  have ht : t.val < 48 := Nat.lt_of_lt_of_eq t.isLt N_1
  have e1 : (grid1.coords t 1).val = s.val := by rw [co_1]; omega
  refine congrArg (V c main_v6 : S6x8x16384.Idx → EReal) (funext fun d => Fin.ext ?_)
  match d with
  | ⟨0, _⟩ =>
    refine (Pipeline.Window.rect_emb_val _ _ _ _ rfl).trans ?_
    show (BitVec.ofNat 32 (grid1.coords t 0).val).toNat * 1 + 0 = b.val
    rw [co_0' t ht]; omega
  | ⟨1, _⟩ => refine (Pipeline.Window.rect_emb_val _ _ _ _ rfl).trans ?_; show 0 * 8 + kv.val = kv.val; omega
  | ⟨2, _⟩ =>
    refine (Pipeline.Window.rect_emb_val _ _ _ _ rfl).trans ?_
    show (lastW (len a c t) (BitVec.ofNat 32 (grid1.coords t 1).val)).toNat * 2048 + p.val = s.val * 2048 + p.val
    rw [e1, hl]

/-- The new scores' block. -/
theorem b5_at (c : Dev nD) (t : Fin (cfg1 a).N) (b : Fin 6) (hb : t.val / 8 = b.val) (i : Fin 32) :
    b5 V a c t (ix2 i 0) = (V c main_v10_1 : S192x1.Idx → EReal) (ix2 ⟨b.val * 32 + i.val, by omega⟩ 0) := by
  have ht : t.val < 48 := Nat.lt_of_lt_of_eq t.isLt N_1
  refine congrArg (V c main_v10_1 : S192x1.Idx → EReal) (funext fun d => Fin.ext ?_)
  match d with
  | ⟨0, _⟩ =>
    refine (Pipeline.Window.rect_emb_val _ _ _ _ rfl).trans ?_
    show (BitVec.ofNat 32 (grid1.coords t 0).val).toNat * 32 + i.val = b.val * 32 + i.val
    rw [co_0' t ht]; omega
  | ⟨1, _⟩ => refine (Pipeline.Window.rect_emb_val _ _ _ _ rfl).trans ?_; show 0 * 1 + 0 = 0; omega

/-- The new values' codes' block. -/
theorem b7_at (c : Dev nD) (t : Fin (cfg1 a).N) (b : Fin 6) (hb : t.val / 8 = b.val) (i : Fin 32) (d' : Fin 128) :
    b7 V a c t (ix2 i d') = (V c main_v10_3 : S192x128.Idx → EReal) (ix2 ⟨b.val * 32 + i.val, by omega⟩ d') := by
  have ht : t.val < 48 := Nat.lt_of_lt_of_eq t.isLt N_1
  refine congrArg (V c main_v10_3 : S192x128.Idx → EReal) (funext fun d => Fin.ext ?_)
  match d with
  | ⟨0, _⟩ =>
    refine (Pipeline.Window.rect_emb_val _ _ _ _ rfl).trans ?_
    show (BitVec.ofNat 32 (grid1.coords t 0).val).toNat * 32 + i.val = b.val * 32 + i.val
    rw [co_0' t ht]; omega
  | ⟨1, _⟩ => refine (Pipeline.Window.rect_emb_val _ _ _ _ rfl).trans ?_; show 0 * 128 + d'.val = d'.val; omega

/-- The new values' scales' block. -/
theorem b8_at (c : Dev nD) (t : Fin (cfg1 a).N) (b : Fin 6) (hb : t.val / 8 = b.val) (i : Fin 32) :
    b8 V a c t (ix2 i 0) = (V c main_v10_4 : S192x1.Idx → EReal) (ix2 ⟨b.val * 32 + i.val, by omega⟩ 0) := by
  have ht : t.val < 48 := Nat.lt_of_lt_of_eq t.isLt N_1
  refine congrArg (V c main_v10_4 : S192x1.Idx → EReal) (funext fun d => Fin.ext ?_)
  match d with
  | ⟨0, _⟩ =>
    refine (Pipeline.Window.rect_emb_val _ _ _ _ rfl).trans ?_
    show (BitVec.ofNat 32 (grid1.coords t 0).val).toNat * 32 + i.val = b.val * 32 + i.val
    rw [co_0' t ht]; omega
  | ⟨1, _⟩ => refine (Pipeline.Window.rect_emb_val _ _ _ _ rfl).trans ?_; show 0 * 1 + 0 = 0; omega

end Cert.KernelIdeal.Attend

namespace Cert.KernelIdeal.Run

open Idealize.ShloMosaic Idealize.ShloMosaic.TcCoe Idealize.SL.Sem Cert.KernelIdeal Cert.KernelIdeal.Gen

variable (m : (ℓ : Loc nD τ sig) → Buf (Elt Ideal) ℓ)

theorem v4_at (c : Dev nD) (b : Fin 6) (kv : Fin 8) (r : Fin 64) (p : Fin 16384) :
    (V1 m c main_v4 : S6x8x64x16384.Idx → BitVec 8) (ix4 b kv r p) = (m (c, Proc.devRef .tc main_arg6) : S6x16384x8x64.Idx → BitVec 8) (ix4 b p kv r) := by
  unfold V1 W1
  after_reads_at

theorem v6_at (c : Dev nD) (b : Fin 6) (kv : Fin 8) (p : Fin 16384) :
    (V1 m c main_v6 : S6x8x16384.Idx → EReal) (ix3 b kv p) = (m (c, Proc.devRef .tc main_arg7) : S6x16384x8.Idx → EReal) (ix3 b p kv) := by
  unfold V1 W1
  after_reads_at

theorem v12_at (c : Dev nD) (b : Fin 6) (h : Fin 32) (d : Fin 128) :
    (W4 m c (Proc.devRef .tc main_v12) : S6x1x4096.Idx → EReal) (ix3 b 0 ⟨h.val * 128 + d.val, by omega⟩) = (W3 m c (Proc.devRef .tc main_v11_0) : S6x32x128.Idx → EReal) (ix3 b h d) := by
  unfold W4
  after_reads_at

end Cert.KernelIdeal.Run

end
-- ==== Proof.Value.Softmax.lean ====
/- The online softmax over the extended reals: a maximum, a denominator and a weighted sum carried block by block are those of all the positions at once. -/
module

public import Idealize.ShloMosaic.Lib.Pointwise
public import Idealize.ShloMosaic.Lib.IdealHost

@[expose] public section

noncomputable section

namespace Cert.Value

open Idealize.ShloMosaic

/-- The weight of a score against a maximum. -/
def ew (x m : EReal) : EReal := Ideal.exp (x - m)

theorem ew_bot (r : ℝ) : ew ⊥ r = 0 := by
  unfold ew; rw [EReal.bot_sub]; rfl
theorem ew_coe (x r : ℝ) : ew x r = (Real.exp (x - r) : ℝ) := by
  unfold ew; rw [← EReal.coe_sub]; rfl
theorem ew_self (r : ℝ) : ew r r = 1 := by
  rw [ew_coe, sub_self, Real.exp_zero]; rfl

theorem low_cases (x : EReal) (h : x ≠ ⊤) : x = ⊥ ∨ ∃ r : ℝ, x = r := by
  induction x using EReal.rec with
  | bot => exact .inl rfl
  | coe r => exact .inr ⟨r, rfl⟩
  | top => exact absurd rfl h

theorem ew_real (x : EReal) (h : x ≠ ⊤) (r : ℝ) : ∃ e : ℝ, 0 ≤ e ∧ ew x r = e := by
  rcases low_cases x h with rfl | ⟨y, rfl⟩
  · exact ⟨0, le_refl _, ew_bot r⟩
  · exact ⟨_, (Real.exp_pos _).le, ew_coe y r⟩

/-- Weights telescope. -/
theorem ew_mul (x : EReal) (h : x ≠ ⊤) (a b : ℝ) : ew x a * ew a b = ew x b := by
  rcases low_cases x h with rfl | ⟨y, rfl⟩
  · rw [ew_bot, ew_bot, zero_mul]
  · rw [ew_coe, ew_coe, ew_coe, ← EReal.coe_mul, ← Real.exp_add]
    congr 2; ring

theorem sum_mul_nonneg {ι : Type} (s : Finset ι) (f : ι → EReal) (a : EReal) (h0 : 0 ≤ a) (ht : a ≠ ⊤) : (∑ i ∈ s, f i) * a = ∑ i ∈ s, f i * a := by
  classical
  induction s using Finset.induction_on with
  | empty => rw [Finset.sum_empty, Finset.sum_empty, zero_mul]
  | insert i s hi ih => rw [Finset.sum_insert hi, Finset.sum_insert hi, EReal.right_distrib_of_nonneg_of_ne_top h0 ht, ih]

variable (X c v : ℕ → EReal) (s : EReal)

/-- The maximum of the new score and the first `n`. -/
def runMax (n : ℕ) : EReal := max s ((Finset.range n).sup X)
/-- The sum of their weights. -/
def runDen (n : ℕ) : EReal := ew s (runMax X s n) + ∑ i ∈ Finset.range n, ew (X i) (runMax X s n)
/-- The weighted sum of the first `n` values. -/
def runAcc (n : ℕ) : EReal := ∑ i ∈ Finset.range n, c i * (ew (X i) (runMax X s n) * v i)

theorem runMax_real (hs : ∃ r : ℝ, s = r) (hX : ∀ i, X i ≠ ⊤) (n : ℕ) : ∃ r : ℝ, runMax X s n = r := by
  obtain ⟨r, rfl⟩ := hs
  rcases low_cases (runMax X r n) (by
    unfold runMax
    refine ne_of_lt (max_lt (EReal.coe_lt_top r) ?_)
    exact (Finset.sup_lt_iff (bot_lt_top)).mpr fun i _ => lt_top_iff_ne_top.mpr (hX i)) with h | h
  · exfalso
    have h1 : (r : EReal) ≤ runMax X r n := le_max_left _ _
    rw [h] at h1
    exact EReal.coe_ne_bot r (le_bot_iff.mp h1)
  · exact h

theorem runMax_zero : runMax X s 0 = s := by
  unfold runMax; rw [Finset.range_zero, Finset.sup_empty]; exact max_eq_left bot_le

theorem runMax_add (n K : ℕ) : max (runMax X s n) (Finset.univ.fold max ⊥ fun p : Fin K => X (n + p.val)) = runMax X s (n + K) := by
  have e : (Finset.range (n + K)).sup X = max ((Finset.range n).sup X) (Finset.univ.sup fun p : Fin K => X (n + p.val)) := by
    refine le_antisymm (Finset.sup_le fun i hi => ?_) (max_le (Finset.sup_mono (Finset.range_mono (Nat.le_add_right _ _))) (Finset.sup_le fun p _ => Finset.le_sup (f := X) (Finset.mem_range.mpr (by omega))))
    have hi' := Finset.mem_range.mp hi
    by_cases h : i < n
    · exact le_max_of_le_left (Finset.le_sup (f := X) (Finset.mem_range.mpr h))
    · refine le_max_of_le_right ?_
      have := Finset.le_sup (s := Finset.univ) (f := fun p : Fin K => X (n + p.val)) (Finset.mem_univ (⟨i - n, by omega⟩ : Fin K))
      have e : n + (i - n) = i := by omega
      simp only [e] at this
      exact this
  unfold runMax
  rw [e, max_assoc]
  rfl

theorem runDen_add (hs : ∃ r : ℝ, s = r) (hX : ∀ i, X i ≠ ⊤) (n K : ℕ) :
    runDen X s n * ew (runMax X s n) (runMax X s (n + K)) + ∑ p : Fin K, ew (X (n + p.val)) (runMax X s (n + K)) = runDen X s (n + K) := by
  unfold runDen
  obtain ⟨a, ha⟩ := runMax_real X s hs hX n
  obtain ⟨b, hb⟩ := runMax_real X s hs hX (n + K)
  rw [ha, hb, Finset.sum_range_add, Finset.sum_range (n := K)]
  have h0 : (0 : EReal) ≤ ew a b := by rw [ew_coe]; exact EReal.coe_nonneg.mpr (Real.exp_pos _).le
  have ht : ew a b ≠ ⊤ := by rw [ew_coe]; exact EReal.coe_ne_top _
  have hs' : s ≠ ⊤ := by obtain ⟨r, rfl⟩ := hs; exact EReal.coe_ne_top r
  rw [EReal.right_distrib_of_nonneg_of_ne_top h0 ht, sum_mul_nonneg _ _ _ h0 ht, ew_mul s hs', add_assoc]
  refine congrArg (_ + ·) (congrArg (· + _) (Finset.sum_congr rfl fun i _ => ew_mul _ (hX i) a b))

theorem runAcc_add (hs : ∃ r : ℝ, s = r) (hX : ∀ i, X i ≠ ⊤) (n K : ℕ) :
    runAcc X c v s n * ew (runMax X s n) (runMax X s (n + K)) + ∑ p : Fin K, c (n + p.val) * (ew (X (n + p.val)) (runMax X s (n + K)) * v (n + p.val)) = runAcc X c v s (n + K) := by
  unfold runAcc
  obtain ⟨a, ha⟩ := runMax_real X s hs hX n
  obtain ⟨b, hb⟩ := runMax_real X s hs hX (n + K)
  rw [ha, hb, Finset.sum_range_add, Finset.sum_range (n := K)]
  have h0 : (0 : EReal) ≤ ew a b := by rw [ew_coe]; exact EReal.coe_nonneg.mpr (Real.exp_pos _).le
  have ht : ew a b ≠ ⊤ := by rw [ew_coe]; exact EReal.coe_ne_top _
  rw [sum_mul_nonneg _ _ _ h0 ht]
  refine congrArg (· + _) (Finset.sum_congr rfl fun i _ => ?_)
  rw [← ew_mul _ (hX i) a b, mul_assoc, mul_assoc, mul_assoc, mul_comm (v i)]

theorem runMax_skip (n K : ℕ) (h : ∀ p : Fin K, X (n + p.val) = ⊥) : runMax X s (n + K) = runMax X s n := by
  rw [← runMax_add, show (fun p : Fin K => X (n + p.val)) = fun _ => ⊥ from funext h]
  refine max_eq_left ?_
  have : (Finset.univ.sup fun _ : Fin K => (⊥ : EReal)) ≤ ⊥ := Finset.sup_le fun _ _ => le_refl _
  exact le_trans this bot_le

theorem runDen_skip (hs : ∃ r : ℝ, s = r) (hX : ∀ i, X i ≠ ⊤) (n K : ℕ) (h : ∀ p : Fin K, X (n + p.val) = ⊥) : runDen X s (n + K) = runDen X s n := by
  rw [← runDen_add X s hs hX, runMax_skip X s n K h]
  obtain ⟨a, ha⟩ := runMax_real X s hs hX n
  rw [ha, ew_self, mul_one, Finset.sum_eq_zero fun p _ => by rw [h p, ew_bot], add_zero]

theorem runAcc_skip (hs : ∃ r : ℝ, s = r) (hX : ∀ i, X i ≠ ⊤) (n K : ℕ) (h : ∀ p : Fin K, X (n + p.val) = ⊥) : runAcc X c v s (n + K) = runAcc X c v s n := by
  rw [← runAcc_add X c v s hs hX, runMax_skip X s n K h]
  obtain ⟨a, ha⟩ := runMax_real X s hs hX n
  rw [ha, ew_self, mul_one, Finset.sum_eq_zero fun p _ => by rw [h p, ew_bot, zero_mul, mul_zero], add_zero]

theorem runDen_zero (hs : ∃ r : ℝ, s = r) : runDen X s 0 = 1 := by
  obtain ⟨r, rfl⟩ := hs
  unfold runDen; rw [runMax_zero, ew_self, Finset.range_zero, Finset.sum_empty, add_zero]
theorem runAcc_zero : runAcc X c v s 0 = 0 := by
  unfold runAcc; rw [Finset.range_zero, Finset.sum_empty]

theorem sum_real_nonneg {ι : Type} (t : Finset ι) (f : ι → EReal) (h : ∀ i, ∃ e : ℝ, 0 ≤ e ∧ f i = e) : ∃ e : ℝ, 0 ≤ e ∧ ∑ i ∈ t, f i = e := by
  classical
  induction t using Finset.induction_on with
  | empty => exact ⟨0, le_refl _, Finset.sum_empty⟩
  | insert i t hi ih =>
    obtain ⟨a, ha, ea⟩ := h i
    obtain ⟨b, hb, eb⟩ := ih
    exact ⟨a + b, add_nonneg ha hb, by rw [Finset.sum_insert hi, ea, eb, EReal.coe_add]⟩

theorem runDen_pos (hs : ∃ r : ℝ, s = r) (hX : ∀ i, X i ≠ ⊤) (n : ℕ) : ∃ e : ℝ, 0 < e ∧ runDen X s n = e := by
  obtain ⟨a, ha⟩ := runMax_real X s hs hX n
  obtain ⟨r, rfl⟩ := hs
  obtain ⟨b, hb, eb⟩ := sum_real_nonneg (Finset.range n) (fun i => ew (X i) a) fun i => ew_real _ (hX i) a
  refine ⟨Real.exp (r - a) + b, add_pos_of_pos_of_nonneg (Real.exp_pos _) hb, ?_⟩
  unfold runDen
  rw [ha, eb, ew_coe, EReal.coe_add]

theorem div_pos_real (x : EReal) (d : ℝ) (hd : 0 < d) : Ideal.div x d = x * ((d⁻¹ : ℝ) : EReal) := by
  unfold Ideal.div
  rw [if_neg (by simpa using hd.ne')]
  rfl

/-- Dividing the weighted sum is dividing every weight. -/
theorem runAcc_div (hs : ∃ r : ℝ, s = r) (hX : ∀ i, X i ≠ ⊤) (n : ℕ) :
    Ideal.div (runAcc X c v s n) (runDen X s n) = ∑ i ∈ Finset.range n, c i * (Ideal.div (ew (X i) (runMax X s n)) (runDen X s n) * v i) := by
  obtain ⟨d, hd, e⟩ := runDen_pos X s hs hX n
  rw [e, div_pos_real _ _ hd]
  unfold runAcc
  rw [sum_mul_nonneg _ _ _ (EReal.coe_nonneg.mpr (inv_nonneg.mpr hd.le)) (EReal.coe_ne_top _)]
  refine Finset.sum_congr rfl fun i _ => ?_
  rw [div_pos_real _ _ hd, mul_assoc, mul_assoc, mul_assoc, mul_comm (v i)]

end Cert.Value

end
-- ==== Proof.Value.Iterate.lean ====
/- The second call's accumulators after each block of positions: the online softmax of the positions so far. -/
module

public import proofs.«01_k».proof.Proof.Value.KernelScores
public import proofs.«01_k».proof.Proof.Value.Block
public import proofs.«01_k».proof.Proof.Value.OutArray
public import proofs.«01_k».proof.Proof.Value.Softmax

@[expose] public section

set_option maxRecDepth 16384

noncomputable section

namespace Cert.KernelIdeal.Run

open Idealize.ShloMosaic Idealize.ShloMosaic.TcCoe Idealize.SL.Sem Cert.KernelIdeal Cert.KernelIdeal.Gen Cert.KernelIdeal.Prep Cert.KernelIdeal.Attend Cert.Value

variable (m : (ℓ : Loc nD τ sig) → Buf (Elt Ideal) ℓ)

abbrev aCodes (c : Dev nD) : S6x16384x8x64.Idx → BitVec 8 := m (c, Proc.devRef .tc main_arg6)
abbrev aScale (c : Dev nD) : S6x16384x8.Idx → EReal := m (c, Proc.devRef .tc main_arg7)

/-- A function of the positions as one of the numbers. -/
def posE {α : Type} (f : Fin 16384 → α) (i : ℕ) : α := f ⟨i % 16384, by omega⟩

theorem posE_at {α : Type} (f : Fin 16384 → α) (i : ℕ) (h : i < 16384) : posE f i = f ⟨i, h⟩ :=
  congrArg f (Fin.ext (Nat.mod_eq_of_lt h))

/-- A masked score. -/
def kMask (c : Dev nD) (b : Fin 6) (kv : Fin 8) (g : Fin 4) (p : Fin 16384) : EReal :=
  if (p.val : ℤ) < (aLen m c (Idealize.ShloMosaic.ix1 b)).toInt then kscore m c b kv g p else ⊥
/-- The new token's score, as the first call left it. -/
def kNew (c : Dev nD) (b : Fin 6) (kv : Fin 8) (g : Fin 4) : EReal :=
  (V2 m c main_v10_1 : S192x1.Idx → EReal) (ix2 ⟨b.val * 32 + (kv.val * 4 + g.val), by omega⟩ 0)
/-- A value's code and its scale. -/
def kCode (c : Dev nD) (b : Fin 6) (kv : Fin 8) (r : Fin 64) (n : Fin 2) (p : Fin 16384) : EReal := (((nibW (aCodes m c (ix4 b p kv r)) n).toInt : ℝ) : EReal)
def kScale (c : Dev nD) (b : Fin 6) (kv : Fin 8) (p : Fin 16384) : EReal := aScale m c (ix3 b p kv)

theorem bot_f32 : Ideal.ofBits .f32 0xFF800000#32 = ⊥ := by simp [Ideal.ofBits, Ideal.ieee]

/-- The accumulators hold the online softmax of the first `n` positions. -/
structure Holds (c : Dev nD) (b : Fin 6) (n : ℕ) (S : Scr Ideal) : Prop where
  m_eq : ∀ (kv : Fin 8) (g : Fin 4) (j : Fin 128), S.m (ix2 ⟨kv.val * 4 + g.val, by omega⟩ j) = runMax (posE (kMask m c b kv g)) (kNew m c b kv g) n
  l_eq : ∀ (kv : Fin 8) (g : Fin 4) (j : Fin 128), S.l (ix2 ⟨kv.val * 4 + g.val, by omega⟩ j) = runDen (posE (kMask m c b kv g)) (kNew m c b kv g) n
  a_eq : ∀ (kv : Fin 8) (g : Fin 4) (r : Fin 64) (k : Fin 2), S.a (ix2 ⟨kv.val * 128 + (r.val * 2 + k.val), by omega⟩ ⟨kv.val * 4 + g.val, by omega⟩)
    = runAcc (posE (kMask m c b kv g)) (posE (kCode m c b kv r k)) (posE (kScale m c b kv)) (kNew m c b kv g) n

theorem m0B_at (sn : Vec Ideal S32x1 .f32) (h : Fin 32) (j : Fin 128) : (m0B (F := Ideal) sn) (ix2 h j) = sn (ix2 h 0) := by
  unfold m0B; pointwise
theorem l0B_at (h : Fin 32) (j : Fin 128) : (l0B (F := Ideal) : S32x128.Idx → EReal) (ix2 h j) = 1 := by
  unfold l0B; pointwise
theorem a0B_at (h : Fin 1024) (j : Fin 32) : (a0B (F := Ideal) : S1024x32.Idx → EReal) (ix2 h j) = 0 := by
  unfold a0B; pointwise

/-- The new score and the scores are finite or, masked, minus infinity. -/
structure Fin' (c : Dev nD) : Prop where
  new : ∀ (b : Fin 6) (kv : Fin 8) (g : Fin 4), ∃ r : ℝ, kNew m c b kv g = r
  old : ∀ (b : Fin 6) (kv : Fin 8) (g : Fin 4) (p : Fin 16384), kMask m c b kv g p ≠ ⊤

theorem holds_zero (c : Dev nD) (hF : Fin' m c) (b : Fin 6) (t : Fin (cfg1 (tab m)).N) (hb : t.val / 8 = b.val) :
    Holds m c b 0 ⟨m0B (F := Ideal) (b5 (V2 m) (tab m) c t), l0B (F := Ideal), a0B (F := Ideal)⟩ where
  m_eq kv g j := by
    rw [runMax_zero]
    exact (m0B_at _ _ _).trans (b5_at (V2 m) (tab m) c t b hb ⟨kv.val * 4 + g.val, by omega⟩)
  l_eq kv g j := by rw [runDen_zero _ _ (hF.new b kv g)]; exact l0B_at ⟨kv.val * 4 + g.val, by omega⟩ j
  a_eq kv g r k := by rw [runAcc_zero]; exact a0B_at ⟨kv.val * 128 + (r.val * 2 + k.val), by omega⟩ ⟨kv.val * 4 + g.val, by omega⟩

theorem cond3_iff (i : grid1.Coords) (v1 : BitVec 32) : k1_cond3 i v1 = 1#1 ↔ ((i 1).val * 2048 : ℤ) < v1.toInt := by
  have h0 := v2At_toInt i 0 (by omega)
  rw [show v2At i + BitVec.ofNat 32 0 = v2At i from BitVec.add_zero _] at h0
  have hz : ∀ b : Bool, (IntOp.cmpi CmpIPredicate.ne (BitVec.setWidth 32 (BitVec.ofBool b)) 0#32 = 1#1) ↔ b = true := by decide
  unfold k1_cond3
  change IntOp.cmpi CmpIPredicate.ne (BitVec.setWidth 32 (BitVec.ofBool ((v2At i).slt v1))) 0#32 = 1#1 ↔ _
  rw [hz, BitVec.slt_iff_toInt_lt, h0]
  constructor <;> intro h <;> omega

/-- The masked scores of a block. -/
theorem masked_arg (c : Dev nD) (b : Fin 6) (s : Fin 8) (kv : Fin 8) (g : Fin 4) (p : Fin 2048)
    (t : Fin (cfg1 (tab m)).N) (hb : t.val / 8 = b.val) (hs : t.val % 8 = s.val)
    (hl : (lastW (len (tab m) c t) (BitVec.ofNat 32 s.val)).toNat = s.val) (hlen : len (tab m) c t = aLen m c (Idealize.ShloMosaic.ix1 b)) :
    (maskedB (F := Ideal) (v2At (grid1.coords t)) (len (tab m) c t) (b2 (V2 m) (tab m) c t) (rawB (b0 (V2 m) (tab m) c t) (b1 (V2 m) (tab m) c t)) (b6 (V2 m) (tab m) c t)) (ix2 ⟨kv.val * 4 + g.val, by omega⟩ p)
      = posE (kMask m c b kv g) (s.val * 2048 + p.val) := by
  have hco : (grid1.coords t 1).val = s.val := by rw [co_1]; omega
  rw [maskedB_at, posE_at _ _ (by omega), bot_f32]
  unfold kMask
  rw [← hlen]
  have hp := v2At_toInt (grid1.coords t) p.val p.isLt
  rw [hco] at hp
  have e : ((v2At (grid1.coords t) + BitVec.ofNat 32 p.val).slt (len (tab m) c t) = true) ↔ (((s.val * 2048 + p.val : ℕ) : ℤ) < (len (tab m) c t).toInt) := by
    rw [BitVec.slt_iff_toInt_lt, hp]
    push_cast
    exact Iff.rfl
  refine if_congr e ?_ rfl
  unfold kscore
  have h2 := b2_at (V2 m) (tab m) c t b s hb hs hl kv p
  have h6 := b6_at (V2 m) (tab m) c t b hb ⟨kv.val * 4 + g.val, by omega⟩
  have hr := raw_arg m c b s kv g ⟨p.val / 1024, by omega⟩ ⟨p.val / 512 % 2, by omega⟩ ⟨p.val / 128 % 4, by omega⟩ ⟨p.val % 128, by omega⟩ t hb hs hl
  have e2 : (p.val / 1024 * 8 + p.val / 512 % 2 * 4 + p.val / 128 % 4) * 128 + p.val % 128 = p.val := by omega
  simp only [e2] at hr
  rw [hr, h2, h6, V2_v5, v5_at, qsum_at m c b ⟨kv.val * 4 + g.val, by omega⟩]

theorem V2_v4 (c : Dev nD) : V2 m c main_v4 = V1 m c main_v4 := W2_of_ne m c main_v4 (by decide)
theorem V2_v6 (c : Dev nD) : V2 m c main_v6 = V1 m c main_v6 := W2_of_ne m c main_v6 (by decide)

/-- One block more. -/
theorem holds_block (c : Dev nD) (hF : Fin' m c) (b : Fin 6) (s : Fin 8) (t : Fin (cfg1 (tab m)).N) (hb : t.val / 8 = b.val) (hs : t.val % 8 = s.val)
    (S : Scr Ideal) (h : Holds m c b (s.val * 2048) S) :
    Holds m c b (s.val * 2048 + 2048) (blockS (F := Ideal) (grid1.coords t) (len (tab m) c t) (b0 (V2 m) (tab m) c t) (b1 (V2 m) (tab m) c t) (b2 (V2 m) (tab m) c t) (b3 (V2 m) (tab m) c t) (b4 (V2 m) (tab m) c t) (b6 (V2 m) (tab m) c t) S) := by
  have hX : ∀ (kv : Fin 8) (g : Fin 4) i, posE (kMask m c b kv g) i ≠ ⊤ := fun kv g i => hF.old b kv g _
  have hlen : len (tab m) c t = aLen m c (Idealize.ShloMosaic.ix1 b) := by
    obtain rfl := dev_eq c
    exact len_eq (tab m) dev0 t b hb
  have hco : (grid1.coords t 1).val = s.val := by rw [co_1]; omega
  unfold blockS
  split
  · rename_i h3
    rw [cond3_iff, hco] at h3
    have hl : (lastW (len (tab m) c t) (BitVec.ofNat 32 s.val)).toNat = s.val := lastW_own _ _ 0 s.isLt (by push_cast; omega)
    have hM := fun kv g p => masked_arg m c b s kv g p t hb hs hl hlen
    generalize maskedB (F := Ideal) (v2At (grid1.coords t)) (len (tab m) c t) (b2 (V2 m) (tab m) c t) (rawB (b0 (V2 m) (tab m) c t) (b1 (V2 m) (tab m) c t)) (b6 (V2 m) (tab m) c t) = MK at hM ⊢
    have hmax : ∀ (kv : Fin 8) (g : Fin 4), max (runMax (posE (kMask m c b kv g)) (kNew m c b kv g) (s.val * 2048)) (blockMax fun p => MK (ix2 ⟨kv.val * 4 + g.val, by omega⟩ p))
        = runMax (posE (kMask m c b kv g)) (kNew m c b kv g) (s.val * 2048 + 2048) := by
      intro kv g
      rw [← runMax_add]
      unfold blockMax
      rw [bot_f32, show (fun p => MK (ix2 ⟨kv.val * 4 + g.val, by omega⟩ p)) = fun p : Fin 2048 => posE (kMask m c b kv g) (s.val * 2048 + p.val) from funext fun p => hM kv g p]
    refine ⟨fun kv g j => ?_, fun kv g j => ?_, fun kv g r k => ?_⟩
    · show (shapeCast S32x128 (mNew (F := Ideal) MK S.m) shapeCasts_S32x128_S32x128) (ix2 _ j) = _
      rw [shapeCast_self, mNew_at, h.m_eq, hmax]
    · show (lNew (F := Ideal) MK S.m S.l) (ix2 _ j) = _
      rw [lNew_at, h.m_eq, h.m_eq, h.l_eq, hmax, ← runDen_add _ _ (hF.new b kv g) (hX kv g)]
      refine congrArg₂ (· + ·) rfl (Finset.sum_congr rfl fun p _ => ?_)
      rw [hM]; rfl
    · show (accB (F := Ideal) (alphaRow MK S.m) (pB MK S.m (b4 (V2 m) (tab m) c t)) (b3 (V2 m) (tab m) c t) S.a) (ix2 ⟨kv.val * 128 + (r.val * 2 + k.val), _⟩ _) = _
      refine (accB_at _ _ _ _ kv ⟨r.val * 2 + k.val, by omega⟩ _).trans ?_
      rw [alphaRow_at, alphaB_at, h.m_eq, hmax, ← runAcc_add _ _ _ _ (hF.new b kv g) (hX kv g)]
      refine congrArg₂ (· + ·) (congrArg₂ (· * ·) (h.a_eq kv g r k) rfl) (Finset.sum_congr rfl fun p _ => ?_)
      rw [pB_at, h.m_eq, hmax, hM]
      have hc : (unpack (F := Ideal) (codesAt (b3 (V2 m) (tab m) c t) kv.val kv.isLt)) (ix2 ⟨r.val * 2 + k.val, by omega⟩ p) = posE (kCode m c b kv r k) (s.val * 2048 + p.val) := by
        rw [posE_at _ _ (by omega)]
        have hcell : (codesAt (F := Ideal) (b3 (V2 m) (tab m) c t) kv.val kv.isLt) (ix4 0 0 r p) = aCodes m c (ix4 b ⟨s.val * 2048 + p.val, by omega⟩ kv r) := by
          rw [codesAt_at, b3_at (V2 m) (tab m) c t b s hb hs hl, V2_v4, v4_at]
        unfold kCode
        rw [← hcell]
        match k with
        | ⟨0, _⟩ => exact unpack_at0 _ r p
        | ⟨1, _⟩ => exact unpack_at1 _ r p
      rw [hc, b4_at (V2 m) (tab m) c t b s hb hs hl, V2_v6, v6_at, posE_at (kScale m c b kv) _ (by omega)]
      rfl
  · rename_i h3
    rw [cond3_iff, hco] at h3
    have hB : ∀ (kv : Fin 8) (g : Fin 4) (p : Fin 2048), posE (kMask m c b kv g) (s.val * 2048 + p.val) = ⊥ := by
      intro kv g p
      rw [posE_at _ _ (by omega)]
      unfold kMask
      rw [if_neg]
      rw [← hlen]
      push_cast
      omega
    refine ⟨fun kv g j => ?_, fun kv g j => ?_, fun kv g r k => ?_⟩
    · rw [h.m_eq, runMax_skip _ _ _ _ (hB kv g)]
    · rw [h.l_eq, runDen_skip _ _ (hF.new b kv g) (hX kv g) _ _ (hB kv g)]
    · rw [h.a_eq, runAcc_skip _ _ _ _ (hF.new b kv g) (hX kv g) _ _ (hB kv g)]

/-- The accumulators after a sequence's first `s + 1` blocks. -/
theorem holds_st (c : Dev nD) (hF : Fin' m c) (b : Fin 6) (s : ℕ) (hs : s < 8) : Holds m c b (s * 2048 + 2048) (stAt (V2 m) (tab m) c (b.val * 8 + s + 1)) := by
  induction s with
  | zero =>
    have e := stAt_succ (V2 m) (tab m) c (pt (tab m) b.val 0 (by omega))
    have hb : (pt (tab m) b.val 0 (by omega)).val / 8 = b.val := by show (b.val * 8 + 0) / 8 = b.val; omega
    have hs0 : (pt (tab m) b.val 0 (by omega)).val % 8 = (0 : Fin 8).val := by show (b.val * 8 + 0) % 8 = 0; omega
    refine (congrArg (Holds m c b (0 * 2048 + 2048)) e).mpr ?_
    unfold stepAt stepS initS
    rw [if_pos ((cond1_iff _).mpr hs0)]
    refine holds_block m c hF b 0 _ hb hs0 _ ?_
    show Holds m c b (0 * 2048) _
    rw [Nat.zero_mul]
    exact holds_zero m c hF b _ hb
  | succ s ih =>
    have ih := ih (by omega)
    have e := stAt_succ (V2 m) (tab m) c (pt (tab m) b.val (s + 1) (by omega))
    have hb : (pt (tab m) b.val (s + 1) (by omega)).val / 8 = b.val := by show (b.val * 8 + (s + 1)) / 8 = b.val; omega
    have hs1 : (pt (tab m) b.val (s + 1) (by omega)).val % 8 = (⟨s + 1, hs⟩ : Fin 8).val := by show (b.val * 8 + (s + 1)) % 8 = s + 1; omega
    refine (congrArg (Holds m c b ((s + 1) * 2048 + 2048)) e).mpr ?_
    unfold stepAt stepS initS
    rw [if_neg (fun hc => by have := (cond1_iff _).mp hc; rw [hs1] at this; exact absurd this (Nat.succ_ne_zero s))]
    refine holds_block m c hF b ⟨s + 1, hs⟩ _ hb hs1 _ ?_
    show Holds m c b ((s + 1) * 2048) _
    rw [Nat.succ_mul]
    exact ih

end Cert.KernelIdeal.Run

end
-- ==== Proof.Value.PrepNew.lean ====
/- What the preparation leaves of the new token for the second call: its score, its codes and its scale, per query head. -/
module

public import proofs.«01_k».proof.Proof.Value.Append
public import proofs.«01_k».proof.Proof.Value.Bits

@[expose] public section

set_option maxRecDepth 16384

noncomputable section

namespace Cert.KernelIdeal.Prep

open Idealize.ShloMosaic Idealize.SL.Sem Cert.KernelIdeal Cert.KernelIdeal.Gen Cert.Value

/-- The number of a query row's key row, as a word. -/
def ownW : IVec S192x48 32 := select k0_pay16 k0_pay17 k0_pay15

theorem ownW_at (r : Fin 192) (k : Fin 48) : ownW (ix2 r k) = BitVec.ofNat 32 (r.val / 4) := by
  have e : ownW (ix2 r k) = ownW (ix2 r 0) := by
    unfold ownW k0_pay16 k0_pay17 k0_pay15
    pointwise
  have d : ∀ r : Fin 192, ownW (ix2 r 0) = BitVec.ofNat 32 (r.val / 4) := by decide +kernel
  exact e.trans (d r)

theorem pay18_at (r : Fin 192) (k : Fin 48) : (k0_pay18 (F := Ideal) k0_pay15 k0_pay16 k0_pay17 : S192x48.Idx → EReal) (ix2 r k) = if k.val = r.val / 4 then 1 else 0 := by
  have e : (k0_pay18 (F := Ideal) k0_pay15 k0_pay16 k0_pay17 : S192x48.Idx → EReal) (ix2 r k) = Scalar.select (IntOp.cmpi .eq (ownW (ix2 r k)) (BitVec.ofNat 32 k.val)) (1 : EReal) 0 := by
    unfold k0_pay18
    pointwise
    rfl
  rw [e, ownW_at, cmpi_eq_ofNat _ _ (by omega) (by omega)]
  by_cases h : r.val / 4 = k.val
  · rw [if_pos h, if_pos h.symm]; rfl
  · rw [if_neg h, if_neg (fun e => h e.symm)]; rfl

theorem pay20_at (v : FVec Ideal S48x128 .bf16) (r : Fin 192) (d : Fin 128) :
    (k0_pay20 (F := Ideal) v k0_pay15 k0_pay16 k0_pay17 : S192x128.Idx → EReal) (ix2 r d) = (v : S48x128.Idx → EReal) (ix2 ⟨r.val / 4, by omega⟩ d) := by
  unfold k0_pay20
  generalize hz : k0_pay18 (F := Ideal) k0_pay15 k0_pay16 k0_pay17 = z
  pointwise
  subst hz
  simp only [pay18_at]
  exact sum_onehot' (fun k : Fin 48 => (v : S48x128.Idx → EReal) (ix2 k d)) ⟨r.val / 4, by omega⟩ (fun k => k.val = r.val / 4) fun k => ⟨fun h => Fin.ext h, fun h => congrArg Fin.val h⟩

theorem pay21_at (v : FVec Ideal S48x128 .bf16) (r : Fin 192) :
    (k0_pay21 (F := Ideal) v k0_pay15 k0_pay16 k0_pay17 : S192x1.Idx → EReal) (ix2 r 0) = rowScale fun d => (v : S48x128.Idx → EReal) (ix2 ⟨r.val / 4, by omega⟩ d) := by
  have e : (k0_pay21 (F := Ideal) v k0_pay15 k0_pay16 k0_pay17 : S192x1.Idx → EReal) (ix2 r 0) = rowScale fun d => (k0_pay20 (F := Ideal) v k0_pay15 k0_pay16 k0_pay17 : S192x128.Idx → EReal) (ix2 r d) := by
    unfold k0_pay21
    generalize k0_pay20 (F := Ideal) v k0_pay15 k0_pay16 k0_pay17 = z
    dsimp only
    pointwise
    rfl
  rw [e]
  exact congrArg rowScale (funext fun d => pay20_at v r d)

/-- A number's code as a number: the nearest integer at the scale, clipped to seven. -/
def realCode (v s : EReal) : EReal :=
  min (Ideal.ofBits .f32 0x40E00000#32) (max (Ideal.ofBits .f32 0xC0E00000#32) (FloatOps.roundeven (F := Ideal) (φ := .f32) (Ideal.div v s)))

theorem pay22_at (v : FVec Ideal S48x128 .bf16) (r : Fin 192) (d : Fin 128) :
    (k0_pay22 (F := Ideal) v k0_pay15 k0_pay16 k0_pay17 : S192x128.Idx → EReal) (ix2 r d)
      = realCode ((v : S48x128.Idx → EReal) (ix2 ⟨r.val / 4, by omega⟩ d)) (rowScale fun d => (v : S48x128.Idx → EReal) (ix2 ⟨r.val / 4, by omega⟩ d)) := by
  rw [← pay21_at v r, ← pay20_at v r d]
  unfold k0_pay22
  generalize k0_pay20 (F := Ideal) v k0_pay15 k0_pay16 k0_pay17 = z
  generalize k0_pay21 (F := Ideal) v k0_pay15 k0_pay16 k0_pay17 = w
  pointwise
  rfl

theorem pay19_at (v : FVec Ideal S48x128 .bf16) (r : Fin 192) :
    (k0_pay19 (F := Ideal) v k0_pay15 k0_pay16 k0_pay17 : S192x1.Idx → EReal) (ix2 r 0)
      = Ideal.sqrt (∑ d : Fin 128, (v : S48x128.Idx → EReal) (ix2 ⟨r.val / 4, by omega⟩ d) * (v : S48x128.Idx → EReal) (ix2 ⟨r.val / 4, by omega⟩ d)) := by
  have e : (k0_pay19 (F := Ideal) v k0_pay15 k0_pay16 k0_pay17 : S192x1.Idx → EReal) (ix2 r 0)
      = Ideal.sqrt (∑ d : Fin 128, (k0_pay20 (F := Ideal) v k0_pay15 k0_pay16 k0_pay17 : S192x128.Idx → EReal) (ix2 r d) * (k0_pay20 (F := Ideal) v k0_pay15 k0_pay16 k0_pay17 : S192x128.Idx → EReal) (ix2 r d)) := by
    unfold k0_pay19 k0_pay20
    generalize k0_pay18 (F := Ideal) k0_pay15 k0_pay16 k0_pay17 = z
    dsimp only
    pointwise
  rw [e]
  simp only [pay20_at]

/-- A bit as the sketch reads it: one or minus one. -/
def sgnW (b : BitVec 1) : EReal := Scalar.select b (1 : EReal) (-1)

theorem ownInline (r : Fin 192) :
    Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 4#32 0#32))
              (Scalar.extui (Scalar.cmpi CmpIPredicate.slt 4#32 0#32))))
          (IntOp.cmpi CmpIPredicate.ne (IntOp.remsi ArithUnit.vector (BitVec.ofNat 32 r.val) 4#32) 0#32))
        (IntOp.subi (IntOp.divsi ArithUnit.vector (BitVec.ofNat 32 r.val) 4#32) 1#32)
        (IntOp.divsi ArithUnit.vector (BitVec.ofNat 32 r.val) 4#32) = BitVec.ofNat 32 (r.val / 4) := by
  revert r; decide +kernel

theorem pay24_at (b : IVec S48x384 1) (n : FVec Ideal S192x1 .bf16) (q : FVec Ideal S192x384 .bf16) (r : Fin 192) :
    (k0_pay24 (F := Ideal) b n q : S192x1.Idx → EReal) (ix2 r 0)
      = (∑ s : Fin 384, (q : S192x384.Idx → EReal) (ix2 r s) * sgnW (b (ix2 ⟨r.val / 4, by omega⟩ s))) * ((n : S192x1.Idx → EReal) (ix2 r 0) * Ideal.ofBits .f32 0x39973FD8#32) := by
  have e : (k0_pay24 (F := Ideal) b n q : S192x1.Idx → EReal) (ix2 r 0)
      = (∑ k : Fin 48, Scalar.select (IntOp.cmpi .eq (BitVec.ofNat 32 (r.val / 4)) (BitVec.ofNat 32 k.val)) (∑ s : Fin 384, (q : S192x384.Idx → EReal) (ix2 r s) * Scalar.select (b (ix2 k s)) (1 : EReal) (Ideal.ofBits .f32 0xBF800000#32)) (0 : EReal)) * ((n : S192x1.Idx → EReal) (ix2 r 0) * Ideal.ofBits .f32 0x39973FD8#32) := by
    unfold k0_pay24
    pointwise
    rw [ownInline]
  have hm : Ideal.ofBits .f32 0xBF800000#32 = (-1 : EReal) := by
    simp [Ideal.ofBits, Ideal.ieee, -EReal.coe_mul]; norm_num
  rw [e, hm]
  refine congrArg (· * _) ?_
  rw [Finset.sum_eq_single (⟨r.val / 4, by omega⟩ : Fin 48)]
  · rw [cmpi_eq_ofNat _ _ (by omega) (by omega), if_pos rfl]
    rfl
  · intro k _ hk
    rw [cmpi_eq_ofNat _ _ (by omega) (by omega), if_neg (fun h => hk (Fin.ext h.symm))]
    rfl
  · exact fun h => absurd (Finset.mem_univ _) h

theorem pay56_eq (x0 : Vec Ideal S192x128 .bf16) (x1 : Vec Ideal S48x128 .bf16) (x2 : Vec Ideal S48x128 .bf16) (x3 : Vec Ideal S128x384 .bf16) : k0_pay56 (F := Ideal) x0 x1 x2 x3 = k0_pay23 (F := Ideal) x3 x0 := by
  have hld3 : View.ld x3 r0_0 = x3 := View.ld_unit_lit _ x3 (by decide)
  have hld0 : View.ld x0 r0_5 = x0 := View.ld_unit_lit _ x0 (by decide)
  unfold k0_pay56; rw [hld3, hld0]

/-- The codes of the new value rows that the second call reads. -/
theorem out0_7_at (x0 : Vec Ideal S192x128 .bf16) (x1 : Vec Ideal S48x128 .bf16) (x2 : Vec Ideal S48x128 .bf16) (x3 : Vec Ideal S128x384 .bf16) (r : Fin 192) (d : Fin 128) :
    (out0_7 (F := Ideal) x0 x1 x2 x3) (ix2 r d)
      = realCode ((x2 : S48x128.Idx → EReal) (ix2 ⟨r.val / 4, by omega⟩ d)) (rowScale fun d => (x2 : S48x128.Idx → EReal) (ix2 ⟨r.val / 4, by omega⟩ d)) := by
  unfold out0_7
  rw [View.canon_cons_unit_lit _ _ _ (by decide), pay51_eq]
  exact pay22_at x2 r d

/-- The scales of the new value rows that the second call reads. -/
theorem out0_8_at (x0 : Vec Ideal S192x128 .bf16) (x1 : Vec Ideal S48x128 .bf16) (x2 : Vec Ideal S48x128 .bf16) (x3 : Vec Ideal S128x384 .bf16) (r : Fin 192) :
    (out0_8 (F := Ideal) x0 x1 x2 x3) (ix2 r 0) = rowScale fun d => (x2 : S48x128.Idx → EReal) (ix2 ⟨r.val / 4, by omega⟩ d) := by
  unfold out0_8
  rw [View.canon_cons_unit_lit _ _ _ (by decide), pay51_eq]
  exact pay21_at x2 r

/-- The new token's scores. -/
theorem out0_5_at (x0 : Vec Ideal S192x128 .bf16) (x1 : Vec Ideal S48x128 .bf16) (x2 : Vec Ideal S48x128 .bf16) (x3 : Vec Ideal S128x384 .bf16) (r : Fin 192) :
    (out0_5 (F := Ideal) x0 x1 x2 x3) (ix2 r 0)
      = (∑ s : Fin 384, (∑ d : Fin 128, (x0 : S192x128.Idx → EReal) (ix2 r d) * (x3 : S128x384.Idx → EReal) (ix2 d s))
            * sgnW (FloatOps.cmpf (F := Ideal) (φ := .f32) .oge (∑ d : Fin 128, (x1 : S48x128.Idx → EReal) (ix2 ⟨r.val / 4, by omega⟩ d) * (x3 : S128x384.Idx → EReal) (ix2 d s)) (0 : EReal)))
          * (Ideal.sqrt (∑ d : Fin 128, (x1 : S48x128.Idx → EReal) (ix2 ⟨r.val / 4, by omega⟩ d) * (x1 : S48x128.Idx → EReal) (ix2 ⟨r.val / 4, by omega⟩ d)) * Ideal.ofBits .f32 0x39973FD8#32) := by
  have hld : View.ld x1 r0_1 = x1 := View.ld_unit_lit _ x1 (by decide)
  have hq : k0_pay50 (F := Ideal) x0 x1 x2 x3 = x1 := by
    unfold k0_pay50 k0_pay2; rw [hld]; exact funext fun i => by pointwise
  unfold out0_5
  rw [View.canon_cons_unit_lit _ _ _ (by decide), pay24_at, hq, pay56_eq]
  refine congrArg₂ (· * ·) (Finset.sum_congr rfl fun s _ => ?_) (congrArg (· * _) (pay19_at x1 r))
  rw [pay52_at]
  exact congrArg (· * _) (pay23_at _ _ _ _)

end Cert.KernelIdeal.Prep

end
-- ==== Proof.Value.KernelOut.lean ====
/- The attention output that the whole kernel returns, entry by entry: the softmax of the masked scores and the new score, of dequantised values. -/
module

public import proofs.«01_k».proof.Proof.Value.Iterate
public import proofs.«01_k».proof.Proof.Value.PrepNew
public import proofs.«01_k».proof.Proof.Value.KernelAppend

@[expose] public section

set_option maxRecDepth 16384

noncomputable section

namespace Cert.KernelIdeal.Run

open Idealize.ShloMosaic Idealize.ShloMosaic.TcCoe Idealize.SL.Sem Cert.KernelIdeal Cert.KernelIdeal.Gen Cert.KernelIdeal.Prep Cert.KernelIdeal.Attend Cert.Value

variable (m : (ℓ : Loc nD τ sig) → Buf (Elt Ideal) ℓ)

theorem V2_v10_1 (c : Dev nD) : V2 m c main_v10_1 = out0_5 (V1 m c main_v7) (V1 m c main_v8) (V1 m c main_v9) (V1 m c main_arg3) :=
  (W2_arr m c 5).trans (arr_5 (V1 m) c)
theorem V2_v10_3 (c : Dev nD) : V2 m c main_v10_3 = out0_7 (V1 m c main_v7) (V1 m c main_v8) (V1 m c main_v9) (V1 m c main_arg3) :=
  (W2_arr m c 7).trans (arr_7 (V1 m) c)
theorem V2_v10_4 (c : Dev nD) : V2 m c main_v10_4 = out0_8 (V1 m c main_v7) (V1 m c main_v8) (V1 m c main_v9) (V1 m c main_arg3) :=
  (W2_arr m c 8).trans (arr_8 (V1 m) c)

theorem v8_row (c : Dev nD) (b : Fin 6) (kv : Fin 8) (d : Fin 128) (r : ℕ) (hr : r < 48) (e : r = b.val * 8 + kv.val) :
    (V1 m c main_v8 : S48x128.Idx → EReal) (ix2 ⟨r, hr⟩ d) = aK m c (ix4 b 0 kv d) := by
  subst e; exact v8_at m c b kv d
theorem v9_row (c : Dev nD) (b : Fin 6) (kv : Fin 8) (d : Fin 128) (r : ℕ) (hr : r < 48) (e : r = b.val * 8 + kv.val) :
    (V1 m c main_v9 : S48x128.Idx → EReal) (ix2 ⟨r, hr⟩ d) = aV m c (ix4 b 0 kv d) := by
  subst e; exact v9_at m c b kv d

/-- The new token's score over the arguments. -/
theorem kNew_eq (c : Dev nD) (b : Fin 6) (kv : Fin 8) (g : Fin 4) : kNew m c b kv g
    = (∑ s : Fin 384, qp m c b ⟨kv.val * 4 + g.val, by omega⟩ s
          * sgnW (FloatOps.cmpf (F := Ideal) (φ := .f32) .oge (∑ d : Fin 128, aK m c (ix4 b 0 kv d) * aP m c (ix2 d s)) (0 : EReal)))
        * (Ideal.sqrt (∑ d : Fin 128, aK m c (ix4 b 0 kv d) * aK m c (ix4 b 0 kv d)) * Ideal.ofBits .f32 0x39973FD8#32) := by
  unfold kNew
  rw [V2_v10_1]
  refine (out0_5_at _ _ _ _ _).trans ?_
  rw [V1_arg3]
  have hk : ∀ d, (V1 m c main_v8 : S48x128.Idx → EReal) (ix2 ⟨(b.val * 32 + (kv.val * 4 + g.val)) / 4, by omega⟩ d) = aK m c (ix4 b 0 kv d) :=
    fun d => v8_row m c b kv d _ _ (by omega)
  have hq : ∀ d, (V1 m c main_v7 : S192x128.Idx → EReal) (ix2 ⟨b.val * 32 + (kv.val * 4 + g.val), by omega⟩ d) = aX m c (ix3 b 0 ⟨(kv.val * 4 + g.val) * 128 + d.val, by omega⟩) :=
    fun d => v7_row m c b ⟨kv.val * 4 + g.val, by omega⟩ d _ _ rfl
  simp only [hk, hq]
  rfl

/-- The new value's code and its scale, as a query head reads them. -/
theorem vcode_at (c : Dev nD) (b : Fin 6) (kv : Fin 8) (g : Fin 4) (d : Fin 128) :
    (V2 m c main_v10_3 : S192x128.Idx → EReal) (ix2 ⟨b.val * 32 + (kv.val * 4 + g.val), by omega⟩ d) = realCode (aV m c (ix4 b 0 kv d)) (rowScale fun d => aV m c (ix4 b 0 kv d)) := by
  rw [V2_v10_3]
  refine (out0_7_at _ _ _ _ _ _).trans ?_
  have hk : ∀ d, (V1 m c main_v9 : S48x128.Idx → EReal) (ix2 ⟨(b.val * 32 + (kv.val * 4 + g.val)) / 4, by omega⟩ d) = aV m c (ix4 b 0 kv d) :=
    fun d => v9_row m c b kv d _ _ (by omega)
  simp only [hk]
theorem vscale_at (c : Dev nD) (b : Fin 6) (kv : Fin 8) (g : Fin 4) :
    (V2 m c main_v10_4 : S192x1.Idx → EReal) (ix2 ⟨b.val * 32 + (kv.val * 4 + g.val), by omega⟩ 0) = rowScale fun d => aV m c (ix4 b 0 kv d) := by
  rw [V2_v10_4]
  refine (out0_8_at _ _ _ _ _).trans ?_
  have hk : ∀ d, (V1 m c main_v9 : S48x128.Idx → EReal) (ix2 ⟨(b.val * 32 + (kv.val * 4 + g.val)) / 4, by omega⟩ d) = aV m c (ix4 b 0 kv d) :=
    fun d => v9_row m c b kv d _ _ (by omega)
  simp only [hk]

/-- The maximum and the denominator of all the positions. -/
def kMax (c : Dev nD) (b : Fin 6) (kv : Fin 8) (g : Fin 4) : EReal := runMax (posE (kMask m c b kv g)) (kNew m c b kv g) 16384
def kDen (c : Dev nD) (b : Fin 6) (kv : Fin 8) (g : Fin 4) : EReal := runDen (posE (kMask m c b kv g)) (kNew m c b kv g) 16384

/-- What a column of the output holds: half `n` of byte `r`. -/
def kOut (c : Dev nD) (b : Fin 6) (kv : Fin 8) (g : Fin 4) (n : Fin 2) (r : Fin 64) : EReal :=
  (∑ p : Fin 16384, kCode m c b kv r n p * (Ideal.div (ew (kMask m c b kv g p) (kMax m c b kv g)) (kDen m c b kv g) * aScale m c (ix3 b p kv)))
    + (Ideal.div (ew (kNew m c b kv g) (kMax m c b kv g)) (kDen m c b kv g) * rowScale fun d => aV m c (ix4 b 0 kv d))
      * realCode (aV m c (ix4 b 0 kv ⟨n.val * 64 + r.val, by omega⟩)) (rowScale fun d => aV m c (ix4 b 0 kv d))

theorem acc_div (c : Dev nD) (hF : Fin' m c) (b : Fin 6) (kv : Fin 8) (g : Fin 4) (n : Fin 2) (r : Fin 64) :
    Ideal.div (runAcc (posE (kMask m c b kv g)) (posE (kCode m c b kv r n)) (posE (kScale m c b kv)) (kNew m c b kv g) 16384) (kDen m c b kv g)
      = ∑ p : Fin 16384, kCode m c b kv r n p * (Ideal.div (ew (kMask m c b kv g p) (kMax m c b kv g)) (kDen m c b kv g) * aScale m c (ix3 b p kv)) := by
  have hX : ∀ i, posE (kMask m c b kv g) i ≠ ⊤ := fun i => hF.old b kv g _
  unfold kDen
  rw [runAcc_div _ _ _ _ (hF.new b kv g) hX, Finset.sum_range]
  refine Finset.sum_congr rfl fun p _ => ?_
  rw [posE_at _ _ p.isLt, posE_at _ _ p.isLt, posE_at _ _ p.isLt]
  rfl

/-- The kernel's attention output. -/
theorem kernel_out (c : Dev nD) (hF : Fin' m c) (b : Fin 6) (kv : Fin 8) (g : Fin 4) (n : Fin 2) (r : Fin 64) :
    (W4 m c (Proc.devRef .tc main_v12) : S6x1x4096.Idx → EReal) (ix3 b 0 ⟨(kv.val * 4 + g.val) * 128 + (n.val * 64 + r.val), by omega⟩) = kOut m c b kv g n r := by
  refine (v12_at m c b ⟨kv.val * 4 + g.val, by omega⟩ ⟨n.val * 64 + r.val, by omega⟩).trans ?_
  rw [show (W3 m c (Proc.devRef .tc main_v11_0) : S6x32x128.Idx → EReal) = _ from (W3_arr m c 9).trans (arr_out (V2 m) (tab m) c)]
  have hpf : b.val * 8 + 7 < 48 := by omega
  obtain ⟨t, ht⟩ : ∃ t, t = pt (tab m) b.val 7 hpf := ⟨_, rfl⟩
  show outAt (V2 m) (tab m) c (pt (tab m) b.val 7 hpf) (ix3 0 ⟨kv.val * 4 + g.val, by omega⟩ ⟨n.val * 64 + r.val, by omega⟩) = _
  have hS : Holds m c b 16384 (stAt (V2 m) (tab m) c ((pt (tab m) b.val 7 hpf).val + 1)) := holds_st m c hF b 7 (by omega)
  rw [← ht] at hS ⊢
  have hb : t.val / 8 = b.val := by rw [ht]; show (b.val * 8 + 7) / 8 = b.val; omega
  have h5 : b5 (V2 m) (tab m) c t (ix2 ⟨kv.val * 4 + g.val, by omega⟩ 0) = kNew m c b kv g := b5_at (V2 m) (tab m) c t b hb ⟨kv.val * 4 + g.val, by omega⟩
  have h7 := b7_at (V2 m) (tab m) c t b hb ⟨kv.val * 4 + g.val, by omega⟩ ⟨n.val * 64 + r.val, by omega⟩
  have h8 := b8_at (V2 m) (tab m) c t b hb ⟨kv.val * 4 + g.val, by omega⟩
  rw [vcode_at] at h7
  rw [vscale_at] at h8
  unfold outAt kOut
  rw [← acc_div m c hF]
  generalize stAt (V2 m) (tab m) c (t.val + 1) = S at hS ⊢
  match n, h7 with
  | ⟨0, _⟩, h7 =>
    have e : (⟨0 * 64 + r.val, by omega⟩ : Fin 128) = ⟨r.val, by omega⟩ := Fin.ext (by show 0 * 64 + r.val = r.val; omega)
    simp only [e] at h7 ⊢
    refine (outV_at0 _ _ _ _ _ _ kv g r).trans ?_
    have ha : S.a (ix2 ⟨kv.val * 128 + (r.val * 2 + 0), by omega⟩ ⟨kv.val * 4 + g.val, by omega⟩)
        = runAcc (posE (kMask m c b kv g)) (posE (kCode m c b kv r ⟨0, by omega⟩)) (posE (kScale m c b kv)) (kNew m c b kv g) 16384 := hS.a_eq kv g r ⟨0, by omega⟩
    rw [h5, h7, h8, hS.m_eq, hS.l_eq, hS.l_eq, ha]
    unfold kMax kDen ew
    with_reducible rfl
  | ⟨1, _⟩, h7 =>
    have e : (⟨1 * 64 + r.val, by omega⟩ : Fin 128) = ⟨64 + r.val, by omega⟩ := Fin.ext (by show 1 * 64 + r.val = 64 + r.val; omega)
    simp only [e] at h7 ⊢
    refine (outV_at1 _ _ _ _ _ _ kv g r).trans ?_
    have ha : S.a (ix2 ⟨kv.val * 128 + (r.val * 2 + 1), by omega⟩ ⟨kv.val * 4 + g.val, by omega⟩)
        = runAcc (posE (kMask m c b kv g)) (posE (kCode m c b kv r ⟨1, by omega⟩)) (posE (kScale m c b kv)) (kNew m c b kv g) 16384 := hS.a_eq kv g r ⟨1, by omega⟩
    rw [h5, h7, h8, hS.m_eq, hS.l_eq, hS.l_eq, ha]
    unfold kMax kDen ew
    with_reducible rfl

end Cert.KernelIdeal.Run

end
-- ==== Proof.Value.RefOut.lean ====
/- What the reference's attention output is, entry by entry: a softmax over the masked scores and the new score, of dequantised values. -/
module

public import proofs.«01_k».proof.Proof.Value.RefScores
public import proofs.«01_k».proof.Proof.Value.RefAppend
public import proofs.«01_k».proof.Proof.Value.Softmax

@[expose] public section

set_option maxRecDepth 16384

noncomputable section

namespace Cert.ReferenceIdeal.Value

open Idealize.ShloMosaic Idealize.ShloMosaic.TcCoe Idealize.SL.Sem Cert.ReferenceIdeal Cert.ReferenceIdeal.Gen Idealize.ShloMosaic.StableHlo Cert.Value

variable (V0 : Valuation τ sig (Elt Ideal))

abbrev rCodes : S6x16384x8x64.Idx → BitVec 8 := V0 (Proc.devRef .tc main_arg6)
abbrev rScale : S6x16384x8.Idx → EReal := V0 (Proc.devRef .tc main_arg7)

theorem bot_f32 : Ideal.ofBits .f32 0xFF800000#32 = ⊥ := by simp [Ideal.ofBits, Ideal.ieee]

/-- A masked score. -/
def rMask (b : Fin 6) (kv : Fin 8) (g : Fin 4) (p : Fin 16384) : EReal :=
  if (p.val : ℤ) < (rLen V0 (ix1 b)).toInt then (res_main_v71 V0 : S6x1x8x4x16384.Idx → EReal) (ix5 b 0 kv g p) else ⊥

theorem v111_at (b : Fin 6) (kv : Fin 8) (g : Fin 4) (p : Fin 16384) : (res_main_v111 V0 : S6x1x8x4x16384.Idx → EReal) (ix5 b 0 kv g p) = rMask V0 b kv g p := by
  unfold res_main_v111 rMask
  pointwise
  rw [v104_at]
  have hp : (BitVec.ofNat 32 p.val).toInt = p.val := by
    have hn : (BitVec.ofNat 32 p.val).toNat = p.val := by rw [BitVec.toNat_ofNat]; omega
    rw [BitVec.toInt_eq_toNat_of_lt (by rw [hn]; omega), hn]
  have h0 : (constant (F := Ideal) S_ .f32 0xFF800000#32 ix0 : EReal) = ⊥ := bot_f32
  have e : ((BitVec.ofNat 32 p.val).slt (rLen V0 (ix1 b)) = true) ↔ ((p.val : ℤ) < (rLen V0 (ix1 b)).toInt) := by
    rw [BitVec.slt_iff_toInt_lt, hp]
  refine Eq.trans (b := if (BitVec.ofNat 32 p.val).slt (rLen V0 (ix1 b)) = true then (res_main_v71 V0 : S6x1x8x4x16384.Idx → EReal) (ix5 b 0 kv g p) else (⊥ : EReal)) ?_ ?_
  · show (if BitVec.ofBool ((BitVec.ofNat 32 p.val).slt (rLen V0 (ix1 b))) = 1#1 then _ else (constant (F := Ideal) S_ .f32 0xFF800000#32 ix0 : EReal)) = _
    rw [h0]
    cases (BitVec.ofNat 32 p.val).slt (rLen V0 (ix1 b)) <;> rfl
  · exact if_congr e rfl rfl

/-- The new token's score. -/
def rNew (b : Fin 6) (kv : Fin 8) (g : Fin 4) : EReal := (res_main_v112 V0 : S6x1x8x4x1.Idx → EReal) (ix5 b 0 kv g 0)
/-- The maximum, the denominator. -/
def rMax (b : Fin 6) (kv : Fin 8) (g : Fin 4) : EReal := max (Finset.univ.fold max ⊥ fun p => rMask V0 b kv g p) (rNew V0 b kv g)
def rDen (b : Fin 6) (kv : Fin 8) (g : Fin 4) : EReal := (∑ p : Fin 16384, ew (rMask V0 b kv g p) (rMax V0 b kv g)) + ew (rNew V0 b kv g) (rMax V0 b kv g)

theorem redMax_at (X : S6x1x8x4x16384.Idx → EReal) (b : Fin 6) (kv : Fin 8) (g : Fin 4) :
    (Host.reduce (FloatOps.maximumf (F := Ideal) (φ := .f32)) X (constant (F := Ideal) S_ .f32 0xFF800000#32) reducesTo_S6x1x8x4x16384_S6x1x8x4_d4 h_S_) (ix4 b 0 kv g) = Finset.univ.fold max ⊥ fun p : Fin 16384 => X (ix5 b 0 kv g p) := by
  rw [hostReduce_maximumf_eq_multiReduction _ 0xFF800000#32 _ _ (by decide) (.inl rfl) rfl]
  pointwise
  rw [bot_f32]

theorem redMax1_at (X : S6x1x8x4x1.Idx → EReal) (b : Fin 6) (kv : Fin 8) (g : Fin 4) :
    (Host.reduce (FloatOps.maximumf (F := Ideal) (φ := .f32)) X (constant (F := Ideal) S_ .f32 0xFF800000#32) reducesTo_S6x1x8x4x1_S6x1x8x4_d4 h_S_) (ix4 b 0 kv g) = X (ix5 b 0 kv g 0) := by
  rw [hostReduce_maximumf_eq_multiReduction _ 0xFF800000#32 _ _ (by decide) (.inl rfl) rfl]
  pointwise
  rw [bot_f32]
  rw [show (Finset.univ : Finset (Fin 1)) = {0} from rfl, Finset.fold_singleton]
  exact max_eq_left bot_le

theorem redAdd_at (X : S6x1x8x4x16384.Idx → EReal) (b : Fin 6) (kv : Fin 8) (g : Fin 4) :
    Ideal.hostReduceAdd reducesTo_S6x1x8x4x16384_S6x1x8x4_d4 X 0 (ix4 b 0 kv g) = ∑ p : Fin 16384, X (ix5 b 0 kv g p) := by
  have hr : S6x1x8x4x16384.Reduces [4] S6x1x8x4 := by decide
  rw [Ideal.hostReduceAdd_single _ hr, zero_add]
  refine Finset.sum_congr rfl fun pl _ => congrArg X (funext fun d => Fin.ext ?_)
  match d with
  | ⟨0, _⟩ => rfl
  | ⟨1, _⟩ => rfl
  | ⟨2, _⟩ => rfl
  | ⟨3, _⟩ => rfl
  | ⟨4, _⟩ => rfl

theorem redAdd1_at (X : S6x1x8x4x1.Idx → EReal) (b : Fin 6) (kv : Fin 8) (g : Fin 4) :
    Ideal.hostReduceAdd reducesTo_S6x1x8x4x1_S6x1x8x4_d4 X 0 (ix4 b 0 kv g) = X (ix5 b 0 kv g 0) := by
  have hr : S6x1x8x4x1.Reduces [4] S6x1x8x4 := by decide
  rw [Ideal.hostReduceAdd_single _ hr, zero_add]
  refine Eq.trans (Fin.sum_univ_one _) (congrArg X (funext fun d => Fin.ext ?_))
  match d with
  | ⟨0, _⟩ => rfl
  | ⟨1, _⟩ => rfl
  | ⟨2, _⟩ => rfl
  | ⟨3, _⟩ => rfl
  | ⟨4, _⟩ => rfl

theorem max_pair (A B : FVec Ideal S6x1x8x4 .f32) (b : Fin 6) (kv : Fin 8) (g : Fin 4) :
    (maximumf (broadcastInDim S6x1x8x4x1 ![0, 1, 2, 3] bcast_S6x1x8x4_S6x1x8x4x1_0_1_2_3 A) (broadcastInDim S6x1x8x4x1 ![0, 1, 2, 3] bcast_S6x1x8x4_S6x1x8x4x1_0_1_2_3 B) : S6x1x8x4x1.Idx → EReal) (ix5 b 0 kv g 0)
      = max ((A : S6x1x8x4.Idx → EReal) (ix4 b 0 kv g)) ((B : S6x1x8x4.Idx → EReal) (ix4 b 0 kv g)) := by
  pointwise

theorem v117_at (b : Fin 6) (kv : Fin 8) (g : Fin 4) : (res_main_v117 V0 : S6x1x8x4x1.Idx → EReal) (ix5 b 0 kv g 0) = rMax V0 b kv g := by
  unfold res_main_v117
  refine (max_pair _ _ b kv g).trans ?_
  rw [redMax_at, redMax1_at, show (fun p => (res_main_v111 V0 : S6x1x8x4x16384.Idx → EReal) (ix5 b 0 kv g p)) = fun p => rMask V0 b kv g p from funext fun p => v111_at V0 b kv g p]
  unfold rMax rNew
  with_reducible rfl

theorem v120_at (b : Fin 6) (kv : Fin 8) (g : Fin 4) (p : Fin 16384) : (res_main_v120 V0 : S6x1x8x4x16384.Idx → EReal) (ix5 b 0 kv g p) = ew (rMask V0 b kv g p) (rMax V0 b kv g) := by
  unfold res_main_v120
  rw [← v111_at, ← v117_at]
  pointwise
  rfl

theorem v122_at (b : Fin 6) (kv : Fin 8) (g : Fin 4) : (res_main_v122 V0 : S6x1x8x4x1.Idx → EReal) (ix5 b 0 kv g 0) = ew (rNew V0 b kv g) (rMax V0 b kv g) := by
  unfold res_main_v122
  rw [← v117_at]
  pointwise
  rfl

theorem v127_at (b : Fin 6) (kv : Fin 8) (g : Fin 4) : (res_main_v127 V0 : S6x1x8x4x1.Idx → EReal) (ix5 b 0 kv g 0) = rDen V0 b kv g := by
  unfold res_main_v127 rDen
  simp only [← v120_at, ← v122_at]
  rw [← redAdd_at, ← redAdd1_at (res_main_v122 V0) b kv g]
  clean_types
  pointwise

theorem v135_at (b : Fin 6) (kv : Fin 8) (g : Fin 4) (p : Fin 16384) : (res_main_v135 V0 : S6x1x8x4x16384.Idx → EReal) (ix5 b 0 kv g p)
    = Ideal.div (ew (rMask V0 b kv g p) (rMax V0 b kv g)) (rDen V0 b kv g) * rScale V0 (ix3 b p kv) := by
  unfold res_main_v135
  rw [← v120_at, ← v127_at]
  clean_types
  pointwise

theorem v140_at (b : Fin 6) (kv : Fin 8) (g : Fin 4) : (res_main_v140 V0 : S6x1x8x4x1.Idx → EReal) (ix5 b 0 kv g 0)
    = Ideal.div (ew (rNew V0 b kv g) (rMax V0 b kv g)) (rDen V0 b kv g) * rowScale fun d => rV V0 (ix4 b 0 kv d) := by
  unfold res_main_v140
  rw [← v122_at, ← v127_at, ← v25_at]
  clean_types
  pointwise

/-- Half a byte as a signed code. -/
def nibR (w : BitVec 32) : BitVec 32 := Scalar.select (IntOp.cmpi .sge w 8#32) (IntOp.subi w 16#32) w

/-- A word as a number. -/
def intE (w : BitVec 32) : EReal := ((w.toInt : ℝ) : EReal)

/-- The reference's attention output. -/
def rOut : S6x1x4096.Idx → EReal := val4 V0 (no_index (Proc.devRef .tc main_v191))

/-- A head's first columns: the low half-bytes'. -/
theorem out_lo (b : Fin 6) (kv : Fin 8) (g : Fin 4) (r : Fin 64) :
    rOut V0 (ix3 b 0 ⟨(kv.val * 4 + g.val) * 128 + r.val, by omega⟩)
      = (∑ p : Fin 16384, intE (nibR (IntOp.andi ((rCodes V0 (ix4 b p kv r)).setWidth 32) 15#32)) * (res_main_v135 V0 : S6x1x8x4x16384.Idx → EReal) (ix5 b 0 kv g p))
        + intE (nibR (IntOp.andi ((res_main_v160 V0 : S6x1x8x64.Idx → BitVec 32) (ix4 b 0 kv r)) 15#32)) * (res_main_v140 V0 : S6x1x8x4x1.Idx → EReal) (ix5 b 0 kv g 0) := by
  unfold rOut
  rw [val4_main_v191]
  unfold res_main_v143 res_main_v145 res_main_v162 res_main_v164 res_main_v141
  clean_types
  pointwise
  have e : ((kv.val * 4 + g.val) * 128 + r.val) % 128 = r.val := by omega
  rw [dif_pos (by omega)]
  simp only [e]
  refine congrArg₂ (· + ·) rfl ?_
  exact Fin.sum_univ_one _

/-- A head's last columns: the high half-bytes'. -/
theorem out_hi (b : Fin 6) (kv : Fin 8) (g : Fin 4) (r : Fin 64) :
    rOut V0 (ix3 b 0 ⟨(kv.val * 4 + g.val) * 128 + (64 + r.val), by omega⟩)
      = (∑ p : Fin 16384, intE (nibR (IntOp.shrsi .host ((rCodes V0 (ix4 b p kv r)).setWidth 32) 4#32)) * (res_main_v135 V0 : S6x1x8x4x16384.Idx → EReal) (ix5 b 0 kv g p))
        + intE (nibR (IntOp.shrsi .host ((res_main_v160 V0 : S6x1x8x64.Idx → BitVec 32) (ix4 b 0 kv r)) 4#32)) * (res_main_v140 V0 : S6x1x8x4x1.Idx → EReal) (ix5 b 0 kv g 0) := by
  unfold rOut
  rw [val4_main_v191]
  unfold res_main_v143 res_main_v145 res_main_v162 res_main_v164 res_main_v141
  clean_types
  pointwise
  have e : ((kv.val * 4 + g.val) * 128 + (64 + r.val)) % 128 - 64 = r.val := by omega
  rw [dif_neg (by omega)]
  simp only [e]
  refine congrArg₂ (· + ·) rfl ?_
  exact Fin.sum_univ_one _

/-- The packed new codes as words. -/
theorem v160_at (b : Fin 6) (kv : Fin 8) (j : Fin 64) : (res_main_v160 V0 : S6x1x8x64.Idx → BitVec 32) (ix4 b 0 kv j)
    = BitVec.setWidth 32 (BitVec.setWidth 8 (packOf (codeOf (rV V0 (ix4 b 0 kv ⟨j.val, by omega⟩)) (rowScale fun d => rV V0 (ix4 b 0 kv d))) (codeOf (rV V0 (ix4 b 0 kv ⟨64 + j.val, by omega⟩)) (rowScale fun d => rV V0 (ix4 b 0 kv d))))) := by
  rw [← v40_at]
  rfl

/-- The sum over the planes of one token, read at an index. -/
theorem red1_at (X : S6x1x8x4x8x1.Idx → EReal) (b : Fin 6) (kv : Fin 8) (g : Fin 4) :
    Ideal.hostReduceAdd reducesTo_S6x1x8x4x8x1_S6x1x8x4x1_d4 X 0 (ix5 b 0 kv g 0) = ∑ pl : Fin 8, X (ix6 b 0 kv g pl 0) := by
  have hr : S6x1x8x4x8x1.Reduces [4] S6x1x8x4x1 := by decide
  rw [Ideal.hostReduceAdd_single _ hr, zero_add]
  refine Finset.sum_congr rfl fun pl _ => congrArg X (funext fun d => Fin.ext ?_)
  match d with
  | ⟨0, _⟩ => rfl
  | ⟨1, _⟩ => rfl
  | ⟨2, _⟩ => rfl
  | ⟨3, _⟩ => rfl
  | ⟨4, _⟩ => rfl
  | ⟨5, _⟩ => rfl

/-- The new score of given bits, norms and queries. -/
theorem newScore_at (z : IVec S6x1x8x48 8) (w : FVec Ideal S6x1x8 .bf16) (q : FVec Ideal S6x1x8x4x8x48 .bf16) (b : Fin 6) (kv : Fin 8) (g : Fin 4) :
    (select (broadcastInDim S6x1x8x4x1 ![0, 1, 2, 3, 4] bcast_S1x1x1x1x1_S6x1x8x4x1_0_1_2_3_4 (broadcastInDim S1x1x1x1x1 ![1, 4] bcast_S1x1_S1x1x1x1x1_1_4 (cmpi .sle (broadcastInDim S1x1 ![1] bcast_S1_S1x1_1 (iotaInDim S1 32 0)) (broadcastInDim S1x1 ![0] bcast_S1_S1x1_0 (iotaInDim S1 32 0))))) (mulf (Host.reduceAdd (transpose S6x1x8x4x8x1 [0, 4, 1, 5, 2, 3] (Host.dotGeneral (F := Ideal) (φ₁ := .bf16) (φ₂ := .bf16) dot_S6x1x8x8x48_S6x1x8x4x8x48_S6x8x8x1x1x4_4_5_1_13_023_024 none (truncf .bf16 (sitofp .f32 (subi (muli (broadcastInDim S6x1x8x8x48 ![] bcast_S_S6x1x8x8x48 (constantI S_ 32 2#32)) (andi (Host.shrsi (broadcastInDim S6x1x8x8x48 ![0, 1, 2, 3, 4] bcast_S6x1x8x1x48_S6x1x8x8x48_0_1_2_3_4 (broadcastInDim S6x1x8x1x48 ![0, 1, 2, 4] bcast_S6x1x8x48_S6x1x8x1x48_0_1_2_4 (extui 32 z natLt_8_32))) (broadcastInDim S6x1x8x8x48 ![0, 1, 2, 3, 4] bcast_S1x1x1x8x1_S6x1x8x8x48_0_1_2_3_4 (broadcastInDim S1x1x1x8x1 ![3, 4] bcast_S8x1_S1x1x1x8x1_3_4 (broadcastInDim S8x1 ![0] bcast_S8_S8x1_0 (iotaInDim S8 32 0))))) (broadcastInDim S6x1x8x8x48 ![] bcast_S_S6x1x8x8x48 (constantI S_ 32 1#32)))) (broadcastInDim S6x1x8x8x48 ![] bcast_S_S6x1x8x8x48 (constantI S_ 32 1#32)))) bitsLt_bf16_f32) q) transposes_S6x8x8x1x1x4_S6x1x8x4x8x1_0_4_1_5_2_3) (constant S_ .f32 0x00000000#32) reducesTo_S6x1x8x4x8x1_S6x1x8x4x1_d4 h_S_) (broadcastInDim S6x1x8x4x1 ![0, 1, 2, 3, 4] bcast_S6x1x8x1x1_S6x1x8x4x1_0_1_2_3_4 (broadcastInDim S6x1x8x1x1 ![0, 2, 4] bcast_S6x8x1_S6x1x8x1x1_0_2_4 (transpose S6x8x1 [0, 2, 1] (mulf (extf .f32 w bitsLt_bf16_f32) (broadcastInDim S6x1x8 ![] bcast_S_S6x1x8 (constant S_ .f32 0x39973FD8#32))) transposes_S6x1x8_S6x8x1_0_2_1)))) (broadcastInDim S6x1x8x4x1 ![] bcast_S_S6x1x8x4x1 (id (constant (F := Ideal) S_ .f32 0xFF800000#32))) : S6x1x8x4x1.Idx → EReal) (ix5 b 0 kv g 0)
      = (∑ pl : Fin 8, ∑ j : Fin 48, sgn ((z (ix4 b 0 kv j)).getLsbD pl.val) * (q : S6x1x8x4x8x48.Idx → EReal) (ix6 b 0 kv g pl j)) * ((w : S6x1x8.Idx → EReal) (ix3 b 0 kv) * Ideal.ofBits .f32 0x39973FD8#32) := by
  clean_types
  pointwise
  rw [red1_at]
  pointwise
  refine Eq.trans (b := _ * _) rfl ?_
  refine congrArg (· * _) (Finset.sum_congr rfl fun pl _ => Finset.sum_congr rfl fun j _ => ?_)
  rw [sgn_at]

/-- The new score over the arguments. -/
theorem rNew_eq (b : Fin 6) (kv : Fin 8) (g : Fin 4) : rNew V0 b kv g
    = (∑ pl : Fin 8, ∑ j : Fin 48, sgn ((BitVec.setWidth 8 (BitVec.ofNat 32 (packNat fun pl =>
          FloatOps.cmpf (F := Ideal) (φ := .f32) .oge (∑ d : Fin 128, rK V0 (ix4 b 0 kv d) * rP V0 (ix2 d ⟨pl.val * 48 + j.val, by omega⟩)) (0 : EReal) == 1#1))).getLsbD pl.val)
          * ∑ d : Fin 128, rX V0 (ix3 b 0 ⟨(kv.val * 4 + g.val) * 128 + d.val, by omega⟩) * rP V0 (ix2 d ⟨pl.val * 48 + j.val, by omega⟩))
        * (Ideal.sqrt (∑ d : Fin 128, rK V0 (ix4 b 0 kv d) * rK V0 (ix4 b 0 kv d)) * Ideal.ofBits .f32 0x39973FD8#32) := by
  unfold rNew res_main_v112
  refine (newScore_at _ _ _ b kv g).trans ?_
  refine congrArg₂ (· * ·) (Finset.sum_congr rfl fun pl _ => Finset.sum_congr rfl fun j _ => ?_) (congrArg (· * _) (v16_at V0 b kv))
  rw [v45_at]
  exact congrArg (fun y : BitVec 8 => sgn (y.getLsbD pl.val) * _) (v11_at V0 b kv j)

end Cert.ReferenceIdeal.Value

end
-- ==== Proof.Value.NewCodes.lean ====
/- The appended token's codes: an integer of at most seven in absolute value, which survives the packing into half a byte. -/
module

public import proofs.«01_k».proof.Proof.Value.PrepNew
public import proofs.«01_k».proof.Proof.Value.RefOut
public import proofs.«01_k».proof.Proof.Value.Block

@[expose] public section

set_option maxRecDepth 16384

noncomputable section

namespace Cert.Value

open Idealize.ShloMosaic Cert.KernelIdeal.Prep Cert.KernelIdeal.Attend Cert.ReferenceIdeal.Value

theorem seven : Ideal.ofBits .f32 0x40E00000#32 = (((7 : ℤ) : ℝ) : EReal) := by
  simp [Ideal.ofBits, Ideal.ieee]; norm_num; rw [← EReal.coe_mul]; norm_num
theorem negSeven : Ideal.ofBits .f32 0xC0E00000#32 = (((-7 : ℤ) : ℝ) : EReal) := by
  simp [Ideal.ofBits, Ideal.ieee]; norm_num; rw [← EReal.coe_mul]; norm_num

/-- A clipped code is an integer between minus seven and seven. -/
theorem realCode_int (v s : EReal) : ∃ k : ℤ, -7 ≤ k ∧ k ≤ 7 ∧ realCode v s = ((k : ℝ) : EReal) := by
  unfold realCode
  rw [seven, negSeven]
  generalize Ideal.div v s = z
  show ∃ k : ℤ, -7 ≤ k ∧ k ≤ 7 ∧ min (((7 : ℤ) : ℝ) : EReal) (max (((-7 : ℤ) : ℝ) : EReal) (Ideal.liftRound Ideal.roundHalfEven z)) = ((k : ℝ) : EReal)
  have h : Monotone fun k : ℤ => ((k : ℝ) : EReal) := fun a b hab => EReal.coe_le_coe_iff.mpr (Int.cast_le.mpr hab)
  induction z using EReal.rec with
  | bot =>
    refine ⟨-7, by omega, by omega, ?_⟩
    rw [Ideal.liftRound_bot, max_eq_left bot_le]
    exact min_eq_right (h (by omega))
  | coe r =>
    refine ⟨min 7 (max (-7) (Ideal.roundHalfEven r)), by omega, by omega, ?_⟩
    rw [Ideal.liftRound_coe]
    exact ((h.map_min).trans (congrArg (min _) h.map_max)).symm
  | top =>
    refine ⟨7, by omega, by omega, ?_⟩
    rw [Ideal.liftRound_top, max_eq_right le_top, min_eq_left le_top]

/-- A small integer converts to its own word. -/
theorem fptosi_int (k : ℤ) (h1 : -7 ≤ k) (h2 : k ≤ 7) : Ideal.fptosi 32 ((k : ℝ) : EReal) = BitVec.ofInt 32 k := by
  have e : Ideal.toIntClamped (-(2 ^ (32 - 1) : Nat)) ((2 ^ (32 - 1) : Nat) - 1) ((k : ℝ) : EReal) = k := by
    show max _ (min _ (if (0 : ℝ) ≤ (k : ℝ) then ⌊(k : ℝ)⌋ else ⌈(k : ℝ)⌉)) = k
    rw [Int.floor_intCast, Int.ceil_intCast, ite_self]
    omega
  unfold Ideal.fptosi
  rw [e]

theorem pack_lo_word : ∀ a b : Fin 15,
    (nibR (IntOp.andi (BitVec.setWidth 32 (BitVec.setWidth 8 (packOf (BitVec.ofInt 32 ((a.val : ℤ) - 7)) (BitVec.ofInt 32 ((b.val : ℤ) - 7))))) 15#32)).toInt = (a.val : ℤ) - 7 := by
  decide +kernel
theorem pack_hi_word : ∀ a b : Fin 15,
    (nibR (IntOp.shrsi .host (BitVec.setWidth 32 (BitVec.setWidth 8 (packOf (BitVec.ofInt 32 ((a.val : ℤ) - 7)) (BitVec.ofInt 32 ((b.val : ℤ) - 7))))) 4#32)).toInt = (b.val : ℤ) - 7 := by
  decide +kernel

theorem code_idx (v s : EReal) : ∃ a : Fin 15, codeOf v s = BitVec.ofInt 32 ((a.val : ℤ) - 7) ∧ realCode v s = ((((a.val : ℤ) - 7 : ℤ) : ℝ) : EReal) := by
  obtain ⟨k, h1, h2, e⟩ := realCode_int v s
  have ha : (((⟨(k + 7).toNat, by omega⟩ : Fin 15).val : ℤ) - 7) = k := by
    show ((k + 7).toNat : ℤ) - 7 = k
    omega
  refine ⟨⟨(k + 7).toNat, by omega⟩, ?_, ?_⟩
  · rw [ha]
    exact (congrArg (Ideal.fptosi 32) e).trans (fptosi_int k h1 h2)
  · rw [ha]; exact e

/-- The low half of the packed byte is the first code. -/
theorem pack_lo (v w s : EReal) : intE (nibR (IntOp.andi (BitVec.setWidth 32 (BitVec.setWidth 8 (packOf (codeOf v s) (codeOf w s)))) 15#32)) = realCode v s := by
  obtain ⟨a, ha, ea⟩ := code_idx v s
  obtain ⟨b, hb, eb⟩ := code_idx w s
  unfold intE
  rw [ha, hb, ea, pack_lo_word]
/-- The high half of the packed byte is the second code. -/
theorem pack_hi (v w s : EReal) : intE (nibR (IntOp.shrsi .host (BitVec.setWidth 32 (BitVec.setWidth 8 (packOf (codeOf v s) (codeOf w s)))) 4#32)) = realCode w s := by
  obtain ⟨a, ha, ea⟩ := code_idx v s
  obtain ⟨b, hb, eb⟩ := code_idx w s
  unfold intE
  rw [ha, hb, eb, pack_hi_word]

theorem nib_lo_word : ∀ n : Fin 256, nibR (IntOp.andi (BitVec.setWidth 32 (BitVec.ofFin (w := 8) n)) 15#32) = nibW (BitVec.ofFin (w := 8) n) 0 := by decide +kernel
theorem nib_hi_word : ∀ n : Fin 256, nibR (IntOp.shrsi .host (BitVec.setWidth 32 (BitVec.ofFin (w := 8) n)) 4#32) = nibW (BitVec.ofFin (w := 8) n) 1 := by decide +kernel
/-- The two programs read the same half-bytes of the cache. -/
theorem nib_lo (w : BitVec 8) : nibR (IntOp.andi (BitVec.setWidth 32 w) 15#32) = nibW w 0 := nib_lo_word w.toFin
theorem nib_hi (w : BitVec 8) : nibR (IntOp.shrsi .host (BitVec.setWidth 32 w) 4#32) = nibW w 1 := nib_hi_word w.toFin

end Cert.Value

end
-- ==== Proof.Value.MatchOut.lean ====
/- The attention output: the kernel's online softmax over blocks is the reference's softmax. -/
module

public import proofs.«01_k».proof.Proof.Value.Match
public import proofs.«01_k».proof.Proof.Value.KernelOut
public import proofs.«01_k».proof.Proof.Value.NewCodes

@[expose] public section

set_option maxRecDepth 16384

noncomputable section

namespace Cert.Value

open Idealize.ShloMosaic Idealize.ShloMosaic.TcCoe Idealize.SL.Sem Cert.KernelIdeal.Run Cert.KernelIdeal.Prep Cert.ReferenceIdeal.Value

/-- The running maximum over all positions. -/
theorem runMax_all (f : Fin 16384 → EReal) (s : EReal) : runMax (posE f) s 16384 = max (Finset.univ.fold max ⊥ fun p => f p) s := by
  have h := runMax_add (posE f) s 0 16384
  rw [runMax_zero, show (fun p : Fin 16384 => posE f (0 + p.val)) = fun p => f p from funext fun p => by rw [Nat.zero_add, posE_at _ _ p.isLt]] at h
  rw [max_comm]
  exact h.symm
theorem runDen_fin (X : ℕ → EReal) (s : EReal) (N : ℕ) : runDen X s N = (∑ p : Fin N, ew (X p.val) (runMax X s N)) + ew s (runMax X s N) := by
  unfold runDen
  rw [Finset.sum_range, add_comm]
/-- The running denominator over all positions. -/
theorem runDen_all (f : Fin 16384 → EReal) (s : EReal) : runDen (posE f) s 16384 = (∑ p, ew (f p) (runMax (posE f) s 16384)) + ew s (runMax (posE f) s 16384) := by
  rw [runDen_fin, show (fun p : Fin 16384 => ew (posE f p.val) (runMax (posE f) s 16384)) = fun p => ew (f p) (runMax (posE f) s 16384) from
    funext fun p => by rw [posE_at _ _ p.isLt]]

theorem bits_word : ∀ (B : Fin 8 → Bool) (pl : Fin 8), (BitVec.setWidth 8 (BitVec.ofNat 32 (packNat B))).getLsbD pl.val = B pl := by
  unfold packNat
  decide +kernel

theorem sgnW_eq (b : BitVec 1) : sgnW b = sgn (b == 1#1) := by
  rcases (by decide : ∀ b : BitVec 1, b = 0#1 ∨ b = 1#1) b with rfl | rfl <;> rfl

/-- A sum over the sketch's entries, by bit and byte. -/
theorem sum_split (f : Fin 384 → EReal) : ∑ s, f s = ∑ pl : Fin 8, ∑ j : Fin 48, f ⟨pl.val * 48 + j.val, by omega⟩ := by
  rw [← Finset.sum_product' (f := fun (pl : Fin 8) (j : Fin 48) => f ⟨pl.val * 48 + j.val, by omega⟩)]
  refine Finset.sum_bij' (fun s _ => ((⟨s.val / 48, by omega⟩ : Fin 8), (⟨s.val % 48, by omega⟩ : Fin 48))) (fun p _ => (⟨p.1.val * 48 + p.2.val, by omega⟩ : Fin 384)) ?_ ?_ ?_ ?_ ?_
  · exact fun s _ => Finset.mem_product.mpr ⟨Finset.mem_univ _, Finset.mem_univ _⟩
  · exact fun p _ => Finset.mem_univ _
  · exact fun s _ => Fin.ext (by show s.val / 48 * 48 + s.val % 48 = s.val; omega)
  · rintro ⟨a, b⟩ _
    exact Prod.ext (Fin.ext (by show (a.val * 48 + b.val) / 48 = a.val; omega)) (Fin.ext (by show (a.val * 48 + b.val) % 48 = b.val; omega))
  · intro s _
    exact congrArg f (Fin.ext (by show s.val = s.val / 48 * 48 + s.val % 48; omega))

variable (m : (ℓ : Loc Cert.KernelIdeal.nD Cert.KernelIdeal.τ Cert.KernelIdeal.sig) → Buf (Elt Ideal) ℓ)
variable (c : Dev Cert.KernelIdeal.nD) (V0 : Valuation Cert.ReferenceIdeal.τ Cert.ReferenceIdeal.sig (Elt Ideal))

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem est_real : ∃ r : ℝ, Ideal.ofBits .f32 0x39973FD8#32 = r := by
  refine ⟨9912280 * (2 ^ 35)⁻¹, ?_⟩
  simp [Ideal.ofBits, Ideal.ieee]

theorem sgn_real (b : Bool) : ∃ r : ℝ, sgn b = r := by
  cases b
  · exact ⟨-1, rfl⟩
  · exact ⟨1, rfl⟩

/-- The root of a sum of squares of finite numbers is finite. -/
theorem sqrt_real (f : Fin 128 → EReal) (hf : ∀ i, ∃ r : ℝ, f i = r) : ∃ r : ℝ, Ideal.sqrt (∑ d, f d * f d) = r := by
  choose g hg using hf
  have e : (∑ d, f d * f d) = ((∑ d, g d * g d : ℝ) : EReal) := by
    rw [← coe_sum]
    exact Finset.sum_congr rfl fun i _ => by rw [hg, EReal.coe_mul]
  rw [e]
  refine ⟨Real.sqrt (∑ d, g d * g d), ?_⟩
  show (if (∑ d, g d * g d) < 0 then ⊥ else _) = _
  rw [if_neg (not_lt.mpr (Finset.sum_nonneg fun d _ => mul_self_nonneg _))]

theorem qp_real (hx : ∀ i, ∃ r : ℝ, aX m c i = r) (hp : ∀ i, ∃ r : ℝ, aP m c i = r) (b : Fin 6) (h : Fin 32) (s : Fin 384) : ∃ r : ℝ, qp m c b h s = r :=
  sum_mul_finite _ _ _ (fun d => hx _) (fun d => hp _)

/-- On finite queries, projection, key and norms the new score is finite, and no masked score is plus infinity. -/
theorem scores_finite (hx : ∀ i, ∃ r : ℝ, aX m c i = r) (hp : ∀ i, ∃ r : ℝ, aP m c i = r) (hk : ∀ i, ∃ r : ℝ, aK m c i = r)
    (hn : ∀ i, ∃ r : ℝ, aNorm m c i = r) : Fin' m c where
  new b kv g := by
    rw [kNew_eq]
    refine mul_real (sum_mul_finite _ _ _ (fun s => qp_real m c hx hp _ _ _) fun s => ?_) (mul_real (sqrt_real _ fun d => hk _) est_real)
    rw [sgnW_eq]; exact sgn_real _
  old b kv g p := by
    unfold kMask
    split
    · have e := sums_eq (qp m c b ⟨kv.val * 4 + g.val, by omega⟩) (fun s => qp_real m c hx hp _ _ _) fun j pl => (aBits m c (ix4 b p kv j)).getLsbD pl
      have h : ∃ r : ℝ, kscore m c b kv g p = r := by
        unfold kscore
        refine mul_real ?_ (mul_real (hn _) est_real)
        refine e.symm ▸ ?_
        have h2 : ∀ pl : Fin 8, ∃ r : ℝ, (∑ j : Fin 48, sgn ((aBits m c (ix4 b p kv j)).getLsbD pl.val) * qp m c b ⟨kv.val * 4 + g.val, by omega⟩ ⟨pl.val * 48 + j.val, by omega⟩) = r :=
          fun pl => sum_mul_finite _ _ _ (fun j => sgn_real _) fun j => qp_real m c hx hp _ _ _
        choose f hf using h2
        refine ⟨∑ pl, f pl, ?_⟩
        rw [← coe_sum]
        exact Finset.sum_congr rfl fun pl _ => hf pl
      obtain ⟨r, hr⟩ := h
      rw [hr]; exact EReal.coe_ne_top r
    · exact bot_ne_top

/-- The masked scores agree. -/
theorem mask_eq (h0 : rX V0 = aX m c) (h3 : rP V0 = aP m c) (h4 : rBits V0 = aBits m c) (h5 : rNorm V0 = aNorm m c) (h8 : rLen V0 = aLen m c)
    (hx : ∀ i, ∃ r : ℝ, aX m c i = r) (hp : ∀ i, ∃ r : ℝ, aP m c i = r) (b : Fin 6) (kv : Fin 8) (g : Fin 4) (p : Fin 16384) :
    rMask V0 b kv g p = kMask m c b kv g p := by
  unfold rMask kMask
  rw [h8]
  refine if_congr Iff.rfl ?_ rfl
  rw [v71_at, h0, h3, h4, h5]
  unfold kscore
  have e := sums_eq (qp m c b ⟨kv.val * 4 + g.val, by omega⟩) (fun s => qp_real m c hx hp _ _ _) fun j pl => (aBits m c (ix4 b p kv j)).getLsbD pl
  exact (congrArg (fun z : EReal => z * (aNorm m c (ix3 b p kv) * Ideal.ofBits .f32 0x39973FD8#32)) e).symm

/-- The new scores agree. -/
theorem new_eq (h0 : rX V0 = aX m c) (h1 : rK V0 = aK m c) (h3 : rP V0 = aP m c) (b : Fin 6) (kv : Fin 8) (g : Fin 4) : rNew V0 b kv g = kNew m c b kv g := by
  rw [kNew_eq, rNew_eq, h0, h1, h3, sum_split]
  refine congrArg (· * _) (Finset.sum_congr rfl fun pl _ => Finset.sum_congr rfl fun j _ => ?_)
  rw [bits_word, sgnW_eq, mul_comm]
  rfl

/-- The maxima agree. -/
theorem max_eq (b : Fin 6) (kv : Fin 8) (g : Fin 4) (hm : ∀ p, rMask V0 b kv g p = kMask m c b kv g p) (hn : rNew V0 b kv g = kNew m c b kv g) :
    rMax V0 b kv g = kMax m c b kv g := by
  unfold rMax kMax
  rw [runMax_all, hn, show (fun p => rMask V0 b kv g p) = fun p => kMask m c b kv g p from funext hm]

/-- The denominators agree. -/
theorem den_eq (b : Fin 6) (kv : Fin 8) (g : Fin 4) (hm : ∀ p, rMask V0 b kv g p = kMask m c b kv g p) (hn : rNew V0 b kv g = kNew m c b kv g) :
    rDen V0 b kv g = kDen m c b kv g := by
  unfold rDen kDen
  rw [runDen_all, max_eq m c V0 b kv g hm hn, hn]
  unfold kMax
  rw [show (fun p => ew (rMask V0 b kv g p) (runMax (posE (kMask m c b kv g)) (kNew m c b kv g) 16384)) = fun p => ew (kMask m c b kv g p) (runMax (posE (kMask m c b kv g)) (kNew m c b kv g) 16384) from
    funext fun p => by rw [hm]]

/-- The attention outputs agree. -/
theorem out_eq (h0 : rX V0 = aX m c) (h1 : rK V0 = aK m c) (h2 : rV V0 = aV m c) (h3 : rP V0 = aP m c) (h4 : rBits V0 = aBits m c) (h5 : rNorm V0 = aNorm m c)
    (h6 : rCodes V0 = aCodes m c) (h7 : rScale V0 = aScale m c) (h8 : rLen V0 = aLen m c)
    (hx : ∀ i, ∃ r : ℝ, aX m c i = r) (hp : ∀ i, ∃ r : ℝ, aP m c i = r) (b : Fin 6) (kv : Fin 8) (g : Fin 4) (n : Fin 2) (r : Fin 64) :
    rOut V0 (ix3 b 0 ⟨(kv.val * 4 + g.val) * 128 + (n.val * 64 + r.val), by omega⟩) = kOut m c b kv g n r := by
  have hm := fun p => mask_eq m c V0 h0 h3 h4 h5 h8 hx hp b kv g p
  have hn := new_eq m c V0 h0 h1 h3 b kv g
  have w : ∀ p, (res_main_v135 V0 : Cert.ReferenceIdeal.S6x1x8x4x16384.Idx → EReal) (ix5 b 0 kv g p)
      = Ideal.div (ew (kMask m c b kv g p) (kMax m c b kv g)) (kDen m c b kv g) * aScale m c (ix3 b p kv) := by
    intro p
    rw [v135_at, hm, max_eq m c V0 b kv g hm hn, den_eq m c V0 b kv g hm hn, h7]
  have u : (res_main_v140 V0 : Cert.ReferenceIdeal.S6x1x8x4x1.Idx → EReal) (ix5 b 0 kv g 0)
      = Ideal.div (ew (kNew m c b kv g) (kMax m c b kv g)) (kDen m c b kv g) * rowScale fun d => aV m c (ix4 b 0 kv d) := by
    rw [v140_at, hn, max_eq m c V0 b kv g hm hn, den_eq m c V0 b kv g hm hn, h2]
  unfold kOut kCode
  rcases (by decide : ∀ n : Fin 2, n = 0 ∨ n = 1) n with rfl | rfl
  · have e : (⟨(kv.val * 4 + g.val) * 128 + ((0 : Fin 2).val * 64 + r.val), by omega⟩ : Fin 4096) = ⟨(kv.val * 4 + g.val) * 128 + r.val, by omega⟩ :=
      Fin.ext (by show (kv.val * 4 + g.val) * 128 + (0 * 64 + r.val) = (kv.val * 4 + g.val) * 128 + r.val; omega)
    have e2 : (⟨(0 : Fin 2).val * 64 + r.val, by omega⟩ : Fin 128) = ⟨r.val, by omega⟩ := Fin.ext (by show 0 * 64 + r.val = r.val; omega)
    rw [e, out_lo, v160_at, pack_lo, u, e2, h2, mul_comm (realCode _ _)]
    simp only [w, nib_lo, h6]
    unfold intE
    with_reducible rfl
  · have e : (⟨(kv.val * 4 + g.val) * 128 + ((1 : Fin 2).val * 64 + r.val), by omega⟩ : Fin 4096) = ⟨(kv.val * 4 + g.val) * 128 + (64 + r.val), by omega⟩ :=
      Fin.ext (by show (kv.val * 4 + g.val) * 128 + (1 * 64 + r.val) = (kv.val * 4 + g.val) * 128 + (64 + r.val); omega)
    have e2 : (⟨(1 : Fin 2).val * 64 + r.val, by omega⟩ : Fin 128) = ⟨64 + r.val, by omega⟩ := Fin.ext (by show 1 * 64 + r.val = 64 + r.val; omega)
    rw [e, out_hi, v160_at, pack_hi, u, e2, h2, mul_comm (realCode _ _)]
    simp only [w, nib_hi, h6]
    unfold intE
    with_reducible rfl

end Cert.Value

end
-- ==== Proof.Value.Finite.lean ====
/- What the precondition says: the queries and the projection are finite numbers. -/
module

public import proofs.«01_k».proof.Pre_finite_queries
public import proofs.«01_k».proof.On_covered
public import Idealize.ShloMosaic.Lib.ReduceAll
public import Idealize.ShloMosaic.Lib.Pointwise
public import Idealize.ShloMosaic.Lib.IdealHost

@[expose] public section

set_option maxRecDepth 16384

noncomputable section

namespace Cert.Value

open Idealize.ShloMosaic

theorem factsPre : Cert.Pre_finite_queries.Facts where
  bitsLt_bf16_f32 := by decide
  bcast_S_S6x1x4096 := by decide
  reducesTo_S6x1x4096_S_d0_1_2 := by decide
  h_S_ := by decide
  bcast_S_S128x384 := by decide
  reducesTo_S128x384_S_d0_1 := by decide

theorem factsOn : Cert.On_covered.Facts where
  bcast_S_S6x1x4096 := by decide
  bcast_S_S6x1x32x16384 := by decide
  bcast_S_S6x1x8x48 := by decide
  bcast_S_S6x1x8 := by decide
  bcast_S_S6x1x8x64 := by decide

/-- A number whose absolute value is below infinity is finite. -/
theorem finite_of_abs (x : EReal) (h : FloatOps.cmpf (F := Ideal) (φ := .f32) .olt (FloatOps.hostAbsf (F := Ideal) (φ := .f32) x) (Ideal.ofBits .f32 0x7F800000#32) = 1#1) : ∃ r : ℝ, x = r := by
  have ht : Ideal.ofBits .f32 0x7F800000#32 = ⊤ := by simp [Ideal.ofBits, Ideal.ieee]
  rw [ht] at h
  induction x using EReal.rec with
  | bot => exfalso; revert h; pointwise; simp [FloatOps.absf]
  | coe r => exact ⟨r, rfl⟩
  | top => exfalso; revert h; pointwise; simp [FloatOps.absf]

variable [hP : Cert.Pre_finite_queries.Facts]
variable (a0 : FVec Ideal ⟨3, ![6, 1, 4096]⟩ .bf16) (a1 : FVec Ideal ⟨4, ![6, 1, 8, 128]⟩ .bf16) (a2 : FVec Ideal ⟨4, ![6, 1, 8, 128]⟩ .bf16) (a3 : FVec Ideal ⟨2, ![128, 384]⟩ .bf16)
  (a4 : IVec ⟨4, ![6, 16384, 8, 48]⟩ 8) (a5 : FVec Ideal ⟨3, ![6, 16384, 8]⟩ .bf16) (a6 : IVec ⟨4, ![6, 16384, 8, 64]⟩ 8) (a7 : FVec Ideal ⟨3, ![6, 16384, 8]⟩ .f32) (a8 : IVec ⟨1, ![6]⟩ 32)

theorem finite_x (h : (Cert.Pre_finite_queries.fn (F := Ideal) a0 a1 a2 a3 a4 a5 a6 a7 a8).1 = (fun _ => 1#1)) (i : (⟨3, ![6, 1, 4096]⟩ : Shape).Idx) : ∃ r : ℝ, a0 i = r := by
  have : Subsingleton Cert.Pre_finite_queries.S_.Idx := ⟨fun a b => funext fun d => d.elim0⟩
  unfold Cert.Pre_finite_queries.fn at h
  dsimp only at h
  have e := Host.reduce_andi_all _ _ _ _ (fun d => d.elim0) (congrFun h _) i
  exact finite_of_abs (a0 i) e

theorem finite_p (h : (Cert.Pre_finite_queries.fn (F := Ideal) a0 a1 a2 a3 a4 a5 a6 a7 a8).2 = (fun _ => 1#1)) (i : (⟨2, ![128, 384]⟩ : Shape).Idx) : ∃ r : ℝ, a3 i = r := by
  have : Subsingleton Cert.Pre_finite_queries.S_.Idx := ⟨fun a b => funext fun d => d.elim0⟩
  unfold Cert.Pre_finite_queries.fn at h
  dsimp only at h
  have e := Host.reduce_andi_all _ _ _ _ (fun d => d.elim0) (congrFun h _) i
  exact finite_of_abs (a3 i) e

end Cert.Value

end
-- ==== Proof.Value.FiniteScores.lean ====
/- What the output's precondition says: the queries, the projection, the new key and the cached norms are finite numbers. -/
module

public import proofs.«01_k».proof.Pre_finite_scores
public import proofs.«01_k».proof.On_attention
public import proofs.«01_k».proof.Proof.Value.Finite

@[expose] public section

set_option maxRecDepth 16384

noncomputable section

namespace Cert.Value

open Idealize.ShloMosaic

theorem factsPreScores : Cert.Pre_finite_scores.Facts := by
  constructor <;> decide

theorem factsOnAttention : Cert.On_attention.Facts := by
  constructor <;> decide

variable [hP : Cert.Pre_finite_scores.Facts]
variable (a0 : FVec Ideal ⟨3, ![6, 1, 4096]⟩ .bf16) (a1 : FVec Ideal ⟨4, ![6, 1, 8, 128]⟩ .bf16) (a2 : FVec Ideal ⟨4, ![6, 1, 8, 128]⟩ .bf16) (a3 : FVec Ideal ⟨2, ![128, 384]⟩ .bf16)
  (a4 : IVec ⟨4, ![6, 16384, 8, 48]⟩ 8) (a5 : FVec Ideal ⟨3, ![6, 16384, 8]⟩ .bf16) (a6 : IVec ⟨4, ![6, 16384, 8, 64]⟩ 8) (a7 : FVec Ideal ⟨3, ![6, 16384, 8]⟩ .f32) (a8 : IVec ⟨1, ![6]⟩ 32)

theorem scores_x (h : (Cert.Pre_finite_scores.fn (F := Ideal) a0 a1 a2 a3 a4 a5 a6 a7 a8).1 = (fun _ => 1#1)) (i : (⟨3, ![6, 1, 4096]⟩ : Shape).Idx) : ∃ r : ℝ, a0 i = r := by
  have : Subsingleton Cert.Pre_finite_scores.S_.Idx := ⟨fun a b => funext fun d => d.elim0⟩
  unfold Cert.Pre_finite_scores.fn Cert.Pre_finite_scores.fn_part1 at h
  dsimp only at h
  exact finite_of_abs (a0 i) (Host.reduce_andi_all _ _ _ _ (fun d => d.elim0) (congrFun h _) i)

theorem scores_p (h : (Cert.Pre_finite_scores.fn (F := Ideal) a0 a1 a2 a3 a4 a5 a6 a7 a8).2.1 = (fun _ => 1#1)) (i : (⟨2, ![128, 384]⟩ : Shape).Idx) : ∃ r : ℝ, a3 i = r := by
  have : Subsingleton Cert.Pre_finite_scores.S_.Idx := ⟨fun a b => funext fun d => d.elim0⟩
  unfold Cert.Pre_finite_scores.fn Cert.Pre_finite_scores.fn_part1 at h
  dsimp only at h
  exact finite_of_abs (a3 i) (Host.reduce_andi_all _ _ _ _ (fun d => d.elim0) (congrFun h _) i)

theorem scores_k (h : (Cert.Pre_finite_scores.fn (F := Ideal) a0 a1 a2 a3 a4 a5 a6 a7 a8).2.2.1 = (fun _ => 1#1)) (i : (⟨4, ![6, 1, 8, 128]⟩ : Shape).Idx) : ∃ r : ℝ, a1 i = r := by
  have : Subsingleton Cert.Pre_finite_scores.S_.Idx := ⟨fun a b => funext fun d => d.elim0⟩
  unfold Cert.Pre_finite_scores.fn Cert.Pre_finite_scores.fn_part1 at h
  dsimp only at h
  exact finite_of_abs (a1 i) (Host.reduce_andi_all _ _ _ _ (fun d => d.elim0) (congrFun h _) i)

theorem scores_norm (h : (Cert.Pre_finite_scores.fn (F := Ideal) a0 a1 a2 a3 a4 a5 a6 a7 a8).2.2.2 = (fun _ => 1#1)) (i : (⟨3, ![6, 16384, 8]⟩ : Shape).Idx) : ∃ r : ℝ, a5 i = r := by
  have : Subsingleton Cert.Pre_finite_scores.S_.Idx := ⟨fun a b => funext fun d => d.elim0⟩
  unfold Cert.Pre_finite_scores.fn Cert.Pre_finite_scores.fn_part1 at h
  dsimp only at h
  exact finite_of_abs (a5 i) (Host.reduce_andi_all _ _ _ _ (fun d => d.elim0) (congrFun h _) i)

end Cert.Value

end
-- ==== Proof.lean ====
/- The claims of the certificate, assembled: each program's frame, the ideal program as the kernel over the extended reals, and
   the covered results of the kernel and the reference as equal. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal.Run
public import proofs.«01_k».proof.Proof.Run
public import proofs.«01_k».proof.Proof.Twin.Run
public import proofs.«01_k».proof.Proof.Value.Match
public import proofs.«01_k».proof.Proof.Value.MatchOut
public import proofs.«01_k».proof.Proof.Value.Finite
public import proofs.«01_k».proof.Proof.Value.FiniteScores
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference leaves its arguments unchanged, and it declares no semaphore. -/
theorem reference_frame : Cert.quiescent_ReferenceIdeal (hReferenceIdeal := Cert.ReferenceIdeal.Gen.facts) := fun m ρ _ =>
  (θ_run (Cert.ReferenceIdeal.defs (F := Ideal)) _ _).mono (fun r h => ⟨fun c => (h c).2.2.2.2.2.2, sem_eq_zero_of_no_sems (by decide) r.2⟩)
    (Cert.ReferenceIdeal.Value.run (F := Ideal) m ρ)

/-- From equal arguments, of finite queries and a finite projection, the kernel's covered results are the reference's. -/
theorem algebraic : Cert.algebraic_KernelIdeal_ReferenceIdeal_on_covered_pre_finite_queries (hKernelIdeal := Cert.KernelIdeal.Gen.facts)
    (hReferenceIdeal := Cert.ReferenceIdeal.Gen.facts) (hPre_finite_queries := Cert.Value.factsPre) (hOn_covered := Cert.Value.factsOn) := by
  intro m g m' g' hpre hargs
  refine ⟨fun c => Cert.KernelIdeal.Run.W4 m c (Proc.devRef .tc Cert.KernelIdeal.main_v12), fun c => Cert.KernelIdeal.Run.W4 m c (Proc.devRef .tc Cert.KernelIdeal.main_v13),
    fun c => Cert.KernelIdeal.Run.W4 m c (Proc.devRef .tc Cert.KernelIdeal.main_v15), fun c => Cert.KernelIdeal.Run.W4 m c (Proc.devRef .tc Cert.KernelIdeal.main_v16),
    fun c => Cert.KernelIdeal.Run.W4 m c (Proc.devRef .tc Cert.KernelIdeal.main_v18), fun c => Cert.KernelIdeal.Run.W4 m c (Proc.devRef .tc Cert.KernelIdeal.main_v19),
    (θ_run (Cert.KernelIdeal.defs (F := Ideal)) _ _).mono (fun r h c => ?_) (Cert.KernelIdeal.Run.run (F := Ideal) m g),
    (θ_run (Cert.ReferenceIdeal.defs (F := Ideal)) _ _).mono (fun r h c => ?_) (Cert.ReferenceIdeal.Value.run (F := Ideal) m' g')⟩
  · exact ⟨fun i _ => congrFun (h.1 c Cert.KernelIdeal.main_v12 (by decide)) i, fun i _ => congrFun (h.1 c Cert.KernelIdeal.main_v13 (by decide)) i,
    fun i _ => congrFun (h.1 c Cert.KernelIdeal.main_v15 (by decide)) i, fun i _ => congrFun (h.1 c Cert.KernelIdeal.main_v16 (by decide)) i,
    fun i _ => congrFun (h.1 c Cert.KernelIdeal.main_v18 (by decide)) i, fun i _ => congrFun (h.1 c Cert.KernelIdeal.main_v19 (by decide)) i,
    (h.1 c Cert.KernelIdeal.main_arg0 (by decide)).trans (Cert.KernelIdeal.Run.W4_args m c Cert.KernelIdeal.main_arg0 (by decide)),
    (h.1 c Cert.KernelIdeal.main_arg1 (by decide)).trans (Cert.KernelIdeal.Run.W4_args m c Cert.KernelIdeal.main_arg1 (by decide)),
    (h.1 c Cert.KernelIdeal.main_arg2 (by decide)).trans (Cert.KernelIdeal.Run.W4_args m c Cert.KernelIdeal.main_arg2 (by decide)),
    (h.1 c Cert.KernelIdeal.main_arg3 (by decide)).trans (Cert.KernelIdeal.Run.W4_args m c Cert.KernelIdeal.main_arg3 (by decide)),
    (h.1 c Cert.KernelIdeal.main_arg4 (by decide)).trans (Cert.KernelIdeal.Run.W4_args m c Cert.KernelIdeal.main_arg4 (by decide)),
    (h.1 c Cert.KernelIdeal.main_arg5 (by decide)).trans (Cert.KernelIdeal.Run.W4_args m c Cert.KernelIdeal.main_arg5 (by decide)),
    (h.1 c Cert.KernelIdeal.main_arg6 (by decide)).trans (Cert.KernelIdeal.Run.W4_args m c Cert.KernelIdeal.main_arg6 (by decide)),
    (h.1 c Cert.KernelIdeal.main_arg7 (by decide)).trans (Cert.KernelIdeal.Run.W4_args m c Cert.KernelIdeal.main_arg7 (by decide)),
    (h.1 c Cert.KernelIdeal.main_arg8 (by decide)).trans (Cert.KernelIdeal.Run.W4_args m c Cert.KernelIdeal.main_arg8 (by decide))⟩
  · obtain ⟨h0, h1, h2, h3, h4, h5, hframe⟩ := h c
    obtain ⟨a0, a1, a2, a3, a4, a5, a6, a7, a8⟩ := hargs c
    have hx := fun i => @Cert.Value.finite_x Cert.Value.factsPre _ _ _ _ _ _ _ _ _ (hpre c).1 i
    have hp := fun i => @Cert.Value.finite_p Cert.Value.factsPre _ _ _ _ _ _ _ _ _ (hpre c).2 i
    refine ⟨fun i hi => absurd hi (by show ¬ (0#1 = 1#1); decide), fun i _ => (congrFun h1 i).trans ?_,
      fun i _ => (congrFun h2 i).trans ?_, fun i _ => (congrFun h3 i).trans ?_, fun i _ => (congrFun h4 i).trans ?_, fun i _ => (congrFun h5 i).trans ?_, hframe⟩
    · obtain ⟨b, h, p, rfl⟩ : ∃ (b : Fin 6) (h : Fin 32) (p : Fin 16384), i = ix4 b (0 : Fin 1) h p := ⟨i 0, i 2, i 3, (eq_ix4 i).trans (congrArg (fun z : Fin 1 => ix4 (i 0) z (i 2) (i 3)) (Subsingleton.elim _ _))⟩
      obtain ⟨kv, k, rfl⟩ : ∃ (kv : Fin 8) (k : Fin 4), h = ⟨kv.val * 4 + k.val, by omega⟩ := ⟨⟨h.val / 4, by omega⟩, ⟨h.val % 4, by omega⟩, Fin.ext (by show h.val = h.val / 4 * 4 + h.val % 4; omega)⟩
      exact (Cert.ReferenceIdeal.Value.v193_at _ b kv k p).trans
        ((Cert.KernelIdeal.Run.kernel_scores m c b kv k p).trans (Cert.Value.scores_eq m c _ a0 a3 a4 a5 a8 hx hp b kv k p)).symm
    · obtain ⟨b, kv, j, rfl⟩ : ∃ (b : Fin 6) (kv : Fin 8) (j : Fin 48), i = ix4 b (0 : Fin 1) kv j := ⟨i 0, i 2, i 3, (eq_ix4 i).trans (congrArg (fun z : Fin 1 => ix4 (i 0) z (i 2) (i 3)) (Subsingleton.elim _ _))⟩
      refine (Cert.ReferenceIdeal.Value.v11_at _ b kv j).trans (Eq.trans ?_ (Cert.KernelIdeal.Run.kernel_bits m c b kv j).symm)
      exact congrArg₂ (fun (y : Cert.KernelIdeal.S6x1x8x128.Idx → EReal) (z : Cert.KernelIdeal.S128x384.Idx → EReal) => BitVec.setWidth 8 (BitVec.ofNat 32 (Cert.Value.packNat fun pl =>
        FloatOps.cmpf (F := Ideal) (φ := .f32) .oge (∑ d : Fin 128, y (ix4 b 0 kv d) * z (ix2 d ⟨pl.val * 48 + j.val, by omega⟩)) (0 : EReal) == 1#1))) a1 a3
    · obtain ⟨b, kv, rfl⟩ : ∃ (b : Fin 6) (kv : Fin 8), i = ix3 b (0 : Fin 1) kv := ⟨i 0, i 2, (eq_ix3 i).trans (congrArg (fun z : Fin 1 => ix3 (i 0) z (i 2)) (Subsingleton.elim _ _))⟩
      refine (Cert.ReferenceIdeal.Value.v16_at _ b kv).trans (Eq.trans ?_ (Cert.KernelIdeal.Run.kernel_norm m c b kv).symm)
      exact congrArg (fun z : Cert.KernelIdeal.S6x1x8x128.Idx → EReal => Ideal.sqrt (∑ d : Fin 128, z (ix4 b 0 kv d) * z (ix4 b 0 kv d))) a1
    · obtain ⟨b, kv, j, rfl⟩ : ∃ (b : Fin 6) (kv : Fin 8) (j : Fin 64), i = ix4 b (0 : Fin 1) kv j := ⟨i 0, i 2, i 3, (eq_ix4 i).trans (congrArg (fun z : Fin 1 => ix4 (i 0) z (i 2) (i 3)) (Subsingleton.elim _ _))⟩
      refine (Cert.ReferenceIdeal.Value.v40_at _ b kv j).trans (Eq.trans ?_ (Cert.KernelIdeal.Run.kernel_codes m c b kv j).symm)
      exact congrArg (fun z : Cert.KernelIdeal.S6x1x8x128.Idx → EReal => BitVec.setWidth 8 (Cert.Value.packOf
        (Cert.Value.codeOf (z (ix4 b 0 kv ⟨j.val, by omega⟩)) (Cert.Value.rowScale fun d => z (ix4 b 0 kv d)))
        (Cert.Value.codeOf (z (ix4 b 0 kv ⟨64 + j.val, by omega⟩)) (Cert.Value.rowScale fun d => z (ix4 b 0 kv d))))) a2
    · obtain ⟨b, kv, rfl⟩ : ∃ (b : Fin 6) (kv : Fin 8), i = ix3 b (0 : Fin 1) kv := ⟨i 0, i 2, (eq_ix3 i).trans (congrArg (fun z : Fin 1 => ix3 (i 0) z (i 2)) (Subsingleton.elim _ _))⟩
      refine (Cert.ReferenceIdeal.Value.v41_at _ b kv).trans (Eq.trans ?_ (Cert.KernelIdeal.Run.kernel_scale m c b kv).symm)
      exact congrArg (fun z : Cert.KernelIdeal.S6x1x8x128.Idx → EReal => Cert.Value.rowScale fun d => z (ix4 b 0 kv d)) a2

/-- From equal arguments, of finite queries, projection, new key and cached norms, the kernel's attention output is the reference's. -/
theorem algebraic_attention : Cert.algebraic_KernelIdeal_ReferenceIdeal_on_attention_pre_finite_scores (hKernelIdeal := Cert.KernelIdeal.Gen.facts)
    (hReferenceIdeal := Cert.ReferenceIdeal.Gen.facts) (hPre_finite_scores := Cert.Value.factsPreScores) (hOn_attention := Cert.Value.factsOnAttention) := by
  intro m g m' g' hpre hargs
  refine ⟨fun c => Cert.KernelIdeal.Run.W4 m c (Proc.devRef .tc Cert.KernelIdeal.main_v12), fun c => Cert.KernelIdeal.Run.W4 m c (Proc.devRef .tc Cert.KernelIdeal.main_v13),
    fun c => Cert.KernelIdeal.Run.W4 m c (Proc.devRef .tc Cert.KernelIdeal.main_v15), fun c => Cert.KernelIdeal.Run.W4 m c (Proc.devRef .tc Cert.KernelIdeal.main_v16),
    fun c => Cert.KernelIdeal.Run.W4 m c (Proc.devRef .tc Cert.KernelIdeal.main_v18), fun c => Cert.KernelIdeal.Run.W4 m c (Proc.devRef .tc Cert.KernelIdeal.main_v19),
    (θ_run (Cert.KernelIdeal.defs (F := Ideal)) _ _).mono (fun r h c => ?_) (Cert.KernelIdeal.Run.run (F := Ideal) m g),
    (θ_run (Cert.ReferenceIdeal.defs (F := Ideal)) _ _).mono (fun r h c => ?_) (Cert.ReferenceIdeal.Value.run (F := Ideal) m' g')⟩
  · exact ⟨fun i _ => congrFun (h.1 c Cert.KernelIdeal.main_v12 (by decide)) i, fun i _ => congrFun (h.1 c Cert.KernelIdeal.main_v13 (by decide)) i,
    fun i _ => congrFun (h.1 c Cert.KernelIdeal.main_v15 (by decide)) i, fun i _ => congrFun (h.1 c Cert.KernelIdeal.main_v16 (by decide)) i,
    fun i _ => congrFun (h.1 c Cert.KernelIdeal.main_v18 (by decide)) i, fun i _ => congrFun (h.1 c Cert.KernelIdeal.main_v19 (by decide)) i,
    (h.1 c Cert.KernelIdeal.main_arg0 (by decide)).trans (Cert.KernelIdeal.Run.W4_args m c Cert.KernelIdeal.main_arg0 (by decide)),
    (h.1 c Cert.KernelIdeal.main_arg1 (by decide)).trans (Cert.KernelIdeal.Run.W4_args m c Cert.KernelIdeal.main_arg1 (by decide)),
    (h.1 c Cert.KernelIdeal.main_arg2 (by decide)).trans (Cert.KernelIdeal.Run.W4_args m c Cert.KernelIdeal.main_arg2 (by decide)),
    (h.1 c Cert.KernelIdeal.main_arg3 (by decide)).trans (Cert.KernelIdeal.Run.W4_args m c Cert.KernelIdeal.main_arg3 (by decide)),
    (h.1 c Cert.KernelIdeal.main_arg4 (by decide)).trans (Cert.KernelIdeal.Run.W4_args m c Cert.KernelIdeal.main_arg4 (by decide)),
    (h.1 c Cert.KernelIdeal.main_arg5 (by decide)).trans (Cert.KernelIdeal.Run.W4_args m c Cert.KernelIdeal.main_arg5 (by decide)),
    (h.1 c Cert.KernelIdeal.main_arg6 (by decide)).trans (Cert.KernelIdeal.Run.W4_args m c Cert.KernelIdeal.main_arg6 (by decide)),
    (h.1 c Cert.KernelIdeal.main_arg7 (by decide)).trans (Cert.KernelIdeal.Run.W4_args m c Cert.KernelIdeal.main_arg7 (by decide)),
    (h.1 c Cert.KernelIdeal.main_arg8 (by decide)).trans (Cert.KernelIdeal.Run.W4_args m c Cert.KernelIdeal.main_arg8 (by decide))⟩
  · obtain ⟨h0, h1, h2, h3, h4, h5, hframe⟩ := h c
    obtain ⟨a0, a1, a2, a3, a4, a5, a6, a7, a8⟩ := hargs c
    have hx := fun i => @Cert.Value.scores_x Cert.Value.factsPreScores _ _ _ _ _ _ _ _ _ (hpre c).1 i
    have hp := fun i => @Cert.Value.scores_p Cert.Value.factsPreScores _ _ _ _ _ _ _ _ _ (hpre c).2.1 i
    have hk := fun i => @Cert.Value.scores_k Cert.Value.factsPreScores _ _ _ _ _ _ _ _ _ (hpre c).2.2.1 i
    have hn := fun i => @Cert.Value.scores_norm Cert.Value.factsPreScores _ _ _ _ _ _ _ _ _ (hpre c).2.2.2 i
    have hF := Cert.Value.scores_finite m c hx hp hk hn
    refine ⟨fun i _ => (congrFun h0 i).trans ?_, fun i hi => absurd hi (by show ¬ (0#1 = 1#1); decide), fun i hi => absurd hi (by show ¬ (0#1 = 1#1); decide),
      fun i hi => absurd hi (by show ¬ (0#1 = 1#1); decide), fun i hi => absurd hi (by show ¬ (0#1 = 1#1); decide), fun i hi => absurd hi (by show ¬ (0#1 = 1#1); decide), hframe⟩
    obtain ⟨b, q, rfl⟩ : ∃ (b : Fin 6) (q : Fin 4096), i = ix3 b (0 : Fin 1) q := ⟨i 0, i 2, (eq_ix3 i).trans (congrArg (fun z : Fin 1 => ix3 (i 0) z (i 2)) (Subsingleton.elim _ _))⟩
    obtain ⟨kv, k, n, r, rfl⟩ : ∃ (kv : Fin 8) (k : Fin 4) (n : Fin 2) (r : Fin 64), q = ⟨(kv.val * 4 + k.val) * 128 + (n.val * 64 + r.val), by omega⟩ :=
      ⟨⟨q.val / 512, by omega⟩, ⟨q.val / 128 % 4, by omega⟩, ⟨q.val / 64 % 2, by omega⟩, ⟨q.val % 64, by omega⟩,
        Fin.ext (by show q.val = (q.val / 512 * 4 + q.val / 128 % 4) * 128 + (q.val / 64 % 2 * 64 + q.val % 64); omega)⟩
    exact (congrFun (Cert.ReferenceIdeal.Value.val4_main_v191 _).symm _).trans
      ((Cert.Value.out_eq m c _ a0 a1 a2 a3 a4 a5 a6 a7 a8 hx hp b kv k n r).trans (Cert.KernelIdeal.Run.kernel_out m c hF b kv k n r).symm)

theorem claim : Cert.Claim := ⟨Cert.Kernel.Gen.facts, Cert.KernelIdeal.Gen.facts, Cert.ReferenceIdeal.Gen.facts, Cert.Value.factsPre, Cert.Value.factsPreScores,
  Cert.Value.factsOn, Cert.Value.factsOnAttention,
  fun m ρ _ => Cert.Kernel.Run.frame m ρ, fun m ρ _ => Cert.KernelIdeal.Run.frame m ρ, fun m ρ _ => Cert.KernelIdeal.Run.frame m ρ, fun m ρ _ => Cert.KernelIdeal.Run.frame m ρ,
  reference_frame, fun m ρ _ => reference_frame m ρ trivial, fun m ρ _ => reference_frame m ρ trivial, trivial, algebraic, algebraic_attention⟩

end Cert.Proof

end
